-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelWd (m : (ℓ : Loc Cert.KernelWd.nD Cert.KernelWd.τ Cert.KernelWd.sig) → Buf (Elt Bits) ℓ) : Prop :=
  True

def Pre_KernelWdIdeal (m : (ℓ : Loc Cert.KernelWdIdeal.nD Cert.KernelWdIdeal.τ Cert.KernelWdIdeal.sig) → Buf (Elt Ideal) ℓ) : Prop :=
  True

def Pre_ReferenceWdIdeal (m : (ℓ : Loc Cert.ReferenceWdIdeal.nD Cert.ReferenceWdIdeal.τ Cert.ReferenceWdIdeal.sig) → Buf (Elt Ideal) ℓ) : Prop :=
  True

def Pre_KernelWg (m : (ℓ : Loc Cert.KernelWg.nD Cert.KernelWg.τ Cert.KernelWg.sig) → Buf (Elt Bits) ℓ) : Prop :=
  True

def Pre_KernelWgIdeal (m : (ℓ : Loc Cert.KernelWgIdeal.nD Cert.KernelWgIdeal.τ Cert.KernelWgIdeal.sig) → Buf (Elt Ideal) ℓ) : Prop :=
  True

def Pre_ReferenceWgIdeal (m : (ℓ : Loc Cert.ReferenceWgIdeal.nD Cert.ReferenceWgIdeal.τ Cert.ReferenceWgIdeal.sig) → Buf (Elt Ideal) ℓ) : Prop :=
  True

def Pre_KernelMo (m : (ℓ : Loc Cert.KernelMo.nD Cert.KernelMo.τ Cert.KernelMo.sig) → Buf (Elt Bits) ℓ) : Prop :=
  True

def Pre_KernelMoIdeal (m : (ℓ : Loc Cert.KernelMoIdeal.nD Cert.KernelMoIdeal.τ Cert.KernelMoIdeal.sig) → Buf (Elt Ideal) ℓ) : Prop :=
  True

def Pre_ReferenceMoIdeal (m : (ℓ : Loc Cert.ReferenceMoIdeal.nD Cert.ReferenceMoIdeal.τ Cert.ReferenceMoIdeal.sig) → Buf (Elt Ideal) ℓ) : Prop :=
  True

def Pre_KernelMi (m : (ℓ : Loc Cert.KernelMi.nD Cert.KernelMi.τ Cert.KernelMi.sig) → Buf (Elt Bits) ℓ) : Prop :=
  True

def Pre_KernelMiIdeal (m : (ℓ : Loc Cert.KernelMiIdeal.nD Cert.KernelMiIdeal.τ Cert.KernelMiIdeal.sig) → Buf (Elt Ideal) ℓ) : Prop :=
  True

def Pre_ReferenceMiIdeal (m : (ℓ : Loc Cert.ReferenceMiIdeal.nD Cert.ReferenceMiIdeal.τ Cert.ReferenceMiIdeal.sig) → Buf (Elt Ideal) ℓ) : Prop :=
  True

def Pre_KernelGu (m : (ℓ : Loc Cert.KernelGu.nD Cert.KernelGu.τ Cert.KernelGu.sig) → Buf (Elt Bits) ℓ) : Prop :=
  True

def Pre_KernelGuIdeal (m : (ℓ : Loc Cert.KernelGuIdeal.nD Cert.KernelGuIdeal.τ Cert.KernelGuIdeal.sig) → Buf (Elt Ideal) ℓ) : Prop :=
  True

def Pre_ReferenceGuIdeal (m : (ℓ : Loc Cert.ReferenceGuIdeal.nD Cert.ReferenceGuIdeal.τ Cert.ReferenceGuIdeal.sig) → Buf (Elt Ideal) ℓ) : Prop :=
  True

def Pre_KernelDm (m : (ℓ : Loc Cert.KernelDm.nD Cert.KernelDm.τ Cert.KernelDm.sig) → Buf (Elt Bits) ℓ) : Prop :=
  True

def Pre_KernelDmIdeal (m : (ℓ : Loc Cert.KernelDmIdeal.nD Cert.KernelDmIdeal.τ Cert.KernelDmIdeal.sig) → Buf (Elt Ideal) ℓ) : Prop :=
  True

def Pre_ReferenceDmIdeal (m : (ℓ : Loc Cert.ReferenceDmIdeal.nD Cert.ReferenceDmIdeal.τ Cert.ReferenceDmIdeal.sig) → Buf (Elt Ideal) ℓ) : Prop :=
  True

def Pre_KernelAsIdeal (m : (ℓ : Loc Cert.KernelAsIdeal.nD Cert.KernelAsIdeal.τ Cert.KernelAsIdeal.sig) → Buf (Elt Ideal) ℓ) : Prop :=
  True

def Pre_ReferenceAsIdeal (m : (ℓ : Loc Cert.ReferenceAsIdeal.nD Cert.ReferenceAsIdeal.τ Cert.ReferenceAsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelWd [hKernelWd : Cert.KernelWd.Facts] : Prop :=
  ∀ (m : (ℓ : Loc Cert.KernelWd.nD Cert.KernelWd.τ Cert.KernelWd.sig) → Buf (Elt Bits) ℓ) (g : Dev Cert.KernelWd.nD → PrngReg), Pre_KernelWd m →
    θ_run (Cert.KernelWd.defs (F := Bits)) (onTc (τ := Cert.KernelWd.τ) (Cert.KernelWd.main (F := Bits))) ⟨m, fun _ => 0, g⟩ (fun r => (∀ c : Dev Cert.KernelWd.nD,
      r.2.mem ((c.tc : Thread Cert.KernelWd.nD Cert.KernelWd.τ).loc Cert.KernelWd.main_arg0) = m ((c.tc : Thread Cert.KernelWd.nD Cert.KernelWd.τ).loc Cert.KernelWd.main_arg0)
      ∧ r.2.mem ((c.tc : Thread Cert.KernelWd.nD Cert.KernelWd.τ).loc Cert.KernelWd.main_arg1) = m ((c.tc : Thread Cert.KernelWd.nD Cert.KernelWd.τ).loc Cert.KernelWd.main_arg1)
      ∧ r.2.mem ((c.tc : Thread Cert.KernelWd.nD Cert.KernelWd.τ).loc Cert.KernelWd.main_arg2) = m ((c.tc : Thread Cert.KernelWd.nD Cert.KernelWd.τ).loc Cert.KernelWd.main_arg2)
      ∧ r.2.mem ((c.tc : Thread Cert.KernelWd.nD Cert.KernelWd.τ).loc Cert.KernelWd.main_arg3) = m ((c.tc : Thread Cert.KernelWd.nD Cert.KernelWd.τ).loc Cert.KernelWd.main_arg3)
      ∧ r.2.mem ((c.tc : Thread Cert.KernelWd.nD Cert.KernelWd.τ).loc Cert.KernelWd.main_arg4) = m ((c.tc : Thread Cert.KernelWd.nD Cert.KernelWd.τ).loc Cert.KernelWd.main_arg4))
      ∧ r.2.sem = fun _ => 0)

def quiescent_KernelWdIdeal [hKernelWdIdeal : Cert.KernelWdIdeal.Facts] : Prop :=
  ∀ (m : (ℓ : Loc Cert.KernelWdIdeal.nD Cert.KernelWdIdeal.τ Cert.KernelWdIdeal.sig) → Buf (Elt Ideal) ℓ) (g : Dev Cert.KernelWdIdeal.nD → PrngReg), Pre_KernelWdIdeal m →
    θ_run (Cert.KernelWdIdeal.defs (F := Ideal)) (onTc (τ := Cert.KernelWdIdeal.τ) (Cert.KernelWdIdeal.main (F := Ideal))) ⟨m, fun _ => 0, g⟩ (fun r => (∀ c : Dev Cert.KernelWdIdeal.nD,
      r.2.mem ((c.tc : Thread Cert.KernelWdIdeal.nD Cert.KernelWdIdeal.τ).loc Cert.KernelWdIdeal.main_arg0) = m ((c.tc : Thread Cert.KernelWdIdeal.nD Cert.KernelWdIdeal.τ).loc Cert.KernelWdIdeal.main_arg0)
      ∧ r.2.mem ((c.tc : Thread Cert.KernelWdIdeal.nD Cert.KernelWdIdeal.τ).loc Cert.KernelWdIdeal.main_arg1) = m ((c.tc : Thread Cert.KernelWdIdeal.nD Cert.KernelWdIdeal.τ).loc Cert.KernelWdIdeal.main_arg1)
      ∧ r.2.mem ((c.tc : Thread Cert.KernelWdIdeal.nD Cert.KernelWdIdeal.τ).loc Cert.KernelWdIdeal.main_arg2) = m ((c.tc : Thread Cert.KernelWdIdeal.nD Cert.KernelWdIdeal.τ).loc Cert.KernelWdIdeal.main_arg2)
      ∧ r.2.mem ((c.tc : Thread Cert.KernelWdIdeal.nD Cert.KernelWdIdeal.τ).loc Cert.KernelWdIdeal.main_arg3) = m ((c.tc : Thread Cert.KernelWdIdeal.nD Cert.KernelWdIdeal.τ).loc Cert.KernelWdIdeal.main_arg3)
      ∧ r.2.mem ((c.tc : Thread Cert.KernelWdIdeal.nD Cert.KernelWdIdeal.τ).loc Cert.KernelWdIdeal.main_arg4) = m ((c.tc : Thread Cert.KernelWdIdeal.nD Cert.KernelWdIdeal.τ).loc Cert.KernelWdIdeal.main_arg4))
      ∧ r.2.sem = fun _ => 0)

def quiescent_ReferenceWdIdeal [hReferenceWdIdeal : Cert.ReferenceWdIdeal.Facts] : Prop :=
  ∀ (m : (ℓ : Loc Cert.ReferenceWdIdeal.nD Cert.ReferenceWdIdeal.τ Cert.ReferenceWdIdeal.sig) → Buf (Elt Ideal) ℓ) (g : Dev Cert.ReferenceWdIdeal.nD → PrngReg), Pre_ReferenceWdIdeal m →
    θ_run (Cert.ReferenceWdIdeal.defs (F := Ideal)) (onTc (τ := Cert.ReferenceWdIdeal.τ) (Cert.ReferenceWdIdeal.main (F := Ideal))) ⟨m, fun _ => 0, g⟩ (fun r => (∀ c : Dev Cert.ReferenceWdIdeal.nD,
      r.2.mem ((c.tc : Thread Cert.ReferenceWdIdeal.nD Cert.ReferenceWdIdeal.τ).loc Cert.ReferenceWdIdeal.main_arg0) = m ((c.tc : Thread Cert.ReferenceWdIdeal.nD Cert.ReferenceWdIdeal.τ).loc Cert.ReferenceWdIdeal.main_arg0)
      ∧ r.2.mem ((c.tc : Thread Cert.ReferenceWdIdeal.nD Cert.ReferenceWdIdeal.τ).loc Cert.ReferenceWdIdeal.main_arg1) = m ((c.tc : Thread Cert.ReferenceWdIdeal.nD Cert.ReferenceWdIdeal.τ).loc Cert.ReferenceWdIdeal.main_arg1)
      ∧ r.2.mem ((c.tc : Thread Cert.ReferenceWdIdeal.nD Cert.ReferenceWdIdeal.τ).loc Cert.ReferenceWdIdeal.main_arg2) = m ((c.tc : Thread Cert.ReferenceWdIdeal.nD Cert.ReferenceWdIdeal.τ).loc Cert.ReferenceWdIdeal.main_arg2)
      ∧ r.2.mem ((c.tc : Thread Cert.ReferenceWdIdeal.nD Cert.ReferenceWdIdeal.τ).loc Cert.ReferenceWdIdeal.main_arg3) = m ((c.tc : Thread Cert.ReferenceWdIdeal.nD Cert.ReferenceWdIdeal.τ).loc Cert.ReferenceWdIdeal.main_arg3)
      ∧ r.2.mem ((c.tc : Thread Cert.ReferenceWdIdeal.nD Cert.ReferenceWdIdeal.τ).loc Cert.ReferenceWdIdeal.main_arg4) = m ((c.tc : Thread Cert.ReferenceWdIdeal.nD Cert.ReferenceWdIdeal.τ).loc Cert.ReferenceWdIdeal.main_arg4))
      ∧ r.2.sem = fun _ => 0)

def quiescent_KernelWg [hKernelWg : Cert.KernelWg.Facts] : Prop :=
  ∀ (m : (ℓ : Loc Cert.KernelWg.nD Cert.KernelWg.τ Cert.KernelWg.sig) → Buf (Elt Bits) ℓ) (g : Dev Cert.KernelWg.nD → PrngReg), Pre_KernelWg m →
    θ_run (Cert.KernelWg.defs (F := Bits)) (onTc (τ := Cert.KernelWg.τ) (Cert.KernelWg.main (F := Bits))) ⟨m, fun _ => 0, g⟩ (fun r => (∀ c : Dev Cert.KernelWg.nD,
      r.2.mem ((c.tc : Thread Cert.KernelWg.nD Cert.KernelWg.τ).loc Cert.KernelWg.main_arg0) = m ((c.tc : Thread Cert.KernelWg.nD Cert.KernelWg.τ).loc Cert.KernelWg.main_arg0)
      ∧ r.2.mem ((c.tc : Thread Cert.KernelWg.nD Cert.KernelWg.τ).loc Cert.KernelWg.main_arg1) = m ((c.tc : Thread Cert.KernelWg.nD Cert.KernelWg.τ).loc Cert.KernelWg.main_arg1)
      ∧ r.2.mem ((c.tc : Thread Cert.KernelWg.nD Cert.KernelWg.τ).loc Cert.KernelWg.main_arg2) = m ((c.tc : Thread Cert.KernelWg.nD Cert.KernelWg.τ).loc Cert.KernelWg.main_arg2))
      ∧ r.2.sem = fun _ => 0)

def quiescent_KernelWgIdeal [hKernelWgIdeal : Cert.KernelWgIdeal.Facts] : Prop :=
  ∀ (m : (ℓ : Loc Cert.KernelWgIdeal.nD Cert.KernelWgIdeal.τ Cert.KernelWgIdeal.sig) → Buf (Elt Ideal) ℓ) (g : Dev Cert.KernelWgIdeal.nD → PrngReg), Pre_KernelWgIdeal m →
    θ_run (Cert.KernelWgIdeal.defs (F := Ideal)) (onTc (τ := Cert.KernelWgIdeal.τ) (Cert.KernelWgIdeal.main (F := Ideal))) ⟨m, fun _ => 0, g⟩ (fun r => (∀ c : Dev Cert.KernelWgIdeal.nD,
      r.2.mem ((c.tc : Thread Cert.KernelWgIdeal.nD Cert.KernelWgIdeal.τ).loc Cert.KernelWgIdeal.main_arg0) = m ((c.tc : Thread Cert.KernelWgIdeal.nD Cert.KernelWgIdeal.τ).loc Cert.KernelWgIdeal.main_arg0)
      ∧ r.2.mem ((c.tc : Thread Cert.KernelWgIdeal.nD Cert.KernelWgIdeal.τ).loc Cert.KernelWgIdeal.main_arg1) = m ((c.tc : Thread Cert.KernelWgIdeal.nD Cert.KernelWgIdeal.τ).loc Cert.KernelWgIdeal.main_arg1)
      ∧ r.2.mem ((c.tc : Thread Cert.KernelWgIdeal.nD Cert.KernelWgIdeal.τ).loc Cert.KernelWgIdeal.main_arg2) = m ((c.tc : Thread Cert.KernelWgIdeal.nD Cert.KernelWgIdeal.τ).loc Cert.KernelWgIdeal.main_arg2))
      ∧ r.2.sem = fun _ => 0)

def quiescent_ReferenceWgIdeal [hReferenceWgIdeal : Cert.ReferenceWgIdeal.Facts] : Prop :=
  ∀ (m : (ℓ : Loc Cert.ReferenceWgIdeal.nD Cert.ReferenceWgIdeal.τ Cert.ReferenceWgIdeal.sig) → Buf (Elt Ideal) ℓ) (g : Dev Cert.ReferenceWgIdeal.nD → PrngReg), Pre_ReferenceWgIdeal m →
    θ_run (Cert.ReferenceWgIdeal.defs (F := Ideal)) (onTc (τ := Cert.ReferenceWgIdeal.τ) (Cert.ReferenceWgIdeal.main (F := Ideal))) ⟨m, fun _ => 0, g⟩ (fun r => (∀ c : Dev Cert.ReferenceWgIdeal.nD,
      r.2.mem ((c.tc : Thread Cert.ReferenceWgIdeal.nD Cert.ReferenceWgIdeal.τ).loc Cert.ReferenceWgIdeal.main_arg0) = m ((c.tc : Thread Cert.ReferenceWgIdeal.nD Cert.ReferenceWgIdeal.τ).loc Cert.ReferenceWgIdeal.main_arg0)
      ∧ r.2.mem ((c.tc : Thread Cert.ReferenceWgIdeal.nD Cert.ReferenceWgIdeal.τ).loc Cert.ReferenceWgIdeal.main_arg1) = m ((c.tc : Thread Cert.ReferenceWgIdeal.nD Cert.ReferenceWgIdeal.τ).loc Cert.ReferenceWgIdeal.main_arg1)
      ∧ r.2.mem ((c.tc : Thread Cert.ReferenceWgIdeal.nD Cert.ReferenceWgIdeal.τ).loc Cert.ReferenceWgIdeal.main_arg2) = m ((c.tc : Thread Cert.ReferenceWgIdeal.nD Cert.ReferenceWgIdeal.τ).loc Cert.ReferenceWgIdeal.main_arg2))
      ∧ r.2.sem = fun _ => 0)

def quiescent_KernelMo [hKernelMo : Cert.KernelMo.Facts] : Prop :=
  ∀ (m : (ℓ : Loc Cert.KernelMo.nD Cert.KernelMo.τ Cert.KernelMo.sig) → Buf (Elt Bits) ℓ) (g : Dev Cert.KernelMo.nD → PrngReg), Pre_KernelMo m →
    θ_run (Cert.KernelMo.defs (F := Bits)) (onTc (τ := Cert.KernelMo.τ) (Cert.KernelMo.main (F := Bits))) ⟨m, fun _ => 0, g⟩ (fun r => (∀ c : Dev Cert.KernelMo.nD,
      r.2.mem ((c.tc : Thread Cert.KernelMo.nD Cert.KernelMo.τ).loc Cert.KernelMo.main_arg0) = m ((c.tc : Thread Cert.KernelMo.nD Cert.KernelMo.τ).loc Cert.KernelMo.main_arg0)
      ∧ r.2.mem ((c.tc : Thread Cert.KernelMo.nD Cert.KernelMo.τ).loc Cert.KernelMo.main_arg1) = m ((c.tc : Thread Cert.KernelMo.nD Cert.KernelMo.τ).loc Cert.KernelMo.main_arg1)
      ∧ r.2.mem ((c.tc : Thread Cert.KernelMo.nD Cert.KernelMo.τ).loc Cert.KernelMo.main_arg2) = m ((c.tc : Thread Cert.KernelMo.nD Cert.KernelMo.τ).loc Cert.KernelMo.main_arg2)
      ∧ r.2.mem ((c.tc : Thread Cert.KernelMo.nD Cert.KernelMo.τ).loc Cert.KernelMo.main_arg3) = m ((c.tc : Thread Cert.KernelMo.nD Cert.KernelMo.τ).loc Cert.KernelMo.main_arg3))
      ∧ r.2.sem = fun _ => 0)

def quiescent_KernelMoIdeal [hKernelMoIdeal : Cert.KernelMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg), Pre_KernelMoIdeal m →
    θ_run (Cert.KernelMoIdeal.defs (F := Ideal)) (onTc (τ := Cert.KernelMoIdeal.τ) (Cert.KernelMoIdeal.main (F := Ideal))) ⟨m, fun _ => 0, g⟩ (fun r => (∀ c : Dev Cert.KernelMoIdeal.nD,
      r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
      ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
      ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
      ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3))
      ∧ r.2.sem = fun _ => 0)

def quiescent_ReferenceMoIdeal [hReferenceMoIdeal : Cert.ReferenceMoIdeal.Facts] : Prop :=
  ∀ (m : (ℓ : Loc Cert.ReferenceMoIdeal.nD Cert.ReferenceMoIdeal.τ Cert.ReferenceMoIdeal.sig) → Buf (Elt Ideal) ℓ) (g : Dev Cert.ReferenceMoIdeal.nD → PrngReg), Pre_ReferenceMoIdeal m →
    θ_run (Cert.ReferenceMoIdeal.defs (F := Ideal)) (onTc (τ := Cert.ReferenceMoIdeal.τ) (Cert.ReferenceMoIdeal.main (F := Ideal))) ⟨m, fun _ => 0, g⟩ (fun r => (∀ c : Dev Cert.ReferenceMoIdeal.nD,
      r.2.mem ((c.tc : Thread Cert.ReferenceMoIdeal.nD Cert.ReferenceMoIdeal.τ).loc Cert.ReferenceMoIdeal.main_arg0) = m ((c.tc : Thread Cert.ReferenceMoIdeal.nD Cert.ReferenceMoIdeal.τ).loc Cert.ReferenceMoIdeal.main_arg0)
      ∧ r.2.mem ((c.tc : Thread Cert.ReferenceMoIdeal.nD Cert.ReferenceMoIdeal.τ).loc Cert.ReferenceMoIdeal.main_arg1) = m ((c.tc : Thread Cert.ReferenceMoIdeal.nD Cert.ReferenceMoIdeal.τ).loc Cert.ReferenceMoIdeal.main_arg1)
      ∧ r.2.mem ((c.tc : Thread Cert.ReferenceMoIdeal.nD Cert.ReferenceMoIdeal.τ).loc Cert.ReferenceMoIdeal.main_arg2) = m ((c.tc : Thread Cert.ReferenceMoIdeal.nD Cert.ReferenceMoIdeal.τ).loc Cert.ReferenceMoIdeal.main_arg2)
      ∧ r.2.mem ((c.tc : Thread Cert.ReferenceMoIdeal.nD Cert.ReferenceMoIdeal.τ).loc Cert.ReferenceMoIdeal.main_arg3) = m ((c.tc : Thread Cert.ReferenceMoIdeal.nD Cert.ReferenceMoIdeal.τ).loc Cert.ReferenceMoIdeal.main_arg3))
      ∧ r.2.sem = fun _ => 0)

def quiescent_KernelMi [hKernelMi : Cert.KernelMi.Facts] : Prop :=
  ∀ (m : (ℓ : Loc Cert.KernelMi.nD Cert.KernelMi.τ Cert.KernelMi.sig) → Buf (Elt Bits) ℓ) (g : Dev Cert.KernelMi.nD → PrngReg), Pre_KernelMi m →
    θ_run (Cert.KernelMi.defs (F := Bits)) (onTc (τ := Cert.KernelMi.τ) (Cert.KernelMi.main (F := Bits))) ⟨m, fun _ => 0, g⟩ (fun r => (∀ c : Dev Cert.KernelMi.nD,
      r.2.mem ((c.tc : Thread Cert.KernelMi.nD Cert.KernelMi.τ).loc Cert.KernelMi.main_arg0) = m ((c.tc : Thread Cert.KernelMi.nD Cert.KernelMi.τ).loc Cert.KernelMi.main_arg0)
      ∧ r.2.mem ((c.tc : Thread Cert.KernelMi.nD Cert.KernelMi.τ).loc Cert.KernelMi.main_arg1) = m ((c.tc : Thread Cert.KernelMi.nD Cert.KernelMi.τ).loc Cert.KernelMi.main_arg1)
      ∧ r.2.mem ((c.tc : Thread Cert.KernelMi.nD Cert.KernelMi.τ).loc Cert.KernelMi.main_arg2) = m ((c.tc : Thread Cert.KernelMi.nD Cert.KernelMi.τ).loc Cert.KernelMi.main_arg2)
      ∧ r.2.mem ((c.tc : Thread Cert.KernelMi.nD Cert.KernelMi.τ).loc Cert.KernelMi.main_arg3) = m ((c.tc : Thread Cert.KernelMi.nD Cert.KernelMi.τ).loc Cert.KernelMi.main_arg3)
      ∧ r.2.mem ((c.tc : Thread Cert.KernelMi.nD Cert.KernelMi.τ).loc Cert.KernelMi.main_arg4) = m ((c.tc : Thread Cert.KernelMi.nD Cert.KernelMi.τ).loc Cert.KernelMi.main_arg4)
      ∧ r.2.mem ((c.tc : Thread Cert.KernelMi.nD Cert.KernelMi.τ).loc Cert.KernelMi.main_arg5) = m ((c.tc : Thread Cert.KernelMi.nD Cert.KernelMi.τ).loc Cert.KernelMi.main_arg5)
      ∧ r.2.mem ((c.tc : Thread Cert.KernelMi.nD Cert.KernelMi.τ).loc Cert.KernelMi.main_arg6) = m ((c.tc : Thread Cert.KernelMi.nD Cert.KernelMi.τ).loc Cert.KernelMi.main_arg6)
      ∧ r.2.mem ((c.tc : Thread Cert.KernelMi.nD Cert.KernelMi.τ).loc Cert.KernelMi.main_arg7) = m ((c.tc : Thread Cert.KernelMi.nD Cert.KernelMi.τ).loc Cert.KernelMi.main_arg7)
      ∧ r.2.mem ((c.tc : Thread Cert.KernelMi.nD Cert.KernelMi.τ).loc Cert.KernelMi.main_arg8) = m ((c.tc : Thread Cert.KernelMi.nD Cert.KernelMi.τ).loc Cert.KernelMi.main_arg8))
      ∧ r.2.sem = fun _ => 0)

def quiescent_KernelMiIdeal [hKernelMiIdeal : Cert.KernelMiIdeal.Facts] : Prop :=
  ∀ (m : (ℓ : Loc Cert.KernelMiIdeal.nD Cert.KernelMiIdeal.τ Cert.KernelMiIdeal.sig) → Buf (Elt Ideal) ℓ) (g : Dev Cert.KernelMiIdeal.nD → PrngReg), Pre_KernelMiIdeal m →
    θ_run (Cert.KernelMiIdeal.defs (F := Ideal)) (onTc (τ := Cert.KernelMiIdeal.τ) (Cert.KernelMiIdeal.main (F := Ideal))) ⟨m, fun _ => 0, g⟩ (fun r => (∀ c : Dev Cert.KernelMiIdeal.nD,
      r.2.mem ((c.tc : Thread Cert.KernelMiIdeal.nD Cert.KernelMiIdeal.τ).loc Cert.KernelMiIdeal.main_arg0) = m ((c.tc : Thread Cert.KernelMiIdeal.nD Cert.KernelMiIdeal.τ).loc Cert.KernelMiIdeal.main_arg0)
      ∧ r.2.mem ((c.tc : Thread Cert.KernelMiIdeal.nD Cert.KernelMiIdeal.τ).loc Cert.KernelMiIdeal.main_arg1) = m ((c.tc : Thread Cert.KernelMiIdeal.nD Cert.KernelMiIdeal.τ).loc Cert.KernelMiIdeal.main_arg1)
      ∧ r.2.mem ((c.tc : Thread Cert.KernelMiIdeal.nD Cert.KernelMiIdeal.τ).loc Cert.KernelMiIdeal.main_arg2) = m ((c.tc : Thread Cert.KernelMiIdeal.nD Cert.KernelMiIdeal.τ).loc Cert.KernelMiIdeal.main_arg2)
      ∧ r.2.mem ((c.tc : Thread Cert.KernelMiIdeal.nD Cert.KernelMiIdeal.τ).loc Cert.KernelMiIdeal.main_arg3) = m ((c.tc : Thread Cert.KernelMiIdeal.nD Cert.KernelMiIdeal.τ).loc Cert.KernelMiIdeal.main_arg3)
      ∧ r.2.mem ((c.tc : Thread Cert.KernelMiIdeal.nD Cert.KernelMiIdeal.τ).loc Cert.KernelMiIdeal.main_arg4) = m ((c.tc : Thread Cert.KernelMiIdeal.nD Cert.KernelMiIdeal.τ).loc Cert.KernelMiIdeal.main_arg4)
      ∧ r.2.mem ((c.tc : Thread Cert.KernelMiIdeal.nD Cert.KernelMiIdeal.τ).loc Cert.KernelMiIdeal.main_arg5) = m ((c.tc : Thread Cert.KernelMiIdeal.nD Cert.KernelMiIdeal.τ).loc Cert.KernelMiIdeal.main_arg5)
      ∧ r.2.mem ((c.tc : Thread Cert.KernelMiIdeal.nD Cert.KernelMiIdeal.τ).loc Cert.KernelMiIdeal.main_arg6) = m ((c.tc : Thread Cert.KernelMiIdeal.nD Cert.KernelMiIdeal.τ).loc Cert.KernelMiIdeal.main_arg6)
      ∧ r.2.mem ((c.tc : Thread Cert.KernelMiIdeal.nD Cert.KernelMiIdeal.τ).loc Cert.KernelMiIdeal.main_arg7) = m ((c.tc : Thread Cert.KernelMiIdeal.nD Cert.KernelMiIdeal.τ).loc Cert.KernelMiIdeal.main_arg7)
      ∧ r.2.mem ((c.tc : Thread Cert.KernelMiIdeal.nD Cert.KernelMiIdeal.τ).loc Cert.KernelMiIdeal.main_arg8) = m ((c.tc : Thread Cert.KernelMiIdeal.nD Cert.KernelMiIdeal.τ).loc Cert.KernelMiIdeal.main_arg8))
      ∧ r.2.sem = fun _ => 0)

def quiescent_ReferenceMiIdeal [hReferenceMiIdeal : Cert.ReferenceMiIdeal.Facts] : Prop :=
  ∀ (m : (ℓ : Loc Cert.ReferenceMiIdeal.nD Cert.ReferenceMiIdeal.τ Cert.ReferenceMiIdeal.sig) → Buf (Elt Ideal) ℓ) (g : Dev Cert.ReferenceMiIdeal.nD → PrngReg), Pre_ReferenceMiIdeal m →
    θ_run (Cert.ReferenceMiIdeal.defs (F := Ideal)) (onTc (τ := Cert.ReferenceMiIdeal.τ) (Cert.ReferenceMiIdeal.main (F := Ideal))) ⟨m, fun _ => 0, g⟩ (fun r => (∀ c : Dev Cert.ReferenceMiIdeal.nD,
      r.2.mem ((c.tc : Thread Cert.ReferenceMiIdeal.nD Cert.ReferenceMiIdeal.τ).loc Cert.ReferenceMiIdeal.main_arg0) = m ((c.tc : Thread Cert.ReferenceMiIdeal.nD Cert.ReferenceMiIdeal.τ).loc Cert.ReferenceMiIdeal.main_arg0)
      ∧ r.2.mem ((c.tc : Thread Cert.ReferenceMiIdeal.nD Cert.ReferenceMiIdeal.τ).loc Cert.ReferenceMiIdeal.main_arg1) = m ((c.tc : Thread Cert.ReferenceMiIdeal.nD Cert.ReferenceMiIdeal.τ).loc Cert.ReferenceMiIdeal.main_arg1)
      ∧ r.2.mem ((c.tc : Thread Cert.ReferenceMiIdeal.nD Cert.ReferenceMiIdeal.τ).loc Cert.ReferenceMiIdeal.main_arg2) = m ((c.tc : Thread Cert.ReferenceMiIdeal.nD Cert.ReferenceMiIdeal.τ).loc Cert.ReferenceMiIdeal.main_arg2)
      ∧ r.2.mem ((c.tc : Thread Cert.ReferenceMiIdeal.nD Cert.ReferenceMiIdeal.τ).loc Cert.ReferenceMiIdeal.main_arg3) = m ((c.tc : Thread Cert.ReferenceMiIdeal.nD Cert.ReferenceMiIdeal.τ).loc Cert.ReferenceMiIdeal.main_arg3)
      ∧ r.2.mem ((c.tc : Thread Cert.ReferenceMiIdeal.nD Cert.ReferenceMiIdeal.τ).loc Cert.ReferenceMiIdeal.main_arg4) = m ((c.tc : Thread Cert.ReferenceMiIdeal.nD Cert.ReferenceMiIdeal.τ).loc Cert.ReferenceMiIdeal.main_arg4)
      ∧ r.2.mem ((c.tc : Thread Cert.ReferenceMiIdeal.nD Cert.ReferenceMiIdeal.τ).loc Cert.ReferenceMiIdeal.main_arg5) = m ((c.tc : Thread Cert.ReferenceMiIdeal.nD Cert.ReferenceMiIdeal.τ).loc Cert.ReferenceMiIdeal.main_arg5)
      ∧ r.2.mem ((c.tc : Thread Cert.ReferenceMiIdeal.nD Cert.ReferenceMiIdeal.τ).loc Cert.ReferenceMiIdeal.main_arg6) = m ((c.tc : Thread Cert.ReferenceMiIdeal.nD Cert.ReferenceMiIdeal.τ).loc Cert.ReferenceMiIdeal.main_arg6)
      ∧ r.2.mem ((c.tc : Thread Cert.ReferenceMiIdeal.nD Cert.ReferenceMiIdeal.τ).loc Cert.ReferenceMiIdeal.main_arg7) = m ((c.tc : Thread Cert.ReferenceMiIdeal.nD Cert.ReferenceMiIdeal.τ).loc Cert.ReferenceMiIdeal.main_arg7)
      ∧ r.2.mem ((c.tc : Thread Cert.ReferenceMiIdeal.nD Cert.ReferenceMiIdeal.τ).loc Cert.ReferenceMiIdeal.main_arg8) = m ((c.tc : Thread Cert.ReferenceMiIdeal.nD Cert.ReferenceMiIdeal.τ).loc Cert.ReferenceMiIdeal.main_arg8))
      ∧ r.2.sem = fun _ => 0)

def quiescent_KernelGu [hKernelGu : Cert.KernelGu.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1)
      ∧ r.2.mem ((c.tc : Thread Cert.KernelGu.nD Cert.KernelGu.τ).loc Cert.KernelGu.main_arg2) = m ((c.tc : Thread Cert.KernelGu.nD Cert.KernelGu.τ).loc Cert.KernelGu.main_arg2)
      ∧ r.2.mem ((c.tc : Thread Cert.KernelGu.nD Cert.KernelGu.τ).loc Cert.KernelGu.main_arg3) = m ((c.tc : Thread Cert.KernelGu.nD Cert.KernelGu.τ).loc Cert.KernelGu.main_arg3))
      ∧ r.2.sem = fun _ => 0)

def quiescent_KernelGuIdeal [hKernelGuIdeal : Cert.KernelGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
      ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2)
      ∧ r.2.mem ((c.tc : Thread Cert.KernelGuIdeal.nD Cert.KernelGuIdeal.τ).loc Cert.KernelGuIdeal.main_arg3) = m ((c.tc : Thread Cert.KernelGuIdeal.nD Cert.KernelGuIdeal.τ).loc Cert.KernelGuIdeal.main_arg3))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1)
      ∧ r.2.mem ((c.tc : Thread Cert.ReferenceGuIdeal.nD Cert.ReferenceGuIdeal.τ).loc Cert.ReferenceGuIdeal.main_arg2) = m ((c.tc : Thread Cert.ReferenceGuIdeal.nD Cert.ReferenceGuIdeal.τ).loc Cert.ReferenceGuIdeal.main_arg2)
      ∧ r.2.mem ((c.tc : Thread Cert.ReferenceGuIdeal.nD Cert.ReferenceGuIdeal.τ).loc Cert.ReferenceGuIdeal.main_arg3) = m ((c.tc : Thread Cert.ReferenceGuIdeal.nD Cert.ReferenceGuIdeal.τ).loc Cert.ReferenceGuIdeal.main_arg3))
      ∧ r.2.sem = fun _ => 0)

def quiescent_KernelDm [hKernelDm : Cert.KernelDm.Facts] : Prop :=
  ∀ (m : (ℓ : Loc Cert.KernelDm.nD Cert.KernelDm.τ Cert.KernelDm.sig) → Buf (Elt Bits) ℓ) (g : Dev Cert.KernelDm.nD → PrngReg), Pre_KernelDm m →
    θ_run (Cert.KernelDm.defs (F := Bits)) (onTc (τ := Cert.KernelDm.τ) (Cert.KernelDm.main (F := Bits))) ⟨m, fun _ => 0, g⟩ (fun r => (∀ c : Dev Cert.KernelDm.nD,
      r.2.mem ((c.tc : Thread Cert.KernelDm.nD Cert.KernelDm.τ).loc Cert.KernelDm.main_arg0) = m ((c.tc : Thread Cert.KernelDm.nD Cert.KernelDm.τ).loc Cert.KernelDm.main_arg0)
      ∧ r.2.mem ((c.tc : Thread Cert.KernelDm.nD Cert.KernelDm.τ).loc Cert.KernelDm.main_arg1) = m ((c.tc : Thread Cert.KernelDm.nD Cert.KernelDm.τ).loc Cert.KernelDm.main_arg1)
      ∧ r.2.mem ((c.tc : Thread Cert.KernelDm.nD Cert.KernelDm.τ).loc Cert.KernelDm.main_arg2) = m ((c.tc : Thread Cert.KernelDm.nD Cert.KernelDm.τ).loc Cert.KernelDm.main_arg2)
      ∧ r.2.mem ((c.tc : Thread Cert.KernelDm.nD Cert.KernelDm.τ).loc Cert.KernelDm.main_arg3) = m ((c.tc : Thread Cert.KernelDm.nD Cert.KernelDm.τ).loc Cert.KernelDm.main_arg3)
      ∧ r.2.mem ((c.tc : Thread Cert.KernelDm.nD Cert.KernelDm.τ).loc Cert.KernelDm.main_arg4) = m ((c.tc : Thread Cert.KernelDm.nD Cert.KernelDm.τ).loc Cert.KernelDm.main_arg4)
      ∧ r.2.mem ((c.tc : Thread Cert.KernelDm.nD Cert.KernelDm.τ).loc Cert.KernelDm.main_arg5) = m ((c.tc : Thread Cert.KernelDm.nD Cert.KernelDm.τ).loc Cert.KernelDm.main_arg5)
      ∧ r.2.mem ((c.tc : Thread Cert.KernelDm.nD Cert.KernelDm.τ).loc Cert.KernelDm.main_arg6) = m ((c.tc : Thread Cert.KernelDm.nD Cert.KernelDm.τ).loc Cert.KernelDm.main_arg6))
      ∧ r.2.sem = fun _ => 0)

def quiescent_KernelDmIdeal [hKernelDmIdeal : Cert.KernelDmIdeal.Facts] : Prop :=
  ∀ (m : (ℓ : Loc Cert.KernelDmIdeal.nD Cert.KernelDmIdeal.τ Cert.KernelDmIdeal.sig) → Buf (Elt Ideal) ℓ) (g : Dev Cert.KernelDmIdeal.nD → PrngReg), Pre_KernelDmIdeal m →
    θ_run (Cert.KernelDmIdeal.defs (F := Ideal)) (onTc (τ := Cert.KernelDmIdeal.τ) (Cert.KernelDmIdeal.main (F := Ideal))) ⟨m, fun _ => 0, g⟩ (fun r => (∀ c : Dev Cert.KernelDmIdeal.nD,
      r.2.mem ((c.tc : Thread Cert.KernelDmIdeal.nD Cert.KernelDmIdeal.τ).loc Cert.KernelDmIdeal.main_arg0) = m ((c.tc : Thread Cert.KernelDmIdeal.nD Cert.KernelDmIdeal.τ).loc Cert.KernelDmIdeal.main_arg0)
      ∧ r.2.mem ((c.tc : Thread Cert.KernelDmIdeal.nD Cert.KernelDmIdeal.τ).loc Cert.KernelDmIdeal.main_arg1) = m ((c.tc : Thread Cert.KernelDmIdeal.nD Cert.KernelDmIdeal.τ).loc Cert.KernelDmIdeal.main_arg1)
      ∧ r.2.mem ((c.tc : Thread Cert.KernelDmIdeal.nD Cert.KernelDmIdeal.τ).loc Cert.KernelDmIdeal.main_arg2) = m ((c.tc : Thread Cert.KernelDmIdeal.nD Cert.KernelDmIdeal.τ).loc Cert.KernelDmIdeal.main_arg2)
      ∧ r.2.mem ((c.tc : Thread Cert.KernelDmIdeal.nD Cert.KernelDmIdeal.τ).loc Cert.KernelDmIdeal.main_arg3) = m ((c.tc : Thread Cert.KernelDmIdeal.nD Cert.KernelDmIdeal.τ).loc Cert.KernelDmIdeal.main_arg3)
      ∧ r.2.mem ((c.tc : Thread Cert.KernelDmIdeal.nD Cert.KernelDmIdeal.τ).loc Cert.KernelDmIdeal.main_arg4) = m ((c.tc : Thread Cert.KernelDmIdeal.nD Cert.KernelDmIdeal.τ).loc Cert.KernelDmIdeal.main_arg4)
      ∧ r.2.mem ((c.tc : Thread Cert.KernelDmIdeal.nD Cert.KernelDmIdeal.τ).loc Cert.KernelDmIdeal.main_arg5) = m ((c.tc : Thread Cert.KernelDmIdeal.nD Cert.KernelDmIdeal.τ).loc Cert.KernelDmIdeal.main_arg5)
      ∧ r.2.mem ((c.tc : Thread Cert.KernelDmIdeal.nD Cert.KernelDmIdeal.τ).loc Cert.KernelDmIdeal.main_arg6) = m ((c.tc : Thread Cert.KernelDmIdeal.nD Cert.KernelDmIdeal.τ).loc Cert.KernelDmIdeal.main_arg6))
      ∧ r.2.sem = fun _ => 0)

def quiescent_ReferenceDmIdeal [hReferenceDmIdeal : Cert.ReferenceDmIdeal.Facts] : Prop :=
  ∀ (m : (ℓ : Loc Cert.ReferenceDmIdeal.nD Cert.ReferenceDmIdeal.τ Cert.ReferenceDmIdeal.sig) → Buf (Elt Ideal) ℓ) (g : Dev Cert.ReferenceDmIdeal.nD → PrngReg), Pre_ReferenceDmIdeal m →
    θ_run (Cert.ReferenceDmIdeal.defs (F := Ideal)) (onTc (τ := Cert.ReferenceDmIdeal.τ) (Cert.ReferenceDmIdeal.main (F := Ideal))) ⟨m, fun _ => 0, g⟩ (fun r => (∀ c : Dev Cert.ReferenceDmIdeal.nD,
      r.2.mem ((c.tc : Thread Cert.ReferenceDmIdeal.nD Cert.ReferenceDmIdeal.τ).loc Cert.ReferenceDmIdeal.main_arg0) = m ((c.tc : Thread Cert.ReferenceDmIdeal.nD Cert.ReferenceDmIdeal.τ).loc Cert.ReferenceDmIdeal.main_arg0)
      ∧ r.2.mem ((c.tc : Thread Cert.ReferenceDmIdeal.nD Cert.ReferenceDmIdeal.τ).loc Cert.ReferenceDmIdeal.main_arg1) = m ((c.tc : Thread Cert.ReferenceDmIdeal.nD Cert.ReferenceDmIdeal.τ).loc Cert.ReferenceDmIdeal.main_arg1)
      ∧ r.2.mem ((c.tc : Thread Cert.ReferenceDmIdeal.nD Cert.ReferenceDmIdeal.τ).loc Cert.ReferenceDmIdeal.main_arg2) = m ((c.tc : Thread Cert.ReferenceDmIdeal.nD Cert.ReferenceDmIdeal.τ).loc Cert.ReferenceDmIdeal.main_arg2)
      ∧ r.2.mem ((c.tc : Thread Cert.ReferenceDmIdeal.nD Cert.ReferenceDmIdeal.τ).loc Cert.ReferenceDmIdeal.main_arg3) = m ((c.tc : Thread Cert.ReferenceDmIdeal.nD Cert.ReferenceDmIdeal.τ).loc Cert.ReferenceDmIdeal.main_arg3)
      ∧ r.2.mem ((c.tc : Thread Cert.ReferenceDmIdeal.nD Cert.ReferenceDmIdeal.τ).loc Cert.ReferenceDmIdeal.main_arg4) = m ((c.tc : Thread Cert.ReferenceDmIdeal.nD Cert.ReferenceDmIdeal.τ).loc Cert.ReferenceDmIdeal.main_arg4)
      ∧ r.2.mem ((c.tc : Thread Cert.ReferenceDmIdeal.nD Cert.ReferenceDmIdeal.τ).loc Cert.ReferenceDmIdeal.main_arg5) = m ((c.tc : Thread Cert.ReferenceDmIdeal.nD Cert.ReferenceDmIdeal.τ).loc Cert.ReferenceDmIdeal.main_arg5)
      ∧ r.2.mem ((c.tc : Thread Cert.ReferenceDmIdeal.nD Cert.ReferenceDmIdeal.τ).loc Cert.ReferenceDmIdeal.main_arg6) = m ((c.tc : Thread Cert.ReferenceDmIdeal.nD Cert.ReferenceDmIdeal.τ).loc Cert.ReferenceDmIdeal.main_arg6))
      ∧ r.2.sem = fun _ => 0)

def quiescent_KernelAsIdeal [hKernelAsIdeal : Cert.KernelAsIdeal.Facts] : Prop :=
  ∀ (m : (ℓ : Loc Cert.KernelAsIdeal.nD Cert.KernelAsIdeal.τ Cert.KernelAsIdeal.sig) → Buf (Elt Ideal) ℓ) (g : Dev Cert.KernelAsIdeal.nD → PrngReg), Pre_KernelAsIdeal m →
    θ_run (Cert.KernelAsIdeal.defs (F := Ideal)) (onTc (τ := Cert.KernelAsIdeal.τ) (Cert.KernelAsIdeal.main (F := Ideal))) ⟨m, fun _ => 0, g⟩ (fun r => (∀ c : Dev Cert.KernelAsIdeal.nD,
      r.2.mem ((c.tc : Thread Cert.KernelAsIdeal.nD Cert.KernelAsIdeal.τ).loc Cert.KernelAsIdeal.main_arg0) = m ((c.tc : Thread Cert.KernelAsIdeal.nD Cert.KernelAsIdeal.τ).loc Cert.KernelAsIdeal.main_arg0)
      ∧ r.2.mem ((c.tc : Thread Cert.KernelAsIdeal.nD Cert.KernelAsIdeal.τ).loc Cert.KernelAsIdeal.main_arg1) = m ((c.tc : Thread Cert.KernelAsIdeal.nD Cert.KernelAsIdeal.τ).loc Cert.KernelAsIdeal.main_arg1)
      ∧ r.2.mem ((c.tc : Thread Cert.KernelAsIdeal.nD Cert.KernelAsIdeal.τ).loc Cert.KernelAsIdeal.main_arg2) = m ((c.tc : Thread Cert.KernelAsIdeal.nD Cert.KernelAsIdeal.τ).loc Cert.KernelAsIdeal.main_arg2)
      ∧ r.2.mem ((c.tc : Thread Cert.KernelAsIdeal.nD Cert.KernelAsIdeal.τ).loc Cert.KernelAsIdeal.main_arg3) = m ((c.tc : Thread Cert.KernelAsIdeal.nD Cert.KernelAsIdeal.τ).loc Cert.KernelAsIdeal.main_arg3)
      ∧ r.2.mem ((c.tc : Thread Cert.KernelAsIdeal.nD Cert.KernelAsIdeal.τ).loc Cert.KernelAsIdeal.main_arg4) = m ((c.tc : Thread Cert.KernelAsIdeal.nD Cert.KernelAsIdeal.τ).loc Cert.KernelAsIdeal.main_arg4)
      ∧ r.2.mem ((c.tc : Thread Cert.KernelAsIdeal.nD Cert.KernelAsIdeal.τ).loc Cert.KernelAsIdeal.main_arg5) = m ((c.tc : Thread Cert.KernelAsIdeal.nD Cert.KernelAsIdeal.τ).loc Cert.KernelAsIdeal.main_arg5)
      ∧ r.2.mem ((c.tc : Thread Cert.KernelAsIdeal.nD Cert.KernelAsIdeal.τ).loc Cert.KernelAsIdeal.main_arg6) = m ((c.tc : Thread Cert.KernelAsIdeal.nD Cert.KernelAsIdeal.τ).loc Cert.KernelAsIdeal.main_arg6)
      ∧ r.2.mem ((c.tc : Thread Cert.KernelAsIdeal.nD Cert.KernelAsIdeal.τ).loc Cert.KernelAsIdeal.main_arg7) = m ((c.tc : Thread Cert.KernelAsIdeal.nD Cert.KernelAsIdeal.τ).loc Cert.KernelAsIdeal.main_arg7)
      ∧ r.2.mem ((c.tc : Thread Cert.KernelAsIdeal.nD Cert.KernelAsIdeal.τ).loc Cert.KernelAsIdeal.main_arg8) = m ((c.tc : Thread Cert.KernelAsIdeal.nD Cert.KernelAsIdeal.τ).loc Cert.KernelAsIdeal.main_arg8)
      ∧ r.2.mem ((c.tc : Thread Cert.KernelAsIdeal.nD Cert.KernelAsIdeal.τ).loc Cert.KernelAsIdeal.main_arg9) = m ((c.tc : Thread Cert.KernelAsIdeal.nD Cert.KernelAsIdeal.τ).loc Cert.KernelAsIdeal.main_arg9)
      ∧ r.2.mem ((c.tc : Thread Cert.KernelAsIdeal.nD Cert.KernelAsIdeal.τ).loc Cert.KernelAsIdeal.main_arg10) = m ((c.tc : Thread Cert.KernelAsIdeal.nD Cert.KernelAsIdeal.τ).loc Cert.KernelAsIdeal.main_arg10)
      ∧ r.2.mem ((c.tc : Thread Cert.KernelAsIdeal.nD Cert.KernelAsIdeal.τ).loc Cert.KernelAsIdeal.main_arg11) = m ((c.tc : Thread Cert.KernelAsIdeal.nD Cert.KernelAsIdeal.τ).loc Cert.KernelAsIdeal.main_arg11)
      ∧ r.2.mem ((c.tc : Thread Cert.KernelAsIdeal.nD Cert.KernelAsIdeal.τ).loc Cert.KernelAsIdeal.main_arg12) = m ((c.tc : Thread Cert.KernelAsIdeal.nD Cert.KernelAsIdeal.τ).loc Cert.KernelAsIdeal.main_arg12)
      ∧ r.2.mem ((c.tc : Thread Cert.KernelAsIdeal.nD Cert.KernelAsIdeal.τ).loc Cert.KernelAsIdeal.main_arg13) = m ((c.tc : Thread Cert.KernelAsIdeal.nD Cert.KernelAsIdeal.τ).loc Cert.KernelAsIdeal.main_arg13)
      ∧ r.2.mem ((c.tc : Thread Cert.KernelAsIdeal.nD Cert.KernelAsIdeal.τ).loc Cert.KernelAsIdeal.main_arg14) = m ((c.tc : Thread Cert.KernelAsIdeal.nD Cert.KernelAsIdeal.τ).loc Cert.KernelAsIdeal.main_arg14)
      ∧ r.2.mem ((c.tc : Thread Cert.KernelAsIdeal.nD Cert.KernelAsIdeal.τ).loc Cert.KernelAsIdeal.main_arg15) = m ((c.tc : Thread Cert.KernelAsIdeal.nD Cert.KernelAsIdeal.τ).loc Cert.KernelAsIdeal.main_arg15)
      ∧ r.2.mem ((c.tc : Thread Cert.KernelAsIdeal.nD Cert.KernelAsIdeal.τ).loc Cert.KernelAsIdeal.main_arg16) = m ((c.tc : Thread Cert.KernelAsIdeal.nD Cert.KernelAsIdeal.τ).loc Cert.KernelAsIdeal.main_arg16)
      ∧ r.2.mem ((c.tc : Thread Cert.KernelAsIdeal.nD Cert.KernelAsIdeal.τ).loc Cert.KernelAsIdeal.main_arg17) = m ((c.tc : Thread Cert.KernelAsIdeal.nD Cert.KernelAsIdeal.τ).loc Cert.KernelAsIdeal.main_arg17)
      ∧ r.2.mem ((c.tc : Thread Cert.KernelAsIdeal.nD Cert.KernelAsIdeal.τ).loc Cert.KernelAsIdeal.main_arg18) = m ((c.tc : Thread Cert.KernelAsIdeal.nD Cert.KernelAsIdeal.τ).loc Cert.KernelAsIdeal.main_arg18)
      ∧ r.2.mem ((c.tc : Thread Cert.KernelAsIdeal.nD Cert.KernelAsIdeal.τ).loc Cert.KernelAsIdeal.main_arg19) = m ((c.tc : Thread Cert.KernelAsIdeal.nD Cert.KernelAsIdeal.τ).loc Cert.KernelAsIdeal.main_arg19)
      ∧ r.2.mem ((c.tc : Thread Cert.KernelAsIdeal.nD Cert.KernelAsIdeal.τ).loc Cert.KernelAsIdeal.main_arg20) = m ((c.tc : Thread Cert.KernelAsIdeal.nD Cert.KernelAsIdeal.τ).loc Cert.KernelAsIdeal.main_arg20)
      ∧ r.2.mem ((c.tc : Thread Cert.KernelAsIdeal.nD Cert.KernelAsIdeal.τ).loc Cert.KernelAsIdeal.main_arg21) = m ((c.tc : Thread Cert.KernelAsIdeal.nD Cert.KernelAsIdeal.τ).loc Cert.KernelAsIdeal.main_arg21)
      ∧ r.2.mem ((c.tc : Thread Cert.KernelAsIdeal.nD Cert.KernelAsIdeal.τ).loc Cert.KernelAsIdeal.main_arg22) = m ((c.tc : Thread Cert.KernelAsIdeal.nD Cert.KernelAsIdeal.τ).loc Cert.KernelAsIdeal.main_arg22)
      ∧ r.2.mem ((c.tc : Thread Cert.KernelAsIdeal.nD Cert.KernelAsIdeal.τ).loc Cert.KernelAsIdeal.main_arg23) = m ((c.tc : Thread Cert.KernelAsIdeal.nD Cert.KernelAsIdeal.τ).loc Cert.KernelAsIdeal.main_arg23)
      ∧ r.2.mem ((c.tc : Thread Cert.KernelAsIdeal.nD Cert.KernelAsIdeal.τ).loc Cert.KernelAsIdeal.main_arg24) = m ((c.tc : Thread Cert.KernelAsIdeal.nD Cert.KernelAsIdeal.τ).loc Cert.KernelAsIdeal.main_arg24)
      ∧ r.2.mem ((c.tc : Thread Cert.KernelAsIdeal.nD Cert.KernelAsIdeal.τ).loc Cert.KernelAsIdeal.main_arg25) = m ((c.tc : Thread Cert.KernelAsIdeal.nD Cert.KernelAsIdeal.τ).loc Cert.KernelAsIdeal.main_arg25)
      ∧ r.2.mem ((c.tc : Thread Cert.KernelAsIdeal.nD Cert.KernelAsIdeal.τ).loc Cert.KernelAsIdeal.main_arg26) = m ((c.tc : Thread Cert.KernelAsIdeal.nD Cert.KernelAsIdeal.τ).loc Cert.KernelAsIdeal.main_arg26)
      ∧ r.2.mem ((c.tc : Thread Cert.KernelAsIdeal.nD Cert.KernelAsIdeal.τ).loc Cert.KernelAsIdeal.main_arg27) = m ((c.tc : Thread Cert.KernelAsIdeal.nD Cert.KernelAsIdeal.τ).loc Cert.KernelAsIdeal.main_arg27)
      ∧ r.2.mem ((c.tc : Thread Cert.KernelAsIdeal.nD Cert.KernelAsIdeal.τ).loc Cert.KernelAsIdeal.main_arg28) = m ((c.tc : Thread Cert.KernelAsIdeal.nD Cert.KernelAsIdeal.τ).loc Cert.KernelAsIdeal.main_arg28))
      ∧ r.2.sem = fun _ => 0)

def quiescent_ReferenceAsIdeal [hReferenceAsIdeal : Cert.ReferenceAsIdeal.Facts] : Prop :=
  ∀ (m : (ℓ : Loc Cert.ReferenceAsIdeal.nD Cert.ReferenceAsIdeal.τ Cert.ReferenceAsIdeal.sig) → Buf (Elt Ideal) ℓ) (g : Dev Cert.ReferenceAsIdeal.nD → PrngReg), Pre_ReferenceAsIdeal m →
    θ_run (Cert.ReferenceAsIdeal.defs (F := Ideal)) (onTc (τ := Cert.ReferenceAsIdeal.τ) (Cert.ReferenceAsIdeal.main (F := Ideal))) ⟨m, fun _ => 0, g⟩ (fun r => (∀ c : Dev Cert.ReferenceAsIdeal.nD,
      r.2.mem ((c.tc : Thread Cert.ReferenceAsIdeal.nD Cert.ReferenceAsIdeal.τ).loc Cert.ReferenceAsIdeal.main_arg0) = m ((c.tc : Thread Cert.ReferenceAsIdeal.nD Cert.ReferenceAsIdeal.τ).loc Cert.ReferenceAsIdeal.main_arg0)
      ∧ r.2.mem ((c.tc : Thread Cert.ReferenceAsIdeal.nD Cert.ReferenceAsIdeal.τ).loc Cert.ReferenceAsIdeal.main_arg1) = m ((c.tc : Thread Cert.ReferenceAsIdeal.nD Cert.ReferenceAsIdeal.τ).loc Cert.ReferenceAsIdeal.main_arg1)
      ∧ r.2.mem ((c.tc : Thread Cert.ReferenceAsIdeal.nD Cert.ReferenceAsIdeal.τ).loc Cert.ReferenceAsIdeal.main_arg2) = m ((c.tc : Thread Cert.ReferenceAsIdeal.nD Cert.ReferenceAsIdeal.τ).loc Cert.ReferenceAsIdeal.main_arg2)
      ∧ r.2.mem ((c.tc : Thread Cert.ReferenceAsIdeal.nD Cert.ReferenceAsIdeal.τ).loc Cert.ReferenceAsIdeal.main_arg3) = m ((c.tc : Thread Cert.ReferenceAsIdeal.nD Cert.ReferenceAsIdeal.τ).loc Cert.ReferenceAsIdeal.main_arg3)
      ∧ r.2.mem ((c.tc : Thread Cert.ReferenceAsIdeal.nD Cert.ReferenceAsIdeal.τ).loc Cert.ReferenceAsIdeal.main_arg4) = m ((c.tc : Thread Cert.ReferenceAsIdeal.nD Cert.ReferenceAsIdeal.τ).loc Cert.ReferenceAsIdeal.main_arg4)
      ∧ r.2.mem ((c.tc : Thread Cert.ReferenceAsIdeal.nD Cert.ReferenceAsIdeal.τ).loc Cert.ReferenceAsIdeal.main_arg5) = m ((c.tc : Thread Cert.ReferenceAsIdeal.nD Cert.ReferenceAsIdeal.τ).loc Cert.ReferenceAsIdeal.main_arg5)
      ∧ r.2.mem ((c.tc : Thread Cert.ReferenceAsIdeal.nD Cert.ReferenceAsIdeal.τ).loc Cert.ReferenceAsIdeal.main_arg6) = m ((c.tc : Thread Cert.ReferenceAsIdeal.nD Cert.ReferenceAsIdeal.τ).loc Cert.ReferenceAsIdeal.main_arg6)
      ∧ r.2.mem ((c.tc : Thread Cert.ReferenceAsIdeal.nD Cert.ReferenceAsIdeal.τ).loc Cert.ReferenceAsIdeal.main_arg7) = m ((c.tc : Thread Cert.ReferenceAsIdeal.nD Cert.ReferenceAsIdeal.τ).loc Cert.ReferenceAsIdeal.main_arg7)
      ∧ r.2.mem ((c.tc : Thread Cert.ReferenceAsIdeal.nD Cert.ReferenceAsIdeal.τ).loc Cert.ReferenceAsIdeal.main_arg8) = m ((c.tc : Thread Cert.ReferenceAsIdeal.nD Cert.ReferenceAsIdeal.τ).loc Cert.ReferenceAsIdeal.main_arg8)
      ∧ r.2.mem ((c.tc : Thread Cert.ReferenceAsIdeal.nD Cert.ReferenceAsIdeal.τ).loc Cert.ReferenceAsIdeal.main_arg9) = m ((c.tc : Thread Cert.ReferenceAsIdeal.nD Cert.ReferenceAsIdeal.τ).loc Cert.ReferenceAsIdeal.main_arg9)
      ∧ r.2.mem ((c.tc : Thread Cert.ReferenceAsIdeal.nD Cert.ReferenceAsIdeal.τ).loc Cert.ReferenceAsIdeal.main_arg10) = m ((c.tc : Thread Cert.ReferenceAsIdeal.nD Cert.ReferenceAsIdeal.τ).loc Cert.ReferenceAsIdeal.main_arg10)
      ∧ r.2.mem ((c.tc : Thread Cert.ReferenceAsIdeal.nD Cert.ReferenceAsIdeal.τ).loc Cert.ReferenceAsIdeal.main_arg11) = m ((c.tc : Thread Cert.ReferenceAsIdeal.nD Cert.ReferenceAsIdeal.τ).loc Cert.ReferenceAsIdeal.main_arg11)
      ∧ r.2.mem ((c.tc : Thread Cert.ReferenceAsIdeal.nD Cert.ReferenceAsIdeal.τ).loc Cert.ReferenceAsIdeal.main_arg12) = m ((c.tc : Thread Cert.ReferenceAsIdeal.nD Cert.ReferenceAsIdeal.τ).loc Cert.ReferenceAsIdeal.main_arg12)
      ∧ r.2.mem ((c.tc : Thread Cert.ReferenceAsIdeal.nD Cert.ReferenceAsIdeal.τ).loc Cert.ReferenceAsIdeal.main_arg13) = m ((c.tc : Thread Cert.ReferenceAsIdeal.nD Cert.ReferenceAsIdeal.τ).loc Cert.ReferenceAsIdeal.main_arg13)
      ∧ r.2.mem ((c.tc : Thread Cert.ReferenceAsIdeal.nD Cert.ReferenceAsIdeal.τ).loc Cert.ReferenceAsIdeal.main_arg14) = m ((c.tc : Thread Cert.ReferenceAsIdeal.nD Cert.ReferenceAsIdeal.τ).loc Cert.ReferenceAsIdeal.main_arg14)
      ∧ r.2.mem ((c.tc : Thread Cert.ReferenceAsIdeal.nD Cert.ReferenceAsIdeal.τ).loc Cert.ReferenceAsIdeal.main_arg15) = m ((c.tc : Thread Cert.ReferenceAsIdeal.nD Cert.ReferenceAsIdeal.τ).loc Cert.ReferenceAsIdeal.main_arg15)
      ∧ r.2.mem ((c.tc : Thread Cert.ReferenceAsIdeal.nD Cert.ReferenceAsIdeal.τ).loc Cert.ReferenceAsIdeal.main_arg16) = m ((c.tc : Thread Cert.ReferenceAsIdeal.nD Cert.ReferenceAsIdeal.τ).loc Cert.ReferenceAsIdeal.main_arg16)
      ∧ r.2.mem ((c.tc : Thread Cert.ReferenceAsIdeal.nD Cert.ReferenceAsIdeal.τ).loc Cert.ReferenceAsIdeal.main_arg17) = m ((c.tc : Thread Cert.ReferenceAsIdeal.nD Cert.ReferenceAsIdeal.τ).loc Cert.ReferenceAsIdeal.main_arg17)
      ∧ r.2.mem ((c.tc : Thread Cert.ReferenceAsIdeal.nD Cert.ReferenceAsIdeal.τ).loc Cert.ReferenceAsIdeal.main_arg18) = m ((c.tc : Thread Cert.ReferenceAsIdeal.nD Cert.ReferenceAsIdeal.τ).loc Cert.ReferenceAsIdeal.main_arg18)
      ∧ r.2.mem ((c.tc : Thread Cert.ReferenceAsIdeal.nD Cert.ReferenceAsIdeal.τ).loc Cert.ReferenceAsIdeal.main_arg19) = m ((c.tc : Thread Cert.ReferenceAsIdeal.nD Cert.ReferenceAsIdeal.τ).loc Cert.ReferenceAsIdeal.main_arg19)
      ∧ r.2.mem ((c.tc : Thread Cert.ReferenceAsIdeal.nD Cert.ReferenceAsIdeal.τ).loc Cert.ReferenceAsIdeal.main_arg20) = m ((c.tc : Thread Cert.ReferenceAsIdeal.nD Cert.ReferenceAsIdeal.τ).loc Cert.ReferenceAsIdeal.main_arg20)
      ∧ r.2.mem ((c.tc : Thread Cert.ReferenceAsIdeal.nD Cert.ReferenceAsIdeal.τ).loc Cert.ReferenceAsIdeal.main_arg21) = m ((c.tc : Thread Cert.ReferenceAsIdeal.nD Cert.ReferenceAsIdeal.τ).loc Cert.ReferenceAsIdeal.main_arg21)
      ∧ r.2.mem ((c.tc : Thread Cert.ReferenceAsIdeal.nD Cert.ReferenceAsIdeal.τ).loc Cert.ReferenceAsIdeal.main_arg22) = m ((c.tc : Thread Cert.ReferenceAsIdeal.nD Cert.ReferenceAsIdeal.τ).loc Cert.ReferenceAsIdeal.main_arg22)
      ∧ r.2.mem ((c.tc : Thread Cert.ReferenceAsIdeal.nD Cert.ReferenceAsIdeal.τ).loc Cert.ReferenceAsIdeal.main_arg23) = m ((c.tc : Thread Cert.ReferenceAsIdeal.nD Cert.ReferenceAsIdeal.τ).loc Cert.ReferenceAsIdeal.main_arg23)
      ∧ r.2.mem ((c.tc : Thread Cert.ReferenceAsIdeal.nD Cert.ReferenceAsIdeal.τ).loc Cert.ReferenceAsIdeal.main_arg24) = m ((c.tc : Thread Cert.ReferenceAsIdeal.nD Cert.ReferenceAsIdeal.τ).loc Cert.ReferenceAsIdeal.main_arg24)
      ∧ r.2.mem ((c.tc : Thread Cert.ReferenceAsIdeal.nD Cert.ReferenceAsIdeal.τ).loc Cert.ReferenceAsIdeal.main_arg25) = m ((c.tc : Thread Cert.ReferenceAsIdeal.nD Cert.ReferenceAsIdeal.τ).loc Cert.ReferenceAsIdeal.main_arg25)
      ∧ r.2.mem ((c.tc : Thread Cert.ReferenceAsIdeal.nD Cert.ReferenceAsIdeal.τ).loc Cert.ReferenceAsIdeal.main_arg26) = m ((c.tc : Thread Cert.ReferenceAsIdeal.nD Cert.ReferenceAsIdeal.τ).loc Cert.ReferenceAsIdeal.main_arg26)
      ∧ r.2.mem ((c.tc : Thread Cert.ReferenceAsIdeal.nD Cert.ReferenceAsIdeal.τ).loc Cert.ReferenceAsIdeal.main_arg27) = m ((c.tc : Thread Cert.ReferenceAsIdeal.nD Cert.ReferenceAsIdeal.τ).loc Cert.ReferenceAsIdeal.main_arg27)
      ∧ r.2.mem ((c.tc : Thread Cert.ReferenceAsIdeal.nD Cert.ReferenceAsIdeal.τ).loc Cert.ReferenceAsIdeal.main_arg28) = m ((c.tc : Thread Cert.ReferenceAsIdeal.nD Cert.ReferenceAsIdeal.τ).loc Cert.ReferenceAsIdeal.main_arg28))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelWd_KernelWdIdeal : Prop :=
  True

def algebraic_KernelWdIdeal_ReferenceWdIdeal [hKernelWdIdeal : Cert.KernelWdIdeal.Facts] [hReferenceWdIdeal : Cert.ReferenceWdIdeal.Facts] : Prop :=
  ∀ (m : (ℓ : Loc Cert.KernelWdIdeal.nD Cert.KernelWdIdeal.τ Cert.KernelWdIdeal.sig) → Buf (Elt Ideal) ℓ) (g : Dev Cert.KernelWdIdeal.nD → PrngReg)
    (m' : (ℓ : Loc Cert.ReferenceWdIdeal.nD Cert.ReferenceWdIdeal.τ Cert.ReferenceWdIdeal.sig) → Buf (Elt Ideal) ℓ) (g' : Dev Cert.ReferenceWdIdeal.nD → PrngReg), Pre_KernelWdIdeal m →
    (∀ c : Dev Cert.KernelWdIdeal.nD,
      m' ((c.tc : Thread Cert.ReferenceWdIdeal.nD Cert.ReferenceWdIdeal.τ).loc Cert.ReferenceWdIdeal.main_arg0) = m ((c.tc : Thread Cert.KernelWdIdeal.nD Cert.KernelWdIdeal.τ).loc Cert.KernelWdIdeal.main_arg0)
      ∧ m' ((c.tc : Thread Cert.ReferenceWdIdeal.nD Cert.ReferenceWdIdeal.τ).loc Cert.ReferenceWdIdeal.main_arg1) = m ((c.tc : Thread Cert.KernelWdIdeal.nD Cert.KernelWdIdeal.τ).loc Cert.KernelWdIdeal.main_arg1)
      ∧ m' ((c.tc : Thread Cert.ReferenceWdIdeal.nD Cert.ReferenceWdIdeal.τ).loc Cert.ReferenceWdIdeal.main_arg2) = m ((c.tc : Thread Cert.KernelWdIdeal.nD Cert.KernelWdIdeal.τ).loc Cert.KernelWdIdeal.main_arg2)
      ∧ m' ((c.tc : Thread Cert.ReferenceWdIdeal.nD Cert.ReferenceWdIdeal.τ).loc Cert.ReferenceWdIdeal.main_arg3) = m ((c.tc : Thread Cert.KernelWdIdeal.nD Cert.KernelWdIdeal.τ).loc Cert.KernelWdIdeal.main_arg3)
      ∧ m' ((c.tc : Thread Cert.ReferenceWdIdeal.nD Cert.ReferenceWdIdeal.τ).loc Cert.ReferenceWdIdeal.main_arg4) = m ((c.tc : Thread Cert.KernelWdIdeal.nD Cert.KernelWdIdeal.τ).loc Cert.KernelWdIdeal.main_arg4)) →
    ∃ (v0 : (c : Dev Cert.KernelWdIdeal.nD) → Buf (Elt Ideal) ((c.tc : Thread Cert.KernelWdIdeal.nD Cert.KernelWdIdeal.τ).loc Cert.KernelWdIdeal.main_v20)),
      θ_run (Cert.KernelWdIdeal.defs (F := Ideal)) (onTc (τ := Cert.KernelWdIdeal.τ) (Cert.KernelWdIdeal.main (F := Ideal))) ⟨m, fun _ => 0, g⟩ (fun r => ∀ c : Dev Cert.KernelWdIdeal.nD,
          r.2.mem ((c.tc : Thread Cert.KernelWdIdeal.nD Cert.KernelWdIdeal.τ).loc Cert.KernelWdIdeal.main_v20) = v0 c
          ∧ r.2.mem ((c.tc : Thread Cert.KernelWdIdeal.nD Cert.KernelWdIdeal.τ).loc Cert.KernelWdIdeal.main_arg0) = m ((c.tc : Thread Cert.KernelWdIdeal.nD Cert.KernelWdIdeal.τ).loc Cert.KernelWdIdeal.main_arg0)
          ∧ r.2.mem ((c.tc : Thread Cert.KernelWdIdeal.nD Cert.KernelWdIdeal.τ).loc Cert.KernelWdIdeal.main_arg1) = m ((c.tc : Thread Cert.KernelWdIdeal.nD Cert.KernelWdIdeal.τ).loc Cert.KernelWdIdeal.main_arg1)
          ∧ r.2.mem ((c.tc : Thread Cert.KernelWdIdeal.nD Cert.KernelWdIdeal.τ).loc Cert.KernelWdIdeal.main_arg2) = m ((c.tc : Thread Cert.KernelWdIdeal.nD Cert.KernelWdIdeal.τ).loc Cert.KernelWdIdeal.main_arg2)
          ∧ r.2.mem ((c.tc : Thread Cert.KernelWdIdeal.nD Cert.KernelWdIdeal.τ).loc Cert.KernelWdIdeal.main_arg3) = m ((c.tc : Thread Cert.KernelWdIdeal.nD Cert.KernelWdIdeal.τ).loc Cert.KernelWdIdeal.main_arg3)
          ∧ r.2.mem ((c.tc : Thread Cert.KernelWdIdeal.nD Cert.KernelWdIdeal.τ).loc Cert.KernelWdIdeal.main_arg4) = m ((c.tc : Thread Cert.KernelWdIdeal.nD Cert.KernelWdIdeal.τ).loc Cert.KernelWdIdeal.main_arg4))
      ∧ θ_run (Cert.ReferenceWdIdeal.defs (F := Ideal)) (onTc (τ := Cert.ReferenceWdIdeal.τ) (Cert.ReferenceWdIdeal.main (F := Ideal))) ⟨m', fun _ => 0, g'⟩ (fun r => ∀ c : Dev Cert.ReferenceWdIdeal.nD,
          r.2.mem ((c.tc : Thread Cert.ReferenceWdIdeal.nD Cert.ReferenceWdIdeal.τ).loc Cert.ReferenceWdIdeal.main_v24) = v0 c
          ∧ r.2.mem ((c.tc : Thread Cert.ReferenceWdIdeal.nD Cert.ReferenceWdIdeal.τ).loc Cert.ReferenceWdIdeal.main_arg0) = m' ((c.tc : Thread Cert.ReferenceWdIdeal.nD Cert.ReferenceWdIdeal.τ).loc Cert.ReferenceWdIdeal.main_arg0)
          ∧ r.2.mem ((c.tc : Thread Cert.ReferenceWdIdeal.nD Cert.ReferenceWdIdeal.τ).loc Cert.ReferenceWdIdeal.main_arg1) = m' ((c.tc : Thread Cert.ReferenceWdIdeal.nD Cert.ReferenceWdIdeal.τ).loc Cert.ReferenceWdIdeal.main_arg1)
          ∧ r.2.mem ((c.tc : Thread Cert.ReferenceWdIdeal.nD Cert.ReferenceWdIdeal.τ).loc Cert.ReferenceWdIdeal.main_arg2) = m' ((c.tc : Thread Cert.ReferenceWdIdeal.nD Cert.ReferenceWdIdeal.τ).loc Cert.ReferenceWdIdeal.main_arg2)
          ∧ r.2.mem ((c.tc : Thread Cert.ReferenceWdIdeal.nD Cert.ReferenceWdIdeal.τ).loc Cert.ReferenceWdIdeal.main_arg3) = m' ((c.tc : Thread Cert.ReferenceWdIdeal.nD Cert.ReferenceWdIdeal.τ).loc Cert.ReferenceWdIdeal.main_arg3)
          ∧ r.2.mem ((c.tc : Thread Cert.ReferenceWdIdeal.nD Cert.ReferenceWdIdeal.τ).loc Cert.ReferenceWdIdeal.main_arg4) = m' ((c.tc : Thread Cert.ReferenceWdIdeal.nD Cert.ReferenceWdIdeal.τ).loc Cert.ReferenceWdIdeal.main_arg4))

def preserves_KernelWg_KernelWgIdeal : Prop :=
  True

def algebraic_KernelWgIdeal_ReferenceWgIdeal [hKernelWgIdeal : Cert.KernelWgIdeal.Facts] [hReferenceWgIdeal : Cert.ReferenceWgIdeal.Facts] : Prop :=
  ∀ (m : (ℓ : Loc Cert.KernelWgIdeal.nD Cert.KernelWgIdeal.τ Cert.KernelWgIdeal.sig) → Buf (Elt Ideal) ℓ) (g : Dev Cert.KernelWgIdeal.nD → PrngReg)
    (m' : (ℓ : Loc Cert.ReferenceWgIdeal.nD Cert.ReferenceWgIdeal.τ Cert.ReferenceWgIdeal.sig) → Buf (Elt Ideal) ℓ) (g' : Dev Cert.ReferenceWgIdeal.nD → PrngReg), Pre_KernelWgIdeal m →
    (∀ c : Dev Cert.KernelWgIdeal.nD,
      m' ((c.tc : Thread Cert.ReferenceWgIdeal.nD Cert.ReferenceWgIdeal.τ).loc Cert.ReferenceWgIdeal.main_arg0) = m ((c.tc : Thread Cert.KernelWgIdeal.nD Cert.KernelWgIdeal.τ).loc Cert.KernelWgIdeal.main_arg0)
      ∧ m' ((c.tc : Thread Cert.ReferenceWgIdeal.nD Cert.ReferenceWgIdeal.τ).loc Cert.ReferenceWgIdeal.main_arg1) = m ((c.tc : Thread Cert.KernelWgIdeal.nD Cert.KernelWgIdeal.τ).loc Cert.KernelWgIdeal.main_arg1)
      ∧ m' ((c.tc : Thread Cert.ReferenceWgIdeal.nD Cert.ReferenceWgIdeal.τ).loc Cert.ReferenceWgIdeal.main_arg2) = m ((c.tc : Thread Cert.KernelWgIdeal.nD Cert.KernelWgIdeal.τ).loc Cert.KernelWgIdeal.main_arg2)) →
    ∃ (v0 : (c : Dev Cert.KernelWgIdeal.nD) → Buf (Elt Ideal) ((c.tc : Thread Cert.KernelWgIdeal.nD Cert.KernelWgIdeal.τ).loc Cert.KernelWgIdeal.main_v14)),
      θ_run (Cert.KernelWgIdeal.defs (F := Ideal)) (onTc (τ := Cert.KernelWgIdeal.τ) (Cert.KernelWgIdeal.main (F := Ideal))) ⟨m, fun _ => 0, g⟩ (fun r => ∀ c : Dev Cert.KernelWgIdeal.nD,
          r.2.mem ((c.tc : Thread Cert.KernelWgIdeal.nD Cert.KernelWgIdeal.τ).loc Cert.KernelWgIdeal.main_v14) = v0 c
          ∧ r.2.mem ((c.tc : Thread Cert.KernelWgIdeal.nD Cert.KernelWgIdeal.τ).loc Cert.KernelWgIdeal.main_arg0) = m ((c.tc : Thread Cert.KernelWgIdeal.nD Cert.KernelWgIdeal.τ).loc Cert.KernelWgIdeal.main_arg0)
          ∧ r.2.mem ((c.tc : Thread Cert.KernelWgIdeal.nD Cert.KernelWgIdeal.τ).loc Cert.KernelWgIdeal.main_arg1) = m ((c.tc : Thread Cert.KernelWgIdeal.nD Cert.KernelWgIdeal.τ).loc Cert.KernelWgIdeal.main_arg1)
          ∧ r.2.mem ((c.tc : Thread Cert.KernelWgIdeal.nD Cert.KernelWgIdeal.τ).loc Cert.KernelWgIdeal.main_arg2) = m ((c.tc : Thread Cert.KernelWgIdeal.nD Cert.KernelWgIdeal.τ).loc Cert.KernelWgIdeal.main_arg2))
      ∧ θ_run (Cert.ReferenceWgIdeal.defs (F := Ideal)) (onTc (τ := Cert.ReferenceWgIdeal.τ) (Cert.ReferenceWgIdeal.main (F := Ideal))) ⟨m', fun _ => 0, g'⟩ (fun r => ∀ c : Dev Cert.ReferenceWgIdeal.nD,
          r.2.mem ((c.tc : Thread Cert.ReferenceWgIdeal.nD Cert.ReferenceWgIdeal.τ).loc Cert.ReferenceWgIdeal.main_v17) = v0 c
          ∧ r.2.mem ((c.tc : Thread Cert.ReferenceWgIdeal.nD Cert.ReferenceWgIdeal.τ).loc Cert.ReferenceWgIdeal.main_arg0) = m' ((c.tc : Thread Cert.ReferenceWgIdeal.nD Cert.ReferenceWgIdeal.τ).loc Cert.ReferenceWgIdeal.main_arg0)
          ∧ r.2.mem ((c.tc : Thread Cert.ReferenceWgIdeal.nD Cert.ReferenceWgIdeal.τ).loc Cert.ReferenceWgIdeal.main_arg1) = m' ((c.tc : Thread Cert.ReferenceWgIdeal.nD Cert.ReferenceWgIdeal.τ).loc Cert.ReferenceWgIdeal.main_arg1)
          ∧ r.2.mem ((c.tc : Thread Cert.ReferenceWgIdeal.nD Cert.ReferenceWgIdeal.τ).loc Cert.ReferenceWgIdeal.main_arg2) = m' ((c.tc : Thread Cert.ReferenceWgIdeal.nD Cert.ReferenceWgIdeal.τ).loc Cert.ReferenceWgIdeal.main_arg2))

def preserves_KernelMo_KernelMoIdeal : Prop :=
  True

def algebraic_KernelMoIdeal_ReferenceMoIdeal [hKernelMoIdeal : Cert.KernelMoIdeal.Facts] [hReferenceMoIdeal : Cert.ReferenceMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg)
    (m' : (ℓ : Loc Cert.ReferenceMoIdeal.nD Cert.ReferenceMoIdeal.τ Cert.ReferenceMoIdeal.sig) → Buf (Elt Ideal) ℓ) (g' : Dev Cert.ReferenceMoIdeal.nD → PrngReg), Pre_KernelMoIdeal m →
    (∀ c : Dev Cert.KernelMoIdeal.nD,
      m' ((c.tc : Thread Cert.ReferenceMoIdeal.nD Cert.ReferenceMoIdeal.τ).loc Cert.ReferenceMoIdeal.main_arg0) = m ((c.tc : Thread Cert.KernelMoIdeal.nD Cert.KernelMoIdeal.τ).loc Cert.KernelMoIdeal.main_arg0)
      ∧ m' ((c.tc : Thread Cert.ReferenceMoIdeal.nD Cert.ReferenceMoIdeal.τ).loc Cert.ReferenceMoIdeal.main_arg1) = m ((c.tc : Thread Cert.KernelMoIdeal.nD Cert.KernelMoIdeal.τ).loc Cert.KernelMoIdeal.main_arg1)
      ∧ m' ((c.tc : Thread Cert.ReferenceMoIdeal.nD Cert.ReferenceMoIdeal.τ).loc Cert.ReferenceMoIdeal.main_arg2) = m ((c.tc : Thread Cert.KernelMoIdeal.nD Cert.KernelMoIdeal.τ).loc Cert.KernelMoIdeal.main_arg2)
      ∧ m' ((c.tc : Thread Cert.ReferenceMoIdeal.nD Cert.ReferenceMoIdeal.τ).loc Cert.ReferenceMoIdeal.main_arg3) = m ((c.tc : Thread Cert.KernelMoIdeal.nD Cert.KernelMoIdeal.τ).loc Cert.KernelMoIdeal.main_arg3)) →
    ∃ (v0 : (c : Dev Cert.KernelMoIdeal.nD) → Buf (Elt Ideal) ((c.tc : Thread Cert.KernelMoIdeal.nD Cert.KernelMoIdeal.τ).loc Cert.KernelMoIdeal.main_v3_0)) (v1 : (c : Dev Cert.KernelMoIdeal.nD) → Buf (Elt Ideal) ((c.tc : Thread Cert.KernelMoIdeal.nD Cert.KernelMoIdeal.τ).loc Cert.KernelMoIdeal.main_v3_1)) (v2 : (c : Dev Cert.KernelMoIdeal.nD) → Buf (Elt Ideal) ((c.tc : Thread Cert.KernelMoIdeal.nD Cert.KernelMoIdeal.τ).loc Cert.KernelMoIdeal.main_v3_2)),
      θ_run (Cert.KernelMoIdeal.defs (F := Ideal)) (onTc (τ := Cert.KernelMoIdeal.τ) (Cert.KernelMoIdeal.main (F := Ideal))) ⟨m, fun _ => 0, g⟩ (fun r => ∀ c : Dev Cert.KernelMoIdeal.nD,
          r.2.mem ((c.tc : Thread Cert.KernelMoIdeal.nD Cert.KernelMoIdeal.τ).loc Cert.KernelMoIdeal.main_v3_0) = v0 c
          ∧ r.2.mem ((c.tc : Thread Cert.KernelMoIdeal.nD Cert.KernelMoIdeal.τ).loc Cert.KernelMoIdeal.main_v3_1) = v1 c
          ∧ r.2.mem ((c.tc : Thread Cert.KernelMoIdeal.nD Cert.KernelMoIdeal.τ).loc Cert.KernelMoIdeal.main_v3_2) = v2 c
          ∧ r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
          ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
          ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
          ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3))
      ∧ θ_run (Cert.ReferenceMoIdeal.defs (F := Ideal)) (onTc (τ := Cert.ReferenceMoIdeal.τ) (Cert.ReferenceMoIdeal.main (F := Ideal))) ⟨m', fun _ => 0, g'⟩ (fun r => ∀ c : Dev Cert.ReferenceMoIdeal.nD,
          r.2.mem ((c.tc : Thread Cert.ReferenceMoIdeal.nD Cert.ReferenceMoIdeal.τ).loc Cert.ReferenceMoIdeal.main_v7) = v0 c
          ∧ r.2.mem ((c.tc : Thread Cert.ReferenceMoIdeal.nD Cert.ReferenceMoIdeal.τ).loc Cert.ReferenceMoIdeal.main_v8) = v1 c
          ∧ r.2.mem ((c.tc : Thread Cert.ReferenceMoIdeal.nD Cert.ReferenceMoIdeal.τ).loc Cert.ReferenceMoIdeal.main_v9) = v2 c
          ∧ r.2.mem ((c.tc : Thread Cert.ReferenceMoIdeal.nD Cert.ReferenceMoIdeal.τ).loc Cert.ReferenceMoIdeal.main_arg0) = m' ((c.tc : Thread Cert.ReferenceMoIdeal.nD Cert.ReferenceMoIdeal.τ).loc Cert.ReferenceMoIdeal.main_arg0)
          ∧ r.2.mem ((c.tc : Thread Cert.ReferenceMoIdeal.nD Cert.ReferenceMoIdeal.τ).loc Cert.ReferenceMoIdeal.main_arg1) = m' ((c.tc : Thread Cert.ReferenceMoIdeal.nD Cert.ReferenceMoIdeal.τ).loc Cert.ReferenceMoIdeal.main_arg1)
          ∧ r.2.mem ((c.tc : Thread Cert.ReferenceMoIdeal.nD Cert.ReferenceMoIdeal.τ).loc Cert.ReferenceMoIdeal.main_arg2) = m' ((c.tc : Thread Cert.ReferenceMoIdeal.nD Cert.ReferenceMoIdeal.τ).loc Cert.ReferenceMoIdeal.main_arg2)
          ∧ r.2.mem ((c.tc : Thread Cert.ReferenceMoIdeal.nD Cert.ReferenceMoIdeal.τ).loc Cert.ReferenceMoIdeal.main_arg3) = m' ((c.tc : Thread Cert.ReferenceMoIdeal.nD Cert.ReferenceMoIdeal.τ).loc Cert.ReferenceMoIdeal.main_arg3))

def preserves_KernelMi_KernelMiIdeal : Prop :=
  True

def algebraic_KernelMiIdeal_ReferenceMiIdeal [hKernelMiIdeal : Cert.KernelMiIdeal.Facts] [hReferenceMiIdeal : Cert.ReferenceMiIdeal.Facts] : Prop :=
  ∀ (m : (ℓ : Loc Cert.KernelMiIdeal.nD Cert.KernelMiIdeal.τ Cert.KernelMiIdeal.sig) → Buf (Elt Ideal) ℓ) (g : Dev Cert.KernelMiIdeal.nD → PrngReg)
    (m' : (ℓ : Loc Cert.ReferenceMiIdeal.nD Cert.ReferenceMiIdeal.τ Cert.ReferenceMiIdeal.sig) → Buf (Elt Ideal) ℓ) (g' : Dev Cert.ReferenceMiIdeal.nD → PrngReg), Pre_KernelMiIdeal m →
    (∀ c : Dev Cert.KernelMiIdeal.nD,
      m' ((c.tc : Thread Cert.ReferenceMiIdeal.nD Cert.ReferenceMiIdeal.τ).loc Cert.ReferenceMiIdeal.main_arg0) = m ((c.tc : Thread Cert.KernelMiIdeal.nD Cert.KernelMiIdeal.τ).loc Cert.KernelMiIdeal.main_arg0)
      ∧ m' ((c.tc : Thread Cert.ReferenceMiIdeal.nD Cert.ReferenceMiIdeal.τ).loc Cert.ReferenceMiIdeal.main_arg1) = m ((c.tc : Thread Cert.KernelMiIdeal.nD Cert.KernelMiIdeal.τ).loc Cert.KernelMiIdeal.main_arg1)
      ∧ m' ((c.tc : Thread Cert.ReferenceMiIdeal.nD Cert.ReferenceMiIdeal.τ).loc Cert.ReferenceMiIdeal.main_arg2) = m ((c.tc : Thread Cert.KernelMiIdeal.nD Cert.KernelMiIdeal.τ).loc Cert.KernelMiIdeal.main_arg2)
      ∧ m' ((c.tc : Thread Cert.ReferenceMiIdeal.nD Cert.ReferenceMiIdeal.τ).loc Cert.ReferenceMiIdeal.main_arg3) = m ((c.tc : Thread Cert.KernelMiIdeal.nD Cert.KernelMiIdeal.τ).loc Cert.KernelMiIdeal.main_arg3)
      ∧ m' ((c.tc : Thread Cert.ReferenceMiIdeal.nD Cert.ReferenceMiIdeal.τ).loc Cert.ReferenceMiIdeal.main_arg4) = m ((c.tc : Thread Cert.KernelMiIdeal.nD Cert.KernelMiIdeal.τ).loc Cert.KernelMiIdeal.main_arg4)
      ∧ m' ((c.tc : Thread Cert.ReferenceMiIdeal.nD Cert.ReferenceMiIdeal.τ).loc Cert.ReferenceMiIdeal.main_arg5) = m ((c.tc : Thread Cert.KernelMiIdeal.nD Cert.KernelMiIdeal.τ).loc Cert.KernelMiIdeal.main_arg5)
      ∧ m' ((c.tc : Thread Cert.ReferenceMiIdeal.nD Cert.ReferenceMiIdeal.τ).loc Cert.ReferenceMiIdeal.main_arg6) = m ((c.tc : Thread Cert.KernelMiIdeal.nD Cert.KernelMiIdeal.τ).loc Cert.KernelMiIdeal.main_arg6)
      ∧ m' ((c.tc : Thread Cert.ReferenceMiIdeal.nD Cert.ReferenceMiIdeal.τ).loc Cert.ReferenceMiIdeal.main_arg7) = m ((c.tc : Thread Cert.KernelMiIdeal.nD Cert.KernelMiIdeal.τ).loc Cert.KernelMiIdeal.main_arg7)
      ∧ m' ((c.tc : Thread Cert.ReferenceMiIdeal.nD Cert.ReferenceMiIdeal.τ).loc Cert.ReferenceMiIdeal.main_arg8) = m ((c.tc : Thread Cert.KernelMiIdeal.nD Cert.KernelMiIdeal.τ).loc Cert.KernelMiIdeal.main_arg8)) →
    ∃ (v0 : (c : Dev Cert.KernelMiIdeal.nD) → Buf (Elt Ideal) ((c.tc : Thread Cert.KernelMiIdeal.nD Cert.KernelMiIdeal.τ).loc Cert.KernelMiIdeal.main_v20_0)) (v1 : (c : Dev Cert.KernelMiIdeal.nD) → Buf (Elt Ideal) ((c.tc : Thread Cert.KernelMiIdeal.nD Cert.KernelMiIdeal.τ).loc Cert.KernelMiIdeal.main_v20_1)) (v2 : (c : Dev Cert.KernelMiIdeal.nD) → Buf (Elt Ideal) ((c.tc : Thread Cert.KernelMiIdeal.nD Cert.KernelMiIdeal.τ).loc Cert.KernelMiIdeal.main_v20_2)) (v3 : (c : Dev Cert.KernelMiIdeal.nD) → Buf (Elt Ideal) ((c.tc : Thread Cert.KernelMiIdeal.nD Cert.KernelMiIdeal.τ).loc Cert.KernelMiIdeal.main_v20_3)),
      θ_run (Cert.KernelMiIdeal.defs (F := Ideal)) (onTc (τ := Cert.KernelMiIdeal.τ) (Cert.KernelMiIdeal.main (F := Ideal))) ⟨m, fun _ => 0, g⟩ (fun r => ∀ c : Dev Cert.KernelMiIdeal.nD,
          r.2.mem ((c.tc : Thread Cert.KernelMiIdeal.nD Cert.KernelMiIdeal.τ).loc Cert.KernelMiIdeal.main_v20_0) = v0 c
          ∧ r.2.mem ((c.tc : Thread Cert.KernelMiIdeal.nD Cert.KernelMiIdeal.τ).loc Cert.KernelMiIdeal.main_v20_1) = v1 c
          ∧ r.2.mem ((c.tc : Thread Cert.KernelMiIdeal.nD Cert.KernelMiIdeal.τ).loc Cert.KernelMiIdeal.main_v20_2) = v2 c
          ∧ r.2.mem ((c.tc : Thread Cert.KernelMiIdeal.nD Cert.KernelMiIdeal.τ).loc Cert.KernelMiIdeal.main_v20_3) = v3 c
          ∧ r.2.mem ((c.tc : Thread Cert.KernelMiIdeal.nD Cert.KernelMiIdeal.τ).loc Cert.KernelMiIdeal.main_arg0) = m ((c.tc : Thread Cert.KernelMiIdeal.nD Cert.KernelMiIdeal.τ).loc Cert.KernelMiIdeal.main_arg0)
          ∧ r.2.mem ((c.tc : Thread Cert.KernelMiIdeal.nD Cert.KernelMiIdeal.τ).loc Cert.KernelMiIdeal.main_arg1) = m ((c.tc : Thread Cert.KernelMiIdeal.nD Cert.KernelMiIdeal.τ).loc Cert.KernelMiIdeal.main_arg1)
          ∧ r.2.mem ((c.tc : Thread Cert.KernelMiIdeal.nD Cert.KernelMiIdeal.τ).loc Cert.KernelMiIdeal.main_arg2) = m ((c.tc : Thread Cert.KernelMiIdeal.nD Cert.KernelMiIdeal.τ).loc Cert.KernelMiIdeal.main_arg2)
          ∧ r.2.mem ((c.tc : Thread Cert.KernelMiIdeal.nD Cert.KernelMiIdeal.τ).loc Cert.KernelMiIdeal.main_arg3) = m ((c.tc : Thread Cert.KernelMiIdeal.nD Cert.KernelMiIdeal.τ).loc Cert.KernelMiIdeal.main_arg3)
          ∧ r.2.mem ((c.tc : Thread Cert.KernelMiIdeal.nD Cert.KernelMiIdeal.τ).loc Cert.KernelMiIdeal.main_arg4) = m ((c.tc : Thread Cert.KernelMiIdeal.nD Cert.KernelMiIdeal.τ).loc Cert.KernelMiIdeal.main_arg4)
          ∧ r.2.mem ((c.tc : Thread Cert.KernelMiIdeal.nD Cert.KernelMiIdeal.τ).loc Cert.KernelMiIdeal.main_arg5) = m ((c.tc : Thread Cert.KernelMiIdeal.nD Cert.KernelMiIdeal.τ).loc Cert.KernelMiIdeal.main_arg5)
          ∧ r.2.mem ((c.tc : Thread Cert.KernelMiIdeal.nD Cert.KernelMiIdeal.τ).loc Cert.KernelMiIdeal.main_arg6) = m ((c.tc : Thread Cert.KernelMiIdeal.nD Cert.KernelMiIdeal.τ).loc Cert.KernelMiIdeal.main_arg6)
          ∧ r.2.mem ((c.tc : Thread Cert.KernelMiIdeal.nD Cert.KernelMiIdeal.τ).loc Cert.KernelMiIdeal.main_arg7) = m ((c.tc : Thread Cert.KernelMiIdeal.nD Cert.KernelMiIdeal.τ).loc Cert.KernelMiIdeal.main_arg7)
          ∧ r.2.mem ((c.tc : Thread Cert.KernelMiIdeal.nD Cert.KernelMiIdeal.τ).loc Cert.KernelMiIdeal.main_arg8) = m ((c.tc : Thread Cert.KernelMiIdeal.nD Cert.KernelMiIdeal.τ).loc Cert.KernelMiIdeal.main_arg8))
      ∧ θ_run (Cert.ReferenceMiIdeal.defs (F := Ideal)) (onTc (τ := Cert.ReferenceMiIdeal.τ) (Cert.ReferenceMiIdeal.main (F := Ideal))) ⟨m', fun _ => 0, g'⟩ (fun r => ∀ c : Dev Cert.ReferenceMiIdeal.nD,
          r.2.mem ((c.tc : Thread Cert.ReferenceMiIdeal.nD Cert.ReferenceMiIdeal.τ).loc Cert.ReferenceMiIdeal.main_v63) = v0 c
          ∧ r.2.mem ((c.tc : Thread Cert.ReferenceMiIdeal.nD Cert.ReferenceMiIdeal.τ).loc Cert.ReferenceMiIdeal.main_v41) = v1 c
          ∧ r.2.mem ((c.tc : Thread Cert.ReferenceMiIdeal.nD Cert.ReferenceMiIdeal.τ).loc Cert.ReferenceMiIdeal.main_v66) = v2 c
          ∧ r.2.mem ((c.tc : Thread Cert.ReferenceMiIdeal.nD Cert.ReferenceMiIdeal.τ).loc Cert.ReferenceMiIdeal.main_v61) = v3 c
          ∧ r.2.mem ((c.tc : Thread Cert.ReferenceMiIdeal.nD Cert.ReferenceMiIdeal.τ).loc Cert.ReferenceMiIdeal.main_arg0) = m' ((c.tc : Thread Cert.ReferenceMiIdeal.nD Cert.ReferenceMiIdeal.τ).loc Cert.ReferenceMiIdeal.main_arg0)
          ∧ r.2.mem ((c.tc : Thread Cert.ReferenceMiIdeal.nD Cert.ReferenceMiIdeal.τ).loc Cert.ReferenceMiIdeal.main_arg1) = m' ((c.tc : Thread Cert.ReferenceMiIdeal.nD Cert.ReferenceMiIdeal.τ).loc Cert.ReferenceMiIdeal.main_arg1)
          ∧ r.2.mem ((c.tc : Thread Cert.ReferenceMiIdeal.nD Cert.ReferenceMiIdeal.τ).loc Cert.ReferenceMiIdeal.main_arg2) = m' ((c.tc : Thread Cert.ReferenceMiIdeal.nD Cert.ReferenceMiIdeal.τ).loc Cert.ReferenceMiIdeal.main_arg2)
          ∧ r.2.mem ((c.tc : Thread Cert.ReferenceMiIdeal.nD Cert.ReferenceMiIdeal.τ).loc Cert.ReferenceMiIdeal.main_arg3) = m' ((c.tc : Thread Cert.ReferenceMiIdeal.nD Cert.ReferenceMiIdeal.τ).loc Cert.ReferenceMiIdeal.main_arg3)
          ∧ r.2.mem ((c.tc : Thread Cert.ReferenceMiIdeal.nD Cert.ReferenceMiIdeal.τ).loc Cert.ReferenceMiIdeal.main_arg4) = m' ((c.tc : Thread Cert.ReferenceMiIdeal.nD Cert.ReferenceMiIdeal.τ).loc Cert.ReferenceMiIdeal.main_arg4)
          ∧ r.2.mem ((c.tc : Thread Cert.ReferenceMiIdeal.nD Cert.ReferenceMiIdeal.τ).loc Cert.ReferenceMiIdeal.main_arg5) = m' ((c.tc : Thread Cert.ReferenceMiIdeal.nD Cert.ReferenceMiIdeal.τ).loc Cert.ReferenceMiIdeal.main_arg5)
          ∧ r.2.mem ((c.tc : Thread Cert.ReferenceMiIdeal.nD Cert.ReferenceMiIdeal.τ).loc Cert.ReferenceMiIdeal.main_arg6) = m' ((c.tc : Thread Cert.ReferenceMiIdeal.nD Cert.ReferenceMiIdeal.τ).loc Cert.ReferenceMiIdeal.main_arg6)
          ∧ r.2.mem ((c.tc : Thread Cert.ReferenceMiIdeal.nD Cert.ReferenceMiIdeal.τ).loc Cert.ReferenceMiIdeal.main_arg7) = m' ((c.tc : Thread Cert.ReferenceMiIdeal.nD Cert.ReferenceMiIdeal.τ).loc Cert.ReferenceMiIdeal.main_arg7)
          ∧ r.2.mem ((c.tc : Thread Cert.ReferenceMiIdeal.nD Cert.ReferenceMiIdeal.τ).loc Cert.ReferenceMiIdeal.main_arg8) = m' ((c.tc : Thread Cert.ReferenceMiIdeal.nD Cert.ReferenceMiIdeal.τ).loc Cert.ReferenceMiIdeal.main_arg8))

def preserves_KernelGu_KernelGuIdeal : Prop :=
  True

def algebraic_KernelGuIdeal_ReferenceGuIdeal [hKernelGuIdeal : Cert.KernelGuIdeal.Facts] [hReferenceGuIdeal : Cert.ReferenceGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)
      ∧ m' ((c.tc : Thread Cert.ReferenceGuIdeal.nD Cert.ReferenceGuIdeal.τ).loc Cert.ReferenceGuIdeal.main_arg2) = m ((c.tc : Thread Cert.KernelGuIdeal.nD Cert.KernelGuIdeal.τ).loc Cert.KernelGuIdeal.main_arg2)
      ∧ m' ((c.tc : Thread Cert.ReferenceGuIdeal.nD Cert.ReferenceGuIdeal.τ).loc Cert.ReferenceGuIdeal.main_arg3) = m ((c.tc : Thread Cert.KernelGuIdeal.nD Cert.KernelGuIdeal.τ).loc Cert.KernelGuIdeal.main_arg3)) →
    ∃ (v0 : (c : Dev Cert.KernelGuIdeal.nD) → Buf (Elt Ideal) ((c.tc : Thread Cert.KernelGuIdeal.nD Cert.KernelGuIdeal.τ).loc Cert.KernelGuIdeal.main_v4_0)) (v1 : (c : Dev Cert.KernelGuIdeal.nD) → Buf (Elt Ideal) ((c.tc : Thread Cert.KernelGuIdeal.nD Cert.KernelGuIdeal.τ).loc Cert.KernelGuIdeal.main_v4_1)) (v2 : (c : Dev Cert.KernelGuIdeal.nD) → Buf (Elt Ideal) ((c.tc : Thread Cert.KernelGuIdeal.nD Cert.KernelGuIdeal.τ).loc Cert.KernelGuIdeal.main_v4_2)) (v3 : (c : Dev Cert.KernelGuIdeal.nD) → Buf (Elt Ideal) ((c.tc : Thread Cert.KernelGuIdeal.nD Cert.KernelGuIdeal.τ).loc Cert.KernelGuIdeal.main_v4_3)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v4_0) = v0 c
          ∧ r.2.mem ((c.tc : Thread Cert.KernelGuIdeal.nD Cert.KernelGuIdeal.τ).loc Cert.KernelGuIdeal.main_v4_1) = v1 c
          ∧ r.2.mem ((c.tc : Thread Cert.KernelGuIdeal.nD Cert.KernelGuIdeal.τ).loc Cert.KernelGuIdeal.main_v4_2) = v2 c
          ∧ r.2.mem ((c.tc : Thread Cert.KernelGuIdeal.nD Cert.KernelGuIdeal.τ).loc Cert.KernelGuIdeal.main_v4_3) = v3 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
          ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2)
          ∧ r.2.mem ((c.tc : Thread Cert.KernelGuIdeal.nD Cert.KernelGuIdeal.τ).loc Cert.KernelGuIdeal.main_arg3) = m ((c.tc : Thread Cert.KernelGuIdeal.nD Cert.KernelGuIdeal.τ).loc Cert.KernelGuIdeal.main_arg3))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v14) = v0 c
          ∧ r.2.mem ((c.tc : Thread Cert.ReferenceGuIdeal.nD Cert.ReferenceGuIdeal.τ).loc Cert.ReferenceGuIdeal.main_v15) = v1 c
          ∧ r.2.mem ((c.tc : Thread Cert.ReferenceGuIdeal.nD Cert.ReferenceGuIdeal.τ).loc Cert.ReferenceGuIdeal.main_v16) = v2 c
          ∧ r.2.mem ((c.tc : Thread Cert.ReferenceGuIdeal.nD Cert.ReferenceGuIdeal.τ).loc Cert.ReferenceGuIdeal.main_v19) = v3 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1)
          ∧ r.2.mem ((c.tc : Thread Cert.ReferenceGuIdeal.nD Cert.ReferenceGuIdeal.τ).loc Cert.ReferenceGuIdeal.main_arg2) = m' ((c.tc : Thread Cert.ReferenceGuIdeal.nD Cert.ReferenceGuIdeal.τ).loc Cert.ReferenceGuIdeal.main_arg2)
          ∧ r.2.mem ((c.tc : Thread Cert.ReferenceGuIdeal.nD Cert.ReferenceGuIdeal.τ).loc Cert.ReferenceGuIdeal.main_arg3) = m' ((c.tc : Thread Cert.ReferenceGuIdeal.nD Cert.ReferenceGuIdeal.τ).loc Cert.ReferenceGuIdeal.main_arg3))

def preserves_KernelDm_KernelDmIdeal : Prop :=
  True

def algebraic_KernelDmIdeal_ReferenceDmIdeal [hKernelDmIdeal : Cert.KernelDmIdeal.Facts] [hReferenceDmIdeal : Cert.ReferenceDmIdeal.Facts] : Prop :=
  ∀ (m : (ℓ : Loc Cert.KernelDmIdeal.nD Cert.KernelDmIdeal.τ Cert.KernelDmIdeal.sig) → Buf (Elt Ideal) ℓ) (g : Dev Cert.KernelDmIdeal.nD → PrngReg)
    (m' : (ℓ : Loc Cert.ReferenceDmIdeal.nD Cert.ReferenceDmIdeal.τ Cert.ReferenceDmIdeal.sig) → Buf (Elt Ideal) ℓ) (g' : Dev Cert.ReferenceDmIdeal.nD → PrngReg), Pre_KernelDmIdeal m →
    (∀ c : Dev Cert.KernelDmIdeal.nD,
      m' ((c.tc : Thread Cert.ReferenceDmIdeal.nD Cert.ReferenceDmIdeal.τ).loc Cert.ReferenceDmIdeal.main_arg0) = m ((c.tc : Thread Cert.KernelDmIdeal.nD Cert.KernelDmIdeal.τ).loc Cert.KernelDmIdeal.main_arg0)
      ∧ m' ((c.tc : Thread Cert.ReferenceDmIdeal.nD Cert.ReferenceDmIdeal.τ).loc Cert.ReferenceDmIdeal.main_arg1) = m ((c.tc : Thread Cert.KernelDmIdeal.nD Cert.KernelDmIdeal.τ).loc Cert.KernelDmIdeal.main_arg1)
      ∧ m' ((c.tc : Thread Cert.ReferenceDmIdeal.nD Cert.ReferenceDmIdeal.τ).loc Cert.ReferenceDmIdeal.main_arg2) = m ((c.tc : Thread Cert.KernelDmIdeal.nD Cert.KernelDmIdeal.τ).loc Cert.KernelDmIdeal.main_arg2)
      ∧ m' ((c.tc : Thread Cert.ReferenceDmIdeal.nD Cert.ReferenceDmIdeal.τ).loc Cert.ReferenceDmIdeal.main_arg3) = m ((c.tc : Thread Cert.KernelDmIdeal.nD Cert.KernelDmIdeal.τ).loc Cert.KernelDmIdeal.main_arg3)
      ∧ m' ((c.tc : Thread Cert.ReferenceDmIdeal.nD Cert.ReferenceDmIdeal.τ).loc Cert.ReferenceDmIdeal.main_arg4) = m ((c.tc : Thread Cert.KernelDmIdeal.nD Cert.KernelDmIdeal.τ).loc Cert.KernelDmIdeal.main_arg4)
      ∧ m' ((c.tc : Thread Cert.ReferenceDmIdeal.nD Cert.ReferenceDmIdeal.τ).loc Cert.ReferenceDmIdeal.main_arg5) = m ((c.tc : Thread Cert.KernelDmIdeal.nD Cert.KernelDmIdeal.τ).loc Cert.KernelDmIdeal.main_arg5)
      ∧ m' ((c.tc : Thread Cert.ReferenceDmIdeal.nD Cert.ReferenceDmIdeal.τ).loc Cert.ReferenceDmIdeal.main_arg6) = m ((c.tc : Thread Cert.KernelDmIdeal.nD Cert.KernelDmIdeal.τ).loc Cert.KernelDmIdeal.main_arg6)) →
    ∃ (v0 : (c : Dev Cert.KernelDmIdeal.nD) → Buf (Elt Ideal) ((c.tc : Thread Cert.KernelDmIdeal.nD Cert.KernelDmIdeal.τ).loc Cert.KernelDmIdeal.main_v20_0)) (v1 : (c : Dev Cert.KernelDmIdeal.nD) → Buf (Elt Ideal) ((c.tc : Thread Cert.KernelDmIdeal.nD Cert.KernelDmIdeal.τ).loc Cert.KernelDmIdeal.main_v20_1)) (v2 : (c : Dev Cert.KernelDmIdeal.nD) → Buf (Elt Ideal) ((c.tc : Thread Cert.KernelDmIdeal.nD Cert.KernelDmIdeal.τ).loc Cert.KernelDmIdeal.main_v20_2)),
      θ_run (Cert.KernelDmIdeal.defs (F := Ideal)) (onTc (τ := Cert.KernelDmIdeal.τ) (Cert.KernelDmIdeal.main (F := Ideal))) ⟨m, fun _ => 0, g⟩ (fun r => ∀ c : Dev Cert.KernelDmIdeal.nD,
          r.2.mem ((c.tc : Thread Cert.KernelDmIdeal.nD Cert.KernelDmIdeal.τ).loc Cert.KernelDmIdeal.main_v20_0) = v0 c
          ∧ r.2.mem ((c.tc : Thread Cert.KernelDmIdeal.nD Cert.KernelDmIdeal.τ).loc Cert.KernelDmIdeal.main_v20_1) = v1 c
          ∧ r.2.mem ((c.tc : Thread Cert.KernelDmIdeal.nD Cert.KernelDmIdeal.τ).loc Cert.KernelDmIdeal.main_v20_2) = v2 c
          ∧ r.2.mem ((c.tc : Thread Cert.KernelDmIdeal.nD Cert.KernelDmIdeal.τ).loc Cert.KernelDmIdeal.main_arg0) = m ((c.tc : Thread Cert.KernelDmIdeal.nD Cert.KernelDmIdeal.τ).loc Cert.KernelDmIdeal.main_arg0)
          ∧ r.2.mem ((c.tc : Thread Cert.KernelDmIdeal.nD Cert.KernelDmIdeal.τ).loc Cert.KernelDmIdeal.main_arg1) = m ((c.tc : Thread Cert.KernelDmIdeal.nD Cert.KernelDmIdeal.τ).loc Cert.KernelDmIdeal.main_arg1)
          ∧ r.2.mem ((c.tc : Thread Cert.KernelDmIdeal.nD Cert.KernelDmIdeal.τ).loc Cert.KernelDmIdeal.main_arg2) = m ((c.tc : Thread Cert.KernelDmIdeal.nD Cert.KernelDmIdeal.τ).loc Cert.KernelDmIdeal.main_arg2)
          ∧ r.2.mem ((c.tc : Thread Cert.KernelDmIdeal.nD Cert.KernelDmIdeal.τ).loc Cert.KernelDmIdeal.main_arg3) = m ((c.tc : Thread Cert.KernelDmIdeal.nD Cert.KernelDmIdeal.τ).loc Cert.KernelDmIdeal.main_arg3)
          ∧ r.2.mem ((c.tc : Thread Cert.KernelDmIdeal.nD Cert.KernelDmIdeal.τ).loc Cert.KernelDmIdeal.main_arg4) = m ((c.tc : Thread Cert.KernelDmIdeal.nD Cert.KernelDmIdeal.τ).loc Cert.KernelDmIdeal.main_arg4)
          ∧ r.2.mem ((c.tc : Thread Cert.KernelDmIdeal.nD Cert.KernelDmIdeal.τ).loc Cert.KernelDmIdeal.main_arg5) = m ((c.tc : Thread Cert.KernelDmIdeal.nD Cert.KernelDmIdeal.τ).loc Cert.KernelDmIdeal.main_arg5)
          ∧ r.2.mem ((c.tc : Thread Cert.KernelDmIdeal.nD Cert.KernelDmIdeal.τ).loc Cert.KernelDmIdeal.main_arg6) = m ((c.tc : Thread Cert.KernelDmIdeal.nD Cert.KernelDmIdeal.τ).loc Cert.KernelDmIdeal.main_arg6))
      ∧ θ_run (Cert.ReferenceDmIdeal.defs (F := Ideal)) (onTc (τ := Cert.ReferenceDmIdeal.τ) (Cert.ReferenceDmIdeal.main (F := Ideal))) ⟨m', fun _ => 0, g'⟩ (fun r => ∀ c : Dev Cert.ReferenceDmIdeal.nD,
          r.2.mem ((c.tc : Thread Cert.ReferenceDmIdeal.nD Cert.ReferenceDmIdeal.τ).loc Cert.ReferenceDmIdeal.main_v19) = v0 c
          ∧ r.2.mem ((c.tc : Thread Cert.ReferenceDmIdeal.nD Cert.ReferenceDmIdeal.τ).loc Cert.ReferenceDmIdeal.main_v33) = v1 c
          ∧ r.2.mem ((c.tc : Thread Cert.ReferenceDmIdeal.nD Cert.ReferenceDmIdeal.τ).loc Cert.ReferenceDmIdeal.main_v34) = v2 c
          ∧ r.2.mem ((c.tc : Thread Cert.ReferenceDmIdeal.nD Cert.ReferenceDmIdeal.τ).loc Cert.ReferenceDmIdeal.main_arg0) = m' ((c.tc : Thread Cert.ReferenceDmIdeal.nD Cert.ReferenceDmIdeal.τ).loc Cert.ReferenceDmIdeal.main_arg0)
          ∧ r.2.mem ((c.tc : Thread Cert.ReferenceDmIdeal.nD Cert.ReferenceDmIdeal.τ).loc Cert.ReferenceDmIdeal.main_arg1) = m' ((c.tc : Thread Cert.ReferenceDmIdeal.nD Cert.ReferenceDmIdeal.τ).loc Cert.ReferenceDmIdeal.main_arg1)
          ∧ r.2.mem ((c.tc : Thread Cert.ReferenceDmIdeal.nD Cert.ReferenceDmIdeal.τ).loc Cert.ReferenceDmIdeal.main_arg2) = m' ((c.tc : Thread Cert.ReferenceDmIdeal.nD Cert.ReferenceDmIdeal.τ).loc Cert.ReferenceDmIdeal.main_arg2)
          ∧ r.2.mem ((c.tc : Thread Cert.ReferenceDmIdeal.nD Cert.ReferenceDmIdeal.τ).loc Cert.ReferenceDmIdeal.main_arg3) = m' ((c.tc : Thread Cert.ReferenceDmIdeal.nD Cert.ReferenceDmIdeal.τ).loc Cert.ReferenceDmIdeal.main_arg3)
          ∧ r.2.mem ((c.tc : Thread Cert.ReferenceDmIdeal.nD Cert.ReferenceDmIdeal.τ).loc Cert.ReferenceDmIdeal.main_arg4) = m' ((c.tc : Thread Cert.ReferenceDmIdeal.nD Cert.ReferenceDmIdeal.τ).loc Cert.ReferenceDmIdeal.main_arg4)
          ∧ r.2.mem ((c.tc : Thread Cert.ReferenceDmIdeal.nD Cert.ReferenceDmIdeal.τ).loc Cert.ReferenceDmIdeal.main_arg5) = m' ((c.tc : Thread Cert.ReferenceDmIdeal.nD Cert.ReferenceDmIdeal.τ).loc Cert.ReferenceDmIdeal.main_arg5)
          ∧ r.2.mem ((c.tc : Thread Cert.ReferenceDmIdeal.nD Cert.ReferenceDmIdeal.τ).loc Cert.ReferenceDmIdeal.main_arg6) = m' ((c.tc : Thread Cert.ReferenceDmIdeal.nD Cert.ReferenceDmIdeal.τ).loc Cert.ReferenceDmIdeal.main_arg6))

def algebraic_KernelAsIdeal_ReferenceAsIdeal [hKernelAsIdeal : Cert.KernelAsIdeal.Facts] [hReferenceAsIdeal : Cert.ReferenceAsIdeal.Facts] : Prop :=
  ∀ (m : (ℓ : Loc Cert.KernelAsIdeal.nD Cert.KernelAsIdeal.τ Cert.KernelAsIdeal.sig) → Buf (Elt Ideal) ℓ) (g : Dev Cert.KernelAsIdeal.nD → PrngReg)
    (m' : (ℓ : Loc Cert.ReferenceAsIdeal.nD Cert.ReferenceAsIdeal.τ Cert.ReferenceAsIdeal.sig) → Buf (Elt Ideal) ℓ) (g' : Dev Cert.ReferenceAsIdeal.nD → PrngReg), Pre_KernelAsIdeal m →
    (∀ c : Dev Cert.KernelAsIdeal.nD,
      m' ((c.tc : Thread Cert.ReferenceAsIdeal.nD Cert.ReferenceAsIdeal.τ).loc Cert.ReferenceAsIdeal.main_arg0) = m ((c.tc : Thread Cert.KernelAsIdeal.nD Cert.KernelAsIdeal.τ).loc Cert.KernelAsIdeal.main_arg0)
      ∧ m' ((c.tc : Thread Cert.ReferenceAsIdeal.nD Cert.ReferenceAsIdeal.τ).loc Cert.ReferenceAsIdeal.main_arg1) = m ((c.tc : Thread Cert.KernelAsIdeal.nD Cert.KernelAsIdeal.τ).loc Cert.KernelAsIdeal.main_arg1)
      ∧ m' ((c.tc : Thread Cert.ReferenceAsIdeal.nD Cert.ReferenceAsIdeal.τ).loc Cert.ReferenceAsIdeal.main_arg2) = m ((c.tc : Thread Cert.KernelAsIdeal.nD Cert.KernelAsIdeal.τ).loc Cert.KernelAsIdeal.main_arg2)
      ∧ m' ((c.tc : Thread Cert.ReferenceAsIdeal.nD Cert.ReferenceAsIdeal.τ).loc Cert.ReferenceAsIdeal.main_arg3) = m ((c.tc : Thread Cert.KernelAsIdeal.nD Cert.KernelAsIdeal.τ).loc Cert.KernelAsIdeal.main_arg3)
      ∧ m' ((c.tc : Thread Cert.ReferenceAsIdeal.nD Cert.ReferenceAsIdeal.τ).loc Cert.ReferenceAsIdeal.main_arg4) = m ((c.tc : Thread Cert.KernelAsIdeal.nD Cert.KernelAsIdeal.τ).loc Cert.KernelAsIdeal.main_arg4)
      ∧ m' ((c.tc : Thread Cert.ReferenceAsIdeal.nD Cert.ReferenceAsIdeal.τ).loc Cert.ReferenceAsIdeal.main_arg5) = m ((c.tc : Thread Cert.KernelAsIdeal.nD Cert.KernelAsIdeal.τ).loc Cert.KernelAsIdeal.main_arg5)
      ∧ m' ((c.tc : Thread Cert.ReferenceAsIdeal.nD Cert.ReferenceAsIdeal.τ).loc Cert.ReferenceAsIdeal.main_arg6) = m ((c.tc : Thread Cert.KernelAsIdeal.nD Cert.KernelAsIdeal.τ).loc Cert.KernelAsIdeal.main_arg6)
      ∧ m' ((c.tc : Thread Cert.ReferenceAsIdeal.nD Cert.ReferenceAsIdeal.τ).loc Cert.ReferenceAsIdeal.main_arg7) = m ((c.tc : Thread Cert.KernelAsIdeal.nD Cert.KernelAsIdeal.τ).loc Cert.KernelAsIdeal.main_arg7)
      ∧ m' ((c.tc : Thread Cert.ReferenceAsIdeal.nD Cert.ReferenceAsIdeal.τ).loc Cert.ReferenceAsIdeal.main_arg8) = m ((c.tc : Thread Cert.KernelAsIdeal.nD Cert.KernelAsIdeal.τ).loc Cert.KernelAsIdeal.main_arg8)
      ∧ m' ((c.tc : Thread Cert.ReferenceAsIdeal.nD Cert.ReferenceAsIdeal.τ).loc Cert.ReferenceAsIdeal.main_arg9) = m ((c.tc : Thread Cert.KernelAsIdeal.nD Cert.KernelAsIdeal.τ).loc Cert.KernelAsIdeal.main_arg9)
      ∧ m' ((c.tc : Thread Cert.ReferenceAsIdeal.nD Cert.ReferenceAsIdeal.τ).loc Cert.ReferenceAsIdeal.main_arg10) = m ((c.tc : Thread Cert.KernelAsIdeal.nD Cert.KernelAsIdeal.τ).loc Cert.KernelAsIdeal.main_arg10)
      ∧ m' ((c.tc : Thread Cert.ReferenceAsIdeal.nD Cert.ReferenceAsIdeal.τ).loc Cert.ReferenceAsIdeal.main_arg11) = m ((c.tc : Thread Cert.KernelAsIdeal.nD Cert.KernelAsIdeal.τ).loc Cert.KernelAsIdeal.main_arg11)
      ∧ m' ((c.tc : Thread Cert.ReferenceAsIdeal.nD Cert.ReferenceAsIdeal.τ).loc Cert.ReferenceAsIdeal.main_arg12) = m ((c.tc : Thread Cert.KernelAsIdeal.nD Cert.KernelAsIdeal.τ).loc Cert.KernelAsIdeal.main_arg12)
      ∧ m' ((c.tc : Thread Cert.ReferenceAsIdeal.nD Cert.ReferenceAsIdeal.τ).loc Cert.ReferenceAsIdeal.main_arg13) = m ((c.tc : Thread Cert.KernelAsIdeal.nD Cert.KernelAsIdeal.τ).loc Cert.KernelAsIdeal.main_arg13)
      ∧ m' ((c.tc : Thread Cert.ReferenceAsIdeal.nD Cert.ReferenceAsIdeal.τ).loc Cert.ReferenceAsIdeal.main_arg14) = m ((c.tc : Thread Cert.KernelAsIdeal.nD Cert.KernelAsIdeal.τ).loc Cert.KernelAsIdeal.main_arg14)
      ∧ m' ((c.tc : Thread Cert.ReferenceAsIdeal.nD Cert.ReferenceAsIdeal.τ).loc Cert.ReferenceAsIdeal.main_arg15) = m ((c.tc : Thread Cert.KernelAsIdeal.nD Cert.KernelAsIdeal.τ).loc Cert.KernelAsIdeal.main_arg15)
      ∧ m' ((c.tc : Thread Cert.ReferenceAsIdeal.nD Cert.ReferenceAsIdeal.τ).loc Cert.ReferenceAsIdeal.main_arg16) = m ((c.tc : Thread Cert.KernelAsIdeal.nD Cert.KernelAsIdeal.τ).loc Cert.KernelAsIdeal.main_arg16)
      ∧ m' ((c.tc : Thread Cert.ReferenceAsIdeal.nD Cert.ReferenceAsIdeal.τ).loc Cert.ReferenceAsIdeal.main_arg17) = m ((c.tc : Thread Cert.KernelAsIdeal.nD Cert.KernelAsIdeal.τ).loc Cert.KernelAsIdeal.main_arg17)
      ∧ m' ((c.tc : Thread Cert.ReferenceAsIdeal.nD Cert.ReferenceAsIdeal.τ).loc Cert.ReferenceAsIdeal.main_arg18) = m ((c.tc : Thread Cert.KernelAsIdeal.nD Cert.KernelAsIdeal.τ).loc Cert.KernelAsIdeal.main_arg18)
      ∧ m' ((c.tc : Thread Cert.ReferenceAsIdeal.nD Cert.ReferenceAsIdeal.τ).loc Cert.ReferenceAsIdeal.main_arg19) = m ((c.tc : Thread Cert.KernelAsIdeal.nD Cert.KernelAsIdeal.τ).loc Cert.KernelAsIdeal.main_arg19)
      ∧ m' ((c.tc : Thread Cert.ReferenceAsIdeal.nD Cert.ReferenceAsIdeal.τ).loc Cert.ReferenceAsIdeal.main_arg20) = m ((c.tc : Thread Cert.KernelAsIdeal.nD Cert.KernelAsIdeal.τ).loc Cert.KernelAsIdeal.main_arg20)
      ∧ m' ((c.tc : Thread Cert.ReferenceAsIdeal.nD Cert.ReferenceAsIdeal.τ).loc Cert.ReferenceAsIdeal.main_arg21) = m ((c.tc : Thread Cert.KernelAsIdeal.nD Cert.KernelAsIdeal.τ).loc Cert.KernelAsIdeal.main_arg21)
      ∧ m' ((c.tc : Thread Cert.ReferenceAsIdeal.nD Cert.ReferenceAsIdeal.τ).loc Cert.ReferenceAsIdeal.main_arg22) = m ((c.tc : Thread Cert.KernelAsIdeal.nD Cert.KernelAsIdeal.τ).loc Cert.KernelAsIdeal.main_arg22)
      ∧ m' ((c.tc : Thread Cert.ReferenceAsIdeal.nD Cert.ReferenceAsIdeal.τ).loc Cert.ReferenceAsIdeal.main_arg23) = m ((c.tc : Thread Cert.KernelAsIdeal.nD Cert.KernelAsIdeal.τ).loc Cert.KernelAsIdeal.main_arg23)
      ∧ m' ((c.tc : Thread Cert.ReferenceAsIdeal.nD Cert.ReferenceAsIdeal.τ).loc Cert.ReferenceAsIdeal.main_arg24) = m ((c.tc : Thread Cert.KernelAsIdeal.nD Cert.KernelAsIdeal.τ).loc Cert.KernelAsIdeal.main_arg24)
      ∧ m' ((c.tc : Thread Cert.ReferenceAsIdeal.nD Cert.ReferenceAsIdeal.τ).loc Cert.ReferenceAsIdeal.main_arg25) = m ((c.tc : Thread Cert.KernelAsIdeal.nD Cert.KernelAsIdeal.τ).loc Cert.KernelAsIdeal.main_arg25)
      ∧ m' ((c.tc : Thread Cert.ReferenceAsIdeal.nD Cert.ReferenceAsIdeal.τ).loc Cert.ReferenceAsIdeal.main_arg26) = m ((c.tc : Thread Cert.KernelAsIdeal.nD Cert.KernelAsIdeal.τ).loc Cert.KernelAsIdeal.main_arg26)
      ∧ m' ((c.tc : Thread Cert.ReferenceAsIdeal.nD Cert.ReferenceAsIdeal.τ).loc Cert.ReferenceAsIdeal.main_arg27) = m ((c.tc : Thread Cert.KernelAsIdeal.nD Cert.KernelAsIdeal.τ).loc Cert.KernelAsIdeal.main_arg27)
      ∧ m' ((c.tc : Thread Cert.ReferenceAsIdeal.nD Cert.ReferenceAsIdeal.τ).loc Cert.ReferenceAsIdeal.main_arg28) = m ((c.tc : Thread Cert.KernelAsIdeal.nD Cert.KernelAsIdeal.τ).loc Cert.KernelAsIdeal.main_arg28)) →
    ∃ (v0 : (c : Dev Cert.KernelAsIdeal.nD) → Buf (Elt Ideal) ((c.tc : Thread Cert.KernelAsIdeal.nD Cert.KernelAsIdeal.τ).loc Cert.KernelAsIdeal.main_v0_0)) (v1 : (c : Dev Cert.KernelAsIdeal.nD) → Buf (Elt Ideal) ((c.tc : Thread Cert.KernelAsIdeal.nD Cert.KernelAsIdeal.τ).loc Cert.KernelAsIdeal.main_v0_1)) (v2 : (c : Dev Cert.KernelAsIdeal.nD) → Buf (Elt Ideal) ((c.tc : Thread Cert.KernelAsIdeal.nD Cert.KernelAsIdeal.τ).loc Cert.KernelAsIdeal.main_v0_2)) (v3 : (c : Dev Cert.KernelAsIdeal.nD) → Buf (Elt Ideal) ((c.tc : Thread Cert.KernelAsIdeal.nD Cert.KernelAsIdeal.τ).loc Cert.KernelAsIdeal.main_v0_3)) (v4 : (c : Dev Cert.KernelAsIdeal.nD) → Buf (Elt Ideal) ((c.tc : Thread Cert.KernelAsIdeal.nD Cert.KernelAsIdeal.τ).loc Cert.KernelAsIdeal.main_v0_4)) (v5 : (c : Dev Cert.KernelAsIdeal.nD) → Buf (Elt Ideal) ((c.tc : Thread Cert.KernelAsIdeal.nD Cert.KernelAsIdeal.τ).loc Cert.KernelAsIdeal.main_v0_5)) (v6 : (c : Dev Cert.KernelAsIdeal.nD) → Buf (Elt Ideal) ((c.tc : Thread Cert.KernelAsIdeal.nD Cert.KernelAsIdeal.τ).loc Cert.KernelAsIdeal.main_v0_6)) (v7 : (c : Dev Cert.KernelAsIdeal.nD) → Buf (Elt Ideal) ((c.tc : Thread Cert.KernelAsIdeal.nD Cert.KernelAsIdeal.τ).loc Cert.KernelAsIdeal.main_v0_7)) (v8 : (c : Dev Cert.KernelAsIdeal.nD) → Buf (Elt Ideal) ((c.tc : Thread Cert.KernelAsIdeal.nD Cert.KernelAsIdeal.τ).loc Cert.KernelAsIdeal.main_v0_8)) (v9 : (c : Dev Cert.KernelAsIdeal.nD) → Buf (Elt Ideal) ((c.tc : Thread Cert.KernelAsIdeal.nD Cert.KernelAsIdeal.τ).loc Cert.KernelAsIdeal.main_v0_9)) (v10 : (c : Dev Cert.KernelAsIdeal.nD) → Buf (Elt Ideal) ((c.tc : Thread Cert.KernelAsIdeal.nD Cert.KernelAsIdeal.τ).loc Cert.KernelAsIdeal.main_v0_10)) (v11 : (c : Dev Cert.KernelAsIdeal.nD) → Buf (Elt Ideal) ((c.tc : Thread Cert.KernelAsIdeal.nD Cert.KernelAsIdeal.τ).loc Cert.KernelAsIdeal.main_v0_11)) (v12 : (c : Dev Cert.KernelAsIdeal.nD) → Buf (Elt Ideal) ((c.tc : Thread Cert.KernelAsIdeal.nD Cert.KernelAsIdeal.τ).loc Cert.KernelAsIdeal.main_v0_12)) (v13 : (c : Dev Cert.KernelAsIdeal.nD) → Buf (Elt Ideal) ((c.tc : Thread Cert.KernelAsIdeal.nD Cert.KernelAsIdeal.τ).loc Cert.KernelAsIdeal.main_v0_13)) (v14 : (c : Dev Cert.KernelAsIdeal.nD) → Buf (Elt Ideal) ((c.tc : Thread Cert.KernelAsIdeal.nD Cert.KernelAsIdeal.τ).loc Cert.KernelAsIdeal.main_v0_14)) (v15 : (c : Dev Cert.KernelAsIdeal.nD) → Buf (Elt Ideal) ((c.tc : Thread Cert.KernelAsIdeal.nD Cert.KernelAsIdeal.τ).loc Cert.KernelAsIdeal.main_v0_15)) (v16 : (c : Dev Cert.KernelAsIdeal.nD) → Buf (Elt Ideal) ((c.tc : Thread Cert.KernelAsIdeal.nD Cert.KernelAsIdeal.τ).loc Cert.KernelAsIdeal.main_v0_16)) (v17 : (c : Dev Cert.KernelAsIdeal.nD) → Buf (Elt Ideal) ((c.tc : Thread Cert.KernelAsIdeal.nD Cert.KernelAsIdeal.τ).loc Cert.KernelAsIdeal.main_v0_17)) (v18 : (c : Dev Cert.KernelAsIdeal.nD) → Buf (Elt Ideal) ((c.tc : Thread Cert.KernelAsIdeal.nD Cert.KernelAsIdeal.τ).loc Cert.KernelAsIdeal.main_v0_18)) (v19 : (c : Dev Cert.KernelAsIdeal.nD) → Buf (Elt Ideal) ((c.tc : Thread Cert.KernelAsIdeal.nD Cert.KernelAsIdeal.τ).loc Cert.KernelAsIdeal.main_v0_19)) (v20 : (c : Dev Cert.KernelAsIdeal.nD) → Buf (Elt Ideal) ((c.tc : Thread Cert.KernelAsIdeal.nD Cert.KernelAsIdeal.τ).loc Cert.KernelAsIdeal.main_v0_20)) (v21 : (c : Dev Cert.KernelAsIdeal.nD) → Buf (Elt Ideal) ((c.tc : Thread Cert.KernelAsIdeal.nD Cert.KernelAsIdeal.τ).loc Cert.KernelAsIdeal.main_v0_21)) (v22 : (c : Dev Cert.KernelAsIdeal.nD) → Buf (Elt Ideal) ((c.tc : Thread Cert.KernelAsIdeal.nD Cert.KernelAsIdeal.τ).loc Cert.KernelAsIdeal.main_v0_22)) (v23 : (c : Dev Cert.KernelAsIdeal.nD) → Buf (Elt Ideal) ((c.tc : Thread Cert.KernelAsIdeal.nD Cert.KernelAsIdeal.τ).loc Cert.KernelAsIdeal.main_v0_23)) (v24 : (c : Dev Cert.KernelAsIdeal.nD) → Buf (Elt Ideal) ((c.tc : Thread Cert.KernelAsIdeal.nD Cert.KernelAsIdeal.τ).loc Cert.KernelAsIdeal.main_v0_24)) (v25 : (c : Dev Cert.KernelAsIdeal.nD) → Buf (Elt Ideal) ((c.tc : Thread Cert.KernelAsIdeal.nD Cert.KernelAsIdeal.τ).loc Cert.KernelAsIdeal.main_v0_25)) (v26 : (c : Dev Cert.KernelAsIdeal.nD) → Buf (Elt Ideal) ((c.tc : Thread Cert.KernelAsIdeal.nD Cert.KernelAsIdeal.τ).loc Cert.KernelAsIdeal.main_v0_26)) (v27 : (c : Dev Cert.KernelAsIdeal.nD) → Buf (Elt Ideal) ((c.tc : Thread Cert.KernelAsIdeal.nD Cert.KernelAsIdeal.τ).loc Cert.KernelAsIdeal.main_v0_27)) (v28 : (c : Dev Cert.KernelAsIdeal.nD) → Buf (Elt Ideal) ((c.tc : Thread Cert.KernelAsIdeal.nD Cert.KernelAsIdeal.τ).loc Cert.KernelAsIdeal.main_v0_28)) (v29 : (c : Dev Cert.KernelAsIdeal.nD) → Buf (Elt Ideal) ((c.tc : Thread Cert.KernelAsIdeal.nD Cert.KernelAsIdeal.τ).loc Cert.KernelAsIdeal.main_v0_29)) (v30 : (c : Dev Cert.KernelAsIdeal.nD) → Buf (Elt Ideal) ((c.tc : Thread Cert.KernelAsIdeal.nD Cert.KernelAsIdeal.τ).loc Cert.KernelAsIdeal.main_v0_30)) (v31 : (c : Dev Cert.KernelAsIdeal.nD) → Buf (Elt Ideal) ((c.tc : Thread Cert.KernelAsIdeal.nD Cert.KernelAsIdeal.τ).loc Cert.KernelAsIdeal.main_v0_31)) (v32 : (c : Dev Cert.KernelAsIdeal.nD) → Buf (Elt Ideal) ((c.tc : Thread Cert.KernelAsIdeal.nD Cert.KernelAsIdeal.τ).loc Cert.KernelAsIdeal.main_v0_32)) (v33 : (c : Dev Cert.KernelAsIdeal.nD) → Buf (Elt Ideal) ((c.tc : Thread Cert.KernelAsIdeal.nD Cert.KernelAsIdeal.τ).loc Cert.KernelAsIdeal.main_v0_33)) (v34 : (c : Dev Cert.KernelAsIdeal.nD) → Buf (Elt Ideal) ((c.tc : Thread Cert.KernelAsIdeal.nD Cert.KernelAsIdeal.τ).loc Cert.KernelAsIdeal.main_v0_34)) (v35 : (c : Dev Cert.KernelAsIdeal.nD) → Buf (Elt Ideal) ((c.tc : Thread Cert.KernelAsIdeal.nD Cert.KernelAsIdeal.τ).loc Cert.KernelAsIdeal.main_v0_35)) (v36 : (c : Dev Cert.KernelAsIdeal.nD) → Buf (Elt Ideal) ((c.tc : Thread Cert.KernelAsIdeal.nD Cert.KernelAsIdeal.τ).loc Cert.KernelAsIdeal.main_v0_36)),
      θ_run (Cert.KernelAsIdeal.defs (F := Ideal)) (onTc (τ := Cert.KernelAsIdeal.τ) (Cert.KernelAsIdeal.main (F := Ideal))) ⟨m, fun _ => 0, g⟩ (fun r => ∀ c : Dev Cert.KernelAsIdeal.nD,
          r.2.mem ((c.tc : Thread Cert.KernelAsIdeal.nD Cert.KernelAsIdeal.τ).loc Cert.KernelAsIdeal.main_v0_0) = v0 c
          ∧ r.2.mem ((c.tc : Thread Cert.KernelAsIdeal.nD Cert.KernelAsIdeal.τ).loc Cert.KernelAsIdeal.main_v0_1) = v1 c
          ∧ r.2.mem ((c.tc : Thread Cert.KernelAsIdeal.nD Cert.KernelAsIdeal.τ).loc Cert.KernelAsIdeal.main_v0_2) = v2 c
          ∧ r.2.mem ((c.tc : Thread Cert.KernelAsIdeal.nD Cert.KernelAsIdeal.τ).loc Cert.KernelAsIdeal.main_v0_3) = v3 c
          ∧ r.2.mem ((c.tc : Thread Cert.KernelAsIdeal.nD Cert.KernelAsIdeal.τ).loc Cert.KernelAsIdeal.main_v0_4) = v4 c
          ∧ r.2.mem ((c.tc : Thread Cert.KernelAsIdeal.nD Cert.KernelAsIdeal.τ).loc Cert.KernelAsIdeal.main_v0_5) = v5 c
          ∧ r.2.mem ((c.tc : Thread Cert.KernelAsIdeal.nD Cert.KernelAsIdeal.τ).loc Cert.KernelAsIdeal.main_v0_6) = v6 c
          ∧ r.2.mem ((c.tc : Thread Cert.KernelAsIdeal.nD Cert.KernelAsIdeal.τ).loc Cert.KernelAsIdeal.main_v0_7) = v7 c
          ∧ r.2.mem ((c.tc : Thread Cert.KernelAsIdeal.nD Cert.KernelAsIdeal.τ).loc Cert.KernelAsIdeal.main_v0_8) = v8 c
          ∧ r.2.mem ((c.tc : Thread Cert.KernelAsIdeal.nD Cert.KernelAsIdeal.τ).loc Cert.KernelAsIdeal.main_v0_9) = v9 c
          ∧ r.2.mem ((c.tc : Thread Cert.KernelAsIdeal.nD Cert.KernelAsIdeal.τ).loc Cert.KernelAsIdeal.main_v0_10) = v10 c
          ∧ r.2.mem ((c.tc : Thread Cert.KernelAsIdeal.nD Cert.KernelAsIdeal.τ).loc Cert.KernelAsIdeal.main_v0_11) = v11 c
          ∧ r.2.mem ((c.tc : Thread Cert.KernelAsIdeal.nD Cert.KernelAsIdeal.τ).loc Cert.KernelAsIdeal.main_v0_12) = v12 c
          ∧ r.2.mem ((c.tc : Thread Cert.KernelAsIdeal.nD Cert.KernelAsIdeal.τ).loc Cert.KernelAsIdeal.main_v0_13) = v13 c
          ∧ r.2.mem ((c.tc : Thread Cert.KernelAsIdeal.nD Cert.KernelAsIdeal.τ).loc Cert.KernelAsIdeal.main_v0_14) = v14 c
          ∧ r.2.mem ((c.tc : Thread Cert.KernelAsIdeal.nD Cert.KernelAsIdeal.τ).loc Cert.KernelAsIdeal.main_v0_15) = v15 c
          ∧ r.2.mem ((c.tc : Thread Cert.KernelAsIdeal.nD Cert.KernelAsIdeal.τ).loc Cert.KernelAsIdeal.main_v0_16) = v16 c
          ∧ r.2.mem ((c.tc : Thread Cert.KernelAsIdeal.nD Cert.KernelAsIdeal.τ).loc Cert.KernelAsIdeal.main_v0_17) = v17 c
          ∧ r.2.mem ((c.tc : Thread Cert.KernelAsIdeal.nD Cert.KernelAsIdeal.τ).loc Cert.KernelAsIdeal.main_v0_18) = v18 c
          ∧ r.2.mem ((c.tc : Thread Cert.KernelAsIdeal.nD Cert.KernelAsIdeal.τ).loc Cert.KernelAsIdeal.main_v0_19) = v19 c
          ∧ r.2.mem ((c.tc : Thread Cert.KernelAsIdeal.nD Cert.KernelAsIdeal.τ).loc Cert.KernelAsIdeal.main_v0_20) = v20 c
          ∧ r.2.mem ((c.tc : Thread Cert.KernelAsIdeal.nD Cert.KernelAsIdeal.τ).loc Cert.KernelAsIdeal.main_v0_21) = v21 c
          ∧ r.2.mem ((c.tc : Thread Cert.KernelAsIdeal.nD Cert.KernelAsIdeal.τ).loc Cert.KernelAsIdeal.main_v0_22) = v22 c
          ∧ r.2.mem ((c.tc : Thread Cert.KernelAsIdeal.nD Cert.KernelAsIdeal.τ).loc Cert.KernelAsIdeal.main_v0_23) = v23 c
          ∧ r.2.mem ((c.tc : Thread Cert.KernelAsIdeal.nD Cert.KernelAsIdeal.τ).loc Cert.KernelAsIdeal.main_v0_24) = v24 c
          ∧ r.2.mem ((c.tc : Thread Cert.KernelAsIdeal.nD Cert.KernelAsIdeal.τ).loc Cert.KernelAsIdeal.main_v0_25) = v25 c
          ∧ r.2.mem ((c.tc : Thread Cert.KernelAsIdeal.nD Cert.KernelAsIdeal.τ).loc Cert.KernelAsIdeal.main_v0_26) = v26 c
          ∧ r.2.mem ((c.tc : Thread Cert.KernelAsIdeal.nD Cert.KernelAsIdeal.τ).loc Cert.KernelAsIdeal.main_v0_27) = v27 c
          ∧ r.2.mem ((c.tc : Thread Cert.KernelAsIdeal.nD Cert.KernelAsIdeal.τ).loc Cert.KernelAsIdeal.main_v0_28) = v28 c
          ∧ r.2.mem ((c.tc : Thread Cert.KernelAsIdeal.nD Cert.KernelAsIdeal.τ).loc Cert.KernelAsIdeal.main_v0_29) = v29 c
          ∧ r.2.mem ((c.tc : Thread Cert.KernelAsIdeal.nD Cert.KernelAsIdeal.τ).loc Cert.KernelAsIdeal.main_v0_30) = v30 c
          ∧ r.2.mem ((c.tc : Thread Cert.KernelAsIdeal.nD Cert.KernelAsIdeal.τ).loc Cert.KernelAsIdeal.main_v0_31) = v31 c
          ∧ r.2.mem ((c.tc : Thread Cert.KernelAsIdeal.nD Cert.KernelAsIdeal.τ).loc Cert.KernelAsIdeal.main_v0_32) = v32 c
          ∧ r.2.mem ((c.tc : Thread Cert.KernelAsIdeal.nD Cert.KernelAsIdeal.τ).loc Cert.KernelAsIdeal.main_v0_33) = v33 c
          ∧ r.2.mem ((c.tc : Thread Cert.KernelAsIdeal.nD Cert.KernelAsIdeal.τ).loc Cert.KernelAsIdeal.main_v0_34) = v34 c
          ∧ r.2.mem ((c.tc : Thread Cert.KernelAsIdeal.nD Cert.KernelAsIdeal.τ).loc Cert.KernelAsIdeal.main_v0_35) = v35 c
          ∧ r.2.mem ((c.tc : Thread Cert.KernelAsIdeal.nD Cert.KernelAsIdeal.τ).loc Cert.KernelAsIdeal.main_v0_36) = v36 c
          ∧ r.2.mem ((c.tc : Thread Cert.KernelAsIdeal.nD Cert.KernelAsIdeal.τ).loc Cert.KernelAsIdeal.main_arg0) = m ((c.tc : Thread Cert.KernelAsIdeal.nD Cert.KernelAsIdeal.τ).loc Cert.KernelAsIdeal.main_arg0)
          ∧ r.2.mem ((c.tc : Thread Cert.KernelAsIdeal.nD Cert.KernelAsIdeal.τ).loc Cert.KernelAsIdeal.main_arg1) = m ((c.tc : Thread Cert.KernelAsIdeal.nD Cert.KernelAsIdeal.τ).loc Cert.KernelAsIdeal.main_arg1)
          ∧ r.2.mem ((c.tc : Thread Cert.KernelAsIdeal.nD Cert.KernelAsIdeal.τ).loc Cert.KernelAsIdeal.main_arg2) = m ((c.tc : Thread Cert.KernelAsIdeal.nD Cert.KernelAsIdeal.τ).loc Cert.KernelAsIdeal.main_arg2)
          ∧ r.2.mem ((c.tc : Thread Cert.KernelAsIdeal.nD Cert.KernelAsIdeal.τ).loc Cert.KernelAsIdeal.main_arg3) = m ((c.tc : Thread Cert.KernelAsIdeal.nD Cert.KernelAsIdeal.τ).loc Cert.KernelAsIdeal.main_arg3)
          ∧ r.2.mem ((c.tc : Thread Cert.KernelAsIdeal.nD Cert.KernelAsIdeal.τ).loc Cert.KernelAsIdeal.main_arg4) = m ((c.tc : Thread Cert.KernelAsIdeal.nD Cert.KernelAsIdeal.τ).loc Cert.KernelAsIdeal.main_arg4)
          ∧ r.2.mem ((c.tc : Thread Cert.KernelAsIdeal.nD Cert.KernelAsIdeal.τ).loc Cert.KernelAsIdeal.main_arg5) = m ((c.tc : Thread Cert.KernelAsIdeal.nD Cert.KernelAsIdeal.τ).loc Cert.KernelAsIdeal.main_arg5)
          ∧ r.2.mem ((c.tc : Thread Cert.KernelAsIdeal.nD Cert.KernelAsIdeal.τ).loc Cert.KernelAsIdeal.main_arg6) = m ((c.tc : Thread Cert.KernelAsIdeal.nD Cert.KernelAsIdeal.τ).loc Cert.KernelAsIdeal.main_arg6)
          ∧ r.2.mem ((c.tc : Thread Cert.KernelAsIdeal.nD Cert.KernelAsIdeal.τ).loc Cert.KernelAsIdeal.main_arg7) = m ((c.tc : Thread Cert.KernelAsIdeal.nD Cert.KernelAsIdeal.τ).loc Cert.KernelAsIdeal.main_arg7)
          ∧ r.2.mem ((c.tc : Thread Cert.KernelAsIdeal.nD Cert.KernelAsIdeal.τ).loc Cert.KernelAsIdeal.main_arg8) = m ((c.tc : Thread Cert.KernelAsIdeal.nD Cert.KernelAsIdeal.τ).loc Cert.KernelAsIdeal.main_arg8)
          ∧ r.2.mem ((c.tc : Thread Cert.KernelAsIdeal.nD Cert.KernelAsIdeal.τ).loc Cert.KernelAsIdeal.main_arg9) = m ((c.tc : Thread Cert.KernelAsIdeal.nD Cert.KernelAsIdeal.τ).loc Cert.KernelAsIdeal.main_arg9)
          ∧ r.2.mem ((c.tc : Thread Cert.KernelAsIdeal.nD Cert.KernelAsIdeal.τ).loc Cert.KernelAsIdeal.main_arg10) = m ((c.tc : Thread Cert.KernelAsIdeal.nD Cert.KernelAsIdeal.τ).loc Cert.KernelAsIdeal.main_arg10)
          ∧ r.2.mem ((c.tc : Thread Cert.KernelAsIdeal.nD Cert.KernelAsIdeal.τ).loc Cert.KernelAsIdeal.main_arg11) = m ((c.tc : Thread Cert.KernelAsIdeal.nD Cert.KernelAsIdeal.τ).loc Cert.KernelAsIdeal.main_arg11)
          ∧ r.2.mem ((c.tc : Thread Cert.KernelAsIdeal.nD Cert.KernelAsIdeal.τ).loc Cert.KernelAsIdeal.main_arg12) = m ((c.tc : Thread Cert.KernelAsIdeal.nD Cert.KernelAsIdeal.τ).loc Cert.KernelAsIdeal.main_arg12)
          ∧ r.2.mem ((c.tc : Thread Cert.KernelAsIdeal.nD Cert.KernelAsIdeal.τ).loc Cert.KernelAsIdeal.main_arg13) = m ((c.tc : Thread Cert.KernelAsIdeal.nD Cert.KernelAsIdeal.τ).loc Cert.KernelAsIdeal.main_arg13)
          ∧ r.2.mem ((c.tc : Thread Cert.KernelAsIdeal.nD Cert.KernelAsIdeal.τ).loc Cert.KernelAsIdeal.main_arg14) = m ((c.tc : Thread Cert.KernelAsIdeal.nD Cert.KernelAsIdeal.τ).loc Cert.KernelAsIdeal.main_arg14)
          ∧ r.2.mem ((c.tc : Thread Cert.KernelAsIdeal.nD Cert.KernelAsIdeal.τ).loc Cert.KernelAsIdeal.main_arg15) = m ((c.tc : Thread Cert.KernelAsIdeal.nD Cert.KernelAsIdeal.τ).loc Cert.KernelAsIdeal.main_arg15)
          ∧ r.2.mem ((c.tc : Thread Cert.KernelAsIdeal.nD Cert.KernelAsIdeal.τ).loc Cert.KernelAsIdeal.main_arg16) = m ((c.tc : Thread Cert.KernelAsIdeal.nD Cert.KernelAsIdeal.τ).loc Cert.KernelAsIdeal.main_arg16)
          ∧ r.2.mem ((c.tc : Thread Cert.KernelAsIdeal.nD Cert.KernelAsIdeal.τ).loc Cert.KernelAsIdeal.main_arg17) = m ((c.tc : Thread Cert.KernelAsIdeal.nD Cert.KernelAsIdeal.τ).loc Cert.KernelAsIdeal.main_arg17)
          ∧ r.2.mem ((c.tc : Thread Cert.KernelAsIdeal.nD Cert.KernelAsIdeal.τ).loc Cert.KernelAsIdeal.main_arg18) = m ((c.tc : Thread Cert.KernelAsIdeal.nD Cert.KernelAsIdeal.τ).loc Cert.KernelAsIdeal.main_arg18)
          ∧ r.2.mem ((c.tc : Thread Cert.KernelAsIdeal.nD Cert.KernelAsIdeal.τ).loc Cert.KernelAsIdeal.main_arg19) = m ((c.tc : Thread Cert.KernelAsIdeal.nD Cert.KernelAsIdeal.τ).loc Cert.KernelAsIdeal.main_arg19)
          ∧ r.2.mem ((c.tc : Thread Cert.KernelAsIdeal.nD Cert.KernelAsIdeal.τ).loc Cert.KernelAsIdeal.main_arg20) = m ((c.tc : Thread Cert.KernelAsIdeal.nD Cert.KernelAsIdeal.τ).loc Cert.KernelAsIdeal.main_arg20)
          ∧ r.2.mem ((c.tc : Thread Cert.KernelAsIdeal.nD Cert.KernelAsIdeal.τ).loc Cert.KernelAsIdeal.main_arg21) = m ((c.tc : Thread Cert.KernelAsIdeal.nD Cert.KernelAsIdeal.τ).loc Cert.KernelAsIdeal.main_arg21)
          ∧ r.2.mem ((c.tc : Thread Cert.KernelAsIdeal.nD Cert.KernelAsIdeal.τ).loc Cert.KernelAsIdeal.main_arg22) = m ((c.tc : Thread Cert.KernelAsIdeal.nD Cert.KernelAsIdeal.τ).loc Cert.KernelAsIdeal.main_arg22)
          ∧ r.2.mem ((c.tc : Thread Cert.KernelAsIdeal.nD Cert.KernelAsIdeal.τ).loc Cert.KernelAsIdeal.main_arg23) = m ((c.tc : Thread Cert.KernelAsIdeal.nD Cert.KernelAsIdeal.τ).loc Cert.KernelAsIdeal.main_arg23)
          ∧ r.2.mem ((c.tc : Thread Cert.KernelAsIdeal.nD Cert.KernelAsIdeal.τ).loc Cert.KernelAsIdeal.main_arg24) = m ((c.tc : Thread Cert.KernelAsIdeal.nD Cert.KernelAsIdeal.τ).loc Cert.KernelAsIdeal.main_arg24)
          ∧ r.2.mem ((c.tc : Thread Cert.KernelAsIdeal.nD Cert.KernelAsIdeal.τ).loc Cert.KernelAsIdeal.main_arg25) = m ((c.tc : Thread Cert.KernelAsIdeal.nD Cert.KernelAsIdeal.τ).loc Cert.KernelAsIdeal.main_arg25)
          ∧ r.2.mem ((c.tc : Thread Cert.KernelAsIdeal.nD Cert.KernelAsIdeal.τ).loc Cert.KernelAsIdeal.main_arg26) = m ((c.tc : Thread Cert.KernelAsIdeal.nD Cert.KernelAsIdeal.τ).loc Cert.KernelAsIdeal.main_arg26)
          ∧ r.2.mem ((c.tc : Thread Cert.KernelAsIdeal.nD Cert.KernelAsIdeal.τ).loc Cert.KernelAsIdeal.main_arg27) = m ((c.tc : Thread Cert.KernelAsIdeal.nD Cert.KernelAsIdeal.τ).loc Cert.KernelAsIdeal.main_arg27)
          ∧ r.2.mem ((c.tc : Thread Cert.KernelAsIdeal.nD Cert.KernelAsIdeal.τ).loc Cert.KernelAsIdeal.main_arg28) = m ((c.tc : Thread Cert.KernelAsIdeal.nD Cert.KernelAsIdeal.τ).loc Cert.KernelAsIdeal.main_arg28))
      ∧ θ_run (Cert.ReferenceAsIdeal.defs (F := Ideal)) (onTc (τ := Cert.ReferenceAsIdeal.τ) (Cert.ReferenceAsIdeal.main (F := Ideal))) ⟨m', fun _ => 0, g'⟩ (fun r => ∀ c : Dev Cert.ReferenceAsIdeal.nD,
          r.2.mem ((c.tc : Thread Cert.ReferenceAsIdeal.nD Cert.ReferenceAsIdeal.τ).loc Cert.ReferenceAsIdeal.main_v0) = v0 c
          ∧ r.2.mem ((c.tc : Thread Cert.ReferenceAsIdeal.nD Cert.ReferenceAsIdeal.τ).loc Cert.ReferenceAsIdeal.main_v24) = v1 c
          ∧ r.2.mem ((c.tc : Thread Cert.ReferenceAsIdeal.nD Cert.ReferenceAsIdeal.τ).loc Cert.ReferenceAsIdeal.main_v5) = v2 c
          ∧ r.2.mem ((c.tc : Thread Cert.ReferenceAsIdeal.nD Cert.ReferenceAsIdeal.τ).loc Cert.ReferenceAsIdeal.main_v11) = v3 c
          ∧ r.2.mem ((c.tc : Thread Cert.ReferenceAsIdeal.nD Cert.ReferenceAsIdeal.τ).loc Cert.ReferenceAsIdeal.main_v25) = v4 c
          ∧ r.2.mem ((c.tc : Thread Cert.ReferenceAsIdeal.nD Cert.ReferenceAsIdeal.τ).loc Cert.ReferenceAsIdeal.main_v49) = v5 c
          ∧ r.2.mem ((c.tc : Thread Cert.ReferenceAsIdeal.nD Cert.ReferenceAsIdeal.τ).loc Cert.ReferenceAsIdeal.main_v30) = v6 c
          ∧ r.2.mem ((c.tc : Thread Cert.ReferenceAsIdeal.nD Cert.ReferenceAsIdeal.τ).loc Cert.ReferenceAsIdeal.main_v36) = v7 c
          ∧ r.2.mem ((c.tc : Thread Cert.ReferenceAsIdeal.nD Cert.ReferenceAsIdeal.τ).loc Cert.ReferenceAsIdeal.main_v50) = v8 c
          ∧ r.2.mem ((c.tc : Thread Cert.ReferenceAsIdeal.nD Cert.ReferenceAsIdeal.τ).loc Cert.ReferenceAsIdeal.main_v74) = v9 c
          ∧ r.2.mem ((c.tc : Thread Cert.ReferenceAsIdeal.nD Cert.ReferenceAsIdeal.τ).loc Cert.ReferenceAsIdeal.main_v55) = v10 c
          ∧ r.2.mem ((c.tc : Thread Cert.ReferenceAsIdeal.nD Cert.ReferenceAsIdeal.τ).loc Cert.ReferenceAsIdeal.main_v61) = v11 c
          ∧ r.2.mem ((c.tc : Thread Cert.ReferenceAsIdeal.nD Cert.ReferenceAsIdeal.τ).loc Cert.ReferenceAsIdeal.main_v75) = v12 c
          ∧ r.2.mem ((c.tc : Thread Cert.ReferenceAsIdeal.nD Cert.ReferenceAsIdeal.τ).loc Cert.ReferenceAsIdeal.main_v99) = v13 c
          ∧ r.2.mem ((c.tc : Thread Cert.ReferenceAsIdeal.nD Cert.ReferenceAsIdeal.τ).loc Cert.ReferenceAsIdeal.main_v80) = v14 c
          ∧ r.2.mem ((c.tc : Thread Cert.ReferenceAsIdeal.nD Cert.ReferenceAsIdeal.τ).loc Cert.ReferenceAsIdeal.main_v86) = v15 c
          ∧ r.2.mem ((c.tc : Thread Cert.ReferenceAsIdeal.nD Cert.ReferenceAsIdeal.τ).loc Cert.ReferenceAsIdeal.main_v100) = v16 c
          ∧ r.2.mem ((c.tc : Thread Cert.ReferenceAsIdeal.nD Cert.ReferenceAsIdeal.τ).loc Cert.ReferenceAsIdeal.main_v124) = v17 c
          ∧ r.2.mem ((c.tc : Thread Cert.ReferenceAsIdeal.nD Cert.ReferenceAsIdeal.τ).loc Cert.ReferenceAsIdeal.main_v105) = v18 c
          ∧ r.2.mem ((c.tc : Thread Cert.ReferenceAsIdeal.nD Cert.ReferenceAsIdeal.τ).loc Cert.ReferenceAsIdeal.main_v111) = v19 c
          ∧ r.2.mem ((c.tc : Thread Cert.ReferenceAsIdeal.nD Cert.ReferenceAsIdeal.τ).loc Cert.ReferenceAsIdeal.main_v125) = v20 c
          ∧ r.2.mem ((c.tc : Thread Cert.ReferenceAsIdeal.nD Cert.ReferenceAsIdeal.τ).loc Cert.ReferenceAsIdeal.main_v149) = v21 c
          ∧ r.2.mem ((c.tc : Thread Cert.ReferenceAsIdeal.nD Cert.ReferenceAsIdeal.τ).loc Cert.ReferenceAsIdeal.main_v130) = v22 c
          ∧ r.2.mem ((c.tc : Thread Cert.ReferenceAsIdeal.nD Cert.ReferenceAsIdeal.τ).loc Cert.ReferenceAsIdeal.main_v136) = v23 c
          ∧ r.2.mem ((c.tc : Thread Cert.ReferenceAsIdeal.nD Cert.ReferenceAsIdeal.τ).loc Cert.ReferenceAsIdeal.main_v150) = v24 c
          ∧ r.2.mem ((c.tc : Thread Cert.ReferenceAsIdeal.nD Cert.ReferenceAsIdeal.τ).loc Cert.ReferenceAsIdeal.main_v174) = v25 c
          ∧ r.2.mem ((c.tc : Thread Cert.ReferenceAsIdeal.nD Cert.ReferenceAsIdeal.τ).loc Cert.ReferenceAsIdeal.main_v155) = v26 c
          ∧ r.2.mem ((c.tc : Thread Cert.ReferenceAsIdeal.nD Cert.ReferenceAsIdeal.τ).loc Cert.ReferenceAsIdeal.main_v161) = v27 c
          ∧ r.2.mem ((c.tc : Thread Cert.ReferenceAsIdeal.nD Cert.ReferenceAsIdeal.τ).loc Cert.ReferenceAsIdeal.main_v175) = v28 c
          ∧ r.2.mem ((c.tc : Thread Cert.ReferenceAsIdeal.nD Cert.ReferenceAsIdeal.τ).loc Cert.ReferenceAsIdeal.main_v199) = v29 c
          ∧ r.2.mem ((c.tc : Thread Cert.ReferenceAsIdeal.nD Cert.ReferenceAsIdeal.τ).loc Cert.ReferenceAsIdeal.main_v180) = v30 c
          ∧ r.2.mem ((c.tc : Thread Cert.ReferenceAsIdeal.nD Cert.ReferenceAsIdeal.τ).loc Cert.ReferenceAsIdeal.main_v186) = v31 c
          ∧ r.2.mem ((c.tc : Thread Cert.ReferenceAsIdeal.nD Cert.ReferenceAsIdeal.τ).loc Cert.ReferenceAsIdeal.main_v200) = v32 c
          ∧ r.2.mem ((c.tc : Thread Cert.ReferenceAsIdeal.nD Cert.ReferenceAsIdeal.τ).loc Cert.ReferenceAsIdeal.main_v224) = v33 c
          ∧ r.2.mem ((c.tc : Thread Cert.ReferenceAsIdeal.nD Cert.ReferenceAsIdeal.τ).loc Cert.ReferenceAsIdeal.main_v205) = v34 c
          ∧ r.2.mem ((c.tc : Thread Cert.ReferenceAsIdeal.nD Cert.ReferenceAsIdeal.τ).loc Cert.ReferenceAsIdeal.main_v211) = v35 c
          ∧ r.2.mem ((c.tc : Thread Cert.ReferenceAsIdeal.nD Cert.ReferenceAsIdeal.τ).loc Cert.ReferenceAsIdeal.main_v225) = v36 c
          ∧ r.2.mem ((c.tc : Thread Cert.ReferenceAsIdeal.nD Cert.ReferenceAsIdeal.τ).loc Cert.ReferenceAsIdeal.main_arg0) = m' ((c.tc : Thread Cert.ReferenceAsIdeal.nD Cert.ReferenceAsIdeal.τ).loc Cert.ReferenceAsIdeal.main_arg0)
          ∧ r.2.mem ((c.tc : Thread Cert.ReferenceAsIdeal.nD Cert.ReferenceAsIdeal.τ).loc Cert.ReferenceAsIdeal.main_arg1) = m' ((c.tc : Thread Cert.ReferenceAsIdeal.nD Cert.ReferenceAsIdeal.τ).loc Cert.ReferenceAsIdeal.main_arg1)
          ∧ r.2.mem ((c.tc : Thread Cert.ReferenceAsIdeal.nD Cert.ReferenceAsIdeal.τ).loc Cert.ReferenceAsIdeal.main_arg2) = m' ((c.tc : Thread Cert.ReferenceAsIdeal.nD Cert.ReferenceAsIdeal.τ).loc Cert.ReferenceAsIdeal.main_arg2)
          ∧ r.2.mem ((c.tc : Thread Cert.ReferenceAsIdeal.nD Cert.ReferenceAsIdeal.τ).loc Cert.ReferenceAsIdeal.main_arg3) = m' ((c.tc : Thread Cert.ReferenceAsIdeal.nD Cert.ReferenceAsIdeal.τ).loc Cert.ReferenceAsIdeal.main_arg3)
          ∧ r.2.mem ((c.tc : Thread Cert.ReferenceAsIdeal.nD Cert.ReferenceAsIdeal.τ).loc Cert.ReferenceAsIdeal.main_arg4) = m' ((c.tc : Thread Cert.ReferenceAsIdeal.nD Cert.ReferenceAsIdeal.τ).loc Cert.ReferenceAsIdeal.main_arg4)
          ∧ r.2.mem ((c.tc : Thread Cert.ReferenceAsIdeal.nD Cert.ReferenceAsIdeal.τ).loc Cert.ReferenceAsIdeal.main_arg5) = m' ((c.tc : Thread Cert.ReferenceAsIdeal.nD Cert.ReferenceAsIdeal.τ).loc Cert.ReferenceAsIdeal.main_arg5)
          ∧ r.2.mem ((c.tc : Thread Cert.ReferenceAsIdeal.nD Cert.ReferenceAsIdeal.τ).loc Cert.ReferenceAsIdeal.main_arg6) = m' ((c.tc : Thread Cert.ReferenceAsIdeal.nD Cert.ReferenceAsIdeal.τ).loc Cert.ReferenceAsIdeal.main_arg6)
          ∧ r.2.mem ((c.tc : Thread Cert.ReferenceAsIdeal.nD Cert.ReferenceAsIdeal.τ).loc Cert.ReferenceAsIdeal.main_arg7) = m' ((c.tc : Thread Cert.ReferenceAsIdeal.nD Cert.ReferenceAsIdeal.τ).loc Cert.ReferenceAsIdeal.main_arg7)
          ∧ r.2.mem ((c.tc : Thread Cert.ReferenceAsIdeal.nD Cert.ReferenceAsIdeal.τ).loc Cert.ReferenceAsIdeal.main_arg8) = m' ((c.tc : Thread Cert.ReferenceAsIdeal.nD Cert.ReferenceAsIdeal.τ).loc Cert.ReferenceAsIdeal.main_arg8)
          ∧ r.2.mem ((c.tc : Thread Cert.ReferenceAsIdeal.nD Cert.ReferenceAsIdeal.τ).loc Cert.ReferenceAsIdeal.main_arg9) = m' ((c.tc : Thread Cert.ReferenceAsIdeal.nD Cert.ReferenceAsIdeal.τ).loc Cert.ReferenceAsIdeal.main_arg9)
          ∧ r.2.mem ((c.tc : Thread Cert.ReferenceAsIdeal.nD Cert.ReferenceAsIdeal.τ).loc Cert.ReferenceAsIdeal.main_arg10) = m' ((c.tc : Thread Cert.ReferenceAsIdeal.nD Cert.ReferenceAsIdeal.τ).loc Cert.ReferenceAsIdeal.main_arg10)
          ∧ r.2.mem ((c.tc : Thread Cert.ReferenceAsIdeal.nD Cert.ReferenceAsIdeal.τ).loc Cert.ReferenceAsIdeal.main_arg11) = m' ((c.tc : Thread Cert.ReferenceAsIdeal.nD Cert.ReferenceAsIdeal.τ).loc Cert.ReferenceAsIdeal.main_arg11)
          ∧ r.2.mem ((c.tc : Thread Cert.ReferenceAsIdeal.nD Cert.ReferenceAsIdeal.τ).loc Cert.ReferenceAsIdeal.main_arg12) = m' ((c.tc : Thread Cert.ReferenceAsIdeal.nD Cert.ReferenceAsIdeal.τ).loc Cert.ReferenceAsIdeal.main_arg12)
          ∧ r.2.mem ((c.tc : Thread Cert.ReferenceAsIdeal.nD Cert.ReferenceAsIdeal.τ).loc Cert.ReferenceAsIdeal.main_arg13) = m' ((c.tc : Thread Cert.ReferenceAsIdeal.nD Cert.ReferenceAsIdeal.τ).loc Cert.ReferenceAsIdeal.main_arg13)
          ∧ r.2.mem ((c.tc : Thread Cert.ReferenceAsIdeal.nD Cert.ReferenceAsIdeal.τ).loc Cert.ReferenceAsIdeal.main_arg14) = m' ((c.tc : Thread Cert.ReferenceAsIdeal.nD Cert.ReferenceAsIdeal.τ).loc Cert.ReferenceAsIdeal.main_arg14)
          ∧ r.2.mem ((c.tc : Thread Cert.ReferenceAsIdeal.nD Cert.ReferenceAsIdeal.τ).loc Cert.ReferenceAsIdeal.main_arg15) = m' ((c.tc : Thread Cert.ReferenceAsIdeal.nD Cert.ReferenceAsIdeal.τ).loc Cert.ReferenceAsIdeal.main_arg15)
          ∧ r.2.mem ((c.tc : Thread Cert.ReferenceAsIdeal.nD Cert.ReferenceAsIdeal.τ).loc Cert.ReferenceAsIdeal.main_arg16) = m' ((c.tc : Thread Cert.ReferenceAsIdeal.nD Cert.ReferenceAsIdeal.τ).loc Cert.ReferenceAsIdeal.main_arg16)
          ∧ r.2.mem ((c.tc : Thread Cert.ReferenceAsIdeal.nD Cert.ReferenceAsIdeal.τ).loc Cert.ReferenceAsIdeal.main_arg17) = m' ((c.tc : Thread Cert.ReferenceAsIdeal.nD Cert.ReferenceAsIdeal.τ).loc Cert.ReferenceAsIdeal.main_arg17)
          ∧ r.2.mem ((c.tc : Thread Cert.ReferenceAsIdeal.nD Cert.ReferenceAsIdeal.τ).loc Cert.ReferenceAsIdeal.main_arg18) = m' ((c.tc : Thread Cert.ReferenceAsIdeal.nD Cert.ReferenceAsIdeal.τ).loc Cert.ReferenceAsIdeal.main_arg18)
          ∧ r.2.mem ((c.tc : Thread Cert.ReferenceAsIdeal.nD Cert.ReferenceAsIdeal.τ).loc Cert.ReferenceAsIdeal.main_arg19) = m' ((c.tc : Thread Cert.ReferenceAsIdeal.nD Cert.ReferenceAsIdeal.τ).loc Cert.ReferenceAsIdeal.main_arg19)
          ∧ r.2.mem ((c.tc : Thread Cert.ReferenceAsIdeal.nD Cert.ReferenceAsIdeal.τ).loc Cert.ReferenceAsIdeal.main_arg20) = m' ((c.tc : Thread Cert.ReferenceAsIdeal.nD Cert.ReferenceAsIdeal.τ).loc Cert.ReferenceAsIdeal.main_arg20)
          ∧ r.2.mem ((c.tc : Thread Cert.ReferenceAsIdeal.nD Cert.ReferenceAsIdeal.τ).loc Cert.ReferenceAsIdeal.main_arg21) = m' ((c.tc : Thread Cert.ReferenceAsIdeal.nD Cert.ReferenceAsIdeal.τ).loc Cert.ReferenceAsIdeal.main_arg21)
          ∧ r.2.mem ((c.tc : Thread Cert.ReferenceAsIdeal.nD Cert.ReferenceAsIdeal.τ).loc Cert.ReferenceAsIdeal.main_arg22) = m' ((c.tc : Thread Cert.ReferenceAsIdeal.nD Cert.ReferenceAsIdeal.τ).loc Cert.ReferenceAsIdeal.main_arg22)
          ∧ r.2.mem ((c.tc : Thread Cert.ReferenceAsIdeal.nD Cert.ReferenceAsIdeal.τ).loc Cert.ReferenceAsIdeal.main_arg23) = m' ((c.tc : Thread Cert.ReferenceAsIdeal.nD Cert.ReferenceAsIdeal.τ).loc Cert.ReferenceAsIdeal.main_arg23)
          ∧ r.2.mem ((c.tc : Thread Cert.ReferenceAsIdeal.nD Cert.ReferenceAsIdeal.τ).loc Cert.ReferenceAsIdeal.main_arg24) = m' ((c.tc : Thread Cert.ReferenceAsIdeal.nD Cert.ReferenceAsIdeal.τ).loc Cert.ReferenceAsIdeal.main_arg24)
          ∧ r.2.mem ((c.tc : Thread Cert.ReferenceAsIdeal.nD Cert.ReferenceAsIdeal.τ).loc Cert.ReferenceAsIdeal.main_arg25) = m' ((c.tc : Thread Cert.ReferenceAsIdeal.nD Cert.ReferenceAsIdeal.τ).loc Cert.ReferenceAsIdeal.main_arg25)
          ∧ r.2.mem ((c.tc : Thread Cert.ReferenceAsIdeal.nD Cert.ReferenceAsIdeal.τ).loc Cert.ReferenceAsIdeal.main_arg26) = m' ((c.tc : Thread Cert.ReferenceAsIdeal.nD Cert.ReferenceAsIdeal.τ).loc Cert.ReferenceAsIdeal.main_arg26)
          ∧ r.2.mem ((c.tc : Thread Cert.ReferenceAsIdeal.nD Cert.ReferenceAsIdeal.τ).loc Cert.ReferenceAsIdeal.main_arg27) = m' ((c.tc : Thread Cert.ReferenceAsIdeal.nD Cert.ReferenceAsIdeal.τ).loc Cert.ReferenceAsIdeal.main_arg27)
          ∧ r.2.mem ((c.tc : Thread Cert.ReferenceAsIdeal.nD Cert.ReferenceAsIdeal.τ).loc Cert.ReferenceAsIdeal.main_arg28) = m' ((c.tc : Thread Cert.ReferenceAsIdeal.nD Cert.ReferenceAsIdeal.τ).loc Cert.ReferenceAsIdeal.main_arg28))

def Claim : Prop :=
  ∃ (hKernel : Cert.Kernel.Facts) (hKernelIdeal : Cert.KernelIdeal.Facts) (hReferenceIdeal : Cert.ReferenceIdeal.Facts) (hKernelWd : Cert.KernelWd.Facts) (hKernelWdIdeal : Cert.KernelWdIdeal.Facts) (hReferenceWdIdeal : Cert.ReferenceWdIdeal.Facts) (hKernelWg : Cert.KernelWg.Facts) (hKernelWgIdeal : Cert.KernelWgIdeal.Facts) (hReferenceWgIdeal : Cert.ReferenceWgIdeal.Facts) (hKernelMo : Cert.KernelMo.Facts) (hKernelMoIdeal : Cert.KernelMoIdeal.Facts) (hReferenceMoIdeal : Cert.ReferenceMoIdeal.Facts) (hKernelMi : Cert.KernelMi.Facts) (hKernelMiIdeal : Cert.KernelMiIdeal.Facts) (hReferenceMiIdeal : Cert.ReferenceMiIdeal.Facts) (hKernelGu : Cert.KernelGu.Facts) (hKernelGuIdeal : Cert.KernelGuIdeal.Facts) (hReferenceGuIdeal : Cert.ReferenceGuIdeal.Facts) (hKernelDm : Cert.KernelDm.Facts) (hKernelDmIdeal : Cert.KernelDmIdeal.Facts) (hReferenceDmIdeal : Cert.ReferenceDmIdeal.Facts) (hKernelAsIdeal : Cert.KernelAsIdeal.Facts) (hReferenceAsIdeal : Cert.ReferenceAsIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelWd (hKernelWd := hKernelWd)
    ∧ quiescent_KernelWdIdeal (hKernelWdIdeal := hKernelWdIdeal)
    ∧ quiescent_ReferenceWdIdeal (hReferenceWdIdeal := hReferenceWdIdeal)
    ∧ quiescent_KernelWg (hKernelWg := hKernelWg)
    ∧ quiescent_KernelWgIdeal (hKernelWgIdeal := hKernelWgIdeal)
    ∧ quiescent_ReferenceWgIdeal (hReferenceWgIdeal := hReferenceWgIdeal)
    ∧ quiescent_KernelMo (hKernelMo := hKernelMo)
    ∧ quiescent_KernelMoIdeal (hKernelMoIdeal := hKernelMoIdeal)
    ∧ quiescent_ReferenceMoIdeal (hReferenceMoIdeal := hReferenceMoIdeal)
    ∧ quiescent_KernelMi (hKernelMi := hKernelMi)
    ∧ quiescent_KernelMiIdeal (hKernelMiIdeal := hKernelMiIdeal)
    ∧ quiescent_ReferenceMiIdeal (hReferenceMiIdeal := hReferenceMiIdeal)
    ∧ quiescent_KernelGu (hKernelGu := hKernelGu)
    ∧ quiescent_KernelGuIdeal (hKernelGuIdeal := hKernelGuIdeal)
    ∧ quiescent_ReferenceGuIdeal (hReferenceGuIdeal := hReferenceGuIdeal)
    ∧ quiescent_KernelDm (hKernelDm := hKernelDm)
    ∧ quiescent_KernelDmIdeal (hKernelDmIdeal := hKernelDmIdeal)
    ∧ quiescent_ReferenceDmIdeal (hReferenceDmIdeal := hReferenceDmIdeal)
    ∧ quiescent_KernelAsIdeal (hKernelAsIdeal := hKernelAsIdeal)
    ∧ quiescent_ReferenceAsIdeal (hReferenceAsIdeal := hReferenceAsIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelWd_KernelWdIdeal
    ∧ algebraic_KernelWdIdeal_ReferenceWdIdeal (hKernelWdIdeal := hKernelWdIdeal) (hReferenceWdIdeal := hReferenceWdIdeal)
    ∧ preserves_KernelWg_KernelWgIdeal
    ∧ algebraic_KernelWgIdeal_ReferenceWgIdeal (hKernelWgIdeal := hKernelWgIdeal) (hReferenceWgIdeal := hReferenceWgIdeal)
    ∧ preserves_KernelMo_KernelMoIdeal
    ∧ algebraic_KernelMoIdeal_ReferenceMoIdeal (hKernelMoIdeal := hKernelMoIdeal) (hReferenceMoIdeal := hReferenceMoIdeal)
    ∧ preserves_KernelMi_KernelMiIdeal
    ∧ algebraic_KernelMiIdeal_ReferenceMiIdeal (hKernelMiIdeal := hKernelMiIdeal) (hReferenceMiIdeal := hReferenceMiIdeal)
    ∧ preserves_KernelGu_KernelGuIdeal
    ∧ algebraic_KernelGuIdeal_ReferenceGuIdeal (hKernelGuIdeal := hKernelGuIdeal) (hReferenceGuIdeal := hReferenceGuIdeal)
    ∧ preserves_KernelDm_KernelDmIdeal
    ∧ algebraic_KernelDmIdeal_ReferenceDmIdeal (hKernelDmIdeal := hKernelDmIdeal) (hReferenceDmIdeal := hReferenceDmIdeal)
    ∧ algebraic_KernelAsIdeal_ReferenceAsIdeal (hKernelAsIdeal := hKernelAsIdeal) (hReferenceAsIdeal := hReferenceAsIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S4096x1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S4096x1024 .f32 := broadcastInDim S4096x1024 ![] bcast_S_S4096x1024 main_cst_13
  let main_v35 : IVec S4096x1024 1 := cmpf .ogt main_arg5 main_v34
  let main_cst_14 : FVec F S_ .f32 := constant S_ .f32 0x7F800000#32
  let main_v36 : FVec F S4096x1024 .f32 := broadcastInDim S4096x1024 ![] bcast_S_S4096x1024 main_cst_14
  let main_v37 : IVec S4096x1024 1 := cmpf .olt main_arg5 main_v36
  let main_v38 : IVec S4096x1024 1 := andi main_v35 main_v37
  let main_c_15 : IVec S_ 1 := constantI S_ 1 1#1
  let main_v39 : IVec S_ 1 := (fun x v => Host.reduce IntOp.andi x v reducesTo_S4096x1024_S_d0_1 h_S_) main_v38 main_c_15
  let main_v40 : IVec S_ 1 := andi main_v33 main_v39
  main_v40

def fn_part1 {F : FTy → Type} [FloatOps F] (main_arg2 : FVec F S1024x2816 .f32) (main_arg3 : FVec F S1024x2816 .f32) (main_arg4 : FVec F S2816x1024 .f32) (main_arg5 : FVec F S4096x1024 .f32) (main_v12 : IVec S_ 1) (main_v14 : IVec S1024x2816 1) (main_v15 : FVec F S1024x2816 .f32) : IVec S_ 1 :=
  let main_v16 : IVec S1024x2816 1 := cmpf .olt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  let main_cst_7 : FVec F S_ .f32 := constant S_ .f32 0xFF800000#32
  let main_v20 : FVec F S1024x2816 .f32 := broadcastInDim S1024x2816 ![] bcast_S_S1024x2816 main_cst_7
  let main_v21 : IVec S1024x2816 1 := cmpf .ogt main_arg3 main_v20
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_arg3 main_v22
  let main_v24 : IVec S1024x2816 1 := andi main_v21 main_v23
  let main_c_9 : IVec S_ 1 := constantI S_ 1 1#1
  let main_v25 : IVec S_ 1 := (fun x v => Host.reduce IntOp.andi x v reducesTo_S1024x2816_S_d0_1 h_S_) main_v24 main_c_9
  let main_v26 : IVec S_ 1 := andi main_v19 main_v25
  let main_cst_10 : FVec F S_ .f32 := constant S_ .f32 0xFF800000#32
  let main_v27 : FVec F S2816x1024 .f32 := broadcastInDim S2816x1024 ![] bcast_S_S2816x1024 main_cst_10
  let main_v28 : IVec S2816x1024 1 := cmpf .ogt main_arg4 main_v27
  let main_cst_11 : FVec F S_ .f32 := constant S_ .f32 0x7F800000#32
  let main_v29 : FVec F S2816x1024 .f32 := broadcastInDim S2816x1024 ![] bcast_S_S2816x1024 main_cst_11
  let main_v30 : IVec S2816x1024 1 := cmpf .olt main_arg4 main_v29
  let main_v31 : IVec S2816x1024 1 := andi main_v28 main_v30
  let main_c_12 : IVec S_ 1 := constantI S_ 1 1#1
  let main_v32 : IVec S_ 1 := (fun x v => Host.reduce IntOp.andi x v reducesTo_S2816x1024_S_d0_1 h_S_) main_v31 main_c_12
  fn_part2 (F := F) main_arg5 main_v26 main_v32

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S_ 1 :=
  let main_cst : FVec F S_ .f32 := constant S_ .f32 0xFF800000#32
  let main_v0 : FVec F S4096x1024 .f32 := broadcastInDim S4096x1024 ![] bcast_S_S4096x1024 main_cst
  let main_v1 : IVec S4096x1024 1 := cmpf .ogt main_arg0 main_v0
  let main_cst_0 : FVec F S_ .f32 := constant S_ .f32 0x7F800000#32
  let main_v2 : FVec F S4096x1024 .f32 := broadcastInDim S4096x1024 ![] bcast_S_S4096x1024 main_cst_0
  let main_v3 : IVec S4096x1024 1 := cmpf .olt main_arg0 main_v2
  let main_v4 : IVec S4096x1024 1 := andi main_v1 main_v3
  let main_c : IVec S_ 1 := constantI S_ 1 1#1
  let main_v5 : IVec S_ 1 := (fun x v => Host.reduce IntOp.andi x v reducesTo_S4096x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg1 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg1 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1024x2816 .f32 := broadcastInDim S1024x2816 ![] bcast_S_S1024x2816 main_cst_4
  let main_v14 : IVec S1024x2816 1 := cmpf .ogt main_arg2 main_v13
  let main_cst_5 : FVec F S_ .f32 := constant S_ .f32 0x7F800000#32
  let main_v15 : FVec F S1024x2816 .f32 := broadcastInDim S1024x2816 ![] bcast_S_S1024x2816 main_cst_5
  fn_part1 (F := F) main_arg2 main_arg3 main_arg4 main_arg5 main_v12 main_v14 main_v15
-- ==== Kernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x1x1024 : Shape := ⟨3, ![1, 1, 1024]⟩
abbrev S256x1024 : Shape := ⟨2, ![256, 1024]⟩
abbrev S256x2816 : Shape := ⟨2, ![256, 2816]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 38
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .bf16⟩
  | .hbm, ⟨23, _⟩ => ⟨S4096x2816, .f32⟩
  | .hbm, ⟨24, _⟩ => ⟨S4096x2816, .bf16⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S2816x1024, .f32⟩
  | .hbm, ⟨30, _⟩ => ⟨S2816x1024, .bf16⟩
  | .hbm, ⟨31, _⟩ => ⟨S2816x1024, .f32⟩
  | .hbm, ⟨32, _⟩ => ⟨S2816x1024, .bf16⟩
  | .hbm, ⟨33, _⟩ => ⟨S2816x1024, .bf16⟩
  | .hbm, ⟨34, _⟩ => ⟨S4096x2816, .bf16⟩
  | .hbm, ⟨35, _⟩ => ⟨S4096x2816, .bf16⟩
  | .hbm, ⟨36, _⟩ => ⟨S4096x1024, .f32⟩
  | .hbm, ⟨37, _⟩ => ⟨S1x1x1024, .f32⟩
  | .local _ .vmem, ⟨0, _⟩ => ⟨S256x1024, .bf16⟩
  | .local _ .vmem, ⟨1, _⟩ => ⟨S256x1024, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S2816x1024, .bf16⟩
  | .local _ .vmem, ⟨12, _⟩ => ⟨S2816x1024, .bf16⟩
  | .local _ .vmem, ⟨13, _⟩ => ⟨S2816x1024, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .f32⟩
  | .local _ .vmem, ⟨19, _⟩ => ⟨S256x1024, .f32⟩
  | .local _ .vmem, ⟨20, _⟩ => ⟨S1x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x1x1024 : Shape := ⟨3, ![1, 1, 1024]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S2816x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S4096x1024, .f32⟩
  | 21 => ⟨S4096x2816, .f32⟩
  | 22 => ⟨S4096x2816, .f32⟩
  | 23 => ⟨S4096x2816, .f32⟩
  | 24 => ⟨S4096x2816, .f32⟩
  | 25 => ⟨S_, .f32⟩
  | 26 => ⟨S4096x2816, .f32⟩
  | 27 => ⟨S4096x2816, .f32⟩
  | 28 => ⟨S_, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S4096x2816, .f32⟩
  | 35 => ⟨S4096x2816, .f32⟩
  | 36 => ⟨S4096x2816, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x2816, .f32⟩
  | 45 => ⟨S4096x2816, .f32⟩
  | 46 => ⟨S4096x2816, .f32⟩
  | 47 => ⟨S4096x2816, .f32⟩
  | 48 => ⟨S4096x2816, .f32⟩
  | 49 => ⟨S4096x2816, .f32⟩
  | 50 => ⟨S4096x2816, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S4096x1024, .f32⟩
  | 69 => ⟨S4096x1024, .f32⟩
  | 70 => ⟨S4096x2816, .f32⟩
  | 71 => ⟨S4096x2816, .f32⟩
  | 72 => ⟨S4096x2816, .f32⟩
  | 73 => ⟨S_, .f32⟩
  | 74 => ⟨S4096x2816, .f32⟩
  | 75 => ⟨S4096x2816, .f32⟩
  | 76 => ⟨S_, .f32⟩
  | 77 => ⟨S4096x2816, .f32⟩
  | 78 => ⟨S4096x2816, .f32⟩
  | 79 => ⟨S_, .f32⟩
  | 80 => ⟨S4096x2816, .f32⟩
  | 81 => ⟨S4096x2816, .f32⟩
  | 82 => ⟨S4096x2816, .f32⟩
  | 83 => ⟨S4096x2816, .f32⟩
  | 84 => ⟨S4096x2816, .f32⟩
  | 85 => ⟨S4096x2816, .f32⟩
  | 86 => ⟨S4096x1024, .f32⟩
  | 87 => ⟨S_, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S4096x2816, .f32⟩
  | 96 => ⟨S4096x2816, .f32⟩
  | 97 => ⟨S4096x2816, .f32⟩
  | 98 => ⟨S4096x1024, .f32⟩
  | 99 => ⟨S4096x2816, .f32⟩
  | 100 => ⟨S4096x2816, .f32⟩
  | 101 => ⟨S4096x2816, .f32⟩
  | 102 => ⟨S4096x2816, .f32⟩
  | 103 => ⟨S4096x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1024, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x2816, .bf16⟩
  | 2 => ⟨S4096x2816, .bf16⟩
  | 3 => ⟨S1x1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_v41_2 : Ref sig .tc := ⟨.hbm, 78, rfl⟩
abbrev main_call2_cst_1 : Ref sig .tc := ⟨.hbm, 79, rfl⟩
abbrev main_call2_v6 : Ref sig .tc := ⟨.hbm, 80, rfl⟩
abbrev main_call2_v7 : Ref sig .tc := ⟨.hbm, 81, rfl⟩
abbrev main_v41_1 : Ref sig .tc := ⟨.hbm, 82, rfl⟩
abbrev main_v41_0 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_8 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_9 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_10 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_11 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_12 : Ref sig .tc := ⟨.hbm, 119, rfl⟩
abbrev main_v70 : Ref sig .tc := ⟨.hbm, 120, rfl⟩
abbrev main_v71 : Ref sig .tc := ⟨.hbm, 121, rfl⟩
abbrev main_cst_13 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩

abbrev nD : Nat := 1
abbrev τ : Topo := Topo.v7x

variable {F : FTy → Type} [FloatOps F]
-- ==== KernelWd.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 38
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWdIdeal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S4096x2816 : Shape := ⟨2, ![4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S2816x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S2816x1024, .f32⟩
  | .hbm, ⟨43, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== KernelWg.lean ====
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .f32⟩
  | .hbm, ⟨3, _⟩ => ⟨S4096x2816, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWgIdeal.lean ====
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S1024x2816 : Shape := ⟨2, ![1024, 2816]⟩
abbrev S4096 : Shape := ⟨1, ![4096]⟩
abbrev S4096x1 : Shape := ⟨2, ![4096, 1]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .f32⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S2816x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelMo.lean ====
abbrev S4096x512 : Shape := ⟨2, ![4096, 512]⟩
abbrev S1024x1024 : Shape := ⟨2, ![1024, 1024]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S4096x512, .bf16⟩
  | .hbm, ⟨5, _⟩ => ⟨S4096x512, .bf16⟩
  | .hbm, ⟨6, _⟩ => ⟨S1024x1024, .bf16⟩
  | .hbm, ⟨7, _⟩ => ⟨S4096x512, .bf16⟩
  | .hbm, ⟨8, _⟩ => ⟨S4096x512, .bf16⟩
  | .hbm, ⟨9, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1024x1024, .bf16⟩
  | .local _ .vmem, ⟨12, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_21 : BitVec 32 := 0#32
  let v32 : BitVec 1 := Scalar.cmpi .ne v31 c0_i32_21
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMoIdeal.lean ====
abbrev S4096x512 : Shape := ⟨2, ![4096, 512]⟩
abbrev S1024x1024 : Shape := ⟨2, ![1024, 1024]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096x512, .bf16⟩
  | .hbm, ⟨13, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelMi.lean ====
abbrev S4096x1024 : Shape := ⟨2, ![4096, 1024]⟩
abbrev S1x1024 : Shape := ⟨2, ![1, 1024]⟩
abbrev S1024x2560 : Shape := ⟨2, ![1024, 2560]⟩
abbrev S4096x512 : Shape := ⟨2, ![4096, 512]⟩
abbrev S2560x1024 : Shape := ⟨2, ![2560, 1024]⟩
abbrev S_ : Shape := ⟨0, ![]⟩
abbrev S4096 : Shape := ⟨1, ![4096]⟩
abbrev S4096x1 : Shape := ⟨2, ![4096, 1]⟩
abbrev S8x1x1024 : Shape := ⟨3, ![8, 1, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 36
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S2560x1024, .f32⟩
  | .hbm, ⟨15, _⟩ => ⟨S2560x1024, .bf16⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S2560x1024, .bf16⟩
  | .hbm, ⟨33, _⟩ => ⟨S4096x1024, .f32⟩
  | .hbm, ⟨34, _⟩ => ⟨S4096x1024, .bf16⟩
  | .hbm, ⟨35, _⟩ => ⟨S8x1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2560x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S2560x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1x1024, .f32⟩
  | .local _ .vmem, ⟨24, _⟩ => ⟨S1x1x1024, .f32⟩
  | .local _ .vmem, ⟨25, _⟩ => ⟨S2560x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v102 : BitVec 1 := Scalar.cmpi .eq arg0 c7_i32
  let v103 : BitVec 32 := Scalar.extui v102
  let c0_i32_68 : BitVec 32 := 0#32
  let v104 : BitVec 1 := Scalar.cmpi .ne v103 c0_i32_68
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2560x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceMiIdeal.lean ====
abbrev S4096x1024 : Shape := ⟨2, ![4096, 1024]⟩
abbrev S1x1024 : Shape := ⟨2, ![1, 1024]⟩
abbrev S1024x2560 : Shape := ⟨2, ![1024, 2560]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S4096x2560 : Shape := ⟨2, ![4096, 2560]⟩
abbrev S2560x1024 : Shape := ⟨2, ![2560, 1024]⟩
abbrev S8x512x1024 : Shape := ⟨3, ![8, 512, 1024]⟩
abbrev S8x1024 : Shape := ⟨2, ![8, 1024]⟩
abbrev S8x1x1024 : Shape := ⟨3, ![8, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2560, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2560, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x2560, .f32⟩
  | .hbm, ⟨35, _⟩ => ⟨S2560x1024, .f32⟩
  | .hbm, ⟨36, _⟩ => ⟨S1024x2560, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x2560, .f32⟩
  | .hbm, ⟨76, _⟩ => ⟨S4096x2560, .f32⟩
  | .hbm, ⟨77, _⟩ => ⟨S4096x1024, .f32⟩
  | .hbm, ⟨78, _⟩ => ⟨S4096x1024, .f32⟩
  | .hbm, ⟨79, _⟩ => ⟨S8x512x1024, .f32⟩
  | .hbm, ⟨80, _⟩ => ⟨S_, .f32⟩
  | .hbm, ⟨81, _⟩ => ⟨S8x1024, .f32⟩
  | .hbm, ⟨82, _⟩ => ⟨S8x1x1024, .f32⟩
  | .hbm, ⟨83, _⟩ => ⟨S2560x1024, .f32⟩
  | .hbm, ⟨84, _⟩ => ⟨S2560x1024, .bf16⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== KernelGu.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x1024, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceGuIdeal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x1024, .bf16⟩
  | .hbm, ⟨22, _⟩ => ⟨S4096x2816, .bf16⟩
  | .hbm, ⟨23, _⟩ => ⟨S4096x2816, .bf16⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== KernelDm.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S2560x1024 : Shape := ⟨2, ![2560, 1024]⟩
abbrev S4096x2560 : Shape := ⟨2, ![4096, 2560]⟩
abbrev S512x1024 : Shape := ⟨2, ![512, 1024]⟩
abbrev S512x2816 : Shape := ⟨2, ![512, 2816]⟩
abbrev S512x2560 : Shape := ⟨2, ![512, 2560]⟩
abbrev S512 : Shape := ⟨1, ![512]⟩
abbrev S512x1 : Shape := ⟨2, ![512, 1]⟩

abbrev nBuf : Space → Nat
  | .hbm => 41
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2560, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S2816x1024, .bf16⟩
  | .hbm, ⟨36, _⟩ => ⟨S2560x1024, .f32⟩
  | .hbm, ⟨37, _⟩ => ⟨S2560x1024, .bf16⟩
  | .hbm, ⟨38, _⟩ => ⟨S4096x1024, .f32⟩
  | .hbm, ⟨39, _⟩ => ⟨S4096x2560, .bf16⟩
  | .hbm, ⟨40, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S2560x1024, .bf16⟩
  | .local _ .vmem, ⟨7, _⟩ => ⟨S512x1024, .f32⟩
  | .local _ .vmem, ⟨8, _⟩ => ⟨S512x1024, .f32⟩
  | .local _ .vmem, ⟨9, _⟩ => ⟨S512x2560, .bf16⟩
  | .local _ .vmem, ⟨10, _⟩ => ⟨S512x2560, .bf16⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v20_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceDmIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024x2560 : Shape := ⟨2, ![1024, 2560]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x2560 : Shape := ⟨2, ![4096, 2560]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2560, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x2560, .f32⟩
  | .hbm, ⟨55, _⟩ => ⟨S4096x2560, .bf16⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== KernelAsIdeal.lean ====
abbrev S16x1024 : Shape := ⟨2, ![16, 1024]⟩
abbrev S32x1x128 : Shape := ⟨3, ![32, 1, 128]⟩
abbrev S1x1024 : Shape := ⟨2, ![1, 1024]⟩
abbrev S1x512 : Shape := ⟨2, ![1, 512]⟩
abbrev S1x64 : Shape := ⟨2, ![1, 64]⟩
abbrev S31x1x64 : Shape := ⟨3, ![31, 1, 64]⟩
abbrev S1x128 : Shape := ⟨2, ![1, 128]⟩

abbrev nBuf : Space → Nat
  | .hbm => 66
  | .vmem => 66
  | .smem => 0
  | _ => 0

abbrev bufTy : (tb : Table) → Fin (tcTables nBuf tb) → BufTy
  | .hbm, ⟨0, _⟩ => ⟨S16x1024, .f32⟩
  | .hbm, ⟨1, _⟩ => ⟨S32x1x128, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x64, .f32⟩
  | .hbm, ⟨9, _⟩ => ⟨S1x64, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x64, .f32⟩
  | .hbm, ⟨17, _⟩ => ⟨S1x64, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x64, .f32⟩
  | .hbm, ⟨25, _⟩ => ⟨S1x64, .f32⟩
  | .hbm, ⟨26, _⟩ => ⟨S31x1x64, .f32⟩
  | .hbm, ⟨27, _⟩ => ⟨S31x1x64, .f32⟩
  | .hbm, ⟨28, _⟩ => ⟨S31x1x64, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S31x1x64, .f32⟩
  | .hbm, ⟨62, _⟩ => ⟨S31x1x64, .f32⟩
  | .hbm, ⟨63, _⟩ => ⟨S31x1x64, .f32⟩
  | .hbm, ⟨64, _⟩ => ⟨S31x1x64, .f32⟩
  | .hbm, ⟨65, _⟩ => ⟨S1x128, .f32⟩
  | .local _ .vmem, ⟨0, _⟩ => ⟨S16x1024, .f32⟩
  | .local _ .vmem, ⟨1, _⟩ => ⟨S32x1x128, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x64, .f32⟩
  | .local _ .vmem, ⟨9, _⟩ => ⟨S1x64, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x64, .f32⟩
  | .local _ .vmem, ⟨17, _⟩ => ⟨S1x64, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x64, .f32⟩
  | .local _ .vmem, ⟨25, _⟩ => ⟨S1x64, .f32⟩
  | .local _ .vmem, ⟨26, _⟩ => ⟨S31x1x64, .f32⟩
  | .local _ .vmem, ⟨27, _⟩ => ⟨S31x1x64, .f32⟩
  | .local _ .vmem, ⟨28, _⟩ => ⟨S31x1x64, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S1x512, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S31x1x64, .f32⟩
  | .local _ .vmem, ⟨62, _⟩ => ⟨S31x1x64, .f32⟩
  | .local _ .vmem, ⟨63, _⟩ => ⟨S31x1x64, .f32⟩
  | .local _ .vmem, ⟨64, _⟩ => ⟨S31x1x64, .f32⟩
  | .local _ .vmem, ⟨65, _⟩ => ⟨S1x128, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v0_2 : Ref sig .tc := ⟨.hbm, 31, rfl⟩
abbrev main_v0_3 : Ref sig .tc := ⟨.hbm, 32, rfl⟩
abbrev main_v0_4 : Ref sig .tc := ⟨.hbm, 33, rfl⟩
abbrev main_v0_5 : Ref sig .tc := ⟨.hbm, 34, rfl⟩
abbrev main_v0_6 : Ref sig .tc := ⟨.hbm, 35, rfl⟩
abbrev main_v0_7 : Ref sig .tc := ⟨.hbm, 36, rfl⟩
abbrev main_v0_8 : Ref sig .tc := ⟨.hbm, 37, rfl⟩
abbrev main_v0_9 : Ref sig .tc := ⟨.hbm, 38, rfl⟩
abbrev main_v0_10 : Ref sig .tc := ⟨.hbm, 39, rfl⟩
abbrev main_v0_11 : Ref sig .tc := ⟨.hbm, 40, rfl⟩
abbrev main_v0_12 : Ref sig .tc := ⟨.hbm, 41, rfl⟩
abbrev main_v0_13 : Ref sig .tc := ⟨.hbm, 42, rfl⟩
abbrev main_v0_14 : Ref sig .tc := ⟨.hbm, 43, rfl⟩
abbrev main_v0_15 : Ref sig .tc := ⟨.hbm, 44, rfl⟩
abbrev main_v0_16 : Ref sig .tc := ⟨.hbm, 45, rfl⟩
abbrev main_v0_17 : Ref sig .tc := ⟨.hbm, 46, rfl⟩
abbrev main_v0_18 : Ref sig .tc := ⟨.hbm, 47, rfl⟩
abbrev main_v0_19 : Ref sig .tc := ⟨.hbm, 48, rfl⟩
abbrev main_v0_20 : Ref sig .tc := ⟨.hbm, 49, rfl⟩
abbrev main_v0_21 : Ref sig .tc := ⟨.hbm, 50, rfl⟩
abbrev main_v0_22 : Ref sig .tc := ⟨.hbm, 51, rfl⟩
abbrev main_v0_23 : Ref sig .tc := ⟨.hbm, 52, rfl⟩
abbrev main_v0_24 : Ref sig .tc := ⟨.hbm, 53, rfl⟩
abbrev main_v0_25 : Ref sig .tc := ⟨.hbm, 54, rfl⟩
abbrev main_v0_26 : Ref sig .tc := ⟨.hbm, 55, rfl⟩
abbrev main_v0_27 : Ref sig .tc := ⟨.hbm, 56, rfl⟩
abbrev main_v0_28 : Ref sig .tc := ⟨.hbm, 57, rfl⟩
abbrev main_v0_29 : Ref sig .tc := ⟨.hbm, 58, rfl⟩
abbrev main_v0_30 : Ref sig .tc := ⟨.hbm, 59, rfl⟩
abbrev main_v0_31 : Ref sig .tc := ⟨.hbm, 60, rfl⟩
abbrev main_v0_32 : Ref sig .tc := ⟨.hbm, 61, rfl⟩
abbrev main_v0_33 : Ref sig .tc := ⟨.hbm, 62, rfl⟩
abbrev main_v0_34 : Ref sig .tc := ⟨.hbm, 63, rfl⟩
abbrev main_v0_35 : Ref sig .tc := ⟨.hbm, 64, rfl⟩
abbrev main_v0_36 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S31x1x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S31x1x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S31x1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x512 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x512 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x512 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x512 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x512 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x512 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x512 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x512 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x64 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x64 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x64 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x64 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x64 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x64 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S31x1x64 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S31x1x64 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S31x1x64 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S31x1x64 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x128 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))
-- ==== ReferenceAsIdeal.lean ====
abbrev S16x1024 : Shape := ⟨2, ![16, 1024]⟩
abbrev S32x1x128 : Shape := ⟨3, ![32, 1, 128]⟩
abbrev S1x1024 : Shape := ⟨2, ![1, 1024]⟩
abbrev S1x512 : Shape := ⟨2, ![1, 512]⟩
abbrev S1x64 : Shape := ⟨2, ![1, 64]⟩
abbrev S31x1x64 : Shape := ⟨3, ![31, 1, 64]⟩
abbrev S_ : Shape := ⟨0, ![]⟩
abbrev S1x128 : Shape := ⟨2, ![1, 128]⟩

abbrev nBuf : Space → Nat
  | .hbm => 336
  | .vmem => 0
  | .smem => 0
  | _ => 0

abbrev hbmTy0_0 (i : Nat) : BufTy := match i % 128 with
  | 0 => ⟨S16x1024, .f32⟩
  | 1 => ⟨S32x1x128, .f32⟩
  | 2 => ⟨S1x1024, .f32⟩
  | 3 => ⟨S1x1024, .f32⟩
  | 4 => ⟨S1x1024, .f32⟩
  | 5 => ⟨S1x512, .f32⟩
  | 6 => ⟨S1x512, .f32⟩
  | 7 => ⟨S1x512, .f32⟩
  | 8 => ⟨S1x64, .f32⟩
  | 9 => ⟨S1x64, .f32⟩
  | 10 => ⟨S1x1024, .f32⟩
  | 11 => ⟨S1x1024, .f32⟩
  | 12 => ⟨S1x1024, .f32⟩
  | 13 => ⟨S1x512, .f32⟩
  | 14 => ⟨S1x512, .f32⟩
  | 15 => ⟨S1x512, .f32⟩
  | 16 => ⟨S1x64, .f32⟩
  | 17 => ⟨S1x64, .f32⟩
  | 18 => ⟨S1x1024, .f32⟩
  | 19 => ⟨S1x1024, .f32⟩
  | 20 => ⟨S1x1024, .f32⟩
  | 21 => ⟨S1x512, .f32⟩
  | 22 => ⟨S1x512, .f32⟩
  | 23 => ⟨S1x512, .f32⟩
  | 24 => ⟨S1x64, .f32⟩
  | 25 => ⟨S1x64, .f32⟩
  | 26 => ⟨S31x1x64, .f32⟩
  | 27 => ⟨S31x1x64, .f32⟩
  | 28 => ⟨S31x1x64, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S16x1024, .f32⟩

abbrev hbmTy0_1 (i : Nat) : BufTy := match i % 128 with
  | 0 => ⟨S_, .f32⟩
  | 1 => ⟨S1x1024, .f32⟩
  | 2 => ⟨S1x1024, .f32⟩
  | 3 => ⟨S1x512, .f32⟩
  | 4 => ⟨S_, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S1x512, .f32⟩
  | 15 => ⟨S_, .f32⟩
  | 16 => ⟨S1x512, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S1x512, .f32⟩
  | 72 => ⟨S_, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S1x64, .f32⟩
  | 106 => ⟨S_, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S16x1024, .f32⟩

abbrev hbmTy0_2 (i : Nat) : BufTy := match i % 128 with
  | 0 => ⟨S_, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S1x64, .f32⟩
  | 19 => ⟨S_, .f32⟩
  | 20 => ⟨S1x64, .f32⟩
  | 21 => ⟨S1x64, .f32⟩
  | 22 => ⟨S1x64, .f32⟩
  | 23 => ⟨S_, .f32⟩
  | 24 => ⟨S1x64, .f32⟩
  | 25 => ⟨S1x64, .f32⟩
  | 26 => ⟨S1x64, .f32⟩
  | 27 => ⟨S_, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S1x64, .f32⟩
  | 34 => ⟨S_, .f32⟩
  | 35 => ⟨S1x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S31x1x64, .f32⟩
  | 46 => ⟨S_, .f32⟩
  | 47 => ⟨S31x1x64, .f32⟩
  | 48 => ⟨S31x1x64, .f32⟩
  | 49 => ⟨S_, .f32⟩
  | 50 => ⟨S31x1x64, .f32⟩
  | 51 => ⟨S31x1x64, .f32⟩
  | 52 => ⟨S31x1x64, .f32⟩
  | 53 => ⟨S_, .f32⟩
  | 54 => ⟨S31x1x64, .f32⟩
  | 55 => ⟨S31x1x64, .f32⟩
  | 56 => ⟨S31x1x64, .f32⟩
  | 57 => ⟨S_, .f32⟩
  | 58 => ⟨S31x1x64, .f32⟩
  | 59 => ⟨S31x1x64, .f32⟩
  | 60 => ⟨S31x1x64, .f32⟩
  | 61 => ⟨S_, .f32⟩
  | 62 => ⟨S31x1x64, .f32⟩
  | 63 => ⟨S31x1x64, .f32⟩
  | 64 => ⟨S_, .f32⟩
  | 65 => ⟨S31x1x64, .f32⟩
  | 66 => ⟨S31x1x64, .f32⟩
  | 67 => ⟨S31x1x64, .f32⟩
  | 68 => ⟨S_, .f32⟩
  | 69 => ⟨S31x1x64, .f32⟩
  | 70 => ⟨S31x1x64, .f32⟩
  | 71 => ⟨S31x1x64, .f32⟩
  | 72 => ⟨S_, .f32⟩
  | 73 => ⟨S31x1x64, .f32⟩
  | 74 => ⟨S31x1x64, .f32⟩
  | 75 => ⟨S31x1x64, .f32⟩
  | 76 => ⟨S_, .f32⟩
  | 77 => ⟨S31x1x64, .f32⟩
  | 78 => ⟨S31x1x64, .f32⟩
  | 79 => ⟨S1x128, .f32⟩
  | _ => ⟨S16x1024, .f32⟩

abbrev hbmTy (i : Nat) : BufTy := match i / 128 with
  | 0 => hbmTy0_0 i
  | 1 => hbmTy0_1 i
  | 2 => hbmTy0_2 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_cst_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst_1 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_3 : Ref sig .tc := ⟨.hbm, 45, rfl⟩
abbrev main_v12 : Ref sig .tc := ⟨.hbm, 46, rfl⟩
abbrev main_v13 : Ref sig .tc := ⟨.hbm, 47, rfl⟩
abbrev main_cst_4 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_5 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_6 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_7 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_8 : Ref sig .tc := ⟨.hbm, 64, rfl⟩
abbrev main_v26 : Ref sig .tc := ⟨.hbm, 65, rfl⟩
abbrev main_v27 : Ref sig .tc := ⟨.hbm, 66, rfl⟩
abbrev main_cst_9 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_10 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_11 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_12 : Ref sig .tc := ⟨.hbm, 79, rfl⟩
abbrev main_v37 : Ref sig .tc := ⟨.hbm, 80, rfl⟩
abbrev main_v38 : Ref sig .tc := ⟨.hbm, 81, rfl⟩
abbrev main_cst_13 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_14 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_15 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_16 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_17 : Ref sig .tc := ⟨.hbm, 98, rfl⟩
abbrev main_v51 : Ref sig .tc := ⟨.hbm, 99, rfl⟩
abbrev main_v52 : Ref sig .tc := ⟨.hbm, 100, rfl⟩
abbrev main_cst_18 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_19 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_20 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_21 : Ref sig .tc := ⟨.hbm, 113, rfl⟩
abbrev main_v62 : Ref sig .tc := ⟨.hbm, 114, rfl⟩
abbrev main_v63 : Ref sig .tc := ⟨.hbm, 115, rfl⟩
abbrev main_cst_22 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_23 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_24 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_25 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_26 : Ref sig .tc := ⟨.hbm, 132, rfl⟩
abbrev main_v76 : Ref sig .tc := ⟨.hbm, 133, rfl⟩
abbrev main_v77 : Ref sig .tc := ⟨.hbm, 134, rfl⟩
abbrev main_cst_27 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_28 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_29 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_30 : Ref sig .tc := ⟨.hbm, 147, rfl⟩
abbrev main_v87 : Ref sig .tc := ⟨.hbm, 148, rfl⟩
abbrev main_v88 : Ref sig .tc := ⟨.hbm, 149, rfl⟩
abbrev main_cst_31 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_cst_32 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_33 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_34 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_35 : Ref sig .tc := ⟨.hbm, 166, rfl⟩
abbrev main_v101 : Ref sig .tc := ⟨.hbm, 167, rfl⟩
abbrev main_v102 : Ref sig .tc := ⟨.hbm, 168, rfl⟩
abbrev main_cst_36 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_37 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_38 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_39 : Ref sig .tc := ⟨.hbm, 181, rfl⟩
abbrev main_v112 : Ref sig .tc := ⟨.hbm, 182, rfl⟩
abbrev main_v113 : Ref sig .tc := ⟨.hbm, 183, rfl⟩
abbrev main_cst_40 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_41 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_42 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_cst_43 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_cst_44 : Ref sig .tc := ⟨.hbm, 200, rfl⟩
abbrev main_v126 : Ref sig .tc := ⟨.hbm, 201, rfl⟩
abbrev main_v127 : Ref sig .tc := ⟨.hbm, 202, rfl⟩
abbrev main_cst_45 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_cst_46 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_cst_47 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_48 : Ref sig .tc := ⟨.hbm, 215, rfl⟩
abbrev main_v137 : Ref sig .tc := ⟨.hbm, 216, rfl⟩
abbrev main_v138 : Ref sig .tc := ⟨.hbm, 217, rfl⟩
abbrev main_cst_49 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_50 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_cst_51 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_cst_52 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_cst_53 : Ref sig .tc := ⟨.hbm, 234, rfl⟩
abbrev main_v151 : Ref sig .tc := ⟨.hbm, 235, rfl⟩
abbrev main_v152 : Ref sig .tc := ⟨.hbm, 236, rfl⟩
abbrev main_cst_54 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_cst_55 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_cst_56 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_cst_57 : Ref sig .tc := ⟨.hbm, 249, rfl⟩
abbrev main_v162 : Ref sig .tc := ⟨.hbm, 250, rfl⟩
abbrev main_v163 : Ref sig .tc := ⟨.hbm, 251, rfl⟩
abbrev main_cst_58 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_cst_59 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_cst_60 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_cst_61 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_cst_62 : Ref sig .tc := ⟨.hbm, 268, rfl⟩
abbrev main_v176 : Ref sig .tc := ⟨.hbm, 269, rfl⟩
abbrev main_v177 : Ref sig .tc := ⟨.hbm, 270, rfl⟩
abbrev main_cst_63 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_cst_64 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_cst_65 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_cst_66 : Ref sig .tc := ⟨.hbm, 283, rfl⟩
abbrev main_v187 : Ref sig .tc := ⟨.hbm, 284, rfl⟩
abbrev main_v188 : Ref sig .tc := ⟨.hbm, 285, rfl⟩
abbrev main_cst_67 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_cst_68 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_cst_69 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_cst_70 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_cst_71 : Ref sig .tc := ⟨.hbm, 302, rfl⟩
abbrev main_v201 : Ref sig .tc := ⟨.hbm, 303, rfl⟩
abbrev main_v202 : Ref sig .tc := ⟨.hbm, 304, rfl⟩
abbrev main_cst_72 : Ref sig .tc := ⟨.hbm, 305, rfl⟩
abbrev main_v203 : Ref sig .tc := ⟨.hbm, 306, rfl⟩
abbrev main_v204 : Ref sig .tc := ⟨.hbm, 307, rfl⟩
abbrev main_v205 : Ref sig .tc := ⟨.hbm, 308, rfl⟩
abbrev main_cst_73 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_cst_74 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_cst_75 : Ref sig .tc := ⟨.hbm, 317, rfl⟩
abbrev main_v212 : Ref sig .tc := ⟨.hbm, 318, rfl⟩
abbrev main_v213 : Ref sig .tc := ⟨.hbm, 319, rfl⟩
abbrev main_cst_76 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_cst_77 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_cst_78 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_cst_79 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩

abbrev nD : Nat := 1
abbrev τ : Topo := Topo.v7x

variable {F : FTy → Type} [FloatOps F]
-- ==== Proof.AsBody.lean ====
/- The optimiser's step on the small weights: the call's one point, run on the blocks it is handed. -/
module

public import proofs.«01_k».proof.Proof.Gen.KernelAsIdeal.Launch
public import proofs.«01_k».proof.Proof.Gen.KernelAsIdeal.Skeleton
public import proofs.«01_k».proof.Proof.Gen.KernelAsIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelAsIdeal.Body

open Cert.KernelAsIdeal Cert.KernelAsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A device's arrays when the call is entered: as launched, the call being all of the program. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The boxes the body loads and stores: a row of the gradients, and each small array whole -/

abbrev r0_0 : Rect S16x1024 := Rect.unit (s := S16x1024) ![0, 0] S1x1024.size inb_S16x1024_S1x1024_0_0
abbrev r0_1 : Rect S1x1024 := Rect.unit (s := S1x1024) ![0, 0] S1x1024.size inb_S1x1024_S1x1024_0_0
abbrev r0_2 : Rect S16x1024 := Rect.unit (s := S16x1024) ![1, 0] S1x1024.size inb_S16x1024_S1x1024_1_0
abbrev r0_3 : Rect S16x1024 := Rect.unit (s := S16x1024) ![2, 0] S1x1024.size inb_S16x1024_S1x1024_2_0
abbrev r0_4 : Rect S16x1024 := Rect.unit (s := S16x1024) ![3, 0] S1x512.size inb_S16x1024_S1x512_3_0
abbrev r0_5 : Rect S1x512 := Rect.unit (s := S1x512) ![0, 0] S1x512.size inb_S1x512_S1x512_0_0
abbrev r0_6 : Rect S16x1024 := Rect.unit (s := S16x1024) ![4, 0] S1x512.size inb_S16x1024_S1x512_4_0
abbrev r0_7 : Rect S16x1024 := Rect.unit (s := S16x1024) ![5, 0] S1x512.size inb_S16x1024_S1x512_5_0
abbrev r0_8 : Rect S16x1024 := Rect.unit (s := S16x1024) ![6, 0] S1x64.size inb_S16x1024_S1x64_6_0
abbrev r0_9 : Rect S1x64 := Rect.unit (s := S1x64) ![0, 0] S1x64.size inb_S1x64_S1x64_0_0
abbrev r0_10 : Rect S16x1024 := Rect.unit (s := S16x1024) ![7, 0] S1x64.size inb_S16x1024_S1x64_7_0
abbrev r0_11 : Rect S32x1x128 := Rect.unit (s := S32x1x128) ![0, 0, 0] S31x1x64.size inb_S32x1x128_S31x1x64_0_0_0
abbrev r0_12 : Rect S31x1x64 := Rect.unit (s := S31x1x64) ![0, 0, 0] S31x1x64.size inb_S31x1x64_S31x1x64_0_0_0
abbrev r0_13 : Rect S16x1024 := Rect.unit (s := S16x1024) ![8, 0] S1x128.size inb_S16x1024_S1x128_8_0
abbrev r0_14 : Rect S1x128 := Rect.unit (s := S1x128) ![0, 0] S1x128.size inb_S1x128_S1x128_0_0

/-! ## What the body leaves in each window's buffer -/

/-- The inputs' blocks stay; an output's is the value stored into it, from the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => View.ld (iblk m c 0 t) r0_0
    | ⟨30, _⟩ => k0_pay3 (View.ld (iblk m c 0 t) r0_0) (View.ld (iblk m c 2 t) r0_1) (View.ld (iblk m c 10 t) r0_1) (View.ld (iblk m c 18 t) r0_1)
    | ⟨31, _⟩ => k0_pay1 (View.ld (iblk m c 0 t) r0_0) (View.ld (iblk m c 10 t) r0_1)
    | ⟨32, _⟩ => k0_pay2 (View.ld (iblk m c 0 t) r0_0) (View.ld (iblk m c 18 t) r0_1)
    | ⟨33, _⟩ => View.ld (iblk m c 0 t) r0_2
    | ⟨34, _⟩ => k0_pay6 (View.ld (iblk m c 0 t) r0_2) (View.ld (iblk m c 3 t) r0_1) (View.ld (iblk m c 11 t) r0_1) (View.ld (iblk m c 19 t) r0_1)
    | ⟨35, _⟩ => k0_pay4 (View.ld (iblk m c 0 t) r0_2) (View.ld (iblk m c 11 t) r0_1)
    | ⟨36, _⟩ => k0_pay5 (View.ld (iblk m c 0 t) r0_2) (View.ld (iblk m c 19 t) r0_1)
    | ⟨37, _⟩ => View.ld (iblk m c 0 t) r0_3
    | ⟨38, _⟩ => k0_pay9 (View.ld (iblk m c 0 t) r0_3) (View.ld (iblk m c 4 t) r0_1) (View.ld (iblk m c 12 t) r0_1) (View.ld (iblk m c 20 t) r0_1)
    | ⟨39, _⟩ => k0_pay7 (View.ld (iblk m c 0 t) r0_3) (View.ld (iblk m c 12 t) r0_1)
    | ⟨40, _⟩ => k0_pay8 (View.ld (iblk m c 0 t) r0_3) (View.ld (iblk m c 20 t) r0_1)
    | ⟨41, _⟩ => View.ld (iblk m c 0 t) r0_4
    | ⟨42, _⟩ => k0_pay12 (View.ld (iblk m c 0 t) r0_4) (View.ld (iblk m c 5 t) r0_5) (View.ld (iblk m c 13 t) r0_5) (View.ld (iblk m c 21 t) r0_5)
    | ⟨43, _⟩ => k0_pay10 (View.ld (iblk m c 0 t) r0_4) (View.ld (iblk m c 13 t) r0_5)
    | ⟨44, _⟩ => k0_pay11 (View.ld (iblk m c 0 t) r0_4) (View.ld (iblk m c 21 t) r0_5)
    | ⟨45, _⟩ => View.ld (iblk m c 0 t) r0_6
    | ⟨46, _⟩ => k0_pay15 (View.ld (iblk m c 0 t) r0_6) (View.ld (iblk m c 6 t) r0_5) (View.ld (iblk m c 14 t) r0_5) (View.ld (iblk m c 22 t) r0_5)
    | ⟨47, _⟩ => k0_pay13 (View.ld (iblk m c 0 t) r0_6) (View.ld (iblk m c 14 t) r0_5)
    | ⟨48, _⟩ => k0_pay14 (View.ld (iblk m c 0 t) r0_6) (View.ld (iblk m c 22 t) r0_5)
    | ⟨49, _⟩ => View.ld (iblk m c 0 t) r0_7
    | ⟨50, _⟩ => k0_pay18 (View.ld (iblk m c 0 t) r0_7) (View.ld (iblk m c 7 t) r0_5) (View.ld (iblk m c 15 t) r0_5) (View.ld (iblk m c 23 t) r0_5)
    | ⟨51, _⟩ => k0_pay16 (View.ld (iblk m c 0 t) r0_7) (View.ld (iblk m c 15 t) r0_5)
    | ⟨52, _⟩ => k0_pay17 (View.ld (iblk m c 0 t) r0_7) (View.ld (iblk m c 23 t) r0_5)
    | ⟨53, _⟩ => View.ld (iblk m c 0 t) r0_8
    | ⟨54, _⟩ => k0_pay21 (View.ld (iblk m c 0 t) r0_8) (View.ld (iblk m c 8 t) r0_9) (View.ld (iblk m c 16 t) r0_9) (View.ld (iblk m c 24 t) r0_9)
    | ⟨55, _⟩ => k0_pay19 (View.ld (iblk m c 0 t) r0_8) (View.ld (iblk m c 16 t) r0_9)
    | ⟨56, _⟩ => k0_pay20 (View.ld (iblk m c 0 t) r0_8) (View.ld (iblk m c 24 t) r0_9)
    | ⟨57, _⟩ => View.ld (iblk m c 0 t) r0_10
    | ⟨58, _⟩ => k0_pay24 (View.ld (iblk m c 0 t) r0_10) (View.ld (iblk m c 9 t) r0_9) (View.ld (iblk m c 17 t) r0_9) (View.ld (iblk m c 25 t) r0_9)
    | ⟨59, _⟩ => k0_pay22 (View.ld (iblk m c 0 t) r0_10) (View.ld (iblk m c 17 t) r0_9)
    | ⟨60, _⟩ => k0_pay23 (View.ld (iblk m c 0 t) r0_10) (View.ld (iblk m c 25 t) r0_9)
    | ⟨61, _⟩ => View.ld (iblk m c 1 t) r0_11
    | ⟨62, _⟩ => k0_pay27 (View.ld (iblk m c 1 t) r0_11) (View.ld (iblk m c 26 t) r0_12) (View.ld (iblk m c 27 t) r0_12) (View.ld (iblk m c 28 t) r0_12)
    | ⟨63, _⟩ => k0_pay25 (View.ld (iblk m c 1 t) r0_11) (View.ld (iblk m c 27 t) r0_12)
    | ⟨64, _⟩ => k0_pay26 (View.ld (iblk m c 1 t) r0_11) (View.ld (iblk m c 28 t) r0_12)
    | ⟨65, _⟩ => View.ld (iblk m c 0 t) r0_13
    | ⟨_ + 66, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- What a whole buffer reads after one store of the whole of it: the value stored. -/
theorem stored {κ : Kind} {sp : Space} {s : Shape} {e : EltTy} (v : View sig κ sp s e) (f : v.ty.Contents (Elt F)) {off : Fin s.rank → ℕ}
    (h : off = fun _ => 0) (inb : ∀ a, off a + s.size a ≤ s.size a) (w : s.Idx → Elt F e) :
    v.read (Elt F) (v.writes (Elt F) f [⟨Rect.unit off s.size inb, w⟩]) = w :=
  (View.read_writes_eq_canon v f _ fun y => ⟨_, List.mem_singleton.2 rfl, View.mem_set_unit_zero h inb y⟩).trans (View.canon_unit_zero h inb w)

theorem zero2 : (![0, 0] : Fin 2 → ℕ) = fun _ => 0 := by decide
theorem zero3 : (![0, 0, 0] : Fin 3 → ℕ) = fun _ => 0 := by decide

/-! ## The body's run -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [cc0_adamw_small_eq_skeleton]; unfold cc0_adamw_small_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold owns
  iintro ⟨HΦ, Ho,
    ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩,
    ⟨%d12, %f12, %hf12, H12⟩, ⟨%d13, %f13, %hf13, H13⟩, ⟨%d14, %f14, %hf14, H14⟩, ⟨%d15, %f15, %hf15, H15⟩, ⟨%d16, %f16, %hf16, H16⟩,
    ⟨%d17, %f17, %hf17, H17⟩, ⟨%d18, %f18, %hf18, H18⟩, ⟨%d19, %f19, %hf19, H19⟩, ⟨%d20, %f20, %hf20, H20⟩, ⟨%d21, %f21, %hf21, H21⟩,
    ⟨%d22, %f22, %hf22, H22⟩, ⟨%d23, %f23, %hf23, H23⟩, ⟨%d24, %f24, %hf24, H24⟩, ⟨%d25, %f25, %hf25, H25⟩, ⟨%d26, %f26, %hf26, H26⟩,
    ⟨%d27, %f27, %hf27, H27⟩, ⟨%d28, %f28, %hf28, H28⟩, ⟨%d29, %f29, %hf29, H29⟩, ⟨%d30, %f30, %hf30, H30⟩, ⟨%d31, %f31, %hf31, H31⟩,
    ⟨%d32, %f32, %hf32, H32⟩, ⟨%d33, %f33, %hf33, H33⟩, ⟨%d34, %f34, %hf34, H34⟩, ⟨%d35, %f35, %hf35, H35⟩, ⟨%d36, %f36, %hf36, H36⟩,
    ⟨%d37, %f37, %hf37, H37⟩, ⟨%d38, %f38, %hf38, H38⟩, ⟨%d39, %f39, %hf39, H39⟩, ⟨%d40, %f40, %hf40, H40⟩, ⟨%d41, %f41, %hf41, H41⟩,
    ⟨%d42, %f42, %hf42, H42⟩, ⟨%d43, %f43, %hf43, H43⟩, ⟨%d44, %f44, %hf44, H44⟩, ⟨%d45, %f45, %hf45, H45⟩, ⟨%d46, %f46, %hf46, H46⟩,
    ⟨%d47, %f47, %hf47, H47⟩, ⟨%d48, %f48, %hf48, H48⟩, ⟨%d49, %f49, %hf49, H49⟩, ⟨%d50, %f50, %hf50, H50⟩, ⟨%d51, %f51, %hf51, H51⟩,
    ⟨%d52, %f52, %hf52, H52⟩, ⟨%d53, %f53, %hf53, H53⟩, ⟨%d54, %f54, %hf54, H54⟩, ⟨%d55, %f55, %hf55, H55⟩, ⟨%d56, %f56, %hf56, H56⟩,
    ⟨%d57, %f57, %hf57, H57⟩, ⟨%d58, %f58, %hf58, H58⟩, ⟨%d59, %f59, %hf59, H59⟩, ⟨%d60, %f60, %hf60, H60⟩, ⟨%d61, %f61, %hf61, H61⟩,
    ⟨%d62, %f62, %hf62, H62⟩, ⟨%d63, %f63, %hf63, H63⟩, ⟨%d64, %f64, %hf64, H64⟩, ⟨%d65, %f65, %hf65, H65⟩⟩
  replace hf0 : _ = iblk m c 0 t := hf0.trans ((dats m 0 c).before_in_eq_fetched 0 rfl (fun _ => rfl) (fun _ _ _ => rfl) (fun _ => rfl) t d0)
  replace hf1 : _ = iblk m c 1 t := hf1.trans ((dats m 0 c).before_in_eq_fetched 1 rfl (fun _ => rfl) (fun _ _ _ => rfl) (fun _ => rfl) t d1)
  replace hf2 : _ = iblk m c 2 t := hf2.trans ((dats m 0 c).before_in_eq_fetched 2 rfl (fun _ => rfl) (fun _ _ _ => rfl) (fun _ => rfl) t d2)
  replace hf3 : _ = iblk m c 3 t := hf3.trans ((dats m 0 c).before_in_eq_fetched 3 rfl (fun _ => rfl) (fun _ _ _ => rfl) (fun _ => rfl) t d3)
  replace hf4 : _ = iblk m c 4 t := hf4.trans ((dats m 0 c).before_in_eq_fetched 4 rfl (fun _ => rfl) (fun _ _ _ => rfl) (fun _ => rfl) t d4)
  replace hf5 : _ = iblk m c 5 t := hf5.trans ((dats m 0 c).before_in_eq_fetched 5 rfl (fun _ => rfl) (fun _ _ _ => rfl) (fun _ => rfl) t d5)
  replace hf6 : _ = iblk m c 6 t := hf6.trans ((dats m 0 c).before_in_eq_fetched 6 rfl (fun _ => rfl) (fun _ _ _ => rfl) (fun _ => rfl) t d6)
  replace hf7 : _ = iblk m c 7 t := hf7.trans ((dats m 0 c).before_in_eq_fetched 7 rfl (fun _ => rfl) (fun _ _ _ => rfl) (fun _ => rfl) t d7)
  replace hf8 : _ = iblk m c 8 t := hf8.trans ((dats m 0 c).before_in_eq_fetched 8 rfl (fun _ => rfl) (fun _ _ _ => rfl) (fun _ => rfl) t d8)
  replace hf9 : _ = iblk m c 9 t := hf9.trans ((dats m 0 c).before_in_eq_fetched 9 rfl (fun _ => rfl) (fun _ _ _ => rfl) (fun _ => rfl) t d9)
  replace hf10 : _ = iblk m c 10 t := hf10.trans ((dats m 0 c).before_in_eq_fetched 10 rfl (fun _ => rfl) (fun _ _ _ => rfl) (fun _ => rfl) t d10)
  replace hf11 : _ = iblk m c 11 t := hf11.trans ((dats m 0 c).before_in_eq_fetched 11 rfl (fun _ => rfl) (fun _ _ _ => rfl) (fun _ => rfl) t d11)
  replace hf12 : _ = iblk m c 12 t := hf12.trans ((dats m 0 c).before_in_eq_fetched 12 rfl (fun _ => rfl) (fun _ _ _ => rfl) (fun _ => rfl) t d12)
  replace hf13 : _ = iblk m c 13 t := hf13.trans ((dats m 0 c).before_in_eq_fetched 13 rfl (fun _ => rfl) (fun _ _ _ => rfl) (fun _ => rfl) t d13)
  replace hf14 : _ = iblk m c 14 t := hf14.trans ((dats m 0 c).before_in_eq_fetched 14 rfl (fun _ => rfl) (fun _ _ _ => rfl) (fun _ => rfl) t d14)
  replace hf15 : _ = iblk m c 15 t := hf15.trans ((dats m 0 c).before_in_eq_fetched 15 rfl (fun _ => rfl) (fun _ _ _ => rfl) (fun _ => rfl) t d15)
  replace hf16 : _ = iblk m c 16 t := hf16.trans ((dats m 0 c).before_in_eq_fetched 16 rfl (fun _ => rfl) (fun _ _ _ => rfl) (fun _ => rfl) t d16)
  replace hf17 : _ = iblk m c 17 t := hf17.trans ((dats m 0 c).before_in_eq_fetched 17 rfl (fun _ => rfl) (fun _ _ _ => rfl) (fun _ => rfl) t d17)
  replace hf18 : _ = iblk m c 18 t := hf18.trans ((dats m 0 c).before_in_eq_fetched 18 rfl (fun _ => rfl) (fun _ _ _ => rfl) (fun _ => rfl) t d18)
  replace hf19 : _ = iblk m c 19 t := hf19.trans ((dats m 0 c).before_in_eq_fetched 19 rfl (fun _ => rfl) (fun _ _ _ => rfl) (fun _ => rfl) t d19)
  replace hf20 : _ = iblk m c 20 t := hf20.trans ((dats m 0 c).before_in_eq_fetched 20 rfl (fun _ => rfl) (fun _ _ _ => rfl) (fun _ => rfl) t d20)
  replace hf21 : _ = iblk m c 21 t := hf21.trans ((dats m 0 c).before_in_eq_fetched 21 rfl (fun _ => rfl) (fun _ _ _ => rfl) (fun _ => rfl) t d21)
  replace hf22 : _ = iblk m c 22 t := hf22.trans ((dats m 0 c).before_in_eq_fetched 22 rfl (fun _ => rfl) (fun _ _ _ => rfl) (fun _ => rfl) t d22)
  replace hf23 : _ = iblk m c 23 t := hf23.trans ((dats m 0 c).before_in_eq_fetched 23 rfl (fun _ => rfl) (fun _ _ _ => rfl) (fun _ => rfl) t d23)
  replace hf24 : _ = iblk m c 24 t := hf24.trans ((dats m 0 c).before_in_eq_fetched 24 rfl (fun _ => rfl) (fun _ _ _ => rfl) (fun _ => rfl) t d24)
  replace hf25 : _ = iblk m c 25 t := hf25.trans ((dats m 0 c).before_in_eq_fetched 25 rfl (fun _ => rfl) (fun _ _ _ => rfl) (fun _ => rfl) t d25)
  replace hf26 : _ = iblk m c 26 t := hf26.trans ((dats m 0 c).before_in_eq_fetched 26 rfl (fun _ => rfl) (fun _ _ _ => rfl) (fun _ => rfl) t d26)
  replace hf27 : _ = iblk m c 27 t := hf27.trans ((dats m 0 c).before_in_eq_fetched 27 rfl (fun _ => rfl) (fun _ _ _ => rfl) (fun _ => rfl) t d27)
  replace hf28 : _ = iblk m c 28 t := hf28.trans ((dats m 0 c).before_in_eq_fetched 28 rfl (fun _ => rfl) (fun _ _ _ => rfl) (fun _ => rfl) t d28)
  sl_exec
  sl_step
  isplitl [HΦ]; · iexact HΦ
  isplitl [Ho]; · iexact Ho
  isplitl [H0]; · iexists f0; isplitr; (ipureintro; exact hf0); iexact H0
  isplitl [H1]; · iexists f1; isplitr; (ipureintro; exact hf1); iexact H1
  isplitl [H2]; · iexists f2; isplitr; (ipureintro; exact hf2); iexact H2
  isplitl [H3]; · iexists f3; isplitr; (ipureintro; exact hf3); iexact H3
  isplitl [H4]; · iexists f4; isplitr; (ipureintro; exact hf4); iexact H4
  isplitl [H5]; · iexists f5; isplitr; (ipureintro; exact hf5); iexact H5
  isplitl [H6]; · iexists f6; isplitr; (ipureintro; exact hf6); iexact H6
  isplitl [H7]; · iexists f7; isplitr; (ipureintro; exact hf7); iexact H7
  isplitl [H8]; · iexists f8; isplitr; (ipureintro; exact hf8); iexact H8
  isplitl [H9]; · iexists f9; isplitr; (ipureintro; exact hf9); iexact H9
  isplitl [H10]; · iexists f10; isplitr; (ipureintro; exact hf10); iexact H10
  isplitl [H11]; · iexists f11; isplitr; (ipureintro; exact hf11); iexact H11
  isplitl [H12]; · iexists f12; isplitr; (ipureintro; exact hf12); iexact H12
  isplitl [H13]; · iexists f13; isplitr; (ipureintro; exact hf13); iexact H13
  isplitl [H14]; · iexists f14; isplitr; (ipureintro; exact hf14); iexact H14
  isplitl [H15]; · iexists f15; isplitr; (ipureintro; exact hf15); iexact H15
  isplitl [H16]; · iexists f16; isplitr; (ipureintro; exact hf16); iexact H16
  isplitl [H17]; · iexists f17; isplitr; (ipureintro; exact hf17); iexact H17
  isplitl [H18]; · iexists f18; isplitr; (ipureintro; exact hf18); iexact H18
  isplitl [H19]; · iexists f19; isplitr; (ipureintro; exact hf19); iexact H19
  isplitl [H20]; · iexists f20; isplitr; (ipureintro; exact hf20); iexact H20
  isplitl [H21]; · iexists f21; isplitr; (ipureintro; exact hf21); iexact H21
  isplitl [H22]; · iexists f22; isplitr; (ipureintro; exact hf22); iexact H22
  isplitl [H23]; · iexists f23; isplitr; (ipureintro; exact hf23); iexact H23
  isplitl [H24]; · iexists f24; isplitr; (ipureintro; exact hf24); iexact H24
  isplitl [H25]; · iexists f25; isplitr; (ipureintro; exact hf25); iexact H25
  isplitl [H26]; · iexists f26; isplitr; (ipureintro; exact hf26); iexact H26
  isplitl [H27]; · iexists f27; isplitr; (ipureintro; exact hf27); iexact H27
  isplitl [H28]; · iexists f28; isplitr; (ipureintro; exact hf28); iexact H28
  isplitl [H29]; · iexists _; isplitr; swap; (iexact H29); ipureintro; exact (stored _ f29 zero2 _ _).trans (by dsimp only [dats]; rw [← hf0]; rfl)
  isplitl [H30]; · iexists _; isplitr; swap; (iexact H30); ipureintro; exact (stored _ f30 zero2 _ _).trans (by dsimp only [dats]; rw [← hf0, ← hf2, ← hf10, ← hf18]; rfl)
  isplitl [H31]; · iexists _; isplitr; swap; (iexact H31); ipureintro; exact (stored _ f31 zero2 _ _).trans (by dsimp only [dats]; rw [← hf0, ← hf10]; rfl)
  isplitl [H32]; · iexists _; isplitr; swap; (iexact H32); ipureintro; exact (stored _ f32 zero2 _ _).trans (by dsimp only [dats]; rw [← hf0, ← hf18]; rfl)
  isplitl [H33]; · iexists _; isplitr; swap; (iexact H33); ipureintro; exact (stored _ f33 zero2 _ _).trans (by dsimp only [dats]; rw [← hf0]; rfl)
  isplitl [H34]; · iexists _; isplitr; swap; (iexact H34); ipureintro; exact (stored _ f34 zero2 _ _).trans (by dsimp only [dats]; rw [← hf0, ← hf3, ← hf11, ← hf19]; rfl)
  isplitl [H35]; · iexists _; isplitr; swap; (iexact H35); ipureintro; exact (stored _ f35 zero2 _ _).trans (by dsimp only [dats]; rw [← hf0, ← hf11]; rfl)
  isplitl [H36]; · iexists _; isplitr; swap; (iexact H36); ipureintro; exact (stored _ f36 zero2 _ _).trans (by dsimp only [dats]; rw [← hf0, ← hf19]; rfl)
  isplitl [H37]; · iexists _; isplitr; swap; (iexact H37); ipureintro; exact (stored _ f37 zero2 _ _).trans (by dsimp only [dats]; rw [← hf0]; rfl)
  isplitl [H38]; · iexists _; isplitr; swap; (iexact H38); ipureintro; exact (stored _ f38 zero2 _ _).trans (by dsimp only [dats]; rw [← hf0, ← hf4, ← hf12, ← hf20]; rfl)
  isplitl [H39]; · iexists _; isplitr; swap; (iexact H39); ipureintro; exact (stored _ f39 zero2 _ _).trans (by dsimp only [dats]; rw [← hf0, ← hf12]; rfl)
  isplitl [H40]; · iexists _; isplitr; swap; (iexact H40); ipureintro; exact (stored _ f40 zero2 _ _).trans (by dsimp only [dats]; rw [← hf0, ← hf20]; rfl)
  isplitl [H41]; · iexists _; isplitr; swap; (iexact H41); ipureintro; exact (stored _ f41 zero2 _ _).trans (by dsimp only [dats]; rw [← hf0]; rfl)
  isplitl [H42]; · iexists _; isplitr; swap; (iexact H42); ipureintro; exact (stored _ f42 zero2 _ _).trans (by dsimp only [dats]; rw [← hf0, ← hf5, ← hf13, ← hf21]; rfl)
  isplitl [H43]; · iexists _; isplitr; swap; (iexact H43); ipureintro; exact (stored _ f43 zero2 _ _).trans (by dsimp only [dats]; rw [← hf0, ← hf13]; rfl)
  isplitl [H44]; · iexists _; isplitr; swap; (iexact H44); ipureintro; exact (stored _ f44 zero2 _ _).trans (by dsimp only [dats]; rw [← hf0, ← hf21]; rfl)
  isplitl [H45]; · iexists _; isplitr; swap; (iexact H45); ipureintro; exact (stored _ f45 zero2 _ _).trans (by dsimp only [dats]; rw [← hf0]; rfl)
  isplitl [H46]; · iexists _; isplitr; swap; (iexact H46); ipureintro; exact (stored _ f46 zero2 _ _).trans (by dsimp only [dats]; rw [← hf0, ← hf6, ← hf14, ← hf22]; rfl)
  isplitl [H47]; · iexists _; isplitr; swap; (iexact H47); ipureintro; exact (stored _ f47 zero2 _ _).trans (by dsimp only [dats]; rw [← hf0, ← hf14]; rfl)
  isplitl [H48]; · iexists _; isplitr; swap; (iexact H48); ipureintro; exact (stored _ f48 zero2 _ _).trans (by dsimp only [dats]; rw [← hf0, ← hf22]; rfl)
  isplitl [H49]; · iexists _; isplitr; swap; (iexact H49); ipureintro; exact (stored _ f49 zero2 _ _).trans (by dsimp only [dats]; rw [← hf0]; rfl)
  isplitl [H50]; · iexists _; isplitr; swap; (iexact H50); ipureintro; exact (stored _ f50 zero2 _ _).trans (by dsimp only [dats]; rw [← hf0, ← hf7, ← hf15, ← hf23]; rfl)
  isplitl [H51]; · iexists _; isplitr; swap; (iexact H51); ipureintro; exact (stored _ f51 zero2 _ _).trans (by dsimp only [dats]; rw [← hf0, ← hf15]; rfl)
  isplitl [H52]; · iexists _; isplitr; swap; (iexact H52); ipureintro; exact (stored _ f52 zero2 _ _).trans (by dsimp only [dats]; rw [← hf0, ← hf23]; rfl)
  isplitl [H53]; · iexists _; isplitr; swap; (iexact H53); ipureintro; exact (stored _ f53 zero2 _ _).trans (by dsimp only [dats]; rw [← hf0]; rfl)
  isplitl [H54]; · iexists _; isplitr; swap; (iexact H54); ipureintro; exact (stored _ f54 zero2 _ _).trans (by dsimp only [dats]; rw [← hf0, ← hf8, ← hf16, ← hf24]; rfl)
  isplitl [H55]; · iexists _; isplitr; swap; (iexact H55); ipureintro; exact (stored _ f55 zero2 _ _).trans (by dsimp only [dats]; rw [← hf0, ← hf16]; rfl)
  isplitl [H56]; · iexists _; isplitr; swap; (iexact H56); ipureintro; exact (stored _ f56 zero2 _ _).trans (by dsimp only [dats]; rw [← hf0, ← hf24]; rfl)
  isplitl [H57]; · iexists _; isplitr; swap; (iexact H57); ipureintro; exact (stored _ f57 zero2 _ _).trans (by dsimp only [dats]; rw [← hf0]; rfl)
  isplitl [H58]; · iexists _; isplitr; swap; (iexact H58); ipureintro; exact (stored _ f58 zero2 _ _).trans (by dsimp only [dats]; rw [← hf0, ← hf9, ← hf17, ← hf25]; rfl)
  isplitl [H59]; · iexists _; isplitr; swap; (iexact H59); ipureintro; exact (stored _ f59 zero2 _ _).trans (by dsimp only [dats]; rw [← hf0, ← hf17]; rfl)
  isplitl [H60]; · iexists _; isplitr; swap; (iexact H60); ipureintro; exact (stored _ f60 zero2 _ _).trans (by dsimp only [dats]; rw [← hf0, ← hf25]; rfl)
  isplitl [H61]; · iexists _; isplitr; swap; (iexact H61); ipureintro; exact (stored _ f61 zero3 _ _).trans (by dsimp only [dats]; rw [← hf1]; rfl)
  isplitl [H62]; · iexists _; isplitr; swap; (iexact H62); ipureintro; exact (stored _ f62 zero3 _ _).trans (by dsimp only [dats]; rw [← hf1, ← hf26, ← hf27, ← hf28]; rfl)
  isplitl [H63]; · iexists _; isplitr; swap; (iexact H63); ipureintro; exact (stored _ f63 zero3 _ _).trans (by dsimp only [dats]; rw [← hf1, ← hf27]; rfl)
  isplitl [H64]; · iexists _; isplitr; swap; (iexact H64); ipureintro; exact (stored _ f64 zero3 _ _).trans (by dsimp only [dats]; rw [← hf1, ← hf28]; rfl)
  iexists _; isplitr; swap; (iexact H65); ipureintro; exact (stored _ f65 zero2 _ _).trans (by dsimp only [dats]; rw [← hf0]; rfl)

/-- The program's row for the body is the body at the point's buffers. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the call ends at what its windows' points wrote into it, and no counter is left raised. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelAsIdeal.Body

end
-- ==== Proof.AsFrame.lean ====
/- The optimiser's step on the small weights: the call runs, and leaves its arguments as they were. -/
module

public import proofs.«01_k».proof.Proof.AsBody

@[expose] public section

set_option maxRecDepth 16384

noncomputable section

namespace Cert.KernelAsIdeal.Body

open Cert.KernelAsIdeal Cert.KernelAsIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 4000000 in
/-- An argument's array is only read: it ends as launched. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2)),
    ((h c).1 3).trans (((dats m 0 c).arrAt_in 3 rfl _).trans (A_eq m c 3)),
    ((h c).1 4).trans (((dats m 0 c).arrAt_in 4 rfl _).trans (A_eq m c 4)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10)),
    ((h c).1 11).trans (((dats m 0 c).arrAt_in 11 rfl _).trans (A_eq m c 11)),
    ((h c).1 12).trans (((dats m 0 c).arrAt_in 12 rfl _).trans (A_eq m c 12)),
    ((h c).1 13).trans (((dats m 0 c).arrAt_in 13 rfl _).trans (A_eq m c 13)),
    ((h c).1 14).trans (((dats m 0 c).arrAt_in 14 rfl _).trans (A_eq m c 14)),
    ((h c).1 15).trans (((dats m 0 c).arrAt_in 15 rfl _).trans (A_eq m c 15)),
    ((h c).1 16).trans (((dats m 0 c).arrAt_in 16 rfl _).trans (A_eq m c 16)),
    ((h c).1 17).trans (((dats m 0 c).arrAt_in 17 rfl _).trans (A_eq m c 17)),
    ((h c).1 18).trans (((dats m 0 c).arrAt_in 18 rfl _).trans (A_eq m c 18)),
    ((h c).1 19).trans (((dats m 0 c).arrAt_in 19 rfl _).trans (A_eq m c 19)),
    ((h c).1 20).trans (((dats m 0 c).arrAt_in 20 rfl _).trans (A_eq m c 20)),
    ((h c).1 21).trans (((dats m 0 c).arrAt_in 21 rfl _).trans (A_eq m c 21)),
    ((h c).1 22).trans (((dats m 0 c).arrAt_in 22 rfl _).trans (A_eq m c 22)),
    ((h c).1 23).trans (((dats m 0 c).arrAt_in 23 rfl _).trans (A_eq m c 23)),
    ((h c).1 24).trans (((dats m 0 c).arrAt_in 24 rfl _).trans (A_eq m c 24)),
    ((h c).1 25).trans (((dats m 0 c).arrAt_in 25 rfl _).trans (A_eq m c 25)),
    ((h c).1 26).trans (((dats m 0 c).arrAt_in 26 rfl _).trans (A_eq m c 26)),
    ((h c).1 27).trans (((dats m 0 c).arrAt_in 27 rfl _).trans (A_eq m c 27)),
    ((h c).1 28).trans (((dats m 0 c).arrAt_in 28 rfl _).trans (A_eq m c 28))⟩

set_option maxHeartbeats 4000000 in
/-- The call runs, its arguments end unchanged, and no counter is left raised. -/
theorem frame : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) ∧ r.2.sem = fun _ => 0) :=
  (θ_run defs _ _).mono (fun r h => ⟨kept m r h.1, h.2⟩) (run_main m ρ)

end Cert.KernelAsIdeal.Body

end
-- ==== Proof.AsRef.lean ====
/- The optimiser's step on the small weights: the values the body computes, from whole arrays, are the reference's. -/
module

public import proofs.«01_k».proof.Proof.AsBody
public import proofs.«01_k».proof.Proof.Gen.ReferenceAsIdeal.Read
public import Idealize.ShloMosaic.Lib.Pipeline.ValueKit

@[expose] public section

noncomputable section

namespace Cert.KernelAsIdeal.Ref

open Cert.KernelAsIdeal Cert.KernelAsIdeal.Gen Cert.KernelAsIdeal.Body Idealize.ShloMosaic.TcCoe
open Idealize.ShloMosaic
open Cert.ReferenceAsIdeal.Read

/-- A load of a box of an array is the slice of the array there. -/
theorem ld_slice {s : Shape} (x : Vec Ideal s .f32) (off : Fin s.rank → ℕ) (size : Fin s.rank → ℕ) (inb)
    (h : s.Slices off (⟨s.rank, size⟩ : Shape)) :
    View.ld x (Rect.unit (s := s) off size inb) = extractStridedSlice ⟨s.rank, size⟩ off x h :=
  funext fun i => (extractStridedSlice_apply off x h i ((Rect.unit off size inb).idx i) fun a => Rect.idx_unit_val off size inb i a).symm

/-! ## Small weight 0: the gradient, the update and the two moments -/

theorem g0 (x : Vec Ideal S16x1024 .f32) : View.ld x r0_0 = val_main_v0 (F := Ideal) x := ld_slice x _ _ _ _
theorem d0 (x : Vec Ideal S16x1024 .f32) (w m v : Vec Ideal S1x1024 .f32) :
    k0_pay3 (F := Ideal) (View.ld x r0_0) (View.ld w r0_1) (View.ld m r0_1) (View.ld v r0_1) = val_main_v24 (F := Ideal) x w m v := by
  rw [g0, View.ld_unit_zero zero2, View.ld_unit_zero zero2, View.ld_unit_zero zero2]; rfl
theorem m0 (x : Vec Ideal S16x1024 .f32) (m : Vec Ideal S1x1024 .f32) :
    k0_pay1 (F := Ideal) (View.ld x r0_0) (View.ld m r0_1) = val_main_v5 (F := Ideal) x m := by
  rw [g0, View.ld_unit_zero zero2]; rfl
theorem v0 (x : Vec Ideal S16x1024 .f32) (v : Vec Ideal S1x1024 .f32) :
    k0_pay2 (F := Ideal) (View.ld x r0_0) (View.ld v r0_1) = val_main_v11 (F := Ideal) x v := by
  rw [g0, View.ld_unit_zero zero2]; rfl

/-! ## Small weight 1: the gradient, the update and the two moments -/

theorem g1 (x : Vec Ideal S16x1024 .f32) : View.ld x r0_2 = val_main_v25 (F := Ideal) x := ld_slice x _ _ _ _
theorem d1 (x : Vec Ideal S16x1024 .f32) (w m v : Vec Ideal S1x1024 .f32) :
    k0_pay6 (F := Ideal) (View.ld x r0_2) (View.ld w r0_1) (View.ld m r0_1) (View.ld v r0_1) = val_main_v49 (F := Ideal) x w m v := by
  rw [g1, View.ld_unit_zero zero2, View.ld_unit_zero zero2, View.ld_unit_zero zero2]; rfl
theorem m1 (x : Vec Ideal S16x1024 .f32) (m : Vec Ideal S1x1024 .f32) :
    k0_pay4 (F := Ideal) (View.ld x r0_2) (View.ld m r0_1) = val_main_v30 (F := Ideal) x m := by
  rw [g1, View.ld_unit_zero zero2]; rfl
theorem v1 (x : Vec Ideal S16x1024 .f32) (v : Vec Ideal S1x1024 .f32) :
    k0_pay5 (F := Ideal) (View.ld x r0_2) (View.ld v r0_1) = val_main_v36 (F := Ideal) x v := by
  rw [g1, View.ld_unit_zero zero2]; rfl

/-! ## Small weight 2: the gradient, the update and the two moments -/

theorem g2 (x : Vec Ideal S16x1024 .f32) : View.ld x r0_3 = val_main_v50 (F := Ideal) x := ld_slice x _ _ _ _
theorem d2 (x : Vec Ideal S16x1024 .f32) (w m v : Vec Ideal S1x1024 .f32) :
    k0_pay9 (F := Ideal) (View.ld x r0_3) (View.ld w r0_1) (View.ld m r0_1) (View.ld v r0_1) = val_main_v74 (F := Ideal) x w m v := by
  rw [g2, View.ld_unit_zero zero2, View.ld_unit_zero zero2, View.ld_unit_zero zero2]; rfl
theorem m2 (x : Vec Ideal S16x1024 .f32) (m : Vec Ideal S1x1024 .f32) :
    k0_pay7 (F := Ideal) (View.ld x r0_3) (View.ld m r0_1) = val_main_v55 (F := Ideal) x m := by
  rw [g2, View.ld_unit_zero zero2]; rfl
theorem v2 (x : Vec Ideal S16x1024 .f32) (v : Vec Ideal S1x1024 .f32) :
    k0_pay8 (F := Ideal) (View.ld x r0_3) (View.ld v r0_1) = val_main_v61 (F := Ideal) x v := by
  rw [g2, View.ld_unit_zero zero2]; rfl

/-! ## Small weight 3: the gradient, the update and the two moments -/

theorem g3 (x : Vec Ideal S16x1024 .f32) : View.ld x r0_4 = val_main_v75 (F := Ideal) x := ld_slice x _ _ _ _
theorem d3 (x : Vec Ideal S16x1024 .f32) (w m v : Vec Ideal S1x512 .f32) :
    k0_pay12 (F := Ideal) (View.ld x r0_4) (View.ld w r0_5) (View.ld m r0_5) (View.ld v r0_5) = val_main_v99 (F := Ideal) x w m v := by
  rw [g3, View.ld_unit_zero zero2, View.ld_unit_zero zero2, View.ld_unit_zero zero2]; rfl
theorem m3 (x : Vec Ideal S16x1024 .f32) (m : Vec Ideal S1x512 .f32) :
    k0_pay10 (F := Ideal) (View.ld x r0_4) (View.ld m r0_5) = val_main_v80 (F := Ideal) x m := by
  rw [g3, View.ld_unit_zero zero2]; rfl
theorem v3 (x : Vec Ideal S16x1024 .f32) (v : Vec Ideal S1x512 .f32) :
    k0_pay11 (F := Ideal) (View.ld x r0_4) (View.ld v r0_5) = val_main_v86 (F := Ideal) x v := by
  rw [g3, View.ld_unit_zero zero2]; rfl

/-! ## Small weight 4: the gradient, the update and the two moments -/

theorem g4 (x : Vec Ideal S16x1024 .f32) : View.ld x r0_6 = val_main_v100 (F := Ideal) x := ld_slice x _ _ _ _
theorem d4 (x : Vec Ideal S16x1024 .f32) (w m v : Vec Ideal S1x512 .f32) :
    k0_pay15 (F := Ideal) (View.ld x r0_6) (View.ld w r0_5) (View.ld m r0_5) (View.ld v r0_5) = val_main_v124 (F := Ideal) x w m v := by
  rw [g4, View.ld_unit_zero zero2, View.ld_unit_zero zero2, View.ld_unit_zero zero2]; rfl
theorem m4 (x : Vec Ideal S16x1024 .f32) (m : Vec Ideal S1x512 .f32) :
    k0_pay13 (F := Ideal) (View.ld x r0_6) (View.ld m r0_5) = val_main_v105 (F := Ideal) x m := by
  rw [g4, View.ld_unit_zero zero2]; rfl
theorem v4 (x : Vec Ideal S16x1024 .f32) (v : Vec Ideal S1x512 .f32) :
    k0_pay14 (F := Ideal) (View.ld x r0_6) (View.ld v r0_5) = val_main_v111 (F := Ideal) x v := by
  rw [g4, View.ld_unit_zero zero2]; rfl

/-! ## Small weight 5: the gradient, the update and the two moments -/

theorem g5 (x : Vec Ideal S16x1024 .f32) : View.ld x r0_7 = val_main_v125 (F := Ideal) x := ld_slice x _ _ _ _
theorem d5 (x : Vec Ideal S16x1024 .f32) (w m v : Vec Ideal S1x512 .f32) :
    k0_pay18 (F := Ideal) (View.ld x r0_7) (View.ld w r0_5) (View.ld m r0_5) (View.ld v r0_5) = val_main_v149 (F := Ideal) x w m v := by
  rw [g5, View.ld_unit_zero zero2, View.ld_unit_zero zero2, View.ld_unit_zero zero2]; rfl
theorem m5 (x : Vec Ideal S16x1024 .f32) (m : Vec Ideal S1x512 .f32) :
    k0_pay16 (F := Ideal) (View.ld x r0_7) (View.ld m r0_5) = val_main_v130 (F := Ideal) x m := by
  rw [g5, View.ld_unit_zero zero2]; rfl
theorem v5 (x : Vec Ideal S16x1024 .f32) (v : Vec Ideal S1x512 .f32) :
    k0_pay17 (F := Ideal) (View.ld x r0_7) (View.ld v r0_5) = val_main_v136 (F := Ideal) x v := by
  rw [g5, View.ld_unit_zero zero2]; rfl

/-! ## Small weight 6: the gradient, the update and the two moments -/

theorem g6 (x : Vec Ideal S16x1024 .f32) : View.ld x r0_8 = val_main_v150 (F := Ideal) x := ld_slice x _ _ _ _
theorem d6 (x : Vec Ideal S16x1024 .f32) (w m v : Vec Ideal S1x64 .f32) :
    k0_pay21 (F := Ideal) (View.ld x r0_8) (View.ld w r0_9) (View.ld m r0_9) (View.ld v r0_9) = val_main_v174 (F := Ideal) x w m v := by
  rw [g6, View.ld_unit_zero zero2, View.ld_unit_zero zero2, View.ld_unit_zero zero2]; rfl
theorem m6 (x : Vec Ideal S16x1024 .f32) (m : Vec Ideal S1x64 .f32) :
    k0_pay19 (F := Ideal) (View.ld x r0_8) (View.ld m r0_9) = val_main_v155 (F := Ideal) x m := by
  rw [g6, View.ld_unit_zero zero2]; rfl
theorem v6 (x : Vec Ideal S16x1024 .f32) (v : Vec Ideal S1x64 .f32) :
    k0_pay20 (F := Ideal) (View.ld x r0_8) (View.ld v r0_9) = val_main_v161 (F := Ideal) x v := by
  rw [g6, View.ld_unit_zero zero2]; rfl

/-! ## Small weight 7: the gradient, the update and the two moments -/

theorem g7 (x : Vec Ideal S16x1024 .f32) : View.ld x r0_10 = val_main_v175 (F := Ideal) x := ld_slice x _ _ _ _
theorem d7 (x : Vec Ideal S16x1024 .f32) (w m v : Vec Ideal S1x64 .f32) :
    k0_pay24 (F := Ideal) (View.ld x r0_10) (View.ld w r0_9) (View.ld m r0_9) (View.ld v r0_9) = val_main_v199 (F := Ideal) x w m v := by
  rw [g7, View.ld_unit_zero zero2, View.ld_unit_zero zero2, View.ld_unit_zero zero2]; rfl
theorem m7 (x : Vec Ideal S16x1024 .f32) (m : Vec Ideal S1x64 .f32) :
    k0_pay22 (F := Ideal) (View.ld x r0_10) (View.ld m r0_9) = val_main_v180 (F := Ideal) x m := by
  rw [g7, View.ld_unit_zero zero2]; rfl
theorem v7 (x : Vec Ideal S16x1024 .f32) (v : Vec Ideal S1x64 .f32) :
    k0_pay23 (F := Ideal) (View.ld x r0_10) (View.ld v r0_9) = val_main_v186 (F := Ideal) x v := by
  rw [g7, View.ld_unit_zero zero2]; rfl

/-! ## The convolution's taps: the gradient, the update and the two moments -/

theorem g8 (x : Vec Ideal S32x1x128 .f32) : View.ld x r0_11 = val_main_v200 (F := Ideal) x := ld_slice x _ _ _ _
theorem d8 (x : Vec Ideal S32x1x128 .f32) (w m v : Vec Ideal S31x1x64 .f32) :
    k0_pay27 (F := Ideal) (View.ld x r0_11) (View.ld w r0_12) (View.ld m r0_12) (View.ld v r0_12) = val_main_v224 (F := Ideal) x w m v := by
  rw [g8, View.ld_unit_zero zero3, View.ld_unit_zero zero3, View.ld_unit_zero zero3]; rfl
theorem m8 (x : Vec Ideal S32x1x128 .f32) (m : Vec Ideal S31x1x64 .f32) :
    k0_pay25 (F := Ideal) (View.ld x r0_11) (View.ld m r0_12) = val_main_v205 (F := Ideal) x m := by
  rw [g8, View.ld_unit_zero zero3]; rfl
theorem v8 (x : Vec Ideal S32x1x128 .f32) (v : Vec Ideal S31x1x64 .f32) :
    k0_pay26 (F := Ideal) (View.ld x r0_11) (View.ld v r0_12) = val_main_v211 (F := Ideal) x v := by
  rw [g8, View.ld_unit_zero zero3]; rfl

/-! ## The loss -/

theorem loss (x : Vec Ideal S16x1024 .f32) : View.ld x r0_13 = val_main_v225 (F := Ideal) x := ld_slice x _ _ _ _

end Cert.KernelAsIdeal.Ref

end
-- ==== Proof.AsValue.lean ====
/- The optimiser's step on the small weights: the arrays the call leaves are the reference's results. -/
module

public import proofs.«01_k».proof.Proof.AsFrame
public import proofs.«01_k».proof.Proof.AsRef

@[expose] public section

set_option maxRecDepth 16384

noncomputable section

namespace Cert.KernelAsIdeal.Value

open Cert.KernelAsIdeal Cert.KernelAsIdeal.Gen Cert.KernelAsIdeal.Body Cert.KernelAsIdeal.Ref
open Idealize.ShloMosaic Idealize.ShloMosaic.TcCoe Idealize.ShloMosaic.ValueIdx Idealize.SL.Sem
open Cert.ReferenceAsIdeal.Read

/-! ## The call has one point, and every window's block is its array -/

section Blocks

variable (m : (ℓ : Loc nD τ sig) → Buf (Elt Ideal) ℓ) (c : Dev nD) (t : Fin cfg0.N)

theorem blk0 : iblk m c 0 t = V m c main_arg0 := by
  funext y; unfold iblk; blk_ext [(by decide +kernel : ∀ t : Fin cfg0.N, win0_0.index t = ![0, 0])]
theorem blk1 : iblk m c 1 t = V m c main_arg1 := by
  funext y; unfold iblk; blk_ext [(by decide +kernel : ∀ t : Fin cfg0.N, win0_1.index t = ![0, 0, 0])]
theorem blk2 : iblk m c 2 t = V m c main_arg2 := by
  funext y; unfold iblk; blk_ext [(by decide +kernel : ∀ t : Fin cfg0.N, win0_2.index t = ![0, 0])]
theorem blk3 : iblk m c 3 t = V m c main_arg3 := by
  funext y; unfold iblk; blk_ext [(by decide +kernel : ∀ t : Fin cfg0.N, win0_3.index t = ![0, 0])]
theorem blk4 : iblk m c 4 t = V m c main_arg4 := by
  funext y; unfold iblk; blk_ext [(by decide +kernel : ∀ t : Fin cfg0.N, win0_4.index t = ![0, 0])]
theorem blk5 : iblk m c 5 t = V m c main_arg5 := by
  funext y; unfold iblk; blk_ext [(by decide +kernel : ∀ t : Fin cfg0.N, win0_5.index t = ![0, 0])]
theorem blk6 : iblk m c 6 t = V m c main_arg6 := by
  funext y; unfold iblk; blk_ext [(by decide +kernel : ∀ t : Fin cfg0.N, win0_6.index t = ![0, 0])]
theorem blk7 : iblk m c 7 t = V m c main_arg7 := by
  funext y; unfold iblk; blk_ext [(by decide +kernel : ∀ t : Fin cfg0.N, win0_7.index t = ![0, 0])]
theorem blk8 : iblk m c 8 t = V m c main_arg8 := by
  funext y; unfold iblk; blk_ext [(by decide +kernel : ∀ t : Fin cfg0.N, win0_8.index t = ![0, 0])]
theorem blk9 : iblk m c 9 t = V m c main_arg9 := by
  funext y; unfold iblk; blk_ext [(by decide +kernel : ∀ t : Fin cfg0.N, win0_9.index t = ![0, 0])]
theorem blk10 : iblk m c 10 t = V m c main_arg10 := by
  funext y; unfold iblk; blk_ext [(by decide +kernel : ∀ t : Fin cfg0.N, win0_10.index t = ![0, 0])]
theorem blk11 : iblk m c 11 t = V m c main_arg11 := by
  funext y; unfold iblk; blk_ext [(by decide +kernel : ∀ t : Fin cfg0.N, win0_11.index t = ![0, 0])]
theorem blk12 : iblk m c 12 t = V m c main_arg12 := by
  funext y; unfold iblk; blk_ext [(by decide +kernel : ∀ t : Fin cfg0.N, win0_12.index t = ![0, 0])]
theorem blk13 : iblk m c 13 t = V m c main_arg13 := by
  funext y; unfold iblk; blk_ext [(by decide +kernel : ∀ t : Fin cfg0.N, win0_13.index t = ![0, 0])]
theorem blk14 : iblk m c 14 t = V m c main_arg14 := by
  funext y; unfold iblk; blk_ext [(by decide +kernel : ∀ t : Fin cfg0.N, win0_14.index t = ![0, 0])]
theorem blk15 : iblk m c 15 t = V m c main_arg15 := by
  funext y; unfold iblk; blk_ext [(by decide +kernel : ∀ t : Fin cfg0.N, win0_15.index t = ![0, 0])]
theorem blk16 : iblk m c 16 t = V m c main_arg16 := by
  funext y; unfold iblk; blk_ext [(by decide +kernel : ∀ t : Fin cfg0.N, win0_16.index t = ![0, 0])]
theorem blk17 : iblk m c 17 t = V m c main_arg17 := by
  funext y; unfold iblk; blk_ext [(by decide +kernel : ∀ t : Fin cfg0.N, win0_17.index t = ![0, 0])]
theorem blk18 : iblk m c 18 t = V m c main_arg18 := by
  funext y; unfold iblk; blk_ext [(by decide +kernel : ∀ t : Fin cfg0.N, win0_18.index t = ![0, 0])]
theorem blk19 : iblk m c 19 t = V m c main_arg19 := by
  funext y; unfold iblk; blk_ext [(by decide +kernel : ∀ t : Fin cfg0.N, win0_19.index t = ![0, 0])]
theorem blk20 : iblk m c 20 t = V m c main_arg20 := by
  funext y; unfold iblk; blk_ext [(by decide +kernel : ∀ t : Fin cfg0.N, win0_20.index t = ![0, 0])]
theorem blk21 : iblk m c 21 t = V m c main_arg21 := by
  funext y; unfold iblk; blk_ext [(by decide +kernel : ∀ t : Fin cfg0.N, win0_21.index t = ![0, 0])]
theorem blk22 : iblk m c 22 t = V m c main_arg22 := by
  funext y; unfold iblk; blk_ext [(by decide +kernel : ∀ t : Fin cfg0.N, win0_22.index t = ![0, 0])]
theorem blk23 : iblk m c 23 t = V m c main_arg23 := by
  funext y; unfold iblk; blk_ext [(by decide +kernel : ∀ t : Fin cfg0.N, win0_23.index t = ![0, 0])]
theorem blk24 : iblk m c 24 t = V m c main_arg24 := by
  funext y; unfold iblk; blk_ext [(by decide +kernel : ∀ t : Fin cfg0.N, win0_24.index t = ![0, 0])]
theorem blk25 : iblk m c 25 t = V m c main_arg25 := by
  funext y; unfold iblk; blk_ext [(by decide +kernel : ∀ t : Fin cfg0.N, win0_25.index t = ![0, 0])]
theorem blk26 : iblk m c 26 t = V m c main_arg26 := by
  funext y; unfold iblk; blk_ext [(by decide +kernel : ∀ t : Fin cfg0.N, win0_26.index t = ![0, 0, 0])]
theorem blk27 : iblk m c 27 t = V m c main_arg27 := by
  funext y; unfold iblk; blk_ext [(by decide +kernel : ∀ t : Fin cfg0.N, win0_27.index t = ![0, 0, 0])]
theorem blk28 : iblk m c 28 t = V m c main_arg28 := by
  funext y; unfold iblk; blk_ext [(by decide +kernel : ∀ t : Fin cfg0.N, win0_28.index t = ![0, 0, 0])]

end Blocks

/-! ## What the call leaves in each output array -/

variable (m : (ℓ : Loc nD τ sig) → Buf (Elt Ideal) ℓ) (ρ : Dev nD → PrngReg) (c : Dev nD)

theorem left29 : (dats m 0 c).arrAt 29 cfg0.N = val_main_v0 (F := Ideal) (V m c main_arg0) :=
  (dats m 0 c).arrAt_eq_of_after_last 29 t0_0 (by decide +kernel) _ fun j => (congrFun (g0 (iblk m c 0 t0_0)) j).trans (by rw [blk0]; rfl)
theorem left30 : (dats m 0 c).arrAt 30 cfg0.N = val_main_v24 (F := Ideal) (V m c main_arg0) (V m c main_arg2) (V m c main_arg10) (V m c main_arg18) :=
  (dats m 0 c).arrAt_eq_of_after_last 30 t0_0 (by decide +kernel) _ fun j => (congrFun (d0 (iblk m c 0 t0_0) (iblk m c 2 t0_0) (iblk m c 10 t0_0) (iblk m c 18 t0_0)) j).trans (by rw [blk0, blk2, blk10, blk18]; rfl)
theorem left31 : (dats m 0 c).arrAt 31 cfg0.N = val_main_v5 (F := Ideal) (V m c main_arg0) (V m c main_arg10) :=
  (dats m 0 c).arrAt_eq_of_after_last 31 t0_0 (by decide +kernel) _ fun j => (congrFun (m0 (iblk m c 0 t0_0) (iblk m c 10 t0_0)) j).trans (by rw [blk0, blk10]; rfl)
theorem left32 : (dats m 0 c).arrAt 32 cfg0.N = val_main_v11 (F := Ideal) (V m c main_arg0) (V m c main_arg18) :=
  (dats m 0 c).arrAt_eq_of_after_last 32 t0_0 (by decide +kernel) _ fun j => (congrFun (v0 (iblk m c 0 t0_0) (iblk m c 18 t0_0)) j).trans (by rw [blk0, blk18]; rfl)
theorem left33 : (dats m 0 c).arrAt 33 cfg0.N = val_main_v25 (F := Ideal) (V m c main_arg0) :=
  (dats m 0 c).arrAt_eq_of_after_last 33 t0_0 (by decide +kernel) _ fun j => (congrFun (g1 (iblk m c 0 t0_0)) j).trans (by rw [blk0]; rfl)
theorem left34 : (dats m 0 c).arrAt 34 cfg0.N = val_main_v49 (F := Ideal) (V m c main_arg0) (V m c main_arg3) (V m c main_arg11) (V m c main_arg19) :=
  (dats m 0 c).arrAt_eq_of_after_last 34 t0_0 (by decide +kernel) _ fun j => (congrFun (d1 (iblk m c 0 t0_0) (iblk m c 3 t0_0) (iblk m c 11 t0_0) (iblk m c 19 t0_0)) j).trans (by rw [blk0, blk3, blk11, blk19]; rfl)
theorem left35 : (dats m 0 c).arrAt 35 cfg0.N = val_main_v30 (F := Ideal) (V m c main_arg0) (V m c main_arg11) :=
  (dats m 0 c).arrAt_eq_of_after_last 35 t0_0 (by decide +kernel) _ fun j => (congrFun (m1 (iblk m c 0 t0_0) (iblk m c 11 t0_0)) j).trans (by rw [blk0, blk11]; rfl)
theorem left36 : (dats m 0 c).arrAt 36 cfg0.N = val_main_v36 (F := Ideal) (V m c main_arg0) (V m c main_arg19) :=
  (dats m 0 c).arrAt_eq_of_after_last 36 t0_0 (by decide +kernel) _ fun j => (congrFun (v1 (iblk m c 0 t0_0) (iblk m c 19 t0_0)) j).trans (by rw [blk0, blk19]; rfl)
theorem left37 : (dats m 0 c).arrAt 37 cfg0.N = val_main_v50 (F := Ideal) (V m c main_arg0) :=
  (dats m 0 c).arrAt_eq_of_after_last 37 t0_0 (by decide +kernel) _ fun j => (congrFun (g2 (iblk m c 0 t0_0)) j).trans (by rw [blk0]; rfl)
theorem left38 : (dats m 0 c).arrAt 38 cfg0.N = val_main_v74 (F := Ideal) (V m c main_arg0) (V m c main_arg4) (V m c main_arg12) (V m c main_arg20) :=
  (dats m 0 c).arrAt_eq_of_after_last 38 t0_0 (by decide +kernel) _ fun j => (congrFun (d2 (iblk m c 0 t0_0) (iblk m c 4 t0_0) (iblk m c 12 t0_0) (iblk m c 20 t0_0)) j).trans (by rw [blk0, blk4, blk12, blk20]; rfl)
theorem left39 : (dats m 0 c).arrAt 39 cfg0.N = val_main_v55 (F := Ideal) (V m c main_arg0) (V m c main_arg12) :=
  (dats m 0 c).arrAt_eq_of_after_last 39 t0_0 (by decide +kernel) _ fun j => (congrFun (m2 (iblk m c 0 t0_0) (iblk m c 12 t0_0)) j).trans (by rw [blk0, blk12]; rfl)
theorem left40 : (dats m 0 c).arrAt 40 cfg0.N = val_main_v61 (F := Ideal) (V m c main_arg0) (V m c main_arg20) :=
  (dats m 0 c).arrAt_eq_of_after_last 40 t0_0 (by decide +kernel) _ fun j => (congrFun (v2 (iblk m c 0 t0_0) (iblk m c 20 t0_0)) j).trans (by rw [blk0, blk20]; rfl)
theorem left41 : (dats m 0 c).arrAt 41 cfg0.N = val_main_v75 (F := Ideal) (V m c main_arg0) :=
  (dats m 0 c).arrAt_eq_of_after_last 41 t0_0 (by decide +kernel) _ fun j => (congrFun (g3 (iblk m c 0 t0_0)) j).trans (by rw [blk0]; rfl)
theorem left42 : (dats m 0 c).arrAt 42 cfg0.N = val_main_v99 (F := Ideal) (V m c main_arg0) (V m c main_arg5) (V m c main_arg13) (V m c main_arg21) :=
  (dats m 0 c).arrAt_eq_of_after_last 42 t0_0 (by decide +kernel) _ fun j => (congrFun (d3 (iblk m c 0 t0_0) (iblk m c 5 t0_0) (iblk m c 13 t0_0) (iblk m c 21 t0_0)) j).trans (by rw [blk0, blk5, blk13, blk21]; rfl)
theorem left43 : (dats m 0 c).arrAt 43 cfg0.N = val_main_v80 (F := Ideal) (V m c main_arg0) (V m c main_arg13) :=
  (dats m 0 c).arrAt_eq_of_after_last 43 t0_0 (by decide +kernel) _ fun j => (congrFun (m3 (iblk m c 0 t0_0) (iblk m c 13 t0_0)) j).trans (by rw [blk0, blk13]; rfl)
theorem left44 : (dats m 0 c).arrAt 44 cfg0.N = val_main_v86 (F := Ideal) (V m c main_arg0) (V m c main_arg21) :=
  (dats m 0 c).arrAt_eq_of_after_last 44 t0_0 (by decide +kernel) _ fun j => (congrFun (v3 (iblk m c 0 t0_0) (iblk m c 21 t0_0)) j).trans (by rw [blk0, blk21]; rfl)
theorem left45 : (dats m 0 c).arrAt 45 cfg0.N = val_main_v100 (F := Ideal) (V m c main_arg0) :=
  (dats m 0 c).arrAt_eq_of_after_last 45 t0_0 (by decide +kernel) _ fun j => (congrFun (g4 (iblk m c 0 t0_0)) j).trans (by rw [blk0]; rfl)
theorem left46 : (dats m 0 c).arrAt 46 cfg0.N = val_main_v124 (F := Ideal) (V m c main_arg0) (V m c main_arg6) (V m c main_arg14) (V m c main_arg22) :=
  (dats m 0 c).arrAt_eq_of_after_last 46 t0_0 (by decide +kernel) _ fun j => (congrFun (d4 (iblk m c 0 t0_0) (iblk m c 6 t0_0) (iblk m c 14 t0_0) (iblk m c 22 t0_0)) j).trans (by rw [blk0, blk6, blk14, blk22]; rfl)
theorem left47 : (dats m 0 c).arrAt 47 cfg0.N = val_main_v105 (F := Ideal) (V m c main_arg0) (V m c main_arg14) :=
  (dats m 0 c).arrAt_eq_of_after_last 47 t0_0 (by decide +kernel) _ fun j => (congrFun (m4 (iblk m c 0 t0_0) (iblk m c 14 t0_0)) j).trans (by rw [blk0, blk14]; rfl)
theorem left48 : (dats m 0 c).arrAt 48 cfg0.N = val_main_v111 (F := Ideal) (V m c main_arg0) (V m c main_arg22) :=
  (dats m 0 c).arrAt_eq_of_after_last 48 t0_0 (by decide +kernel) _ fun j => (congrFun (v4 (iblk m c 0 t0_0) (iblk m c 22 t0_0)) j).trans (by rw [blk0, blk22]; rfl)
theorem left49 : (dats m 0 c).arrAt 49 cfg0.N = val_main_v125 (F := Ideal) (V m c main_arg0) :=
  (dats m 0 c).arrAt_eq_of_after_last 49 t0_0 (by decide +kernel) _ fun j => (congrFun (g5 (iblk m c 0 t0_0)) j).trans (by rw [blk0]; rfl)
theorem left50 : (dats m 0 c).arrAt 50 cfg0.N = val_main_v149 (F := Ideal) (V m c main_arg0) (V m c main_arg7) (V m c main_arg15) (V m c main_arg23) :=
  (dats m 0 c).arrAt_eq_of_after_last 50 t0_0 (by decide +kernel) _ fun j => (congrFun (d5 (iblk m c 0 t0_0) (iblk m c 7 t0_0) (iblk m c 15 t0_0) (iblk m c 23 t0_0)) j).trans (by rw [blk0, blk7, blk15, blk23]; rfl)
theorem left51 : (dats m 0 c).arrAt 51 cfg0.N = val_main_v130 (F := Ideal) (V m c main_arg0) (V m c main_arg15) :=
  (dats m 0 c).arrAt_eq_of_after_last 51 t0_0 (by decide +kernel) _ fun j => (congrFun (m5 (iblk m c 0 t0_0) (iblk m c 15 t0_0)) j).trans (by rw [blk0, blk15]; rfl)
theorem left52 : (dats m 0 c).arrAt 52 cfg0.N = val_main_v136 (F := Ideal) (V m c main_arg0) (V m c main_arg23) :=
  (dats m 0 c).arrAt_eq_of_after_last 52 t0_0 (by decide +kernel) _ fun j => (congrFun (v5 (iblk m c 0 t0_0) (iblk m c 23 t0_0)) j).trans (by rw [blk0, blk23]; rfl)
theorem left53 : (dats m 0 c).arrAt 53 cfg0.N = val_main_v150 (F := Ideal) (V m c main_arg0) :=
  (dats m 0 c).arrAt_eq_of_after_last 53 t0_0 (by decide +kernel) _ fun j => (congrFun (g6 (iblk m c 0 t0_0)) j).trans (by rw [blk0]; rfl)
theorem left54 : (dats m 0 c).arrAt 54 cfg0.N = val_main_v174 (F := Ideal) (V m c main_arg0) (V m c main_arg8) (V m c main_arg16) (V m c main_arg24) :=
  (dats m 0 c).arrAt_eq_of_after_last 54 t0_0 (by decide +kernel) _ fun j => (congrFun (d6 (iblk m c 0 t0_0) (iblk m c 8 t0_0) (iblk m c 16 t0_0) (iblk m c 24 t0_0)) j).trans (by rw [blk0, blk8, blk16, blk24]; rfl)
theorem left55 : (dats m 0 c).arrAt 55 cfg0.N = val_main_v155 (F := Ideal) (V m c main_arg0) (V m c main_arg16) :=
  (dats m 0 c).arrAt_eq_of_after_last 55 t0_0 (by decide +kernel) _ fun j => (congrFun (m6 (iblk m c 0 t0_0) (iblk m c 16 t0_0)) j).trans (by rw [blk0, blk16]; rfl)
theorem left56 : (dats m 0 c).arrAt 56 cfg0.N = val_main_v161 (F := Ideal) (V m c main_arg0) (V m c main_arg24) :=
  (dats m 0 c).arrAt_eq_of_after_last 56 t0_0 (by decide +kernel) _ fun j => (congrFun (v6 (iblk m c 0 t0_0) (iblk m c 24 t0_0)) j).trans (by rw [blk0, blk24]; rfl)
theorem left57 : (dats m 0 c).arrAt 57 cfg0.N = val_main_v175 (F := Ideal) (V m c main_arg0) :=
  (dats m 0 c).arrAt_eq_of_after_last 57 t0_0 (by decide +kernel) _ fun j => (congrFun (g7 (iblk m c 0 t0_0)) j).trans (by rw [blk0]; rfl)
theorem left58 : (dats m 0 c).arrAt 58 cfg0.N = val_main_v199 (F := Ideal) (V m c main_arg0) (V m c main_arg9) (V m c main_arg17) (V m c main_arg25) :=
  (dats m 0 c).arrAt_eq_of_after_last 58 t0_0 (by decide +kernel) _ fun j => (congrFun (d7 (iblk m c 0 t0_0) (iblk m c 9 t0_0) (iblk m c 17 t0_0) (iblk m c 25 t0_0)) j).trans (by rw [blk0, blk9, blk17, blk25]; rfl)
theorem left59 : (dats m 0 c).arrAt 59 cfg0.N = val_main_v180 (F := Ideal) (V m c main_arg0) (V m c main_arg17) :=
  (dats m 0 c).arrAt_eq_of_after_last 59 t0_0 (by decide +kernel) _ fun j => (congrFun (m7 (iblk m c 0 t0_0) (iblk m c 17 t0_0)) j).trans (by rw [blk0, blk17]; rfl)
theorem left60 : (dats m 0 c).arrAt 60 cfg0.N = val_main_v186 (F := Ideal) (V m c main_arg0) (V m c main_arg25) :=
  (dats m 0 c).arrAt_eq_of_after_last 60 t0_0 (by decide +kernel) _ fun j => (congrFun (v7 (iblk m c 0 t0_0) (iblk m c 25 t0_0)) j).trans (by rw [blk0, blk25]; rfl)
theorem left61 : (dats m 0 c).arrAt 61 cfg0.N = val_main_v200 (F := Ideal) (V m c main_arg1) :=
  (dats m 0 c).arrAt_eq_of_after_last 61 t0_0 (by decide +kernel) _ fun j => (congrFun (g8 (iblk m c 1 t0_0)) j).trans (by rw [blk1]; rfl)
theorem left62 : (dats m 0 c).arrAt 62 cfg0.N = val_main_v224 (F := Ideal) (V m c main_arg1) (V m c main_arg26) (V m c main_arg27) (V m c main_arg28) :=
  (dats m 0 c).arrAt_eq_of_after_last 62 t0_0 (by decide +kernel) _ fun j => (congrFun (d8 (iblk m c 1 t0_0) (iblk m c 26 t0_0) (iblk m c 27 t0_0) (iblk m c 28 t0_0)) j).trans (by rw [blk1, blk26, blk27, blk28]; rfl)
theorem left63 : (dats m 0 c).arrAt 63 cfg0.N = val_main_v205 (F := Ideal) (V m c main_arg1) (V m c main_arg27) :=
  (dats m 0 c).arrAt_eq_of_after_last 63 t0_0 (by decide +kernel) _ fun j => (congrFun (m8 (iblk m c 1 t0_0) (iblk m c 27 t0_0)) j).trans (by rw [blk1, blk27]; rfl)
theorem left64 : (dats m 0 c).arrAt 64 cfg0.N = val_main_v211 (F := Ideal) (V m c main_arg1) (V m c main_arg28) :=
  (dats m 0 c).arrAt_eq_of_after_last 64 t0_0 (by decide +kernel) _ fun j => (congrFun (v8 (iblk m c 1 t0_0) (iblk m c 28 t0_0)) j).trans (by rw [blk1, blk28]; rfl)
theorem left65 : (dats m 0 c).arrAt 65 cfg0.N = val_main_v225 (F := Ideal) (V m c main_arg0) :=
  (dats m 0 c).arrAt_eq_of_after_last 65 t0_0 (by decide +kernel) _ fun j => (congrFun (loss (iblk m c 0 t0_0)) j).trans (by rw [blk0]; rfl)

/-! ## The run -/

set_option maxHeartbeats 4000000 in
/-- The run leaves every array of the call at the reference's result of the arguments, and the arguments as they were. -/
theorem run_values : θ_run defs (onTc (τ := τ) (main (F := Ideal))) (s₀ m ρ) (fun r => ∀ c : Dev nD,
    r.2.mem ((c.tc : Thread nD τ).loc main_v0_0) = val_main_v0 (F := Ideal) (V m c main_arg0)
      ∧ r.2.mem ((c.tc : Thread nD τ).loc main_v0_1) = val_main_v24 (F := Ideal) (V m c main_arg0) (V m c main_arg2) (V m c main_arg10) (V m c main_arg18)
      ∧ r.2.mem ((c.tc : Thread nD τ).loc main_v0_2) = val_main_v5 (F := Ideal) (V m c main_arg0) (V m c main_arg10)
      ∧ r.2.mem ((c.tc : Thread nD τ).loc main_v0_3) = val_main_v11 (F := Ideal) (V m c main_arg0) (V m c main_arg18)
      ∧ r.2.mem ((c.tc : Thread nD τ).loc main_v0_4) = val_main_v25 (F := Ideal) (V m c main_arg0)
      ∧ r.2.mem ((c.tc : Thread nD τ).loc main_v0_5) = val_main_v49 (F := Ideal) (V m c main_arg0) (V m c main_arg3) (V m c main_arg11) (V m c main_arg19)
      ∧ r.2.mem ((c.tc : Thread nD τ).loc main_v0_6) = val_main_v30 (F := Ideal) (V m c main_arg0) (V m c main_arg11)
      ∧ r.2.mem ((c.tc : Thread nD τ).loc main_v0_7) = val_main_v36 (F := Ideal) (V m c main_arg0) (V m c main_arg19)
      ∧ r.2.mem ((c.tc : Thread nD τ).loc main_v0_8) = val_main_v50 (F := Ideal) (V m c main_arg0)
      ∧ r.2.mem ((c.tc : Thread nD τ).loc main_v0_9) = val_main_v74 (F := Ideal) (V m c main_arg0) (V m c main_arg4) (V m c main_arg12) (V m c main_arg20)
      ∧ r.2.mem ((c.tc : Thread nD τ).loc main_v0_10) = val_main_v55 (F := Ideal) (V m c main_arg0) (V m c main_arg12)
      ∧ r.2.mem ((c.tc : Thread nD τ).loc main_v0_11) = val_main_v61 (F := Ideal) (V m c main_arg0) (V m c main_arg20)
      ∧ r.2.mem ((c.tc : Thread nD τ).loc main_v0_12) = val_main_v75 (F := Ideal) (V m c main_arg0)
      ∧ r.2.mem ((c.tc : Thread nD τ).loc main_v0_13) = val_main_v99 (F := Ideal) (V m c main_arg0) (V m c main_arg5) (V m c main_arg13) (V m c main_arg21)
      ∧ r.2.mem ((c.tc : Thread nD τ).loc main_v0_14) = val_main_v80 (F := Ideal) (V m c main_arg0) (V m c main_arg13)
      ∧ r.2.mem ((c.tc : Thread nD τ).loc main_v0_15) = val_main_v86 (F := Ideal) (V m c main_arg0) (V m c main_arg21)
      ∧ r.2.mem ((c.tc : Thread nD τ).loc main_v0_16) = val_main_v100 (F := Ideal) (V m c main_arg0)
      ∧ r.2.mem ((c.tc : Thread nD τ).loc main_v0_17) = val_main_v124 (F := Ideal) (V m c main_arg0) (V m c main_arg6) (V m c main_arg14) (V m c main_arg22)
      ∧ r.2.mem ((c.tc : Thread nD τ).loc main_v0_18) = val_main_v105 (F := Ideal) (V m c main_arg0) (V m c main_arg14)
      ∧ r.2.mem ((c.tc : Thread nD τ).loc main_v0_19) = val_main_v111 (F := Ideal) (V m c main_arg0) (V m c main_arg22)
      ∧ r.2.mem ((c.tc : Thread nD τ).loc main_v0_20) = val_main_v125 (F := Ideal) (V m c main_arg0)
      ∧ r.2.mem ((c.tc : Thread nD τ).loc main_v0_21) = val_main_v149 (F := Ideal) (V m c main_arg0) (V m c main_arg7) (V m c main_arg15) (V m c main_arg23)
      ∧ r.2.mem ((c.tc : Thread nD τ).loc main_v0_22) = val_main_v130 (F := Ideal) (V m c main_arg0) (V m c main_arg15)
      ∧ r.2.mem ((c.tc : Thread nD τ).loc main_v0_23) = val_main_v136 (F := Ideal) (V m c main_arg0) (V m c main_arg23)
      ∧ r.2.mem ((c.tc : Thread nD τ).loc main_v0_24) = val_main_v150 (F := Ideal) (V m c main_arg0)
      ∧ r.2.mem ((c.tc : Thread nD τ).loc main_v0_25) = val_main_v174 (F := Ideal) (V m c main_arg0) (V m c main_arg8) (V m c main_arg16) (V m c main_arg24)
      ∧ r.2.mem ((c.tc : Thread nD τ).loc main_v0_26) = val_main_v155 (F := Ideal) (V m c main_arg0) (V m c main_arg16)
      ∧ r.2.mem ((c.tc : Thread nD τ).loc main_v0_27) = val_main_v161 (F := Ideal) (V m c main_arg0) (V m c main_arg24)
      ∧ r.2.mem ((c.tc : Thread nD τ).loc main_v0_28) = val_main_v175 (F := Ideal) (V m c main_arg0)
      ∧ r.2.mem ((c.tc : Thread nD τ).loc main_v0_29) = val_main_v199 (F := Ideal) (V m c main_arg0) (V m c main_arg9) (V m c main_arg17) (V m c main_arg25)
      ∧ r.2.mem ((c.tc : Thread nD τ).loc main_v0_30) = val_main_v180 (F := Ideal) (V m c main_arg0) (V m c main_arg17)
      ∧ r.2.mem ((c.tc : Thread nD τ).loc main_v0_31) = val_main_v186 (F := Ideal) (V m c main_arg0) (V m c main_arg25)
      ∧ r.2.mem ((c.tc : Thread nD τ).loc main_v0_32) = val_main_v200 (F := Ideal) (V m c main_arg1)
      ∧ r.2.mem ((c.tc : Thread nD τ).loc main_v0_33) = val_main_v224 (F := Ideal) (V m c main_arg1) (V m c main_arg26) (V m c main_arg27) (V m c main_arg28)
      ∧ r.2.mem ((c.tc : Thread nD τ).loc main_v0_34) = val_main_v205 (F := Ideal) (V m c main_arg1) (V m c main_arg27)
      ∧ r.2.mem ((c.tc : Thread nD τ).loc main_v0_35) = val_main_v211 (F := Ideal) (V m c main_arg1) (V m c main_arg28)
      ∧ r.2.mem ((c.tc : Thread nD τ).loc main_v0_36) = val_main_v225 (F := Ideal) (V m c main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨((h.1 c).1 29).trans (left29 m c),
    ((h.1 c).1 30).trans (left30 m c),
    ((h.1 c).1 31).trans (left31 m c),
    ((h.1 c).1 32).trans (left32 m c),
    ((h.1 c).1 33).trans (left33 m c),
    ((h.1 c).1 34).trans (left34 m c),
    ((h.1 c).1 35).trans (left35 m c),
    ((h.1 c).1 36).trans (left36 m c),
    ((h.1 c).1 37).trans (left37 m c),
    ((h.1 c).1 38).trans (left38 m c),
    ((h.1 c).1 39).trans (left39 m c),
    ((h.1 c).1 40).trans (left40 m c),
    ((h.1 c).1 41).trans (left41 m c),
    ((h.1 c).1 42).trans (left42 m c),
    ((h.1 c).1 43).trans (left43 m c),
    ((h.1 c).1 44).trans (left44 m c),
    ((h.1 c).1 45).trans (left45 m c),
    ((h.1 c).1 46).trans (left46 m c),
    ((h.1 c).1 47).trans (left47 m c),
    ((h.1 c).1 48).trans (left48 m c),
    ((h.1 c).1 49).trans (left49 m c),
    ((h.1 c).1 50).trans (left50 m c),
    ((h.1 c).1 51).trans (left51 m c),
    ((h.1 c).1 52).trans (left52 m c),
    ((h.1 c).1 53).trans (left53 m c),
    ((h.1 c).1 54).trans (left54 m c),
    ((h.1 c).1 55).trans (left55 m c),
    ((h.1 c).1 56).trans (left56 m c),
    ((h.1 c).1 57).trans (left57 m c),
    ((h.1 c).1 58).trans (left58 m c),
    ((h.1 c).1 59).trans (left59 m c),
    ((h.1 c).1 60).trans (left60 m c),
    ((h.1 c).1 61).trans (left61 m c),
    ((h.1 c).1 62).trans (left62 m c),
    ((h.1 c).1 63).trans (left63 m c),
    ((h.1 c).1 64).trans (left64 m c),
    ((h.1 c).1 65).trans (left65 m c),
    kept m r h.1 c⟩) (run_main m ρ)

end Cert.KernelAsIdeal.Value

end
-- ==== Proof.Reals.lean ====
/- Extended reals that are real numbers: the arithmetic of the step closes over them, and on them it is the arithmetic
   of the real field. -/
module

public import Idealize.ShloMosaic.PureOps.Ideal
public import Idealize.ShloMosaic.PureOps.Ideal.Laws

@[expose] public section

noncomputable section

namespace Cert.Reals

open Idealize.ShloMosaic

/-- `x` is a real number, not an infinity. -/
def IsReal (x : EReal) : Prop := ∃ r : ℝ, x = (r : EReal)

theorem isReal_coe (r : ℝ) : IsReal (r : EReal) := ⟨r, rfl⟩

theorem isReal_of_bounds {x : EReal} (hb : ⊥ < x) (ht : x < ⊤) : IsReal x :=
  ⟨x.toReal, (EReal.coe_toReal ht.ne hb.ne').symm⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (hf : ∀ i, IsReal (f i)) : IsReal (∑ i ∈ s, f i) := by
  choose g hg using hf
  exact ⟨∑ i ∈ s, g i, by rw [coe_sum]; exact Finset.sum_congr rfl fun i _ => hg i⟩

/-! ## The constants -/

theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
/-- The norm's epsilon, the real number that its pattern denotes, is positive. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity
theorem ofBits_zero : Ideal.ofBits .f32 0x00000000#32 = ((0 : ℝ) : EReal) := by
  simp [Ideal.ofBits, Ideal.ieee]
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]

/-! ## The elementary functions -/

theorem div_real (a b : ℝ) (hb : b ≠ 0) : Ideal.div (a : EReal) (b : EReal) = ((a / b : ℝ) : EReal) := by
  rw [Ideal.div_coe hb, ← EReal.coe_mul]; congr 1; ring

theorem rsqrt_real (a : ℝ) (ha : 0 < a) : Ideal.rsqrt (a : EReal) = (((Real.sqrt a)⁻¹ : ℝ) : EReal) := by
  rw [Ideal.rsqrt_coe, if_neg ha.le.not_gt, if_neg ha.ne']

/-- The logistic function by the hyperbolic tangent of half the argument. -/
theorem sigmoid_tanh (x : ℝ) : 1 / 2 * (Real.tanh (1 / 2 * x) + 1) = 1 / (1 + Real.exp (-x)) := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  rw [Real.tanh_eq_sinh_div_cosh, Real.sinh_eq, Real.cosh_eq, h]
  set a := Real.exp (1 / 2 * x)
  set b := Real.exp (-(1 / 2 * x))
  have ha : 0 < a := Real.exp_pos _
  have hb : 0 < b := Real.exp_pos _
  have : a + b ≠ 0 := by positivity
  have : 1 + b * b ≠ 0 := by positivity
  field_simp
  linear_combination 2 * b * h1

end Cert.Reals

end
-- ==== Proof.Finite.lean ====
/- What the claim's precondition says: every element of every argument is a real number. -/
module

public import proofs.«01_k».proof.Defs
public import proofs.«01_k».proof.Proof.Gen.Pre_finite
public import proofs.«01_k».proof.Proof.Reals
public import Idealize.ShloMosaic.Lib.ReduceAll
public import Idealize.ShloMosaic.Lib.WordCmp

@[expose] public section

noncomputable section

namespace Cert.Pre_finite

open Idealize.ShloMosaic Cert.Reals

/-- Above minus infinity and below plus infinity, as the predicate's words compare, is a real number. -/
theorem isReal_of_words {s : Shape} (x : FVec Ideal s .f32) (hb : S_.BroadcastsInDim s ![]) (i : s.Idx)
    (h : andi (cmpf .ogt x (broadcastInDim s ![] hb (constant S_ .f32 0xFF800000#32)))
      (cmpf .olt x (broadcastInDim s ![] hb (constant S_ .f32 0x7F800000#32))) i = 1#1) : IsReal (x i) := by
  obtain ⟨h1, h2⟩ := IntOp.andi_eq_one.1 h
  have e1 : BitVec.ofBool (decide (Ideal.ofBits .f32 0xFF800000#32 < x i)) = 1#1 := h1
  have e2 : BitVec.ofBool (decide (x i < Ideal.ofBits .f32 0x7F800000#32)) = 1#1 := h2
  rw [ofBits_bot] at e1
  rw [ofBits_top] at e2
  exact isReal_of_bounds (by by_contra hn; simp [hn] at e1) (by by_contra hn; simp [hn] at e2)

instance : Subsingleton S_.Idx := ⟨fun a b => funext fun k => k.elim0⟩

/-- The precondition, element by element. -/
theorem reals (x0 : FVec Ideal S4096x1024 .f32) (x1 : FVec Ideal S1x1024 .f32) (x2 x3 : FVec Ideal S1024x2816 .f32)
    (x4 : FVec Ideal S2816x1024 .f32) (x5 : FVec Ideal S4096x1024 .f32) (i : S_.Idx)
    (h : fn (F := Ideal) x0 x1 x2 x3 x4 x5 i = 1#1) :
    (∀ i, IsReal (x0 i)) ∧ (∀ i, IsReal (x1 i)) ∧ (∀ i, IsReal (x2 i)) ∧ (∀ i, IsReal (x3 i)) ∧ (∀ i, IsReal (x4 i))
      ∧ ∀ i, IsReal (x5 i) := by
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun j => isReal_of_words x0 _ j (Host.reduce_andi_all _ _ _ _ i h0 j),
    fun j => isReal_of_words x1 _ j (Host.reduce_andi_all _ _ _ _ i h1 j),
    fun j => isReal_of_words x2 _ j (Host.reduce_andi_all _ _ _ _ i h2 j),
    fun j => isReal_of_words x3 _ j (Host.reduce_andi_all _ _ _ _ i h3 j),
    fun j => isReal_of_words x4 _ j (Host.reduce_andi_all _ _ _ _ i h4 j),
    fun j => isReal_of_words x5 _ j (Host.reduce_andi_all _ _ _ _ i h5 j)⟩

end Cert.Pre_finite

end
-- ==== Proof.Rows.lean ====
/- The kernel's arithmetic on one row, and that on real numbers it is the reference's: the gated unit's two factors, and the
   norm's gradient. -/
module

public import proofs.«01_k».proof.Proof.Reals

@[expose] public section

noncomputable section

namespace Cert.Rows

open Idealize.ShloMosaic Cert.Reals

/-- One, the half, the row's length and the norm's epsilon, as the programs' literals denote them. -/
abbrev one : EReal := Ideal.ofBits .f32 0x3F800000#32
abbrev half : EReal := Ideal.ofBits .f32 0x3F000000#32
abbrev len : EReal := Ideal.ofBits .f32 0x44800000#32
abbrev eps : EReal := Ideal.ofBits .f32 0x358637BD#32
abbrev zero : EReal := Ideal.ofBits .f32 0x00000000#32

/-- The logistic function as the kernel computes it, and as the reference does. -/
def sigK (g : EReal) : EReal := half * (Ideal.tanh (half * g) + one)
def sigR (g : EReal) : EReal := Ideal.div one (one + Ideal.exp (-g))

/-- The gate's gradient and the up product's, from the gradient `da` at the activation, as the kernel computes them. -/
def dgK (da g u : EReal) : EReal := da * u * (sigK g * (one + g * (one - sigK g)))
def duK (da g : EReal) : EReal := da * (g * sigK g)

theorem sigK_real (g : ℝ) : sigK g = ((1 / (1 + Real.exp (-g)) : ℝ) : EReal) := by
  unfold sigK half one
  rw [ofBits_half, ofBits_one, ← sigmoid_tanh, ← EReal.coe_mul, Ideal.tanh_coe, ← EReal.coe_add, ← EReal.coe_mul]

theorem sigR_real (g : ℝ) : sigR g = ((1 / (1 + Real.exp (-g)) : ℝ) : EReal) := by
  have h : (1 : ℝ) + Real.exp (-g) ≠ 0 := by positivity
  unfold sigR one
  rw [ofBits_one, ← EReal.coe_neg, Ideal.exp_coe, ← EReal.coe_add, div_real _ _ h]

theorem sigR_isReal {g : EReal} (hg : IsReal g) : IsReal (sigR g) := by
  obtain ⟨g, rfl⟩ := hg; exact ⟨_, sigR_real g⟩

theorem one_isReal : IsReal one := ⟨_, ofBits_one⟩
theorem half_isReal : IsReal half := ⟨_, ofBits_half⟩

/-- The gate's gradient as the reference computes it: the product rule's two terms. -/
theorem dgK_eq {da g u : EReal} (hda : IsReal da) (hg : IsReal g) (hu : IsReal u) :
    dgK da g u = da * u * sigR g + g * (da * u) * (sigR g * (one - sigR g)) := by
  obtain ⟨da, rfl⟩ := hda; obtain ⟨g, rfl⟩ := hg; obtain ⟨u, rfl⟩ := hu
  unfold dgK one
  rw [sigK_real, sigR_real, ofBits_one]
  norm_cast
  ring

theorem duK_eq {da g : EReal} (hda : IsReal da) (hg : IsReal g) : duK da g = g * sigR g * da := by
  obtain ⟨da, rfl⟩ := hda; obtain ⟨g, rfl⟩ := hg
  unfold duK
  rw [sigK_real, sigR_real]
  norm_cast
  ring

/-! ## The norm -/

/-- A row's mean square plus epsilon, and its inverse root. -/
def msq (x : Fin 1024 → EReal) : EReal := Ideal.div (∑ k, x k * x k) len + eps
def rms (x : Fin 1024 → EReal) : EReal := Ideal.rsqrt (msq x)

/-- The row's gradient at element `j` as the kernel computes it: through the normed row's mean product with the gradient. -/
def dxK (dn x gain : Fin 1024 → EReal) (ct : EReal) (j : Fin 1024) : EReal :=
  ct + rms x * (dn j * gain j - x j * rms x * Ideal.div (∑ k, dn k * gain k * (x k * rms x)) len)

/-- The mean square's own gradient, halved: what the reference adds twice, times the row. -/
def dms (dn x gain : Fin 1024 → EReal) : EReal :=
  Ideal.div ((∑ k, x k * (dn k * gain k)) * (Ideal.ofBits .f32 0xBF000000#32 * Ideal.div (rms x) (msq x))) len

/-- A row of real numbers has a positive mean square plus epsilon, and its inverse root squared is its inverse. -/
theorem norm_real (x : Fin 1024 → ℝ) :
    ∃ q r : ℝ, q ≠ 0 ∧ 0 ≤ r ∧ r * r = 1 / q ∧ msq (fun k => (x k : EReal)) = (q : EReal) ∧ rms (fun k => (x k : EReal)) = (r : EReal) := by
  obtain ⟨e, he, hb⟩ := ofBits_eps
  have hq : 0 < (∑ k, x k * x k) / 1024 + e := by
    have : 0 ≤ ∑ k, x k * x k := Finset.sum_nonneg fun k _ => mul_self_nonneg _
    positivity
  have hm : msq (fun k => (x k : EReal)) = (((∑ k, x k * x k) / 1024 + e : ℝ) : EReal) := by
    unfold msq len eps
    rw [hb, ofBits_1024, EReal.coe_add, ← div_real _ _ (by norm_num), coe_sum]
    simp only [EReal.coe_mul]
  refine ⟨_, (Real.sqrt ((∑ k, x k * x k) / 1024 + e))⁻¹, hq.ne', by positivity, ?_, hm, ?_⟩
  · rw [← mul_inv, Real.mul_self_sqrt hq.le, one_div]
  · unfold rms
    rw [hm, rsqrt_real _ hq]

/-- A row with an infinity has an infinite mean square. -/
theorem norm_top {x : Fin 1024 → EReal} (hx : ¬∀ k, IsReal (x k)) : msq x = ⊤ ∧ rms x = 0 := by
  obtain ⟨e, he, hb⟩ := ofBits_eps
  obtain ⟨k, hk⟩ := not_forall.1 hx
  have hsq : ∀ y : EReal, 0 ≤ y * y := fun y => by
    induction y with
    | bot => simp
    | top => simp
    | coe y => exact_mod_cast mul_self_nonneg y
  have htop : x k * x k = ⊤ := by
    generalize x k = y at hk
    induction y with
    | bot => simp
    | top => simp
    | coe y => exact absurd ⟨y, rfl⟩ hk
  have hsum : ∑ k, x k * x k = ⊤ :=
    top_le_iff.1 (htop.symm.le.trans (Finset.single_le_sum (f := fun k => x k * x k) (fun k _ => hsq _) (Finset.mem_univ k)))
  have hm : msq x = ⊤ := by
    unfold msq len eps
    rw [hsum, hb, ofBits_1024, Ideal.div_coe (by norm_num), EReal.top_mul_coe_of_pos (by norm_num), EReal.top_add_coe]
  exact ⟨hm, by unfold rms; rw [hm, Ideal.rsqrt_top]⟩

theorem rms_isReal {x : Fin 1024 → EReal} (hx : ∀ k, IsReal (x k)) : IsReal (rms x) := by
  choose x' hx' using hx
  obtain rfl : x = fun k => (x' k : EReal) := funext hx'
  obtain ⟨_, r, _, _, _, _, h⟩ := norm_real x'
  exact ⟨r, h⟩

/-- A real number times a sum, and twice a product by a real number. -/
theorem sum_mul_real {ι : Type*} (s : Finset ι) (f : ι → EReal) {r : ℝ} (hr : 0 ≤ r) : (∑ k ∈ s, f k) * (r : EReal) = ∑ k ∈ s, f k * r := by
  classical
  induction s using Finset.induction_on with
  | empty => simp
  | insert a s ha ih => rw [Finset.sum_insert ha, Finset.sum_insert ha,
      EReal.right_distrib_of_nonneg_of_ne_top (EReal.coe_nonneg.2 hr) (EReal.coe_ne_top r), ih]

theorem mul_real_twice (S : EReal) (a : ℝ) : S * (a : EReal) + S * a = S * ((2 * a : ℝ) : EReal) := by
  have h : ∀ y : EReal, y + y = y * ((2 : ℝ) : EReal) := fun y => by
    induction y with
    | bot => rw [EReal.bot_mul_coe_of_pos (by norm_num)]; rfl
    | top => rw [EReal.top_mul_coe_of_pos (by norm_num)]; rfl
    | coe y => norm_cast; ring
  rw [h, mul_assoc, ← EReal.coe_mul, mul_comm a 2]

/-- The kernel's gradient of a row is the reference's, whatever the row, the weights and the gradients: a row with an infinity has a
    zero inverse root, and in any other row the inverse root is a positive real number, which distributes over the sums. -/
theorem dxK_eq (dn x gain : Fin 1024 → EReal) (ct : EReal) (j : Fin 1024) :
    dxK dn x gain ct j = ct + dn j * gain j * rms x + x j * dms dn x gain + dms dn x gain * x j := by
  by_cases hx : ∀ k, IsReal (x k)
  · choose x' hx' using hx
    obtain rfl : x = fun k => (x' k : EReal) := funext hx'
    obtain ⟨q, r, hq, hr, hrr, hm, hrms⟩ := norm_real x'
    have h1 : (∑ k, dn k * gain k * ((x' k : EReal) * (r : EReal))) = (∑ k, (x' k : EReal) * (dn k * gain k)) * (r : EReal) := by
      rw [sum_mul_real _ _ hr]
      exact Finset.sum_congr rfl fun k _ => by rw [← mul_assoc, mul_comm (dn k * gain k)]
    have hrq : r / q = r * (r * r) := by rw [hrr]; ring
    unfold dxK dms len
    rw [hrms, hm, h1, ofBits_1024, ofBits_neg_half, div_real _ _ hq, hrq, Ideal.div_coe (by norm_num), Ideal.div_coe (by norm_num)]
    generalize (∑ k, (x' k : EReal) * (dn k * gain k)) = S
    rw [sub_eq_add_neg, EReal.left_distrib_of_nonneg_of_ne_top (EReal.coe_nonneg.2 hr) (EReal.coe_ne_top r), add_assoc, add_assoc,
      mul_comm (r : EReal) (dn j * gain j)]
    refine congrArg (ct + ·) (congrArg (dn j * gain j * (r : EReal) + ·) ?_)
    have hl : ∀ a b c : ℝ, (r : EReal) * -((a : EReal) * (b : EReal) * (S * (r : EReal) * (c : EReal))) = S * ((-(a * b * (r * r) * c) : ℝ) : EReal) := fun a b c => by
      rw [← EReal.neg_mul, ← EReal.neg_mul, ← EReal.coe_neg]
      have e : (-(a * b * (r * r) * c) : ℝ) = r * (-a * b * (r * c)) := by ring
      rw [e]
      push_cast
      ac_rfl
    have hd : ∀ b c : ℝ, S * (b : EReal) * (c : EReal) * (x' j : EReal) = S * ((b * c * x' j : ℝ) : EReal) := fun b c => by
      push_cast
      ac_rfl
    rw [hl, mul_comm (x' j : EReal) (S * _ * _), ← EReal.coe_mul (-(1 / 2)), hd, mul_real_twice]
    refine congrArg (fun z : ℝ => S * (z : EReal)) ?_
    ring
  · obtain ⟨hm, hr⟩ := norm_top hx
    unfold dxK dms len
    rw [hm, hr, ofBits_1024]
    simp [Ideal.div]

end Cert.Rows

end
-- ==== Proof.Pay.lean ====
/- The body's stored values, read at an element. -/
module

public import proofs.«01_k».proof.Proof.Gen.KernelIdeal.Value
public import proofs.«01_k».proof.Proof.Rows
public import Idealize.ShloMosaic.Lib.ValueIdx

@[expose] public section

noncomputable section

namespace Cert.KernelIdeal.Pay

open Cert.KernelIdeal Cert.KernelIdeal.Gen Idealize.ShloMosaic Idealize.ShloMosaic.TcCoe Idealize.ShloMosaic.ValueIdx Cert.Rows

/-! ## The products -/

/-- A block of rows against 256 rows of the down projection: both contracted along their own rows. -/
theorem dotNT_apply (lhs rhs : FVec Ideal S256x1024 .bf16) (p q : Fin 256) :
    FloatOps.matmul (F := Ideal) dot_S256x1024_S256x1024_S256x256_1_1_0_0_n_n none lhs rhs (constant S256x256 .f32 0x00000000#32) (ix2 p q)
      = ∑ k : Fin 1024, lhs (ix2 p k) * rhs (ix2 q k) := by
  rw [Ideal.matmul_constant_zero_apply]
  rw [← Equiv.sum_comp (contrEquiv1 dot_S256x1024_S256x1024_S256x256_1_1_0_0_n_n 1024 rfl rfl).symm]
  refine Finset.sum_congr rfl fun k _ => ?_
  have hk := contrEquiv1_symm_val dot_S256x1024_S256x1024_S256x256_1_1_0_0_n_n 1024 rfl rfl k
  have hl : dot_S256x1024_S256x1024_S256x256_1_1_0_0_n_n.lhsIdx (ix2 p q) ((contrEquiv1 dot_S256x1024_S256x1024_S256x256_1_1_0_0_n_n 1024 rfl rfl).symm k)
      = ix2 p k := funext fun a => Fin.ext (by match a with | ⟨0, _⟩ => rfl | ⟨1, _⟩ => exact hk)
  have hr : dot_S256x1024_S256x1024_S256x256_1_1_0_0_n_n.rhsIdx (ix2 p q) ((contrEquiv1 dot_S256x1024_S256x1024_S256x256_1_1_0_0_n_n 1024 rfl rfl).symm k)
      = ix2 q k := funext fun a => Fin.ext (by match a with | ⟨0, _⟩ => rfl | ⟨1, _⟩ => exact hk)
  rw [hl, hr]

/-- A block of rows against a whole projection. -/
theorem dotNN_apply (lhs : FVec Ideal S256x2816 .bf16) (rhs : FVec Ideal S2816x1024 .bf16) (p : Fin 256) (q : Fin 1024) :
    FloatOps.matmul (F := Ideal) dot_S256x2816_S2816x1024_S256x1024_1_0_0_1_n_n none lhs rhs (constant S256x1024 .f32 0x00000000#32) (ix2 p q)
      = ∑ k : Fin 2816, lhs (ix2 p k) * rhs (ix2 k q) := by
  rw [Ideal.matmul_constant_zero_apply]
  rw [← Equiv.sum_comp (contrEquiv1 dot_S256x2816_S2816x1024_S256x1024_1_0_0_1_n_n 2816 rfl rfl).symm]
  refine Finset.sum_congr rfl fun k _ => ?_
  have hk := contrEquiv1_symm_val dot_S256x2816_S2816x1024_S256x1024_1_0_0_1_n_n 2816 rfl rfl k
  have hl : dot_S256x2816_S2816x1024_S256x1024_1_0_0_1_n_n.lhsIdx (ix2 p q) ((contrEquiv1 dot_S256x2816_S2816x1024_S256x1024_1_0_0_1_n_n 2816 rfl rfl).symm k)
      = ix2 p k := funext fun a => Fin.ext (by match a with | ⟨0, _⟩ => rfl | ⟨1, _⟩ => exact hk)
  have hr : dot_S256x2816_S2816x1024_S256x1024_1_0_0_1_n_n.rhsIdx (ix2 p q) ((contrEquiv1 dot_S256x2816_S2816x1024_S256x1024_1_0_0_1_n_n 2816 rfl rfl).symm k)
      = ix2 k q := funext fun a => Fin.ext (by match a with | ⟨0, _⟩ => exact hk | ⟨1, _⟩ => rfl)
  rw [hl, hr]

/-! ## The gated unit -/

theorem pay2_apply (dy wd : Vec Ideal S256x1024 .bf16) (p q : Fin 256) :
    k0_pay2 (F := Ideal) dy wd (ix2 p q) = ∑ k : Fin 1024, dy (ix2 p k) * wd (ix2 q k) := by
  unfold k0_pay2
  rw [shapeCast_self, shapeCast_self]
  exact dotNT_apply dy wd p q

theorem pay4_apply (g : Vec Ideal S256x256 .bf16) (i : S256x256.Idx) : k0_pay4 (F := Ideal) g i = sigK (g i) := by
  unfold k0_pay4 k0_pay3
  rw [shapeCast_self]
  rfl

/-- The gate's gradient at an element of a chunk. -/
theorem pay5_apply (dy wd : Vec Ideal S256x1024 .bf16) (g u : Vec Ideal S256x256 .bf16) (p q : Fin 256) :
    k0_pay5 (F := Ideal) dy wd g u (ix2 p q)
      = dgK (∑ k : Fin 1024, dy (ix2 p k) * wd (ix2 q k)) (g (ix2 p q)) (u (ix2 p q)) := by
  unfold k0_pay5 k0_pay3
  rw [shapeCast_self, shapeCast_self]
  show (k0_pay2 (F := Ideal) dy wd (ix2 p q) * u (ix2 p q)) * (k0_pay4 (F := Ideal) g (ix2 p q)
    * (one + g (ix2 p q) * (one - k0_pay4 (F := Ideal) g (ix2 p q)))) = _
  rw [pay2_apply, pay4_apply]
  rfl

/-- The up product's gradient at an element of a chunk. -/
theorem pay6_apply (dy wd : Vec Ideal S256x1024 .bf16) (g : Vec Ideal S256x256 .bf16) (p q : Fin 256) :
    k0_pay6 (F := Ideal) dy wd g (ix2 p q) = duK (∑ k : Fin 1024, dy (ix2 p k) * wd (ix2 q k)) (g (ix2 p q)) := by
  unfold k0_pay6 k0_pay3
  rw [shapeCast_self]
  show k0_pay2 (F := Ideal) dy wd (ix2 p q) * (g (ix2 p q) * k0_pay4 (F := Ideal) g (ix2 p q)) = _
  rw [pay2_apply, pay4_apply]
  rfl

/-! ## The normed input's gradient -/

theorem pay65_apply (dg : Vec Ideal S256x2816 .bf16) (wg : Vec Ideal S2816x1024 .bf16) (du : Vec Ideal S256x2816 .bf16)
    (wu : Vec Ideal S2816x1024 .bf16) (p : Fin 256) (q : Fin 1024) :
    k0_pay65 (F := Ideal) dg wg du wu (ix2 p q)
      = (∑ k : Fin 2816, dg (ix2 p k) * wg (ix2 k q)) + ∑ k : Fin 2816, du (ix2 p k) * wu (ix2 k q) := by
  unfold k0_pay65
  rw [shapeCast_self, shapeCast_self, shapeCast_self, shapeCast_self]
  exact congrArg₂ (· + ·) (dotNN_apply dg wg p q) (dotNN_apply du wu p q)

/-- A sum along a block's rows, at the row. -/
theorem rowSum_apply (x : FVec Ideal S256x1024 .f32) (p : Fin 256) (q : Fin 1) :
    shapeCast S256x1 (multiReduction (F := Ideal) .add [1] S256 x 0x00000000#32 reduces_S256x1024_S256 (.inl rfl) rfl)
      shapeCasts_S256_S256x1 (ix2 p q) = ∑ k : Fin 1024, x (ix2 p k) := by
  rw [shapeCast_apply _ shapeCasts_S256_S256x1 (ix2 p q) (ix1 p) (by
    rw [Shape.rowMajor_val_two, Shape.rowMajor_val_one]
    have := q.isLt
    show p.val = p.val * 1 + q.val
    omega)]
  refine (Ideal.multiReduction_add_single _ _ _ _ _ _).trans ?_
  refine Finset.sum_congr rfl fun k _ => congrArg x ?_
  exact funext fun a => Fin.ext (by match a with | ⟨0, _⟩ => rfl | ⟨1, _⟩ => rfl)

/-- A column of a row's value, spread along the row. -/
theorem spread_apply (x : FVec Ideal S256x1 .f32) (p : Fin 256) (q : Fin 1024) :
    broadcastTo S256x1024 x broadcasts_S256x1_S256x1024 (ix2 p q) = x (ix2 p 0) :=
  broadcastTo_apply _ _ _ _ fun a => by match a with | ⟨0, _⟩ => rfl | ⟨1, _⟩ => rfl

/-- The norm's weights, spread down the rows. -/
theorem spreadGain_apply (x : FVec Ideal S1x1024 .f32) (p : Fin 256) (q : Fin 1024) :
    broadcastTo S256x1024 x broadcasts_S1x1024_S256x1024 (ix2 p q) = x (ix2 0 q) :=
  broadcastTo_apply _ _ _ _ fun a => by match a with | ⟨0, _⟩ => rfl | ⟨1, _⟩ => rfl

/-- Row `p` of a block. -/
abbrev row {R C : ℕ} (x : (⟨2, ![R, C]⟩ : Shape).Idx → EReal) (p : Fin R) : Fin C → EReal := fun k => x (ix2 p k)

theorem pay66_apply (x : Vec Ideal S256x1024 .f32) (p : Fin 256) (q : Fin 1) :
    k0_pay66 (F := Ideal) x (ix2 p q) = rms (row x p) := by
  unfold k0_pay66
  show Ideal.rsqrt (Ideal.div (shapeCast S256x1 (multiReduction (F := Ideal) .add [1] S256 (mulf x x) 0x00000000#32
    reduces_S256x1024_S256 (.inl rfl) rfl) shapeCasts_S256_S256x1 (ix2 p q)) len + eps) = _
  rw [rowSum_apply]
  rfl

theorem pay67_apply (x : Vec Ideal S256x1024 .f32) (p : Fin 256) (q : Fin 1024) :
    k0_pay67 (F := Ideal) x (ix2 p q) = x (ix2 p q) * rms (row x p) := by
  unfold k0_pay67
  show x (ix2 p q) * broadcastTo S256x1024 (k0_pay66 (F := Ideal) x) broadcasts_S256x1_S256x1024 (ix2 p q) = _
  rw [spread_apply, pay66_apply]

/-- The block's own share of the norm weights' gradient. -/
theorem pay68_apply (dn : FVec Ideal S256x1024 .f32) (x : Vec Ideal S256x1024 .f32) (p : Fin 1) (q : Fin 1024) :
    k0_pay68 (F := Ideal) dn x (ix2 p q) = ∑ k : Fin 256, dn (ix2 k q) * (x (ix2 k q) * rms (row x k)) := by
  unfold k0_pay68
  show shapeCast S1x1024 (multiReduction (F := Ideal) .add [0] S1024 (mulf dn (k0_pay67 (F := Ideal) x)) 0x00000000#32
    reduces_S256x1024_S1024 (.inl rfl) rfl) shapeCasts_S1024_S1x1024 (ix2 p q) = _
  rw [shapeCast_apply _ shapeCasts_S1024_S1x1024 (ix2 p q) (ix1 q) (by
    rw [Shape.rowMajor_val_two, Shape.rowMajor_val_one]
    have := p.isLt
    show q.val = p.val * 1024 + q.val
    omega)]
  refine (Ideal.multiReduction_add_single _ _ _ _ _ _).trans ?_
  refine Finset.sum_congr rfl fun k _ => ?_
  have : reduces_S256x1024_S1024.lift (ix1 q) k = ix2 k q :=
    funext fun a => Fin.ext (by match a with | ⟨0, _⟩ => rfl | ⟨1, _⟩ => rfl)
  rw [this]
  show dn (ix2 k q) * k0_pay67 (F := Ideal) x (ix2 k q) = _
  exact congrArg (dn (ix2 (n0 := 256) k q) * ·) (pay67_apply x k q)

/-- The input's gradient at an element. -/
theorem pay69_apply (dn : FVec Ideal S256x1024 .f32) (x : Vec Ideal S256x1024 .f32) (gain : Vec Ideal S1x1024 .f32)
    (ct : Vec Ideal S256x1024 .f32) (p : Fin 256) (q : Fin 1024) :
    k0_pay69 (F := Ideal) dn x gain ct (ix2 p q) = dxK (row dn p) (row x p) (row gain 0) (ct (ix2 p q)) q := by
  unfold k0_pay69
  show ct (ix2 p q) + broadcastTo S256x1024 (k0_pay66 (F := Ideal) x) broadcasts_S256x1_S256x1024 (ix2 p q)
    * (dn (ix2 p q) * broadcastTo S256x1024 gain broadcasts_S1x1024_S256x1024 (ix2 p q)
      - k0_pay67 (F := Ideal) x (ix2 p q) * broadcastTo S256x1024 (divf (shapeCast S256x1 (multiReduction (F := Ideal) .add [1] S256
        (mulf (mulf dn (broadcastTo S256x1024 gain broadcasts_S1x1024_S256x1024)) (k0_pay67 (F := Ideal) x)) 0x00000000#32
        reduces_S256x1024_S256 (.inl rfl) rfl) shapeCasts_S256_S256x1) (broadcast S256x1 (Scalar.ofBits (F := Ideal) .f32 0x44800000#32)))
        broadcasts_S256x1_S256x1024 (ix2 p q)) = _
  rw [spread_apply, spread_apply, spreadGain_apply, pay66_apply, pay67_apply, divf_apply, rowSum_apply]
  simp only [mulf_apply, spreadGain_apply, pay67_apply]
  rfl

/-- What a point adds to the norm weights' gradient so far. -/
theorem pay1_apply (d : FVec Ideal S1x1024 .f32) (a : FVec Ideal S1x1x1024 .f32) (q : Fin 1024) :
    k0_pay1 (F := Ideal) d a (ix3 0 0 q) = a (ix3 0 0 q) + d (ix2 0 q) := by
  unfold k0_pay1
  show a (ix3 0 0 q) + shapeCast S1x1x1024 d shapeCasts_S1x1024_S1x1x1024 (ix3 0 0 q) = _
  rw [shapeCast_apply _ shapeCasts_S1x1024_S1x1x1024 (ix3 0 0 q) (ix2 0 q) (by
    rw [Shape.rowMajor_val_two, Shape.rowMajor_val_three]
    rfl)]

theorem pay71_eq (a : Vec Ideal S1x1x1024 .f32) : k0_pay71 (F := Ideal) a = a := by
  unfold k0_pay71
  rw [shapeCast_self]

theorem pay70_apply (i : S1x1x1024.Idx) : k0_pay70 (F := Ideal) i = zero := rfl

end Cert.KernelIdeal.Pay

end
-- ==== Proof.Body.lean ====
/- What one point of the grid leaves in each output's block, as a function of the blocks it reads. -/
module

public import proofs.«01_k».proof.Proof.Pay

@[expose] public section

noncomputable section

namespace Cert.KernelIdeal.Body

open Cert.KernelIdeal Cert.KernelIdeal.Gen Idealize.ShloMosaic Idealize.ShloMosaic.TcCoe Idealize.ShloMosaic.ValueIdx Cert.Rows
open Cert.KernelIdeal.Pay

/-! ## The functions -/

/-- The activation's gradient at row `p`, column `q`: the output's gradient against the down projection's row. -/
def daAt {R : ℕ} (dy : (⟨2, ![R, 1024]⟩ : Shape).Idx → EReal) (wd : S2816x1024.Idx → EReal) (p : Fin R) (q : Fin 2816) : EReal :=
  ∑ k : Fin 1024, dy (ix2 p k) * wd (ix2 q k)

/-- The gate's gradient, and the up product's, over a block of rows. -/
def dgF {R : ℕ} (dy : (⟨2, ![R, 1024]⟩ : Shape).Idx → EReal) (g u : (⟨2, ![R, 2816]⟩ : Shape).Idx → EReal)
    (wd : S2816x1024.Idx → EReal) : (⟨2, ![R, 2816]⟩ : Shape).Idx → EReal :=
  fun y => dgK (daAt dy wd (y 0) (y 1)) (g y) (u y)
def duF {R : ℕ} (dy : (⟨2, ![R, 1024]⟩ : Shape).Idx → EReal) (g : (⟨2, ![R, 2816]⟩ : Shape).Idx → EReal)
    (wd : S2816x1024.Idx → EReal) : (⟨2, ![R, 2816]⟩ : Shape).Idx → EReal :=
  fun y => duK (daAt dy wd (y 0) (y 1)) (g y)

/-- The normed input's gradient. -/
def dnF {R : ℕ} (dg du : (⟨2, ![R, 2816]⟩ : Shape).Idx → EReal) (wg wu : S2816x1024.Idx → EReal) :
    (⟨2, ![R, 1024]⟩ : Shape).Idx → EReal :=
  fun y => (∑ k : Fin 2816, dg (ix2 (y 0) k) * wg (ix2 k (y 1))) + ∑ k : Fin 2816, du (ix2 (y 0) k) * wu (ix2 k (y 1))

/-- The input's gradient. -/
def dxF {R : ℕ} (dn x ct : (⟨2, ![R, 1024]⟩ : Shape).Idx → EReal) (gain : S1x1024.Idx → EReal) :
    (⟨2, ![R, 1024]⟩ : Shape).Idx → EReal :=
  fun y => dxK (row dn (y 0)) (row x (y 0)) (row gain 0) (ct y) (y 1)

/-- The norm weights' gradient summed over a block of rows. -/
def dgainF {R : ℕ} (dn x : (⟨2, ![R, 1024]⟩ : Shape).Idx → EReal) (q : Fin 1024) : EReal :=
  ∑ k : Fin R, dn (ix2 k q) * (x (ix2 k q) * rms (row x k))

/-! ## The stores into the two wide outputs: eleven chunks of 256 columns -/

theorem zero2 : (![0, 0] : Fin 2 → ℕ) = fun _ => 0 := by decide
theorem zero3 : (![0, 0, 0] : Fin 3 → ℕ) = fun _ => 0 := by decide

/-- The chunk at column `o` of the gate's gradient. -/
def dgPiece (o : ℕ) (h : ∀ a, (![0, o] : Fin 2 → ℕ) a + S256x256.size a ≤ S256x2816.size a)
    (h' : ∀ a, (![o, 0] : Fin 2 → ℕ) a + S256x1024.size a ≤ S2816x1024.size a)
    (dy : Vec Ideal S256x1024 .bf16) (g u : Vec Ideal S256x2816 .bf16) (wd : Vec Ideal S2816x1024 .bf16) :
    View.Piece (Elt Ideal) S256x2816 .bf16 :=
  ⟨Rect.unit ![0, o] S256x256.size h, k0_pay5 (F := Ideal) (View.ld dy (Rect.unit ![0, 0] S256x1024.size inb_S256x1024_S256x1024_0_0))
    (View.ld wd (Rect.unit ![o, 0] S256x1024.size h')) (View.ld g (Rect.unit ![0, o] S256x256.size h))
    (View.ld u (Rect.unit ![0, o] S256x256.size h))⟩

/-- The chunk at column `o` of the up product's gradient. -/
def duPiece (o : ℕ) (h : ∀ a, (![0, o] : Fin 2 → ℕ) a + S256x256.size a ≤ S256x2816.size a)
    (h' : ∀ a, (![o, 0] : Fin 2 → ℕ) a + S256x1024.size a ≤ S2816x1024.size a)
    (dy : Vec Ideal S256x1024 .bf16) (g : Vec Ideal S256x2816 .bf16) (wd : Vec Ideal S2816x1024 .bf16) :
    View.Piece (Elt Ideal) S256x2816 .bf16 :=
  ⟨Rect.unit ![0, o] S256x256.size h, k0_pay6 (F := Ideal) (View.ld dy (Rect.unit ![0, 0] S256x1024.size inb_S256x1024_S256x1024_0_0))
    (View.ld wd (Rect.unit ![o, 0] S256x1024.size h')) (View.ld g (Rect.unit ![0, o] S256x256.size h))⟩

/-- Where a chunk's element `(p, q)` lies in the block, and where the chunk's row `q` of the projection lies in it. -/
theorem emb_chunk (o : ℕ) (h : ∀ a, (![0, o] : Fin 2 → ℕ) a + S256x256.size a ≤ S256x2816.size a) (p q : Fin 256)
    (hq : o + q.val < 2816) :
    (Rect.unit (s := S256x2816) ![0, o] S256x256.size h).emb (ix2 p q) = ix2 p ⟨o + q.val, hq⟩ :=
  funext fun a => Fin.ext (by
    match a with
    | ⟨0, _⟩ => show 0 + 1 * p.val = p.val; omega
    | ⟨1, _⟩ => show o + 1 * q.val = o + q.val; omega)

theorem emb_rows (o : ℕ) (h : ∀ a, (![o, 0] : Fin 2 → ℕ) a + S256x1024.size a ≤ S2816x1024.size a) (q : Fin 256) (k : Fin 1024)
    (hq : o + q.val < 2816) :
    (Rect.unit (s := S2816x1024) ![o, 0] S256x1024.size h).emb (ix2 q k) = ix2 ⟨o + q.val, hq⟩ k :=
  funext fun a => Fin.ext (by
    match a with
    | ⟨0, _⟩ => show o + 1 * q.val = o + q.val; omega
    | ⟨1, _⟩ => show 0 + 1 * k.val = k.val; omega)

theorem daAt_chunk (o : ℕ) (h' : ∀ a, (![o, 0] : Fin 2 → ℕ) a + S256x1024.size a ≤ S2816x1024.size a)
    (dy : Vec Ideal S256x1024 .bf16) (wd : Vec Ideal S2816x1024 .bf16) (p q : Fin 256) (hq : o + q.val < 2816) :
    (∑ k : Fin 1024, dy (ix2 p k) * View.ld wd (Rect.unit (s := S2816x1024) ![o, 0] S256x1024.size h') (ix2 q k))
      = daAt dy wd p ⟨o + q.val, hq⟩ :=
  Finset.sum_congr rfl fun k _ => congrArg (dy (ix2 p k) * wd ·) (emb_rows o h' q k hq)

theorem dgPiece_apply (o : ℕ) (h : ∀ a, (![0, o] : Fin 2 → ℕ) a + S256x256.size a ≤ S256x2816.size a)
    (h' : ∀ a, (![o, 0] : Fin 2 → ℕ) a + S256x1024.size a ≤ S2816x1024.size a)
    (dy : Vec Ideal S256x1024 .bf16) (g u : Vec Ideal S256x2816 .bf16) (wd : Vec Ideal S2816x1024 .bf16)
    (x : (dgPiece o h h' dy g u wd).1.shape.Idx) :
    (dgPiece o h h' dy g u wd).2 x = dgF dy g u wd ((dgPiece o h h' dy g u wd).1.emb x) := by
  obtain ⟨p, q, rfl⟩ : ∃ p q : Fin 256, x = ix2 p q := ⟨x 0, x 1, eq_ix2 x⟩
  have hq : o + q.val < 2816 := by have := h 1; have := q.isLt; simp at *; omega
  have he : (dgPiece o h h' dy g u wd).1.emb (ix2 p q) = ix2 p ⟨o + q.val, hq⟩ := emb_chunk o h p q hq
  rw [he]
  unfold dgPiece
  dsimp only
  rw [View.ld_unit_zero zero2, pay5_apply, daAt_chunk o h' dy wd p q hq]
  show dgK _ (g ((Rect.unit (s := S256x2816) ![0, o] S256x256.size h).emb (ix2 p q)))
    (u ((Rect.unit (s := S256x2816) ![0, o] S256x256.size h).emb (ix2 p q))) = _
  rw [emb_chunk o h p q hq]
  rfl

theorem duPiece_apply (o : ℕ) (h : ∀ a, (![0, o] : Fin 2 → ℕ) a + S256x256.size a ≤ S256x2816.size a)
    (h' : ∀ a, (![o, 0] : Fin 2 → ℕ) a + S256x1024.size a ≤ S2816x1024.size a)
    (dy : Vec Ideal S256x1024 .bf16) (g : Vec Ideal S256x2816 .bf16) (wd : Vec Ideal S2816x1024 .bf16)
    (x : (duPiece o h h' dy g wd).1.shape.Idx) :
    (duPiece o h h' dy g wd).2 x = duF dy g wd ((duPiece o h h' dy g wd).1.emb x) := by
  obtain ⟨p, q, rfl⟩ : ∃ p q : Fin 256, x = ix2 p q := ⟨x 0, x 1, eq_ix2 x⟩
  have hq : o + q.val < 2816 := by have := h 1; have := q.isLt; simp at *; omega
  have he : (duPiece o h h' dy g wd).1.emb (ix2 p q) = ix2 p ⟨o + q.val, hq⟩ := emb_chunk o h p q hq
  rw [he]
  unfold duPiece
  dsimp only
  rw [View.ld_unit_zero zero2, pay6_apply, daAt_chunk o h' dy wd p q hq]
  show duK _ (g ((Rect.unit (s := S256x2816) ![0, o] S256x256.size h).emb (ix2 p q))) = _
  rw [emb_chunk o h p q hq]
  rfl

/-- The stores, last first. -/
def dgPieces (dy : Vec Ideal S256x1024 .bf16) (g u : Vec Ideal S256x2816 .bf16) (wd : Vec Ideal S2816x1024 .bf16) :
    List (View.Piece (Elt Ideal) S256x2816 .bf16) :=
  [dgPiece 2560 inb_S256x2816_S256x256_0_2560 inb_S2816x1024_S256x1024_2560_0 dy g u wd,
   dgPiece 2304 inb_S256x2816_S256x256_0_2304 inb_S2816x1024_S256x1024_2304_0 dy g u wd,
   dgPiece 2048 inb_S256x2816_S256x256_0_2048 inb_S2816x1024_S256x1024_2048_0 dy g u wd,
   dgPiece 1792 inb_S256x2816_S256x256_0_1792 inb_S2816x1024_S256x1024_1792_0 dy g u wd,
   dgPiece 1536 inb_S256x2816_S256x256_0_1536 inb_S2816x1024_S256x1024_1536_0 dy g u wd,
   dgPiece 1280 inb_S256x2816_S256x256_0_1280 inb_S2816x1024_S256x1024_1280_0 dy g u wd,
   dgPiece 1024 inb_S256x2816_S256x256_0_1024 inb_S2816x1024_S256x1024_1024_0 dy g u wd,
   dgPiece 768 inb_S256x2816_S256x256_0_768 inb_S2816x1024_S256x1024_768_0 dy g u wd,
   dgPiece 512 inb_S256x2816_S256x256_0_512 inb_S2816x1024_S256x1024_512_0 dy g u wd,
   dgPiece 256 inb_S256x2816_S256x256_0_256 inb_S2816x1024_S256x1024_256_0 dy g u wd,
   dgPiece 0 inb_S256x2816_S256x256_0_0 inb_S2816x1024_S256x1024_0_0 dy g u wd]
def duPieces (dy : Vec Ideal S256x1024 .bf16) (g : Vec Ideal S256x2816 .bf16) (wd : Vec Ideal S2816x1024 .bf16) :
    List (View.Piece (Elt Ideal) S256x2816 .bf16) :=
  [duPiece 2560 inb_S256x2816_S256x256_0_2560 inb_S2816x1024_S256x1024_2560_0 dy g wd,
   duPiece 2304 inb_S256x2816_S256x256_0_2304 inb_S2816x1024_S256x1024_2304_0 dy g wd,
   duPiece 2048 inb_S256x2816_S256x256_0_2048 inb_S2816x1024_S256x1024_2048_0 dy g wd,
   duPiece 1792 inb_S256x2816_S256x256_0_1792 inb_S2816x1024_S256x1024_1792_0 dy g wd,
   duPiece 1536 inb_S256x2816_S256x256_0_1536 inb_S2816x1024_S256x1024_1536_0 dy g wd,
   duPiece 1280 inb_S256x2816_S256x256_0_1280 inb_S2816x1024_S256x1024_1280_0 dy g wd,
   duPiece 1024 inb_S256x2816_S256x256_0_1024 inb_S2816x1024_S256x1024_1024_0 dy g wd,
   duPiece 768 inb_S256x2816_S256x256_0_768 inb_S2816x1024_S256x1024_768_0 dy g wd,
   duPiece 512 inb_S256x2816_S256x256_0_512 inb_S2816x1024_S256x1024_512_0 dy g wd,
   duPiece 256 inb_S256x2816_S256x256_0_256 inb_S2816x1024_S256x1024_256_0 dy g wd,
   duPiece 0 inb_S256x2816_S256x256_0_0 inb_S2816x1024_S256x1024_0_0 dy g wd]

theorem canon_dgPieces (dy : Vec Ideal S256x1024 .bf16) (g u : Vec Ideal S256x2816 .bf16) (wd : Vec Ideal S2816x1024 .bf16) :
    View.canon (dgPieces dy g u wd) = dgF dy g u wd :=
  funext fun y => View.canon_apply_of_pieces _ _ (by
    unfold dgPieces
    simp only [List.forall_mem_cons]
    repeat' constructor
    all_goals first | exact dgPiece_apply _ _ _ _ _ _ _ | simp) y
    (View.cover_of_tiledL (dgPieces dy g u wd) S256x256.size (by sl_kernel_rfl) y)

theorem canon_duPieces (dy : Vec Ideal S256x1024 .bf16) (g : Vec Ideal S256x2816 .bf16) (wd : Vec Ideal S2816x1024 .bf16) :
    View.canon (duPieces dy g wd) = duF dy g wd :=
  funext fun y => View.canon_apply_of_pieces _ _ (by
    unfold duPieces
    simp only [List.forall_mem_cons]
    repeat' constructor
    all_goals first | exact duPiece_apply _ _ _ _ _ _ | simp) y
    (View.cover_of_tiledL (duPieces dy g wd) S256x256.size (by sl_kernel_rfl) y)

/-- A load of the whole of what the stores left. -/
theorem readCov_whole {sig : RefSig} {κ : Kind} {sp : Space} (v : View sig κ sp S256x2816 .bf16)
    (L : List (View.Piece (Elt Ideal) S256x2816 .bf16)) :
    v.readCov L (Rect.unit ![0, 0] S256x2816.size inb_S256x2816_S256x2816_0_0).toLoadRect = View.canon L := by
  rw [View.readCov_eq_canon']
  exact View.ld_unit_zero zero2 _ (View.canon L)

/-- The normed input's gradient as the body forms it, from what its own stores left. -/
theorem formed_dn {sig : RefSig} {κ : Kind} {sp : Space} (v w : View sig κ sp S256x2816 .bf16)
    (x0 : Vec Ideal S256x1024 .bf16) (x1 x2 : Vec Ideal S256x2816 .bf16) (x6 x7 x8 : Vec Ideal S2816x1024 .bf16) :
    k0_pay65 (F := Ideal) (v.readCov (dgPieces x0 x1 x2 x8) (Rect.unit ![0, 0] S256x2816.size inb_S256x2816_S256x2816_0_0).toLoadRect)
      (View.ld x6 (Rect.unit ![0, 0] S2816x1024.size inb_S2816x1024_S2816x1024_0_0))
      (w.readCov (duPieces x0 x1 x8) (Rect.unit ![0, 0] S256x2816.size inb_S256x2816_S256x2816_0_0).toLoadRect)
      (View.ld x7 (Rect.unit ![0, 0] S2816x1024.size inb_S2816x1024_S2816x1024_0_0))
      = dnF (dgF x0 x1 x2 x8) (duF x0 x1 x8) x6 x7 := by
  rw [readCov_whole, readCov_whole, canon_dgPieces, canon_duPieces, View.ld_unit_zero zero2, View.ld_unit_zero zero2]
  funext y
  rw [eq_ix2 y]
  exact pay65_apply _ _ _ _ _ _

/-- The input's gradient as the body stores it. -/
theorem stored_11 {sig : RefSig} {κ : Kind} {sp : Space} (v w : View sig κ sp S256x2816 .bf16)
    (x0 : Vec Ideal S256x1024 .bf16) (x1 x2 : Vec Ideal S256x2816 .bf16) (x3 x4 : Vec Ideal S256x1024 .f32) (x5 : Vec Ideal S1x1024 .f32)
    (x6 x7 x8 : Vec Ideal S2816x1024 .bf16) :
    k0_pay69 (F := Ideal) (k0_pay65 (F := Ideal) (v.readCov (dgPieces x0 x1 x2 x8) (Rect.unit ![0, 0] S256x2816.size inb_S256x2816_S256x2816_0_0).toLoadRect)
      (View.ld x6 (Rect.unit ![0, 0] S2816x1024.size inb_S2816x1024_S2816x1024_0_0))
      (w.readCov (duPieces x0 x1 x8) (Rect.unit ![0, 0] S256x2816.size inb_S256x2816_S256x2816_0_0).toLoadRect)
      (View.ld x7 (Rect.unit ![0, 0] S2816x1024.size inb_S2816x1024_S2816x1024_0_0)))
      (View.ld x3 (Rect.unit ![0, 0] S256x1024.size inb_S256x1024_S256x1024_0_0))
      (View.ld x5 (Rect.unit ![0, 0] S1x1024.size inb_S1x1024_S1x1024_0_0))
      (View.ld x4 (Rect.unit ![0, 0] S256x1024.size inb_S256x1024_S256x1024_0_0))
      = dxF (dnF (dgF x0 x1 x2 x8) (duF x0 x1 x8) x6 x7) x3 x4 x5 := by
  rw [formed_dn, View.ld_unit_zero zero2, View.ld_unit_zero zero2, View.ld_unit_zero zero2]
  funext y
  rw [eq_ix2 y]
  exact pay69_apply _ _ _ _ _ _

/-- The norm weights' gradient so far as the body stores it, over what it read back. -/
theorem stored_12 {sig : RefSig} {κ : Kind} {sp : Space} (v w : View sig κ sp S256x2816 .bf16)
    (x0 : Vec Ideal S256x1024 .bf16) (x1 x2 : Vec Ideal S256x2816 .bf16) (x3 : Vec Ideal S256x1024 .f32)
    (x6 x7 x8 : Vec Ideal S2816x1024 .bf16) (acc : Vec Ideal S1x1x1024 .f32) (q : Fin 1024) :
    k0_pay1 (F := Ideal) (k0_pay68 (F := Ideal) (k0_pay65 (F := Ideal) (v.readCov (dgPieces x0 x1 x2 x8) (Rect.unit ![0, 0] S256x2816.size inb_S256x2816_S256x2816_0_0).toLoadRect)
      (View.ld x6 (Rect.unit ![0, 0] S2816x1024.size inb_S2816x1024_S2816x1024_0_0))
      (w.readCov (duPieces x0 x1 x8) (Rect.unit ![0, 0] S256x2816.size inb_S256x2816_S256x2816_0_0).toLoadRect)
      (View.ld x7 (Rect.unit ![0, 0] S2816x1024.size inb_S2816x1024_S2816x1024_0_0)))
      (View.ld x3 (Rect.unit ![0, 0] S256x1024.size inb_S256x1024_S256x1024_0_0)))
      (k0_pay71 (F := Ideal) acc) (ix3 0 0 q)
      = acc (ix3 0 0 q) + dgainF (dnF (dgF x0 x1 x2 x8) (duF x0 x1 x8) x6 x7) x3 q := by
  rw [formed_dn, View.ld_unit_zero zero2, pay1_apply, pay71_eq, pay68_apply]
  rfl

/-! ## The point's blocks -/

variable (c : Dev nD) (i : grid0.Coords)
  (arg1 : Memref sig .tc .vmem S256x1024 .bf16) (harg1 : arg1.IsWhole)
  (arg2 : Memref sig .tc .vmem S256x2816 .bf16) (harg2 : arg2.IsWhole)
  (arg3 : Memref sig .tc .vmem S256x2816 .bf16) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S1x1024 .f32) (harg6 : arg6.IsWhole)
  (arg7 : Memref sig .tc .vmem S2816x1024 .bf16) (harg7 : arg7.IsWhole)
  (arg8 : Memref sig .tc .vmem S2816x1024 .bf16) (harg8 : arg8.IsWhole)
  (arg9 : Memref sig .tc .vmem S2816x1024 .bf16) (harg9 : arg9.IsWhole)
  (arg10 : Memref sig .tc .vmem S256x2816 .bf16) (harg10 : arg10.IsWhole)
  (arg11 : Memref sig .tc .vmem S256x2816 .bf16) (harg11 : arg11.IsWhole)
  (arg12 : Memref sig .tc .vmem S256x1024 .f32) (harg12 : arg12.IsWhole)
  (arg13 : Memref sig .tc .vmem S1x1x1024 .f32) (harg13 : arg13.IsWhole)
  (x0 : Vec Ideal S256x1024 .bf16) (x1 : Vec Ideal S256x2816 .bf16) (x2 : Vec Ideal S256x2816 .bf16) (x3 : Vec Ideal S256x1024 .f32) (x4 : Vec Ideal S256x1024 .f32) (x5 : Vec Ideal S1x1024 .f32) (x6 : Vec Ideal S2816x1024 .bf16) (x7 : Vec Ideal S2816x1024 .bf16) (x8 : Vec Ideal S2816x1024 .bf16)

section CaseA
variable (hc0 : cond0_0 i)

theorem outA_9 : out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = dgF x0 x1 x2 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), ← canon_dgPieces]
  unfold kernelRun0_A
  dsimp only
  sl_unfold_words
  simp only [View.readAt_eq_ld, harg1.read_unread, harg2.read_unread, harg3.read_unread, harg9.read_unread]
  rfl

theorem outA_10 : out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = duF x0 x1 x8 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8), ← canon_duPieces]
  unfold kernelRun0_A
  dsimp only
  sl_unfold_words
  simp only [View.readAt_eq_ld, harg1.read_unread, harg2.read_unread, harg9.read_unread]
  rfl

theorem outA_11 : out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = dxF (dnF (dgF x0 x1 x2 x8) (duF x0 x1 x8) x6 x7) x3 x4 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread]
  exact stored_11 arg10.view arg11.view x0 x1 x2 x3 x4 x5 x6 x7 x8

theorem outA_12 (q : Fin 1024) : out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 0 q)
    = zero + dgainF (dnF (dgF x0 x1 x2 x8) (duF x0 x1 x8) x6 x7) x3 q := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_cons_unit_zero zero3, View.readCov_unit_zero _ zero3]
  simp only [View.readAt_eq_ld, harg1.read_unread, harg2.read_unread, harg3.read_unread, harg4.read_unread, harg5.read_unread, harg6.read_unread, harg7.read_unread, harg8.read_unread, harg9.read_unread]
  exact (stored_12 arg10.view arg11.view x0 x1 x2 x3 x6 x7 x8 _ q).trans rfl

end CaseA

section CaseB
variable (hc0 : ¬cond0_0 i) (acc : Vec Ideal S1x1x1024 .f32)

theorem outB_9 : out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc = dgF x0 x1 x2 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc), ← canon_dgPieces]
  unfold kernelRun0_B
  dsimp only
  sl_unfold_words
  simp only [View.readAt_eq_ld, harg1.read_unread, harg2.read_unread, harg3.read_unread, harg9.read_unread]
  rfl

theorem outB_10 : out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc = duF x0 x1 x8 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc), ← canon_duPieces]
  unfold kernelRun0_B
  dsimp only
  sl_unfold_words
  simp only [View.readAt_eq_ld, harg1.read_unread, harg2.read_unread, harg3.read_unread, harg9.read_unread]
  rfl

theorem outB_11 : out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc = dxF (dnF (dgF x0 x1 x2 x8) (duF x0 x1 x8) x6 x7) x3 x4 x5 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc)]
  unfold kernelRun0_B
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread]
  exact stored_11 arg10.view arg11.view x0 x1 x2 x3 x4 x5 x6 x7 x8

theorem outB_12 (q : Fin 1024) : out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc (ix3 0 0 q)
    = acc (ix3 0 0 q) + dgainF (dnF (dgF x0 x1 x2 x8) (duF x0 x1 x8) x6 x7) x3 q := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 acc)]
  unfold kernelRun0_B
  dsimp only
  sl_unfold_words
  rw [View.canon_unit_zero zero3]
  simp only [View.readAt_eq_ld, harg1.read_unread, harg2.read_unread, harg3.read_unread, harg4.read_unread, harg5.read_unread, harg6.read_unread, harg7.read_unread, harg8.read_unread, harg9.read_unread, harg13.read_unread]
  rw [View.ld_unit_zero (S := S1x1x1024) zero3]
  exact stored_12 arg10.view arg11.view x0 x1 x2 x3 x6 x7 x8 _ q

end CaseB

end Cert.KernelIdeal.Body

end
-- ==== Proof.Arrays.lean ====
/- The arrays the call leaves, as functions of the arrays it is given. -/
module

public import proofs.«01_k».proof.Proof.Body
public import Idealize.ShloMosaic.Lib.Pipeline.ValueKit

@[expose] public section

noncomputable section

namespace Cert.KernelIdeal.Arrays

open Cert.KernelIdeal Cert.KernelIdeal.Gen Idealize.ShloMosaic.TcCoe Idealize.ShloMosaic.ValueIdx Cert.Rows
open Idealize.ShloMosaic hiding ix2 ix3 eq_ix2 eq_ix3
open Cert.KernelIdeal.Pay Cert.KernelIdeal.Body

variable (m : (ℓ : Loc nD τ sig) → Buf (Elt Ideal) ℓ) (c : Dev nD)

/-! ## Where a block lies -/

theorem ix2_zero {n0 n1 : ℕ} (p : Fin n0) (q : Fin n1) : ix2 p q 0 = p := rfl
theorem ix2_one {n0 n1 : ℕ} (p : Fin n0) (q : Fin n1) : ix2 p q 1 = q := rfl

/-- Row `p` of the block that point `t` reads or writes, as a row of the whole. -/
def rowAt (t : Fin cfg0.N) (p : Fin 256) : Fin 4096 := ⟨256 * t.val + p.val, by have h : t.val < 16 := t.isLt; have := p.isLt; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel

theorem iblk0_apply (t : Fin cfg0.N) (p : Fin 256) (k : Fin 1024) :
    iblk m c 0 t (ix2 p k) = V m c main_v18 (ix2 (rowAt t p) k) := by
  unfold iblk
  blk_ext [idx0, rowAt]
  exact congrArg (· + p.val) (Nat.mul_comm t.val 256)

theorem iblk1_apply (t : Fin cfg0.N) (p : Fin 256) (k : Fin 2816) :
    iblk m c 1 t (ix2 p k) = V m c main_v13 (ix2 (rowAt t p) k) := by
  unfold iblk
  blk_ext [idx1, rowAt]
  exact congrArg (· + p.val) (Nat.mul_comm t.val 256)

theorem iblk2_apply (t : Fin cfg0.N) (p : Fin 256) (k : Fin 2816) :
    iblk m c 2 t (ix2 p k) = V m c main_v15 (ix2 (rowAt t p) k) := by
  unfold iblk
  blk_ext [idx2, rowAt]
  exact congrArg (· + p.val) (Nat.mul_comm t.val 256)

theorem iblk3_apply (t : Fin cfg0.N) (p : Fin 256) (k : Fin 1024) :
    iblk m c 3 t (ix2 p k) = V m c main_arg0 (ix2 (rowAt t p) k) := by
  unfold iblk
  blk_ext [idx3, rowAt]
  exact congrArg (· + p.val) (Nat.mul_comm t.val 256)

theorem iblk4_apply (t : Fin cfg0.N) (p : Fin 256) (k : Fin 1024) :
    iblk m c 4 t (ix2 p k) = V m c main_arg5 (ix2 (rowAt t p) k) := by
  unfold iblk
  blk_ext [idx4, rowAt]
  exact congrArg (· + p.val) (Nat.mul_comm t.val 256)

theorem iblk5_eq (t : Fin cfg0.N) : iblk m c 5 t = V m c main_arg1 := by
  funext y; unfold iblk; blk_ext [idx5]

theorem iblk6_eq (t : Fin cfg0.N) : iblk m c 6 t = V m c main_v20 := by
  funext y; unfold iblk; blk_ext [idx6]

theorem iblk7_eq (t : Fin cfg0.N) : iblk m c 7 t = V m c main_v22 := by
  funext y; unfold iblk; blk_ext [idx7]

theorem iblk8_eq (t : Fin cfg0.N) : iblk m c 8 t = V m c main_v23 := by
  funext y; unfold iblk; blk_ext [idx8]

/-! ## What a point leaves -/

theorem outs9 (t : Fin cfg0.N) :
    (outsAt0 m c t.val t.isLt).1 = dgF (iblk m c 0 t) (iblk m c 1 t) (iblk m c 2 t) (iblk m c 8 t) := by
  by_cases h0 : t.val % 16 = 0
  · rw [outsAt0_A m c t h0]; dsimp only; rw [outA_9]
  · rw [outsAt0_B m c t h0]; dsimp only; rw [outB_9]

theorem outs10 (t : Fin cfg0.N) :
    (outsAt0 m c t.val t.isLt).2.1 = duF (iblk m c 0 t) (iblk m c 1 t) (iblk m c 8 t) := by
  by_cases h0 : t.val % 16 = 0
  · rw [outsAt0_A m c t h0]; dsimp only; rw [outA_10]
  · rw [outsAt0_B m c t h0]; dsimp only; rw [outB_10]

theorem outs11 (t : Fin cfg0.N) :
    (outsAt0 m c t.val t.isLt).2.2.1
      = dxF (dnF (dgF (iblk m c 0 t) (iblk m c 1 t) (iblk m c 2 t) (iblk m c 8 t)) (duF (iblk m c 0 t) (iblk m c 1 t) (iblk m c 8 t))
          (iblk m c 6 t) (iblk m c 7 t)) (iblk m c 3 t) (iblk m c 4 t) (iblk m c 5 t) := by
  by_cases h0 : t.val % 16 = 0
  · rw [outsAt0_A m c t h0]; dsimp only; rw [outA_11]
  · rw [outsAt0_B m c t h0]; dsimp only; rw [outB_11]

/-! ## The arrays -/

/-- The call's results, of the arrays it is given. -/
def dgA : S4096x2816.Idx → EReal := dgF (V m c main_v18) (V m c main_v13) (V m c main_v15) (V m c main_v23)
def duA : S4096x2816.Idx → EReal := duF (V m c main_v18) (V m c main_v13) (V m c main_v23)
def dnA : S4096x1024.Idx → EReal := dnF (dgA m c) (duA m c) (V m c main_v20) (V m c main_v22)
def dxA : S4096x1024.Idx → EReal := dxF (dnA m c) (V m c main_arg0) (V m c main_arg5) (V m c main_arg1)

/-- A point's block of each is the block of the whole: every function above works row by row. -/
theorem dg_blk (t : Fin cfg0.N) (p : Fin 256) (q : Fin 2816) :
    dgF (iblk m c 0 t) (iblk m c 1 t) (iblk m c 2 t) (iblk m c 8 t) (ix2 p q) = dgA m c (ix2 (rowAt t p) q) := by
  unfold dgA dgF daAt
  rw [iblk8_eq, iblk1_apply, iblk2_apply]
  simp only [ix2_zero, ix2_one, iblk0_apply]

theorem du_blk (t : Fin cfg0.N) (p : Fin 256) (q : Fin 2816) :
    duF (iblk m c 0 t) (iblk m c 1 t) (iblk m c 8 t) (ix2 p q) = duA m c (ix2 (rowAt t p) q) := by
  unfold duA duF daAt
  rw [iblk8_eq, iblk1_apply]
  simp only [ix2_zero, ix2_one, iblk0_apply]

theorem arr9 : (dats m 0 c).arrAt 9 cfg0.N = dgA m c := by
  refine (dats m 0 c).arrAt_eq_of_covers 9 _ (by decide +kernel) fun t hf y => ?_
  blk_simp
  rw [after0_9, outs9]
  obtain ⟨p, q, rfl⟩ : ∃ (p : Fin 256) (q : Fin 2816), y = ix2 p q := ⟨y 0, y 1, eq_ix2 y⟩
  rw [dg_blk]
  blk_ext [idx9, rowAt]
  exact congrArg (· + p.val) (Nat.mul_comm 256 t.val)

theorem arr10 : (dats m 0 c).arrAt 10 cfg0.N = duA m c := by
  refine (dats m 0 c).arrAt_eq_of_covers 10 _ (by decide +kernel) fun t hf y => ?_
  blk_simp
  rw [after0_10, outs10]
  obtain ⟨p, q, rfl⟩ : ∃ (p : Fin 256) (q : Fin 2816), y = ix2 p q := ⟨y 0, y 1, eq_ix2 y⟩
  rw [du_blk]
  blk_ext [idx10, rowAt]
  exact congrArg (· + p.val) (Nat.mul_comm 256 t.val)

/-- The normed input's gradient over a point's block. -/
abbrev dnB (t : Fin cfg0.N) : S256x1024.Idx → EReal :=
  dnF (dgF (iblk m c 0 t) (iblk m c 1 t) (iblk m c 2 t) (iblk m c 8 t)) (duF (iblk m c 0 t) (iblk m c 1 t) (iblk m c 8 t))
    (iblk m c 6 t) (iblk m c 7 t)

theorem dn_blk (t : Fin cfg0.N) (p : Fin 256) (q : Fin 1024) : dnB m c t (ix2 p q) = dnA m c (ix2 (rowAt t p) q) := by
  unfold dnB dnA dnF
  rw [iblk6_eq, iblk7_eq]
  exact congrArg₂ (· + ·) (Finset.sum_congr rfl fun k _ => congrArg (· * _) (dg_blk m c t p k))
    (Finset.sum_congr rfl fun k _ => congrArg (· * _) (du_blk m c t p k))

theorem x_blk (t : Fin cfg0.N) (p : Fin 256) :
    row (R := 256) (iblk m c 3 t) p = row (R := 4096) (C := 1024) (V m c main_arg0) (rowAt t p) :=
  funext fun k => iblk3_apply m c t p k

theorem arr11 : (dats m 0 c).arrAt 11 cfg0.N = dxA m c := by
  refine (dats m 0 c).arrAt_eq_of_covers 11 _ (by decide +kernel) fun t hf y => ?_
  blk_simp
  rw [after0_11, outs11]
  obtain ⟨p, q, rfl⟩ : ∃ (p : Fin 256) (q : Fin 1024), y = ix2 p q := ⟨y 0, y 1, eq_ix2 y⟩
  have hy : (win0_11.blk t).view.emb (ix2 p q) = ix2 (rowAt t p) q := by
    blk_ext [idx11, rowAt]
    exact congrArg (· + p.val) (Nat.mul_comm t.val 256)
  rw [hy]
  have hdn : row (dnB m c t) p = row (dnA m c) (rowAt t p) := funext fun k => dn_blk m c t p k
  show dxK (row (dnB m c t) p) (row (R := 256) (iblk m c 3 t) p) (row (R := 1) (iblk m c 5 t) 0) (iblk m c 4 t (ix2 p q)) q = _
  rw [hdn, x_blk, iblk5_eq, iblk4_apply]
  rfl

/-! ## The norm weights' gradient: the running sum over the points -/

/-- Row `r`'s share of element `q`, nothing past the last row. -/
def share (q : Fin 1024) (r : ℕ) : EReal :=
  if h : r < 4096 then dnA m c (ix2 ⟨r, h⟩ q) * (row (R := 4096) (C := 1024) (V m c main_arg0) ⟨r, h⟩ q * rms (row (R := 4096) (C := 1024) (V m c main_arg0) ⟨r, h⟩))
  else 0

/-- A point adds its 256 rows' shares. -/
theorem dgain_blk (t : Fin cfg0.N) (q : Fin 1024) :
    dgainF (dnB m c t) (iblk m c 3 t) q = ∑ r ∈ Finset.range 256, share m c q (256 * t.val + r) := by
  rw [Finset.sum_range]
  refine Finset.sum_congr rfl fun p _ => ?_
  refine Eq.trans ?_ (dif_pos (c := 256 * t.val + p.val < 4096) (rowAt t p).isLt).symm
  show dnB m c t (ix2 p q) * (row (R := 256) (iblk m c 3 t) p q * rms (row (R := 256) (iblk m c 3 t) p)) = _
  rw [dn_blk, x_blk]
  rfl

/-- After point `n` the accumulated row holds the shares of every row so far. -/
theorem outs12 (q : Fin 1024) : ∀ (n : ℕ) (hn : n < cfg0.N),
    (outsAt0 m c n hn).2.2.2 (ix3 0 0 q) = zero + ∑ r ∈ Finset.range (256 * (n + 1)), share m c q r
  | 0, hn => by
    rw [outsAt0_A m c ⟨0, hn⟩ rfl]
    dsimp only
    rw [outA_12]
    exact congrArg (zero + ·) (dgain_blk m c ⟨0, hn⟩ q)
  | n + 1, hn => by
    have h16 : n + 1 < 16 := hn
    rw [outsAt0_B m c ⟨n + 1, hn⟩ (by show ¬(n + 1) % 16 = 0; omega)]
    dsimp only
    rw [outB_12, show 256 * (n + 1 + 1) = 256 * (n + 1) + 256 by ring, Finset.sum_range_add, ← add_assoc]
    exact congrArg₂ (· + ·) (outs12 q n (Nat.lt_of_succ_lt hn)) (dgain_blk m c ⟨n + 1, hn⟩ q)

theorem arr12 (q : Fin 1024) : (dats m 0 c).arrAt 12 cfg0.N (ix3 0 0 q)
    = zero + dgainF (dnA m c) (V m c main_arg0) q := by
  refine ((dats m 0 c).arrAt_emb_eq_after_last 12 ⟨15, by decide⟩ (by decide +kernel) (ix3 0 0 q)).trans ?_
  refine (congrFun (after0_12 m c ⟨15, by decide⟩) _).trans ?_
  refine (outs12 m c q 15 (by decide)).trans ?_
  rw [show 256 * (15 + 1) = 4096 by norm_num, Finset.sum_range]
  refine congrArg (zero + ·) (Finset.sum_congr rfl fun r _ => ?_)
  unfold share
  rw [dif_pos r.isLt]

end Cert.KernelIdeal.Arrays

end
-- ==== Proof.Ref.lean ====
/- The reference's results at an element, in the words the kernel's are in. -/
module

public import proofs.«01_k».proof.Proof.Rows
public import proofs.«01_k».proof.Proof.Gen.ReferenceIdeal.Read

@[expose] public section

noncomputable section

namespace Cert.ReferenceIdeal.Spec

open Cert.ReferenceIdeal Cert.ReferenceIdeal.Gen Cert.ReferenceIdeal.Read Cert.Rows Cert.Reals
open Idealize.ShloMosaic Idealize.ShloMosaic.ValueIdx

variable (x0 : S4096x1024.Idx → EReal) (x1 : S1x1024.Idx → EReal) (x2 x3 : S1024x2816.Idx → EReal)
  (x4 : S2816x1024.Idx → EReal) (x5 : S4096x1024.Idx → EReal)

/-- Row `p` of the input. -/
abbrev xr (p : Fin 4096) : Fin 1024 → EReal := fun k => x0 (ix2 p k)

theorem zero_add' (x : EReal) : zero + x = x := by
  rw [show zero = 0 from ofBits_zero, zero_add]

/-! ## The forward lines -/

/-- A row's inverse root mean square. -/
theorem r_apply (p : Fin 4096) (j : Fin 1) : val_main_v7 (F := Ideal) x0 (ix2 p j) = rms (xr x0 p) := by
  rw [val_main_v7_apply, val_main_v6_apply, val_main_v4_apply, val_main_v2_apply, val_main_v3_apply, val_main_v5_apply,
    val_main_v1_apply]
  show Ideal.rsqrt (Ideal.div (zero + _) len + eps) = _
  rw [zero_add']
  refine congrArg (fun z => Ideal.rsqrt (Ideal.div z len + eps)) (Finset.sum_congr rfl fun k _ => ?_)
  rw [show idx_main_v1 (idx_main_v2 (ix2 p j)) k = ix2 p k from eq_ix2 _]
  rfl

theorem msq_apply (p : Fin 4096) (j : Fin 1) : val_main_v31 (F := Ideal) x0 (ix2 p j) = msq (xr x0 p) := by
  rw [val_main_v31_apply, val_main_v29_apply, val_main_v27_apply, val_main_v28_apply, val_main_v30_apply,
    val_main_v26_apply]
  show Ideal.div (zero + _) len + eps = _
  rw [zero_add']
  refine congrArg (fun z => Ideal.div z len + eps) (Finset.sum_congr rfl fun k _ => ?_)
  rw [show idx_main_v26 (idx_main_v27 (ix2 p j)) k = ix2 p k from eq_ix2 _]
  rfl

theorem n_apply (p : Fin 4096) (k : Fin 1024) :
    val_main_v11 (F := Ideal) x0 x1 (ix2 p k) = x0 (ix2 p k) * rms (xr x0 p) * x1 (ix2 0 k) := by
  rw [val_main_v11_apply, val_main_v9_apply, val_main_v10_apply, val_main_v8_apply,
    show idx_main_v8 (ix2 p k) = ix2 p 0 from eq_ix2 _, r_apply, show idx_main_v10 (ix2 p k) = ix2 0 k from eq_ix2 _]
  rfl

/-- The activation's logistic factor. -/
theorem s_apply (i : S4096x2816.Idx) :
    val_main_v14_2 (F := Ideal) x0 x1 x2 i = sigR (val_main_v12 (F := Ideal) x0 x1 x2 i) := by
  rw [val_main_v14_2_apply, val_main_call0_v4_apply, val_main_call0_v3_apply, val_main_call0_v2_apply]
  rfl

/-- The gradient at the activation. -/
theorem da_apply (p : Fin 4096) (q : Fin 2816) : val_main_v21 (F := Ideal) x4 x5 (ix2 p q)
    = ∑ k : Fin 1024, val_main_v20 (F := Ideal) x5 (ix2 p k) * x4 (ix2 q k) := by
  rw [val_main_v21_apply]
  refine Finset.sum_congr rfl fun k _ => ?_
  rw [show lidx_main_v21 (ix2 p q) k = ix2 p k from eq_ix2 _, show ridx_main_v21 (ix2 p q) k = ix2 q k from eq_ix2 _]

/-! ## On real arguments -/

section
variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i))

include h0 h1 in
theorem n_isReal (i : S4096x1024.Idx) : IsReal (val_main_v11 (F := Ideal) x0 x1 i) := by
  obtain ⟨p, k, rfl⟩ : ∃ (p : Fin 4096) (k : Fin 1024), i = ix2 p k := ⟨i 0, i 1, eq_ix2 i⟩
  rw [n_apply]
  exact ((h0 _).mul (rms_isReal fun k => h0 _)).mul (h1 _)

include h0 h1 h2 in
theorem g_isReal (i : S4096x2816.Idx) : IsReal (val_main_v12 (F := Ideal) x0 x1 x2 i) := by
  rw [val_main_v12_apply]
  exact IsReal.sum _ fun k => (n_isReal x0 x1 h0 h1 _).mul (h2 _)

include h0 h1 h3 in
theorem u_isReal (i : S4096x2816.Idx) : IsReal (val_main_v13 (F := Ideal) x0 x1 x3 i) := by
  rw [val_main_v13_apply]
  exact IsReal.sum _ fun k => (n_isReal x0 x1 h0 h1 _).mul (h3 _)

include h4 h5 in
theorem da_isReal (i : S4096x2816.Idx) : IsReal (val_main_v21 (F := Ideal) x4 x5 i) := by
  rw [val_main_v21_apply]
  refine IsReal.sum _ fun k => IsReal.mul ?_ (h4 _)
  rw [val_main_v20_apply, val_main_v19_apply]
  exact half_isReal.mul (h5 _)

include h0 h1 h2 h3 h4 h5 in
theorem dg_apply (i : S4096x2816.Idx) : val_main_v24 (F := Ideal) x0 x1 x2 x3 x4 x5 i
    = dgK (val_main_v21 (F := Ideal) x4 x5 i) (val_main_v12 (F := Ideal) x0 x1 x2 i) (val_main_v13 (F := Ideal) x0 x1 x3 i) := by
  rw [dgK_eq (da_isReal x4 x5 h4 h5 i) (g_isReal x0 x1 x2 h0 h1 h2 i) (u_isReal x0 x1 x3 h0 h1 h3 i), ← s_apply]
  rw [val_main_v24_apply, val_main_call1_v1_apply, val_main_call1_v2_apply, val_main_call1_v0_apply, val_main_v23_apply,
    val_main_v14_1_apply, val_main_call0_v7_apply, val_main_call0_v6_apply]
  rfl

include h0 h1 h2 h4 h5 in
theorem du_apply (i : S4096x2816.Idx) : val_main_v22 (F := Ideal) x0 x1 x2 x4 x5 i
    = duK (val_main_v21 (F := Ideal) x4 x5 i) (val_main_v12 (F := Ideal) x0 x1 x2 i) := by
  rw [duK_eq (da_isReal x4 x5 h4 h5 i) (g_isReal x0 x1 x2 h0 h1 h2 i), ← s_apply]
  rfl

/-! ## The second pullback computes the first's arrays again -/

theorem g_again : val_main_v40 (F := Ideal) x0 x1 x2 = val_main_v12 (F := Ideal) x0 x1 x2 := rfl
theorem da_again : val_main_v51 (F := Ideal) x4 x5 = val_main_v21 (F := Ideal) x4 x5 := by
  have e : val_main_v50 (F := Ideal) x5 = val_main_v20 (F := Ideal) x5 := by
    unfold val_main_v50 val_main_v48
    rw [shapeCast_self]; rfl
  unfold val_main_v51; rw [e]; rfl
theorem du_again : val_main_v52 (F := Ideal) x0 x1 x2 x4 x5 = val_main_v22 (F := Ideal) x0 x1 x2 x4 x5 := by
  unfold val_main_v52; rw [da_again]; rfl
theorem dg_again : val_main_v55 (F := Ideal) x0 x1 x2 x3 x4 x5 = val_main_v24 (F := Ideal) x0 x1 x2 x3 x4 x5 := by
  have e'' : val_main_v53 (F := Ideal) x0 x1 x3 x4 x5 = val_main_v23 (F := Ideal) x0 x1 x3 x4 x5 := by
    unfold val_main_v53; rw [da_again]; rfl
  unfold val_main_v55 val_main_call3_v1 val_main_call3_v2 val_main_call3_v0; rw [e'']; rfl

/-- The normed input's gradient. -/
theorem dn_apply (p : Fin 4096) (k : Fin 1024) : val_main_v57 (F := Ideal) x0 x1 x2 x3 x4 x5 (ix2 p k)
    = (∑ q : Fin 2816, val_main_v24 (F := Ideal) x0 x1 x2 x3 x4 x5 (ix2 p q) * x2 (ix2 k q))
      + ∑ q : Fin 2816, val_main_v22 (F := Ideal) x0 x1 x2 x4 x5 (ix2 p q) * x3 (ix2 k q) := by
  rw [val_main_v57_apply, val_main_v54_apply, val_main_v56_apply, du_again, dg_again]
  refine (add_comm _ _).trans (congrArg₂ (· + ·) ?_ ?_) <;> refine Finset.sum_congr rfl fun q _ => ?_
  · rw [show lidx_main_v56 (ix2 p k) q = ix2 p q from eq_ix2 _, show ridx_main_v56 (ix2 p k) q = ix2 k q from eq_ix2 _]
  · rw [show lidx_main_v54 (ix2 p k) q = ix2 p q from eq_ix2 _, show ridx_main_v54 (ix2 p k) q = ix2 k q from eq_ix2 _]

/-- Row `p` of the normed input's gradient. -/
abbrev dnr (p : Fin 4096) : Fin 1024 → EReal := fun k => val_main_v57 (F := Ideal) x0 x1 x2 x3 x4 x5 (ix2 p k)

/-- The mean square's own gradient, spread over the row. -/
theorem dms_apply (p : Fin 4096) (j : Fin 1024) : val_main_v73 (F := Ideal) x0 x1 x2 x3 x4 x5 (ix2 p j)
    = dms (dnr x0 x1 x2 x3 x4 x5 p) (xr x0 p) fun k => x1 (ix2 0 k) := by
  rw [val_main_v73_apply, val_main_v72_apply, Fin.sum_univ_one]
  show zero + _ = _
  rw [zero_add', val_main_v71_apply, val_main_v69_apply, val_main_v65_apply, val_main_v64_apply, val_main_v70_apply,
    val_main_v35_apply, val_main_v34_apply, val_main_v33_apply,
    show idx_main_v72 (idx_main_v73 (ix2 p j)) 0 = ix2 p 0 from eq_ix2 _, msq_apply]
  rw [show val_main_v32 (F := Ideal) x0 (ix2 p 0) = rms (xr x0 p) from r_apply x0 p 0]
  show Ideal.div ((zero + _) * _) len = _
  rw [zero_add']
  refine congrArg (fun z => Ideal.div (z * _) len) (Finset.sum_congr rfl fun k _ => ?_)
  rw [show idx_main_v64 (idx_main_v65 (ix2 p 0)) k = ix2 p k from funext fun a => Fin.ext (by
    match a with
    | ⟨0, _⟩ => exact Nat.mul_one _
    | ⟨1, _⟩ => rfl), val_main_v63_apply, val_main_v62_apply,
    val_main_v61_apply, show idx_main_v61 (ix2 p k) = ix2 0 k from eq_ix2 _]
  rfl

/-- The input's gradient. -/
theorem dx_apply (p : Fin 4096) (j : Fin 1024) : val_main_v77 (F := Ideal) x0 x1 x2 x3 x4 x5 (ix2 p j)
    = dxK (dnr x0 x1 x2 x3 x4 x5 p) (xr x0 p) (fun k => x1 (ix2 0 k)) (x5 (ix2 p j)) j := by
  rw [dxK_eq]
  rw [val_main_v77_apply, val_main_v76_apply, val_main_v75_apply, val_main_v74_apply, val_main_v68_apply,
    val_main_v67_apply, val_main_v62_apply, val_main_v66_apply, val_main_v61_apply, dms_apply,
    show idx_main_v66 (ix2 p j) = ix2 p 0 from eq_ix2 _, show idx_main_v61 (ix2 p j) = ix2 0 j from eq_ix2 _]
  rw [show val_main_v32 (F := Ideal) x0 (ix2 p 0) = rms (xr x0 p) from r_apply x0 p 0]
  rfl

/-- The norm weights' gradient. -/
theorem dgain_apply (j : Fin 1) (q : Fin 1024) : val_main_v60 (F := Ideal) x0 x1 x2 x3 x4 x5 (ix2 j q)
    = ∑ k : Fin 4096, dnr x0 x1 x2 x3 x4 x5 k q * (x0 (ix2 k q) * rms (xr x0 k)) := by
  rw [val_main_v60_apply, val_main_v59_apply]
  show zero + _ = _
  rw [zero_add']
  refine Finset.sum_congr rfl fun k _ => ?_
  rw [show idx_main_v59 (idx_main_v60 (ix2 j q)) k = ix2 k q from funext fun a => Fin.ext (by
    match a with
    | ⟨0, _⟩ => rfl
    | ⟨1, _⟩ => show j.val * 1024 + q.val = q.val; have := j.isLt; omega)]
  rw [val_main_v58_apply, val_main_v37_apply, val_main_v36_apply, show idx_main_v36 (ix2 k q) = ix2 k 0 from eq_ix2 _,
    show val_main_v32 (F := Ideal) x0 (ix2 k 0) = rms (xr x0 k) from r_apply x0 k 0]
  exact mul_comm _ _

end

end Cert.ReferenceIdeal.Spec

end
-- ==== Proof.Glue.lean ====
/- The call's arrays are the reference's results. -/
module

public import proofs.«01_k».proof.Proof.Arrays
public import proofs.«01_k».proof.Proof.Ref

@[expose] public section

noncomputable section

namespace Cert.KernelIdeal.Glue

open Cert.KernelIdeal Cert.KernelIdeal.Gen Idealize.ShloMosaic.TcCoe Idealize.ShloMosaic.ValueIdx Cert.Rows Cert.Reals
open Idealize.ShloMosaic hiding ix2 ix3 eq_ix2 eq_ix3
open Cert.KernelIdeal.Pay Cert.KernelIdeal.Body Cert.KernelIdeal.Arrays Cert.ReferenceIdeal.Spec
open Cert.ReferenceIdeal.Read (val_main_v11 val_main_v12 val_main_v13 val_main_v20 val_main_v21 val_main_v22 val_main_v24
  val_main_v57 val_main_v60 val_main_v77 val_main_v78 val_main_v79 val_main_v80)

variable (m : (ℓ : Loc nD τ sig) → Buf (Elt Ideal) ℓ) (c : Dev nD)

/-- The arguments on a device. -/
abbrev a0 : S4096x1024.Idx → EReal := m ((c.tc : Thread nD τ).loc main_arg0)
abbrev a1 : S1x1024.Idx → EReal := m ((c.tc : Thread nD τ).loc main_arg1)
abbrev a2 : S1024x2816.Idx → EReal := m ((c.tc : Thread nD τ).loc main_arg2)
abbrev a3 : S1024x2816.Idx → EReal := m ((c.tc : Thread nD τ).loc main_arg3)
abbrev a4 : S2816x1024.Idx → EReal := m ((c.tc : Thread nD τ).loc main_arg4)
abbrev a5 : S4096x1024.Idx → EReal := m ((c.tc : Thread nD τ).loc main_arg5)

/-! ## The arrays the host prepares -/

theorem V_arg0 : V m c main_arg0 = a0 m c := by unfold V; after_results <;> rfl
theorem V_arg1 : V m c main_arg1 = a1 m c := by unfold V; after_results <;> rfl
theorem V_arg5 : V m c main_arg5 = a5 m c := by unfold V; after_results <;> rfl
theorem V_g : V m c main_v13 = val_main_v12 (F := Ideal) (a0 m c) (a1 m c) (a2 m c) := by
  unfold V; after_results <;> rfl
theorem V_u : V m c main_v15 = val_main_v13 (F := Ideal) (a0 m c) (a1 m c) (a3 m c) := by
  unfold V; after_results <;> rfl
theorem V_dy : V m c main_v18 = val_main_v20 (F := Ideal) (a5 m c) := by unfold V; after_results <;> rfl
theorem V_wd : V m c main_v23 = a4 m c := by unfold V; after_results <;> rfl
theorem V_wg : V m c main_v20 = fun i => a2 m c (ix2 (i 1) (i 0)) := by
  have e : V m c main_v20 = transpose S2816x1024 [1, 0] (a2 m c) transposes_S1024x2816_S2816x1024_1_0 := by
    unfold V; after_results <;> rfl
  rw [e]
  exact funext fun i => transpose_apply _ _ _ i _ (fun b => by match b with | ⟨0, _⟩ => rfl | ⟨1, _⟩ => rfl)
theorem V_wu : V m c main_v22 = fun i => a3 m c (ix2 (i 1) (i 0)) := by
  have e : V m c main_v22 = transpose S2816x1024 [1, 0] (a3 m c) transposes_S1024x2816_S2816x1024_1_0 := by
    unfold V; after_results <;> rfl
  rw [e]
  exact funext fun i => transpose_apply _ _ _ i _ (fun b => by match b with | ⟨0, _⟩ => rfl | ⟨1, _⟩ => rfl)

/-! ## The call's arrays -/

section
variable (h0 : ∀ i, IsReal (a0 m c i)) (h1 : ∀ i, IsReal (a1 m c i)) (h2 : ∀ i, IsReal (a2 m c i)) (h3 : ∀ i, IsReal (a3 m c i))
  (h4 : ∀ i, IsReal (a4 m c i)) (h5 : ∀ i, IsReal (a5 m c i))

/-- The gradient at the activation, in the call's words. -/
theorem da_eq (y : S4096x2816.Idx) : daAt (R := 4096) (V m c main_v18) (V m c main_v23) (y 0) (y 1)
    = val_main_v21 (F := Ideal) (a4 m c) (a5 m c) y := by
  obtain ⟨p, q, rfl⟩ : ∃ (p : Fin 4096) (q : Fin 2816), y = ix2 p q := ⟨y 0, y 1, eq_ix2 y⟩
  rw [da_apply, V_dy, V_wd]
  rfl

include h0 h1 h2 h3 h4 h5 in
theorem dg_eq : dgA m c = val_main_v24 (F := Ideal) (a0 m c) (a1 m c) (a2 m c) (a3 m c) (a4 m c) (a5 m c) := by
  funext y
  rw [dg_apply _ _ _ _ _ _ h0 h1 h2 h3 h4 h5, ← da_eq, ← V_g, ← V_u]
  rfl

include h0 h1 h2 h4 h5 in
theorem du_eq : duA m c = val_main_v22 (F := Ideal) (a0 m c) (a1 m c) (a2 m c) (a4 m c) (a5 m c) := by
  funext y
  rw [du_apply _ _ _ _ _ h0 h1 h2 h4 h5, ← da_eq, ← V_g]
  rfl

include h0 h1 h2 h3 h4 h5 in
theorem dn_eq (p : Fin 4096) : row (R := 4096) (dnA m c) p = dnr (a0 m c) (a1 m c) (a2 m c) (a3 m c) (a4 m c) (a5 m c) p := by
  funext k
  refine Eq.trans ?_ (dn_apply _ _ _ _ _ _ p k).symm
  rw [← dg_eq m c h0 h1 h2 h3 h4 h5, ← du_eq m c h0 h1 h2 h4 h5]
  show dnA m c (ix2 p k) = _
  unfold dnA
  rw [V_wg, V_wu]
  rfl

include h0 h1 h2 h3 h4 h5 in
theorem dx_eq : dxA m c = val_main_v77 (F := Ideal) (a0 m c) (a1 m c) (a2 m c) (a3 m c) (a4 m c) (a5 m c) := by
  funext y
  obtain ⟨p, q, rfl⟩ : ∃ (p : Fin 4096) (q : Fin 1024), y = ix2 p q := ⟨y 0, y 1, eq_ix2 y⟩
  rw [dx_apply, ← dn_eq m c h0 h1 h2 h3 h4 h5]
  unfold dxA
  rw [V_arg0, V_arg1, V_arg5]
  rfl

include h0 h1 h2 h3 h4 h5 in
theorem dgain_row (q : Fin 1024) : dgainF (dnA m c) (a0 m c) q
    = val_main_v60 (F := Ideal) (a0 m c) (a1 m c) (a2 m c) (a3 m c) (a4 m c) (a5 m c) (ix2 0 q) := by
  rw [dgain_apply]
  refine Finset.sum_congr rfl fun k _ => ?_
  rw [← dn_eq m c h0 h1 h2 h3 h4 h5]

include h0 h1 h2 h3 h4 h5 in
theorem dgain_eq : (dats m 0 c).arrAt 12 cfg0.N
    = val_main_v80 (F := Ideal) (a0 m c) (a1 m c) (a2 m c) (a3 m c) (a4 m c) (a5 m c) := by
  funext (y : S1x1x1024.Idx)
  obtain ⟨i, j, q, rfl⟩ : ∃ (i j : Fin 1) (q : Fin 1024), y = ix3 i j q := ⟨y 0, y 1, y 2, eq_ix3 y⟩
  obtain rfl : i = 0 := Subsingleton.elim _ _
  obtain rfl : j = 0 := Subsingleton.elim _ _
  refine (arr12 m c q).trans ?_
  rw [zero_add', V_arg0, Cert.ReferenceIdeal.Read.val_main_v80_apply,
    show Cert.ReferenceIdeal.Read.idx_main_v80 (ix3 0 0 q) = ix2 0 q from eq_ix2 _]
  exact dgain_row m c h0 h1 h2 h3 h4 h5 q

end

end Cert.KernelIdeal.Glue

end
-- ==== Proof.Bands.lean ====
/- Products read at an element, and accumulators stored band by band: 512 rows at a time, each band the sum of what it held
   and a product. -/
module

public import Idealize.ShloMosaic.Lib.ValueIdx
public import Idealize.ShloMosaic.Lib.Pipeline.CanonAppend
public import Idealize.ShloMosaic.PureOps.Ideal.Laws

@[expose] public section

noncomputable section

namespace Cert.Bands

open Idealize.ShloMosaic Idealize.ShloMosaic.ValueIdx

/-- A two-axis shape. -/
abbrev Sh (m n : ℕ) : Shape := ⟨2, ![m, n]⟩

/-- A product into zero, over one contracted axis, at an element: the sum over that axis. -/
theorem matmul_sum {sl sr so : Shape} {φ₁ φ₂ : FTy} (d : DotDims sl sr so) (K : ℕ) (hr : d.contr.rank = 1)
    (hk : d.contr.size ⟨0, by rw [hr]; exact Nat.one_pos⟩ = K) (lhs : FVec Ideal sl φ₁) (rhs : FVec Ideal sr φ₂) (i : so.Idx)
    (L : Fin K → sl.Idx) (R : Fin K → sr.Idx)
    (hL : ∀ k, d.lhsIdx i ((contrEquiv1 d K hr hk).symm k) = L k) (hR : ∀ k, d.rhsIdx i ((contrEquiv1 d K hr hk).symm k) = R k) :
    FloatOps.matmul (F := Ideal) d none lhs rhs (constant so .f32 0x00000000#32) i = ∑ k : Fin K, lhs (L k) * rhs (R k) := by
  rw [Ideal.matmul_constant_zero_apply, ← Equiv.sum_comp (contrEquiv1 d K hr hk).symm]
  exact Finset.sum_congr rfl fun k _ => by rw [hL, hR]

/-- The product of two arrays, the first transposed. -/
def prodTN {K M N : ℕ} (x : (Sh K M).Idx → EReal) (y : (Sh K N).Idx → EReal) : (Sh M N).Idx → EReal :=
  fun i => ∑ k : Fin K, x (ix2 k (i 0)) * y (ix2 k (i 1))

theorem prodTN_cols {K M M' N : ℕ} (x' : (Sh K M').Idx → EReal) (x : (Sh K M).Idx → EReal) (y : (Sh K N).Idx → EReal) (p : Fin M')
    (P : Fin M) (q : Fin N) (h : ∀ k, x' (ix2 k p) = x (ix2 k P)) : prodTN x' y (ix2 p q) = prodTN x y (ix2 P q) :=
  Finset.sum_congr rfl fun k _ => congrArg (· * y (ix2 k q)) (h k)

/-- The product with an array's transpose. -/
def prodNT {M K N : ℕ} (x : (Sh M K).Idx → EReal) (w : (Sh N K).Idx → EReal) : (Sh M N).Idx → EReal :=
  fun i => ∑ k : Fin K, x (ix2 (i 0) k) * w (ix2 (i 1) k)

/-- Arrays of 512 columns side by side. -/
def join {n R M : ℕ} (hM : M = 512 * n) (d : Fin n → (Sh R 512).Idx → EReal) : (Sh R M).Idx → EReal :=
  fun y => d ⟨(y 1).val / 512, by have h : (y 1).val < M := (y 1).isLt; omega⟩ (ix2 (y 0) ⟨(y 1).val % 512, by omega⟩)

theorem join_at {n R M : ℕ} (hM : M = 512 * n) (d : Fin n → (Sh R 512).Idx → EReal) (k : Fin R) (i : Fin n) (p : Fin 512)
    (c : Fin M) (hc : c.val = 512 * i.val + p.val) : join hM d (ix2 k c) = d i (ix2 k p) := by
  have h := p.isLt
  have e1 : (⟨c.val / 512, by have := c.isLt; omega⟩ : Fin n) = i := Fin.ext (by show c.val / 512 = i.val; omega)
  have e2 : (⟨c.val % 512, by omega⟩ : Fin 512) = p := Fin.ext (by show c.val % 512 = p.val; omega)
  show d ⟨c.val / 512, _⟩ (ix2 k ⟨c.val % 512, _⟩) = _
  rw [e1, e2]

/-- An accumulator after one more block of rows. -/
def step {R M N : ℕ} (acc : (Sh M N).Idx → EReal) (d : (Sh R M).Idx → EReal) (x : (Sh R N).Idx → EReal) : (Sh M N).Idx → EReal :=
  fun y => acc y + prodTN d x y

/-- Where a band's element lies. -/
theorem emb_band {M K N : ℕ} (o : ℕ) (h : ∀ a, (![o, 0] : Fin 2 → ℕ) a + (Sh K N).size a ≤ (Sh M N).size a) (p : Fin K) (q : Fin N)
    (c : Fin M) (hc : c.val = o + p.val) : (Rect.unit (s := Sh M N) ![o, 0] (Sh K N).size h).emb (ix2 p q) = ix2 c q :=
  funext fun a => Fin.ext (by
    match a with
    | ⟨0, _⟩ => show o + 1 * p.val = c.val; omega
    | ⟨1, _⟩ => show 0 + 1 * q.val = q.val; omega)

/-- A band that holds what it held and its own columns' product is the band of the accumulator's next value. -/
theorem band_step {n R M N : ℕ} (hM : M = 512 * n) (acc : (Sh M N).Idx → EReal) (d : Fin n → (Sh R 512).Idx → EReal)
    (x : (Sh R N).Idx → EReal) (i : Fin n) (o : ℕ) (ho : o = 512 * i.val)
    (h : ∀ a, (![o, 0] : Fin 2 → ℕ) a + (Sh 512 N).size a ≤ (Sh M N).size a) (p : Fin 512) (q : Fin N) (W held : EReal)
    (hW : W = held + ∑ k : Fin R, d i (ix2 k p) * x (ix2 k q))
    (hh : held = acc ((Rect.unit (s := Sh M N) ![o, 0] (Sh 512 N).size h).emb (ix2 p q))) :
    W = step acc (join hM d) x ((Rect.unit (s := Sh M N) ![o, 0] (Sh 512 N).size h).emb (ix2 p q)) := by
  have hi := i.isLt
  have hp := p.isLt
  have e := emb_band o h p q ⟨o + p.val, by omega⟩ rfl
  rw [hW, hh, e]
  refine congrArg (acc _ + ·) (Finset.sum_congr rfl fun k _ => congrArg (· * _) ?_)
  exact (join_at hM d k i p _ (by show o + p.val = _; omega)).symm

/-! ## Reading back -/

section
variable {Val : EltTy → Type} [∀ e, Nonempty (Val e)] {S : Shape} {e : EltTy} {sig : RefSig} {κ : Kind} {sp : Space}

/-- A load of the whole of what stores left. -/
theorem readCov_whole {off : Fin S.rank → ℕ} (h : off = fun _ => 0) (v : View sig κ sp S e) (L : List (View.Piece Val S e))
    (inb : ∀ a, off a + S.size a ≤ S.size a) : v.readCov L (Rect.unit off S.size inb).toLoadRect = View.canon L := by
  rw [View.readCov_eq_canon']
  exact View.ld_unit_zero h inb (View.canon L)

/-- A load of a part after the whole is filled, -/
theorem readCov_fill {off : Fin S.rank → ℕ} (h : off = fun _ => 0) (v : View sig κ sp S e) (Z : S.Idx → Val e)
    (inb : ∀ a, off a + S.size a ≤ S.size a) (r : Rect S) :
    v.readCov [⟨Rect.unit off S.size inb, Z⟩] r.toLoadRect = View.ld Z r := by
  rw [View.readCov_eq_canon', View.canon_unit_zero h]

/-- and other parts are stored since. -/
theorem readCov_skip_fill {off : Fin S.rank → ℕ} (h : off = fun _ => 0) (v : View sig κ sp S e) {Z : S.Idx → Val e}
    {inb : ∀ a, off a + S.size a ≤ S.size a} {r : Rect S} : ∀ (L : List (View.Piece Val S e)) (_ : ∀ p ∈ L, Disjoint p.1.set r.toLoadRect.set),
    v.readCov (L ++ [⟨Rect.unit off S.size inb, Z⟩]) r.toLoadRect = View.ld Z r
  | [], _ => readCov_fill h v Z inb r
  | p :: L, hL => (View.readCov_cons_of_disjoint v p _ _ (hL p (List.mem_cons_self ..))).trans
      (readCov_skip_fill h v L fun p' h' => hL p' (List.mem_cons_of_mem _ h'))

end

/-! ## Sums over blocks of rows -/

/-- Row `r`'s share of a product's element, nothing past the last row. -/
def share {K M N : ℕ} (x : (Sh K M).Idx → EReal) (y : (Sh K N).Idx → EReal) (i : (Sh M N).Idx) (r : ℕ) : EReal :=
  if h : r < K then x (ix2 ⟨r, h⟩ (i 0)) * y (ix2 ⟨r, h⟩ (i 1)) else 0

theorem sum_share {K M N : ℕ} (x : (Sh K M).Idx → EReal) (y : (Sh K N).Idx → EReal) (i : (Sh M N).Idx) :
    ∑ r ∈ Finset.range K, share x y i r = prodTN x y i := by
  rw [Finset.sum_range]
  exact Finset.sum_congr rfl fun k _ => dif_pos k.isLt

/-- A block of 512 rows' product is those rows' shares. -/
theorem sum_share_blk {K M N : ℕ} (x : (Sh K M).Idx → EReal) (y : (Sh K N).Idx → EReal) (i : (Sh M N).Idx) (t : ℕ)
    (x' : (Sh 512 M).Idx → EReal) (y' : (Sh 512 N).Idx → EReal) (ht : 512 * t + 512 ≤ K)
    (hx : ∀ (p : Fin 512) (q : Fin M), x' (ix2 p q) = x (ix2 ⟨512 * t + p.val, by have := p.isLt; omega⟩ q))
    (hy : ∀ (p : Fin 512) (q : Fin N), y' (ix2 p q) = y (ix2 ⟨512 * t + p.val, by have := p.isLt; omega⟩ q)) :
    prodTN x' y' i = ∑ r ∈ Finset.range 512, share x y i (512 * t + r) := by
  rw [Finset.sum_range]
  refine Finset.sum_congr rfl fun p _ => ?_
  have hp := p.isLt
  refine Eq.trans ?_ (dif_pos (c := 512 * t + p.val < K) (by omega)).symm
  exact congrArg₂ (· * ·) (hx p (i 0)) (hy p (i 1))

/-- An accumulator that starts at zero and takes 512 rows at a time holds, after block `n`, the shares of the rows so far. -/
theorem steps_sum {K M N : ℕ} (x : (Sh K M).Idx → EReal) (y : (Sh K N).Idx → EReal) (B : ℕ) (A : (n : ℕ) → n < B → (Sh M N).Idx → EReal)
    (z : EReal) (hz : z = 0)
    (h0 : ∀ (h : 0 < B) i, A 0 h i = z + ∑ r ∈ Finset.range 512, share x y i (512 * 0 + r))
    (hs : ∀ n (h : n + 1 < B) i, A (n + 1) h i = A n (Nat.lt_of_succ_lt h) i + ∑ r ∈ Finset.range 512, share x y i (512 * (n + 1) + r)) :
    ∀ n (h : n < B) i, A n h i = ∑ r ∈ Finset.range (512 * (n + 1)), share x y i r
  | 0, h, i => by
    rw [h0, hz, zero_add]
    exact Finset.sum_congr rfl fun r _ => by rw [Nat.mul_zero, Nat.zero_add]
  | n + 1, h, i => by
    rw [hs, steps_sum x y B A z hz h0 hs n, Nat.mul_succ 512 (n + 1), Finset.sum_range_add]

end Cert.Bands

end
-- ==== Proof.Wd.lean ====
/- The down projection's gradient: the call leaves the product of the activations, transposed, with the scaled cotangent. -/
module

public import proofs.«01_k».proof.Proof.Gen.KernelWdIdeal.Value
public import proofs.«01_k».proof.Proof.Gen.ReferenceWdIdeal.Read
public import proofs.«01_k».proof.Proof.Bands
public import Idealize.ShloMosaic.Lib.ValueIdx
public import Idealize.ShloMosaic.Lib.Pipeline.ValueKit

@[expose] public section

noncomputable section

namespace Cert.KernelWdIdeal.Wd

open Cert.KernelWdIdeal Cert.KernelWdIdeal.Gen Idealize.ShloMosaic.TcCoe Idealize.ShloMosaic.ValueIdx
open Idealize.ShloMosaic hiding ix2 ix3 eq_ix2 eq_ix3
open Cert.Bands
open Cert.ReferenceWdIdeal.Read (val_main_v16 val_main_v21 val_main_v22 val_main_v23 val_main_v24)

/-- A block of 256 columns against a whole array, the 4096 rows contracted. -/
theorem dotTN_apply (lhs : FVec Ideal S4096x256 .bf16) (rhs : FVec Ideal S4096x1024 .bf16) (p : Fin 256) (q : Fin 1024) :
    FloatOps.matmul (F := Ideal) dot_S4096x256_S4096x1024_S256x1024_0_0_1_1_n_n none lhs rhs (constant S256x1024 .f32 0x00000000#32) (ix2 p q)
      = prodTN (K := 4096) (M := 256) (N := 1024) lhs rhs (ix2 p q) := by
  refine matmul_sum _ 4096 rfl rfl lhs rhs _ (fun k => ix2 k p) (fun k => ix2 k q) (fun k => ?_) (fun k => ?_)
  · exact funext fun a => Fin.ext (by match a with | ⟨0, _⟩ => exact contrEquiv1_symm_val dot_S4096x256_S4096x1024_S256x1024_0_0_1_1_n_n 4096 rfl rfl k | ⟨1, _⟩ => rfl)
  · exact funext fun a => Fin.ext (by match a with | ⟨0, _⟩ => exact contrEquiv1_symm_val dot_S4096x256_S4096x1024_S256x1024_0_0_1_1_n_n 4096 rfl rfl k | ⟨1, _⟩ => rfl)

theorem zero2 : (![0, 0] : Fin 2 → ℕ) = fun _ => 0 := by decide

/-- What the body leaves in its output block. -/
theorem out_apply (x0 : Vec Ideal S4096x256 .bf16) (x1 : Vec Ideal S4096x1024 .bf16) (p : Fin 256) (q : Fin 1024) :
    out0_2 (F := Ideal) x0 x1 (ix2 p q) = prodTN (K := 4096) (M := 256) (N := 1024) x0 x1 (ix2 p q) := by
  unfold out0_2
  rw [View.canon_unit_zero zero2, View.ld_unit_zero zero2, View.ld_unit_zero zero2]
  unfold k0_pay1
  rw [shapeCast_self, shapeCast_self]
  exact dotTN_apply x0 x1 p q

variable (m : (ℓ : Loc nD τ sig) → Buf (Elt Ideal) ℓ) (c : Dev nD)

/-- Column `p` of the block that point `t` reads, and row `p` of the block it writes, in the whole. -/
def colAt (t : Fin cfg0.N) (p : Fin 256) : Fin 2816 := ⟨256 * t.val + p.val, by have h : t.val < 11 := t.isLt; have := p.isLt; omega⟩

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

theorem iblk0_apply (t : Fin cfg0.N) (k : Fin 4096) (p : Fin 256) :
    iblk m c 0 t (ix2 k p) = V m c main_v16 (ix2 k (colAt t p)) := by
  unfold iblk
  blk_ext [idx0, colAt]
  exact congrArg (· + p.val) (Nat.mul_comm t.val 256)

theorem iblk1_eq (t : Fin cfg0.N) : iblk m c 1 t = V m c main_v19 := by
  funext y; unfold iblk; blk_ext [idx1]

theorem arr2 : (dats m 0 c).arrAt 2 cfg0.N = prodTN (K := 4096) (M := 2816) (N := 1024) (V m c main_v16) (V m c main_v19) := by
  refine (dats m 0 c).arrAt_eq_of_covers 2 _ (by decide +kernel) fun t hf y => ?_
  blk_simp
  rw [after0_2]
  obtain ⟨p, q, rfl⟩ : ∃ (p : Fin 256) (q : Fin 1024), y = ix2 p q := ⟨y 0, y 1, eq_ix2 y⟩
  have hy : (win0_2.blk t).view.emb (ix2 p q) = ix2 (colAt t p) q := by
    blk_ext [idx2, colAt]
    exact congrArg (· + p.val) (Nat.mul_comm t.val 256)
  rw [hy, out_apply, iblk1_eq]
  exact prodTN_cols _ _ _ _ _ _ fun k => iblk0_apply m c t k p

/-- The arguments on a device. -/
abbrev a0 : S4096x1024.Idx → EReal := m ((c.tc : Thread nD τ).loc main_arg0)
abbrev a1 : S1x1024.Idx → EReal := m ((c.tc : Thread nD τ).loc main_arg1)
abbrev a2 : S1024x2816.Idx → EReal := m ((c.tc : Thread nD τ).loc main_arg2)
abbrev a3 : S1024x2816.Idx → EReal := m ((c.tc : Thread nD τ).loc main_arg3)
abbrev a4 : S4096x1024.Idx → EReal := m ((c.tc : Thread nD τ).loc main_arg4)

theorem V_act : V m c main_v16 = val_main_v16 (F := Ideal) (a0 m c) (a1 m c) (a2 m c) (a3 m c) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl
theorem V_dy : V m c main_v19 = val_main_v21 (F := Ideal) (a4 m c) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

/-- The call's array is the reference's result. -/
theorem dw_eq : (dats m 0 c).arrAt 2 cfg0.N = val_main_v24 (F := Ideal) (a0 m c) (a1 m c) (a2 m c) (a3 m c) (a4 m c) := by
  rw [arr2, V_act, V_dy]
  funext i
  obtain ⟨p, q, rfl⟩ : ∃ (p : Fin 2816) (q : Fin 1024), i = ix2 p q := ⟨i 0, i 1, eq_ix2 i⟩
  show _ = val_main_v23 (F := Ideal) (a0 m c) (a1 m c) (a2 m c) (a3 m c) (a4 m c) (ix2 p q)
  rw [Cert.ReferenceWdIdeal.Read.val_main_v23_apply, Cert.ReferenceWdIdeal.Read.val_main_v22_apply]
  refine Finset.sum_congr rfl fun k _ => ?_
  have hl : Cert.ReferenceWdIdeal.Read.lidx_main_v22 (Cert.ReferenceWdIdeal.Read.idx_main_v23 (ix2 p q)) k = ix2 k q := eq_ix2 _
  have hr : Cert.ReferenceWdIdeal.Read.ridx_main_v22 (Cert.ReferenceWdIdeal.Read.idx_main_v23 (ix2 p q)) k = ix2 k p := eq_ix2 _
  rw [hl, hr]
  exact mul_comm _ _

end Cert.KernelWdIdeal.Wd

end
-- ==== Proof.Wg.lean ====
/- The gate's (and the up projection's) weight gradient: the same call on other arrays, the cotangent against the normalised rows. -/
module

public import proofs.«01_k».proof.Proof.Gen.KernelWgIdeal.Value
public import proofs.«01_k».proof.Proof.Gen.ReferenceWgIdeal.Read
public import proofs.«01_k».proof.Proof.Wd

@[expose] public section

noncomputable section

namespace Cert.KernelWgIdeal.Wg

open Cert.KernelWgIdeal Cert.KernelWgIdeal.Gen Idealize.ShloMosaic.TcCoe Idealize.ShloMosaic.ValueIdx
open Idealize.ShloMosaic hiding ix2 ix3 eq_ix2 eq_ix3
open Cert.Bands
open Cert.KernelWdIdeal.Wd (dotTN_apply zero2)
open Cert.ReferenceWgIdeal.Read

/-- What the body leaves in its output block. -/
theorem out_apply (x0 : Vec Ideal S4096x256 .bf16) (x1 : Vec Ideal S4096x1024 .bf16) (p : Fin 256) (q : Fin 1024) :
    out0_2 (F := Ideal) x0 x1 (ix2 p q) = prodTN (K := 4096) (M := 256) (N := 1024) x0 x1 (ix2 p q) := by
  unfold out0_2
  rw [View.canon_unit_zero zero2, View.ld_unit_zero zero2, View.ld_unit_zero zero2]
  unfold k0_pay1
  rw [shapeCast_self, shapeCast_self]
  exact dotTN_apply x0 x1 p q

variable (m : (ℓ : Loc nD τ sig) → Buf (Elt Ideal) ℓ) (c : Dev nD)

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

/-- Column `p` of the block that point `t` reads, and row `p` of the block it writes, in the whole. -/
def colAt (t : Fin cfg0.N) (p : Fin 256) : Fin 2816 := ⟨256 * t.val + p.val, by have h : t.val < 11 := t.isLt; have := p.isLt; omega⟩

theorem iblk0_apply (t : Fin cfg0.N) (k : Fin 4096) (p : Fin 256) :
    iblk m c 0 t (ix2 k p) = V m c main_v0 (ix2 k (colAt t p)) := by
  unfold iblk
  blk_ext [idx0, colAt]
  exact congrArg (· + p.val) (Nat.mul_comm t.val 256)

theorem iblk1_eq (t : Fin cfg0.N) : iblk m c 1 t = V m c main_v13 := by
  funext y; unfold iblk; blk_ext [idx1]

theorem arr2 : (dats m 0 c).arrAt 2 cfg0.N = prodTN (K := 4096) (M := 2816) (N := 1024) (V m c main_v0) (V m c main_v13) := by
  refine (dats m 0 c).arrAt_eq_of_covers 2 _ (by decide +kernel) fun t hf y => ?_
  blk_simp
  rw [after0_2]
  obtain ⟨p, q, rfl⟩ : ∃ (p : Fin 256) (q : Fin 1024), y = ix2 p q := ⟨y 0, y 1, eq_ix2 y⟩
  have hy : (win0_2.blk t).view.emb (ix2 p q) = ix2 (colAt t p) q := by
    blk_ext [idx2, colAt]
    exact congrArg (· + p.val) (Nat.mul_comm t.val 256)
  rw [hy, out_apply, iblk1_eq]
  exact prodTN_cols _ _ _ _ _ _ fun k => iblk0_apply m c t k p

/-- The arguments on a device. -/
abbrev a0 : S4096x1024.Idx → EReal := m ((c.tc : Thread nD τ).loc main_arg0)
abbrev a1 : S1x1024.Idx → EReal := m ((c.tc : Thread nD τ).loc main_arg1)
abbrev a2 : S4096x2816.Idx → EReal := m ((c.tc : Thread nD τ).loc main_arg2)

theorem V_dg : V m c main_v0 = a2 m c := by unfold V; after_results <;> rfl
theorem V_n : V m c main_v13 = val_main_v12 (F := Ideal) (a0 m c) (a1 m c) := by unfold V; after_results <;> rfl

/-- The call's array is the reference's result. -/
theorem dw_eq : (dats m 0 c).arrAt 2 cfg0.N = val_main_v17 (F := Ideal) (a0 m c) (a1 m c) (a2 m c) := by
  rw [arr2, V_dg, V_n]
  funext i
  obtain ⟨p, q, rfl⟩ : ∃ (p : Fin 2816) (q : Fin 1024), i = ix2 p q := ⟨i 0, i 1, eq_ix2 i⟩
  show _ = val_main_v16 (F := Ideal) (a0 m c) (a1 m c) (a2 m c) (ix2 p q)
  rw [val_main_v16_apply, val_main_v15_apply, val_main_v14_apply]
  refine Finset.sum_congr rfl fun k _ => ?_
  have hl : lidx_main_v14 (idx_main_v15 (idx_main_v16 (ix2 p q))) k = ix2 k p := eq_ix2 _
  have hr : ridx_main_v14 (idx_main_v15 (idx_main_v16 (ix2 p q))) k = ix2 k q := eq_ix2 _
  rw [hl, hr]

end Cert.KernelWgIdeal.Wg

end
-- ==== Proof.MoBody.lean ====
/- The output projection's backward call, block by block: the incoming gradient through the projection, split in its two halves,
   and the projection's own gradient, accumulated in two bands of rows. -/
module

public import proofs.«01_k».proof.Proof.Gen.KernelMoIdeal.Frame
public import proofs.«01_k».proof.Proof.Bands
public import Idealize.ShloMosaic.Lib.ValueLayout

@[expose] public section

noncomputable section

namespace Cert.KernelMoIdeal.Body

open Cert.KernelMoIdeal Cert.KernelMoIdeal.Gen Idealize.ShloMosaic.TcCoe
open Idealize.ShloMosaic Idealize.ShloMosaic.ValueIdx Cert.Bands

theorem zero2 : (![0, 0] : Fin 2 → ℕ) = fun _ => 0 := by decide

/-! ## The products -/

theorem dotNT (lhs : FVec Ideal S512x1024 .bf16) (rhs : FVec Ideal S1024x1024 .bf16) (p : Fin 512) (q : Fin 1024) :
    FloatOps.matmul (F := Ideal) dot_S512x1024_S1024x1024_S512x1024_1_1_0_0_n_n none lhs rhs (constant S512x1024 .f32 0x00000000#32) (ix2 p q)
      = prodNT (M := 512) (K := 1024) (N := 1024) lhs rhs (ix2 p q) := by
  refine matmul_sum _ 1024 rfl rfl lhs rhs _ (fun k => ix2 p k) (fun k => ix2 q k) (fun k => ?_) (fun k => ?_)
  · exact funext fun a => Fin.ext (by match a with | ⟨0, _⟩ => rfl | ⟨1, _⟩ => exact contrEquiv1_symm_val dot_S512x1024_S1024x1024_S512x1024_1_1_0_0_n_n 1024 rfl rfl k)
  · exact funext fun a => Fin.ext (by match a with | ⟨0, _⟩ => rfl | ⟨1, _⟩ => exact contrEquiv1_symm_val dot_S512x1024_S1024x1024_S512x1024_1_1_0_0_n_n 1024 rfl rfl k)

theorem dotTN (lhs : FVec Ideal S512x512 .bf16) (rhs : FVec Ideal S512x1024 .bf16) (p : Fin 512) (q : Fin 1024) :
    FloatOps.matmul (F := Ideal) dot_S512x512_S512x1024_S512x1024_0_0_1_1_n_n none lhs rhs (constant S512x1024 .f32 0x00000000#32) (ix2 p q)
      = ∑ k : Fin 512, lhs (ix2 k p) * rhs (ix2 k q) := by
  refine matmul_sum _ 512 rfl rfl lhs rhs _ (fun k => ix2 k p) (fun k => ix2 k q) (fun k => ?_) (fun k => ?_)
  · exact funext fun a => Fin.ext (by match a with | ⟨0, _⟩ => exact contrEquiv1_symm_val dot_S512x512_S512x1024_S512x1024_0_0_1_1_n_n 512 rfl rfl k | ⟨1, _⟩ => rfl)
  · exact funext fun a => Fin.ext (by match a with | ⟨0, _⟩ => exact contrEquiv1_symm_val dot_S512x512_S512x1024_S512x1024_0_0_1_1_n_n 512 rfl rfl k | ⟨1, _⟩ => rfl)

theorem pay4_apply (dh : Vec Ideal S512x1024 .f32) (w : Vec Ideal S1024x1024 .bf16) (p : Fin 512) (q : Fin 1024) :
    k0_pay4 (F := Ideal) dh w (ix2 p q) = prodNT (M := 512) (K := 1024) (N := 1024) dh w (ix2 p q) := by
  unfold k0_pay4
  rw [shapeCast_self]
  exact dotNT (k0_pay3 (F := Ideal) dh) w p q

/-- 512 columns of an array, from column `o`. -/
def cols {R M : ℕ} (o : ℕ) (ho : o + 512 ≤ M) (x : (Sh R M).Idx → EReal) : (Sh R 512).Idx → EReal :=
  fun y => x (ix2 (y 0) ⟨o + (y 1).val, by have h : (y 1).val < 512 := (y 1).isLt; omega⟩)

theorem pay5_eq (dh : Vec Ideal S512x1024 .f32) (w : Vec Ideal S1024x1024 .bf16) :
    k0_pay5 (F := Ideal) dh w = cols 0 (by decide) (prodNT (M := 512) (K := 1024) (N := 1024) dh w) := by
  funext y
  obtain ⟨p, q, rfl⟩ : ∃ p q : Fin 512, y = ix2 p q := ⟨y 0, y 1, eq_ix2 y⟩
  show extractStridedSlice S512x512 ![0, 0] (k0_pay4 (F := Ideal) dh w) slices_S512x1024_o0_0_S512x512 (ix2 p q) = _
  rw [extractStridedSlice_apply _ _ _ (ix2 p q) (ix2 p ⟨0 + q.val, by have := q.isLt; omega⟩) (fun a => by match a with | ⟨0, _⟩ => exact (Nat.zero_add _).symm | ⟨1, _⟩ => rfl),
    pay4_apply]
  rfl

theorem pay6_eq (dh : Vec Ideal S512x1024 .f32) (w : Vec Ideal S1024x1024 .bf16) :
    k0_pay6 (F := Ideal) dh w = cols 512 (by decide) (prodNT (M := 512) (K := 1024) (N := 1024) dh w) := by
  funext y
  obtain ⟨p, q, rfl⟩ : ∃ p q : Fin 512, y = ix2 p q := ⟨y 0, y 1, eq_ix2 y⟩
  show extractStridedSlice S512x512 ![0, 512] (k0_pay4 (F := Ideal) dh w) slices_S512x1024_o0_512_S512x512 (ix2 p q) = _
  rw [extractStridedSlice_apply _ _ _ (ix2 p q) (ix2 p ⟨512 + q.val, by have := q.isLt; omega⟩) (fun a => by match a with | ⟨0, _⟩ => exact (Nat.zero_add _).symm | ⟨1, _⟩ => rfl),
    pay4_apply]
  rfl

theorem pay7_apply (dh : Vec Ideal S512x1024 .f32) (acc : Vec Ideal S512x1024 .f32) (d : Vec Ideal S512x512 .bf16) (p : Fin 512) (q : Fin 1024) :
    k0_pay7 (F := Ideal) dh acc d (ix2 p q) = acc (ix2 p q) + ∑ k : Fin 512, (d (ix2 k p) : EReal) * dh (ix2 k q) := by
  unfold k0_pay7
  rw [shapeCast_self, shapeCast_self]
  exact congrArg (acc (ix2 p q) + ·) (dotTN d (k0_pay3 (F := Ideal) dh) p q)

theorem pay8_apply (dh : Vec Ideal S512x1024 .f32) (acc : Vec Ideal S512x1024 .f32) (d : Vec Ideal S512x512 .bf16) (p : Fin 512) (q : Fin 1024) :
    k0_pay8 (F := Ideal) dh acc d (ix2 p q) = acc (ix2 p q) + ∑ k : Fin 512, (d (ix2 k p) : EReal) * dh (ix2 k q) := by
  unfold k0_pay8
  rw [shapeCast_self, shapeCast_self]
  exact congrArg (acc (ix2 p q) + ·) (dotTN d (k0_pay3 (F := Ideal) dh) p q)

theorem pay1_eq (acc : S1024x1024.Idx → EReal) : (k0_pay1 (F := Ideal) acc : S1024x1024.Idx → EReal) = acc := rfl

/-! ## The accumulator -/

/-- The stores into it, last first, over what the two bands held. -/
def pieces (x0 : Vec Ideal S512x1024 .f32) (x1 x2 : Vec Ideal S512x512 .bf16) (lo hi : Vec Ideal S512x1024 .f32) :
    List (View.Piece (Elt Ideal) S1024x1024 .f32) :=
  [⟨Rect.unit ![512, 0] S512x1024.size inb_S1024x1024_S512x1024_512_0, k0_pay8 (F := Ideal) x0 hi x2⟩,
   ⟨Rect.unit ![0, 0] S512x1024.size inb_S1024x1024_S512x1024_0_0, k0_pay7 (F := Ideal) x0 lo x1⟩]

/-- The two halves of the call's input, side by side. -/
def mix {R : ℕ} (a c : (Sh R 512).Idx → EReal) : (Sh R 1024).Idx → EReal := join (n := 2) rfl ![a, c]

/-- The accumulator after a point. -/
def next (acc : Vec Ideal S1024x1024 .f32) (x0 : Vec Ideal S512x1024 .f32) (x1 x2 : Vec Ideal S512x512 .bf16) : Vec Ideal S1024x1024 .f32 :=
  step (R := 512) (M := 1024) (N := 1024) acc (mix x1 x2) x0

theorem pieces_next (acc : Vec Ideal S1024x1024 .f32) (x0 : Vec Ideal S512x1024 .f32) (x1 x2 : Vec Ideal S512x512 .bf16)
    (lo hi : Vec Ideal S512x1024 .f32)
    (hlo : lo = View.ld acc (Rect.unit ![0, 0] S512x1024.size inb_S1024x1024_S512x1024_0_0))
    (hhi : hi = View.ld acc (Rect.unit ![512, 0] S512x1024.size inb_S1024x1024_S512x1024_512_0)) :
    ∀ pc ∈ pieces x0 x1 x2 lo hi, ∀ y, pc.2 y = next acc x0 x1 x2 (pc.1.emb y) := by
  unfold pieces
  simp only [List.forall_mem_cons]
  refine ⟨fun y => ?_, fun y => ?_, by simp⟩
  · obtain ⟨p, q, rfl⟩ : ∃ (p : Fin 512) (q : Fin 1024), y = ix2 p q := ⟨y 0, y 1, eq_ix2 y⟩
    exact band_step (n := 2) (N := 1024) rfl acc ![x1, x2] x0 1 512 rfl _ p q _ (hi (ix2 p q)) (pay8_apply x0 hi x2 p q) (by rw [hhi]; rfl)
  · obtain ⟨p, q, rfl⟩ : ∃ (p : Fin 512) (q : Fin 1024), y = ix2 p q := ⟨y 0, y 1, eq_ix2 y⟩
    exact band_step (n := 2) (N := 1024) rfl acc ![x1, x2] x0 0 0 rfl _ p q _ (lo (ix2 p q)) (pay7_apply x0 lo x1 p q) (by rw [hlo]; rfl)

theorem pieces_cover (x0 : Vec Ideal S512x1024 .f32) (x1 x2 : Vec Ideal S512x512 .bf16) (lo hi : Vec Ideal S512x1024 .f32) (y : S1024x1024.Idx) :
    ∃ pc ∈ pieces x0 x1 x2 lo hi, y ∈ pc.1.set :=
  View.cover_of_tiledL (pieces x0 x1 x2 lo hi) S512x1024.size (by sl_kernel_rfl) y

/-- Whatever was stored before, the two bands leave the accumulator's next value. -/
theorem canon_pieces (acc : Vec Ideal S1024x1024 .f32) (x0 : Vec Ideal S512x1024 .f32) (x1 x2 : Vec Ideal S512x512 .bf16)
    (lo hi : Vec Ideal S512x1024 .f32) (L : List (View.Piece (Elt Ideal) S1024x1024 .f32))
    (hlo : lo = View.ld acc (Rect.unit ![0, 0] S512x1024.size inb_S1024x1024_S512x1024_0_0))
    (hhi : hi = View.ld acc (Rect.unit ![512, 0] S512x1024.size inb_S1024x1024_S512x1024_512_0)) :
    View.canon (pieces x0 x1 x2 lo hi ++ L) = next acc x0 x1 x2 :=
  funext fun y => View.canon_append_of_pieces _ L _ (pieces_next acc x0 x1 x2 lo hi hlo hhi) y (pieces_cover x0 x1 x2 lo hi y)

/-! ## The point's blocks -/

variable (c : Dev nD) (i : grid0.Coords)
  (arg1 : Memref sig .tc .vmem S512x1024 .f32) (harg1 : arg1.IsWhole)
  (arg2 : Memref sig .tc .vmem S512x512 .bf16) (harg2 : arg2.IsWhole)
  (arg3 : Memref sig .tc .vmem S512x512 .bf16) (harg3 : arg3.IsWhole)
  (arg4 : Memref sig .tc .vmem S1024x1024 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S1024x1024 .bf16) (harg7 : arg7.IsWhole)
  (arg8 : Memref sig .tc .vmem S1024x1024 .f32) (harg8 : arg8.IsWhole)
  (x0 : Vec Ideal S512x1024 .f32) (x1 : Vec Ideal S512x512 .bf16) (x2 : Vec Ideal S512x512 .bf16) (x3 : Vec Ideal S1024x1024 .bf16)

section CaseA
variable (hc0 : cond0_0 i) (hc1 : ¬cond0_1 i)

theorem outA_4 : out0_A_4 c i arg1 harg1 arg2 harg2 arg3 harg3 arg4 harg4 arg5 harg5 arg6 harg6 arg7 harg7 arg8 harg8 hc0 hc1 x0 x1 x2 x3 = cols 0 (by decide) (prodNT (M := 512) (K := 1024) (N := 1024) x0 x3) := by
  unfold out0_A_4
  rw [View.read_writes_eq_canon _ _ _ (cover0_A_4 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_unit_zero zero2]
  simp only [View.readAt_eq_ld, harg1.read_unread, harg4.read_unread]
  rw [View.ld_unit_zero (S := S512x1024) zero2, View.ld_unit_zero (S := S1024x1024) zero2]
  exact pay5_eq x0 x3

theorem outA_5 : out0_A_5 c i arg1 harg1 arg2 harg2 arg3 harg3 arg4 harg4 arg5 harg5 arg6 harg6 arg7 harg7 arg8 harg8 hc0 hc1 x0 x1 x2 x3 = cols 512 (by decide) (prodNT (M := 512) (K := 1024) (N := 1024) x0 x3) := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_unit_zero zero2]
  simp only [View.readAt_eq_ld, harg1.read_unread, harg4.read_unread]
  rw [View.ld_unit_zero (S := S512x1024) zero2, View.ld_unit_zero (S := S1024x1024) zero2]
  exact pay6_eq x0 x3

theorem soutA : sout0_A_0 c i arg1 harg1 arg2 harg2 arg3 harg3 arg4 harg4 arg5 harg5 arg6 harg6 arg7 harg7 arg8 harg8 hc0 hc1 x0 x1 x2 x3 = next (k0_pay2 (F := Ideal)) x0 x1 x2 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  simp only [View.readAt_eq_ld, harg1.read_unread, harg2.read_unread, harg3.read_unread, harg4.read_unread, View.ld_unit_zero (S := S512x1024) zero2, View.ld_unit_zero (S := S512x512) zero2]
  rw [readCov_fill zero2, View.readCov_cons_of_disjoint, readCov_fill zero2,
    ← canon_pieces (k0_pay2 (F := Ideal)) x0 x1 x2 _ _ [⟨Rect.unit ![0, 0] S1024x1024.size inb_S1024x1024_S1024x1024_0_0, k0_pay2 (F := Ideal)⟩] rfl rfl]
  · rfl
  · exact Rect.unit_disjoint (inb := inb_S1024x1024_S512x1024_0_0) 0 (Or.inl (le_refl 512))

end CaseA

section CaseB
variable (hc0 : ¬cond0_0 i) (hc1 : ¬cond0_1 i) (xs0 : Vec Ideal S1024x1024 .f32)

theorem outB_4 : out0_B_4 c i arg1 harg1 arg2 harg2 arg3 harg3 arg4 harg4 arg5 harg5 arg6 harg6 arg7 harg7 arg8 harg8 hc0 hc1 x0 x1 x2 x3 xs0 = cols 0 (by decide) (prodNT (M := 512) (K := 1024) (N := 1024) x0 x3) := by
  unfold out0_B_4
  rw [View.read_writes_eq_canon _ _ _ (cover0_B_4 c i arg1 harg1 arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero zero2]
  simp only [View.readAt_eq_ld, harg1.read_unread, harg4.read_unread]
  rw [View.ld_unit_zero (S := S512x1024) zero2, View.ld_unit_zero (S := S1024x1024) zero2]
  exact pay5_eq x0 x3

theorem outB_5 : out0_B_5 c i arg1 harg1 arg2 harg2 arg3 harg3 arg4 harg4 arg5 harg5 arg6 harg6 arg7 harg7 arg8 harg8 hc0 hc1 x0 x1 x2 x3 xs0 = cols 512 (by decide) (prodNT (M := 512) (K := 1024) (N := 1024) x0 x3) := by
  unfold out0_B_5
  rw [View.read_writes_eq_canon _ _ _ (cover0_B_5 c i arg1 harg1 arg2 harg2 arg3 harg3 arg4 harg4 arg5 harg5 arg6 harg6 arg7 harg7 arg8 harg8 hc0 hc1 x0 x1 x2 x3 xs0)]
  unfold kernelRun0_B
  dsimp only
  sl_unfold_words
  rw [View.canon_unit_zero zero2]
  simp only [View.readAt_eq_ld, harg1.read_unread, harg4.read_unread]
  rw [View.ld_unit_zero (S := S512x1024) zero2, View.ld_unit_zero (S := S1024x1024) zero2]
  exact pay6_eq x0 x3

theorem soutB : sout0_B_0 c i arg1 harg1 arg2 harg2 arg3 harg3 arg4 harg4 arg5 harg5 arg6 harg6 arg7 harg7 arg8 harg8 hc0 hc1 x0 x1 x2 x3 xs0 = next xs0 x0 x1 x2 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0), ← canon_pieces xs0 x0 x1 x2 _ _ [] rfl rfl]
  unfold kernelRun0_B
  dsimp only
  sl_unfold_words
  simp only [View.readAt_eq_ld, harg1.read_unread, harg2.read_unread, harg3.read_unread, harg4.read_unread, harg8.read_unread, View.ld_unit_zero (S := S512x1024) zero2, View.ld_unit_zero (S := S512x512) zero2]
  rfl

end CaseB

section CaseC
variable (hc0 : ¬cond0_0 i) (hc1 : cond0_1 i) (xs0 : Vec Ideal S1024x1024 .f32)

theorem outC_4 : out0_C_4 c i arg1 harg1 arg2 harg2 arg3 harg3 arg4 harg4 arg5 harg5 arg6 harg6 arg7 harg7 arg8 harg8 hc0 hc1 x0 x1 x2 x3 xs0 = cols 0 (by decide) (prodNT (M := 512) (K := 1024) (N := 1024) x0 x3) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero zero2]
  simp only [View.readAt_eq_ld, harg1.read_unread, harg4.read_unread]
  rw [View.ld_unit_zero (S := S512x1024) zero2, View.ld_unit_zero (S := S1024x1024) zero2]
  exact pay5_eq x0 x3

theorem outC_5 : out0_C_5 c i arg1 harg1 arg2 harg2 arg3 harg3 arg4 harg4 arg5 harg5 arg6 harg6 arg7 harg7 arg8 harg8 hc0 hc1 x0 x1 x2 x3 xs0 = cols 512 (by decide) (prodNT (M := 512) (K := 1024) (N := 1024) x0 x3) := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero zero2]
  simp only [View.readAt_eq_ld, harg1.read_unread, harg4.read_unread]
  rw [View.ld_unit_zero (S := S512x1024) zero2, View.ld_unit_zero (S := S1024x1024) zero2]
  exact pay6_eq x0 x3

theorem outC_6 : (out0_C_6 c i arg1 harg1 arg2 harg2 arg3 harg3 arg4 harg4 arg5 harg5 arg6 harg6 arg7 harg7 arg8 harg8 hc0 hc1 x0 x1 x2 x3 xs0 : S1024x1024.Idx → EReal) = next xs0 x0 x1 x2 := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero zero2]
  simp only [View.readAt_eq_ld, harg1.read_unread, harg2.read_unread, harg3.read_unread, harg4.read_unread, harg8.read_unread, View.ld_unit_zero (S := S512x1024) zero2, View.ld_unit_zero (S := S512x512) zero2]
  refine (pay1_eq _).trans ?_
  rw [readCov_whole zero2, ← canon_pieces xs0 x0 x1 x2 _ _ [] rfl rfl]
  rfl

end CaseC

end Cert.KernelMoIdeal.Body

end
-- ==== Proof.Mo.lean ====
/- The output projection's backward call: the arrays it leaves are the reference's results. -/
module

public import proofs.«01_k».proof.Proof.MoBody
public import proofs.«01_k».proof.Proof.Gen.KernelMoIdeal.Value
public import proofs.«01_k».proof.Proof.Gen.ReferenceMoIdeal.Read
public import Idealize.ShloMosaic.Lib.Pipeline.ValueKit

@[expose] public section

noncomputable section

namespace Cert.KernelMoIdeal.Mo

open Cert.KernelMoIdeal Cert.KernelMoIdeal.Gen Idealize.ShloMosaic.TcCoe Idealize.ShloMosaic.ValueIdx
open Idealize.ShloMosaic hiding ix2 ix3 eq_ix2 eq_ix3
open Cert.Bands Cert.KernelMoIdeal.Body
open Cert.ReferenceMoIdeal.Read

variable (m : (ℓ : Loc nD τ sig) → Buf (Elt Ideal) ℓ) (c : Dev nD)

/-! ## Where a block lies -/

/-- Row `p` of the block that point `t` reads or writes, as a row of the whole. -/
def rowAt (t : Fin cfg0.N) (p : Fin 512) : Fin 4096 := ⟨512 * t.val + p.val, by have h : t.val < 8 := t.isLt; have := p.isLt; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel

theorem iblk0_apply (t : Fin cfg0.N) (p : Fin 512) (k : Fin 1024) : iblk m c 0 t (ix2 p k) = V m c main_arg3 (ix2 (rowAt t p) k) := by
  unfold iblk
  blk_ext [idx0, rowAt]
  exact congrArg (· + p.val) (Nat.mul_comm t.val 512)

theorem iblk1_apply (t : Fin cfg0.N) (p : Fin 512) (k : Fin 512) : iblk m c 1 t (ix2 p k) = V m c main_v0 (ix2 (rowAt t p) k) := by
  unfold iblk
  blk_ext [idx1, rowAt]
  exact congrArg (· + p.val) (Nat.mul_comm t.val 512)

theorem iblk2_apply (t : Fin cfg0.N) (p : Fin 512) (k : Fin 512) : iblk m c 2 t (ix2 p k) = V m c main_v1 (ix2 (rowAt t p) k) := by
  unfold iblk
  blk_ext [idx2, rowAt]
  exact congrArg (· + p.val) (Nat.mul_comm t.val 512)

theorem iblk3_eq (t : Fin cfg0.N) : iblk m c 3 t = V m c main_v2 := by
  funext y; unfold iblk; blk_ext [idx3]

/-! ## What a point leaves -/

/-- The gradient of the products' sum at a point's rows. -/
abbrev dmB (t : Fin cfg0.N) : (Sh 512 1024).Idx → EReal := prodNT (M := 512) (K := 1024) (N := 1024) (iblk m c 0 t) (iblk m c 3 t)

theorem outs4 (t : Fin cfg0.N) : (outsAt0 m c t.val t.isLt).1 = cols 0 (by decide) (dmB m c t) := by
  by_cases h0 : t.val % 8 = 0
  · rw [outsAt0_A m c t h0 (by omega)]; dsimp only; rw [outA_4]
  · by_cases h1 : t.val % 8 = 7
    · rw [outsAt0_C m c t h0 h1]; dsimp only; rw [outC_4]
    · rw [outsAt0_B m c t h0 h1]; dsimp only; rw [outB_4]

theorem outs5 (t : Fin cfg0.N) : (outsAt0 m c t.val t.isLt).2.1 = cols 512 (by decide) (dmB m c t) := by
  by_cases h0 : t.val % 8 = 0
  · rw [outsAt0_A m c t h0 (by omega)]; dsimp only; rw [outA_5]
  · by_cases h1 : t.val % 8 = 7
    · rw [outsAt0_C m c t h0 h1]; dsimp only; rw [outC_5]
    · rw [outsAt0_B m c t h0 h1]; dsimp only; rw [outB_5]

/-- The arrays the call is given. -/
abbrev dhA : (Sh 4096 1024).Idx → EReal := V m c main_arg3
abbrev wA : (Sh 1024 1024).Idx → EReal := V m c main_v2
abbrev mixA : (Sh 4096 1024).Idx → EReal := mix (R := 4096) (V m c main_v0) (V m c main_v1)

theorem dm_blk (t : Fin cfg0.N) (p : Fin 512) (q : Fin 1024) :
    dmB m c t (ix2 p q) = prodNT (dhA m c) (wA m c) (ix2 (rowAt t p) q) := by
  unfold dmB
  rw [iblk3_eq]
  exact Finset.sum_congr rfl fun k _ => congrArg (· * wA m c (ix2 q k)) (iblk0_apply m c t p k)

theorem arr4 : (dats m 0 c).arrAt 4 cfg0.N = cols 0 (by decide) (prodNT (dhA m c) (wA m c)) := by
  refine (dats m 0 c).arrAt_eq_of_covers 4 _ (by decide +kernel) fun t hf y => ?_
  blk_simp
  rw [after0_4, outs4]
  obtain ⟨p, q, rfl⟩ : ∃ (p : Fin 512) (q : Fin 512), y = ix2 p q := ⟨y 0, y 1, eq_ix2 y⟩
  have hy : (win0_4.blk t).view.emb (ix2 p q) = ix2 (rowAt t p) q := by
    blk_ext [idx4, rowAt]
    exact congrArg (· + p.val) (Nat.mul_comm t.val 512)
  rw [hy]
  exact dm_blk m c t p _

theorem arr5 : (dats m 0 c).arrAt 5 cfg0.N = cols 512 (by decide) (prodNT (dhA m c) (wA m c)) := by
  refine (dats m 0 c).arrAt_eq_of_covers 5 _ (by decide +kernel) fun t hf y => ?_
  blk_simp
  rw [after0_5, outs5]
  obtain ⟨p, q, rfl⟩ : ∃ (p : Fin 512) (q : Fin 512), y = ix2 p q := ⟨y 0, y 1, eq_ix2 y⟩
  have hy : (win0_5.blk t).view.emb (ix2 p q) = ix2 (rowAt t p) q := by
    blk_ext [idx5, rowAt]
    exact congrArg (· + p.val) (Nat.mul_comm t.val 512)
  rw [hy]
  exact dm_blk m c t p _

/-! ## The projection's gradient: the running sum over the points -/

theorem mix_blk (t : Fin cfg0.N) (p : Fin 512) (q : Fin 1024) :
    mix (R := 512) (iblk m c 1 t) (iblk m c 2 t) (ix2 p q) = mixA m c (ix2 (rowAt t p) q) := by
  unfold mixA mix join
  rcases Nat.lt_or_ge q.val 512 with h | h
  · have e : (⟨q.val / 512, by have := q.isLt; omega⟩ : Fin 2) = 0 := Fin.ext (by show q.val / 512 = 0; omega)
    show (![iblk m c 1 t, iblk m c 2 t] : Fin 2 → (Sh 512 512).Idx → EReal) ⟨q.val / 512, _⟩ (ix2 p _) = (![V m c main_v0, V m c main_v1] : Fin 2 → (Sh 4096 512).Idx → EReal) ⟨q.val / 512, _⟩ (ix2 (rowAt t p) _)
    rw [e]
    exact iblk1_apply m c t p _
  · have e : (⟨q.val / 512, by have := q.isLt; omega⟩ : Fin 2) = 1 := Fin.ext (by show q.val / 512 = 1; have := q.isLt; omega)
    show (![iblk m c 1 t, iblk m c 2 t] : Fin 2 → (Sh 512 512).Idx → EReal) ⟨q.val / 512, _⟩ (ix2 p _) = (![V m c main_v0, V m c main_v1] : Fin 2 → (Sh 4096 512).Idx → EReal) ⟨q.val / 512, _⟩ (ix2 (rowAt t p) _)
    rw [e]
    exact iblk2_apply m c t p _

/-- A point adds its 512 rows' shares. -/
theorem next_blk (t : Fin cfg0.N) (acc : Vec Ideal S1024x1024 .f32) (i : (Sh 1024 1024).Idx) :
    next acc (iblk m c 0 t) (iblk m c 1 t) (iblk m c 2 t) i
      = acc i + ∑ r ∈ Finset.range 512, share (mixA m c) (dhA m c) i (512 * t.val + r) :=
  congrArg (acc i + ·) (sum_share_blk (K := 4096) (mixA m c) (dhA m c) i t.val _ _ (by have h : t.val < 8 := t.isLt; omega)
    (fun p q => mix_blk m c t p q) (fun p q => iblk0_apply m c t p q))

/-- What the accumulator holds, or at the last point the result, after point `n`. -/
def accAt (n : ℕ) (hn : n < 8) : (Sh 1024 1024).Idx → EReal :=
  if n % 8 = 7 then (outsAt0 m c n hn).2.2.1 else (outsAt0 m c n hn).2.2.2

theorem accAt_eq : ∀ (n : ℕ) (hn : n < 8) (i : (Sh 1024 1024).Idx),
    accAt m c n hn i = ∑ r ∈ Finset.range (512 * (n + 1)), share (mixA m c) (dhA m c) i r := by
  refine steps_sum (mixA m c) (dhA m c) 8 (accAt m c) (k0_pay2 (F := Ideal) (ix2 0 0)) ?_ (fun h i => ?_) (fun n h i => ?_)
  · exact Ideal.ofBits_zero_f32
  · unfold accAt
    rw [if_neg (by decide), outsAt0_A m c ⟨0, h⟩ rfl (by show ¬0 % 8 = 7; decide)]
    dsimp only
    rw [soutA]
    exact next_blk m c ⟨0, h⟩ (k0_pay2 (F := Ideal)) i
  · have e : accAt m c n (Nat.lt_of_succ_lt h) = (outsAt0 m c n (Nat.lt_of_succ_lt h)).2.2.2 := if_neg (by omega)
    rw [e]
    unfold accAt
    by_cases h1 : (n + 1) % 8 = 7
    · rw [if_pos h1, outsAt0_C m c ⟨n + 1, h⟩ (by show ¬(n + 1) % 8 = 0; omega) h1]
      dsimp only
      rw [outC_6]
      exact next_blk m c ⟨n + 1, h⟩ _ i
    · rw [if_neg h1, outsAt0_B m c ⟨n + 1, h⟩ (by show ¬(n + 1) % 8 = 0; omega) h1]
      dsimp only
      rw [soutB]
      exact next_blk m c ⟨n + 1, h⟩ _ i

theorem arr6 : (dats m 0 c).arrAt 6 cfg0.N = prodTN (mixA m c) (dhA m c) := by
  funext i
  obtain ⟨p, q, rfl⟩ : ∃ (p q : Fin 1024), i = ix2 p q := ⟨i 0, i 1, eq_ix2 i⟩
  refine ((dats m 0 c).arrAt_emb_eq_after_last 6 ⟨7, by decide⟩ (by decide +kernel) (ix2 p q)).trans ?_
  refine (congrFun (after0_6 m c ⟨7, by decide⟩) _).trans ?_
  refine Eq.trans ?_ ((accAt_eq m c 7 (by decide) (ix2 p q)).trans (sum_share (mixA m c) (dhA m c) (ix2 p q)))
  exact (congrFun (if_pos (c := 7 % 8 = 7) (by decide)) _).symm

/-! ## The reference -/

/-- The arguments on a device. -/
abbrev a0 : (Sh 4096 512).Idx → EReal := m ((c.tc : Thread nD τ).loc main_arg0)
abbrev a1 : (Sh 4096 512).Idx → EReal := m ((c.tc : Thread nD τ).loc main_arg1)
abbrev a2 : (Sh 1024 1024).Idx → EReal := m ((c.tc : Thread nD τ).loc main_arg2)
abbrev a3 : (Sh 4096 1024).Idx → EReal := m ((c.tc : Thread nD τ).loc main_arg3)

theorem V_arg3 : V m c main_arg3 = a3 m c := by unfold V; after_results <;> rfl
theorem V_v0 : V m c main_v0 = a0 m c := by unfold V; after_results <;> rfl
theorem V_v1 : V m c main_v1 = a1 m c := by unfold V; after_results <;> rfl
theorem V_v2 : V m c main_v2 = a2 m c := by unfold V; after_results <;> rfl

theorem dm_ref (x2 : (Sh 1024 1024).Idx → EReal) (x3 : (Sh 4096 1024).Idx → EReal) (p : Fin 4096) (q : Fin 1024) :
    prodNT x3 x2 (ix2 p q) = val_main_v4 (F := Ideal) x2 x3 (ix2 p q) := by
  rw [val_main_v4_apply]
  refine Finset.sum_congr rfl fun k _ => ?_
  have hl : lidx_main_v4 (ix2 p q) k = ix2 p k := eq_ix2 _
  have hr : ridx_main_v4 (ix2 p q) k = ix2 q k := eq_ix2 _
  rw [hl, hr]

theorem dattn_eq : (dats m 0 c).arrAt 4 cfg0.N = val_main_v7 (F := Ideal) (a2 m c) (a3 m c) := by
  rw [arr4]
  funext i
  obtain ⟨p, q, rfl⟩ : ∃ (p : Fin 4096) (q : Fin 512), i = ix2 p q := ⟨i 0, i 1, eq_ix2 i⟩
  show prodNT (dhA m c) (wA m c) (ix2 p _) = val_main_v5 (F := Ideal) (a2 m c) (a3 m c) (ix2 p q)
  rw [val_main_v5_apply, dhA, wA, V_arg3, V_v2]
  refine (dm_ref (a2 m c) (a3 m c) p _).trans (congrArg (val_main_v4 (F := Ideal) (a2 m c) (a3 m c)) ?_)
  exact funext fun a => Fin.ext (by match a with | ⟨0, _⟩ => rfl | ⟨1, _⟩ => exact Nat.zero_add _)

theorem dconv_eq : (dats m 0 c).arrAt 5 cfg0.N = val_main_v8 (F := Ideal) (a2 m c) (a3 m c) := by
  rw [arr5]
  funext i
  obtain ⟨p, q, rfl⟩ : ∃ (p : Fin 4096) (q : Fin 512), i = ix2 p q := ⟨i 0, i 1, eq_ix2 i⟩
  show prodNT (dhA m c) (wA m c) (ix2 p _) = val_main_v6 (F := Ideal) (a2 m c) (a3 m c) (ix2 p q)
  rw [val_main_v6_apply, dhA, wA, V_arg3, V_v2]
  refine (dm_ref (a2 m c) (a3 m c) p _).trans (congrArg (val_main_v4 (F := Ideal) (a2 m c) (a3 m c)) ?_)
  exact funext fun a => Fin.ext (by match a with | ⟨0, _⟩ => rfl | ⟨1, _⟩ => rfl)

/-- The two halves side by side, as the reference concatenates them. -/
theorem mix_ref (x0 x1 : (Sh 4096 512).Idx → EReal) (k : Fin 4096) (q : Fin 1024) :
    mix x0 x1 (ix2 k q) = val_main_v0 (F := Ideal) x0 x1 (ix2 k q) := by
  have hq := q.isLt
  unfold val_main_v0
  rcases Nat.lt_or_ge q.val 512 with h | h
  · refine (join_at (n := 2) rfl ![x0, x1] k 0 ⟨q.val, h⟩ q (by show q.val = 512 * 0 + q.val; omega)).trans ?_
    refine (concatenate_pair_apply_left (s₁ := S4096x512) (s₂ := S4096x512) 1 x0 x1 _ (ix2 k q) rfl (ix2 k ⟨q.val, h⟩) fun b => ?_).symm
    match b with
    | ⟨0, _⟩ => rfl
    | ⟨1, _⟩ => rfl
  · refine (join_at (n := 2) rfl ![x0, x1] k 1 ⟨q.val - 512, by omega⟩ q (by show q.val = 512 * 1 + (q.val - 512); omega)).trans ?_
    refine (concatenate_pair_apply_right (s₁ := S4096x512) (s₂ := S4096x512) 1 x0 x1 _ (ix2 k q) rfl rfl (ix2 k ⟨q.val - 512, by omega⟩) (fun b hb => ?_) ?_).symm
    · match b with
      | ⟨0, _⟩ => rfl
      | ⟨1, _⟩ => exact absurd rfl hb
    · show q.val - 512 + 512 = q.val; omega

theorem dw_eq : (dats m 0 c).arrAt 6 cfg0.N = val_main_v9 (F := Ideal) (a0 m c) (a1 m c) (a3 m c) := by
  rw [arr6]
  funext i
  obtain ⟨p, q, rfl⟩ : ∃ (p : Fin 1024) (q : Fin 1024), i = ix2 p q := ⟨i 0, i 1, eq_ix2 i⟩
  show prodTN (mixA m c) (dhA m c) (ix2 p q) = val_main_v3 (F := Ideal) (a0 m c) (a1 m c) (a3 m c) (ix2 p q)
  rw [val_main_v3_apply, val_main_v2_apply, dhA, mixA, V_arg3, V_v0, V_v1]
  refine Finset.sum_congr rfl fun k _ => ?_
  have hl : lidx_main_v2 (idx_main_v3 (ix2 p q)) k = ix2 k q := eq_ix2 _
  have hr : ridx_main_v2 (idx_main_v3 (ix2 p q)) k = ix2 k p := eq_ix2 _
  rw [hl, hr, ← mix_ref]
  exact mul_comm _ _

end Cert.KernelMoIdeal.Mo

end
-- ==== Proof.Norm.lean ====
/- The norm's gradient over a block of rows, as the kernels compute it, read at an element. -/
module

public import proofs.«01_k».proof.Proof.Rows
public import Idealize.ShloMosaic.Lib.Pipeline.Value
public import Idealize.ShloMosaic.Lib.ValueIdx

@[expose] public section

noncomputable section

namespace Cert.Norm

open Idealize.ShloMosaic Idealize.ShloMosaic.ValueIdx Cert.Rows

/-- `R` rows of `C`, and `R` numbers. -/
abbrev Rs (R C : ℕ) : Shape := ⟨2, ![R, C]⟩
abbrev Cs (R : ℕ) : Shape := ⟨1, ![R]⟩

/-- Row `p` of a block. -/
abbrev row {R C : ℕ} (x : (⟨2, ![R, C]⟩ : Shape).Idx → EReal) (p : Fin R) : Fin C → EReal := fun k => x (ix2 p k)

variable {R : ℕ} (hr : (Rs R 1024).Reduces [1] (Cs R)) (hc : (Cs R).ShapeCasts (Rs R 1)) (hb : (Rs R 1).Broadcasts (Rs R 1024))
  (hg : (Rs 1 1024).Broadcasts (Rs R 1024)) (hs : (Rs R 1024).Reduces [0] (Cs 1024)) (hsc : (Cs 1024).ShapeCasts (Rs 1 1024))

/-- A sum along each row, as a column. -/
def sums (x : FVec Ideal (Rs R 1024) .f32) : FVec Ideal (Rs R 1) .f32 :=
  shapeCast (Rs R 1) (multiReduction (F := Ideal) .add [1] (Cs R) x 0x00000000#32 hr (.inl rfl) rfl) hc

theorem sums_apply (x : FVec Ideal (Rs R 1024) .f32) (p : Fin R) (q : Fin 1) : sums hr hc x (ix2 p q) = ∑ k : Fin 1024, x (ix2 p k) := by
  unfold sums
  rw [shapeCast_apply _ hc (ix2 p q) (ix1 p) (by
    rw [Shape.rowMajor_val_two, Shape.rowMajor_val_one]
    have := q.isLt
    show p.val = p.val * 1 + q.val
    omega)]
  refine (Ideal.multiReduction_add_single _ _ _ _ _ _).trans ?_
  refine Finset.sum_congr rfl fun k _ => congrArg x ?_
  exact funext fun a => Fin.ext (by match a with | ⟨0, _⟩ => rfl | ⟨1, _⟩ => rfl)

/-- A column of a row's value, spread along the row. -/
theorem spread_apply (x : FVec Ideal (Rs R 1) .f32) (p : Fin R) (q : Fin 1024) : broadcastTo (Rs R 1024) x hb (ix2 p q) = x (ix2 p 0) :=
  broadcastTo_apply _ _ _ _ fun a => by
    match a with
    | ⟨0, _⟩ => show p.val = if R = 1 then 0 else p.val; have := p.isLt; split <;> omega
    | ⟨1, _⟩ => rfl

/-- The norm's weights, spread down the rows. -/
theorem spreadGain_apply (x : FVec Ideal (Rs 1 1024) .f32) (p : Fin R) (q : Fin 1024) :
    broadcastTo (Rs R 1024) x hg (ix2 p q) = x (ix2 0 q) :=
  broadcastTo_apply _ _ _ _ fun a => by match a with | ⟨0, _⟩ => rfl | ⟨1, _⟩ => rfl

/-- Each row's inverse root mean square. -/
def inv (x : FVec Ideal (Rs R 1024) .f32) : FVec Ideal (Rs R 1) .f32 :=
  rsqrt (addf (divf (sums hr hc (mulf x x)) (broadcast (Rs R 1) (Scalar.ofBits (F := Ideal) .f32 0x44800000#32)))
    (broadcast (Rs R 1) (Scalar.ofBits (F := Ideal) .f32 0x358637BD#32)))

theorem inv_apply (x : FVec Ideal (Rs R 1024) .f32) (p : Fin R) (q : Fin 1) : inv hr hc x (ix2 p q) = rms (row x p) := by
  show Ideal.rsqrt (Ideal.div (sums hr hc (mulf x x) (ix2 p q)) len + eps) = _
  rw [sums_apply]
  rfl

/-- The rows over their root mean squares. -/
def unit (x : FVec Ideal (Rs R 1024) .f32) : FVec Ideal (Rs R 1024) .f32 := mulf x (broadcastTo (Rs R 1024) (inv hr hc x) hb)

theorem unit_apply (x : FVec Ideal (Rs R 1024) .f32) (p : Fin R) (q : Fin 1024) :
    unit hr hc hb x (ix2 p q) = x (ix2 p q) * rms (row x p) := by
  show x (ix2 p q) * broadcastTo (Rs R 1024) (inv hr hc x) hb (ix2 p q) = _
  rw [spread_apply, inv_apply]

/-- The rows' share of the norm weights' gradient. -/
def dgain (dn x : FVec Ideal (Rs R 1024) .f32) : FVec Ideal (Rs 1 1024) .f32 :=
  shapeCast (Rs 1 1024) (multiReduction (F := Ideal) .add [0] (Cs 1024) (mulf dn (unit hr hc hb x)) 0x00000000#32 hs (.inl rfl) rfl) hsc

theorem dgain_apply (dn x : FVec Ideal (Rs R 1024) .f32) (p : Fin 1) (q : Fin 1024) :
    dgain hr hc hb hs hsc dn x (ix2 p q) = ∑ k : Fin R, dn (ix2 k q) * (x (ix2 k q) * rms (row x k)) := by
  unfold dgain
  rw [shapeCast_apply _ hsc (ix2 p q) (ix1 q) (by
    rw [Shape.rowMajor_val_two, Shape.rowMajor_val_one]
    have := p.isLt
    show q.val = p.val * 1024 + q.val
    omega)]
  refine (Ideal.multiReduction_add_single _ _ _ _ _ _).trans ?_
  refine Finset.sum_congr rfl fun (k : Fin R) _ => ?_
  have : hs.lift (ix1 q) k = ix2 k q := funext fun a => Fin.ext (by match a with | ⟨0, _⟩ => rfl | ⟨1, _⟩ => rfl)
  rw [this]
  show dn (ix2 k q) * unit hr hc hb x (ix2 k q) = _
  exact congrArg (dn (ix2 k q) * ·) (unit_apply hr hc hb x k q)

/-- The input's gradient. -/
def dx (dn x : FVec Ideal (Rs R 1024) .f32) (gain : FVec Ideal (Rs 1 1024) .f32) (ct : FVec Ideal (Rs R 1024) .f32) :
    FVec Ideal (Rs R 1024) .f32 :=
  addf ct (mulf (broadcastTo (Rs R 1024) (inv hr hc x) hb) (subf (mulf dn (broadcastTo (Rs R 1024) gain hg))
    (mulf (unit hr hc hb x) (broadcastTo (Rs R 1024) (divf (sums hr hc (mulf (mulf dn (broadcastTo (Rs R 1024) gain hg)) (unit hr hc hb x)))
      (broadcast (Rs R 1) (Scalar.ofBits (F := Ideal) .f32 0x44800000#32))) hb))))

theorem dx_apply (dn x : FVec Ideal (Rs R 1024) .f32) (gain : FVec Ideal (Rs 1 1024) .f32) (ct : FVec Ideal (Rs R 1024) .f32)
    (p : Fin R) (q : Fin 1024) :
    dx hr hc hb hg dn x gain ct (ix2 p q) = dxK (row dn p) (row x p) (row gain 0) (ct (ix2 p q)) q := by
  show ct (ix2 p q) + broadcastTo (Rs R 1024) (inv hr hc x) hb (ix2 p q) * (dn (ix2 p q) * broadcastTo (Rs R 1024) gain hg (ix2 p q)
    - unit hr hc hb x (ix2 p q) * broadcastTo (Rs R 1024) (divf (sums hr hc (mulf (mulf dn (broadcastTo (Rs R 1024) gain hg)) (unit hr hc hb x)))
      (broadcast (Rs R 1) (Scalar.ofBits (F := Ideal) .f32 0x44800000#32))) hb (ix2 p q)) = _
  rw [spread_apply, spread_apply, spreadGain_apply, inv_apply, unit_apply, divf_apply, sums_apply]
  simp only [mulf_apply, spreadGain_apply, unit_apply]
  rfl

end Cert.Norm

end
-- ==== Proof.MiPay.lean ====
/- The input projection's backward call: its stored values read at an element. -/
module

public import proofs.«01_k».proof.Proof.Gen.KernelMiIdeal.Frame
public import proofs.«01_k».proof.Proof.Bands
public import proofs.«01_k».proof.Proof.Norm

@[expose] public section

noncomputable section

namespace Cert.KernelMiIdeal.Pay

open Cert.KernelMiIdeal Cert.KernelMiIdeal.Gen Idealize.ShloMosaic.TcCoe
open Idealize.ShloMosaic Idealize.ShloMosaic.ValueIdx Cert.Bands Cert.Rows

/-! ## The products -/

theorem dotTN (lhs : FVec Ideal S512x512 .bf16) (rhs : FVec Ideal S512x1024 .bf16) (p : Fin 512) (q : Fin 1024) :
    FloatOps.matmul (F := Ideal) dot_S512x512_S512x1024_S512x1024_0_0_1_1_n_n none lhs rhs (constant S512x1024 .f32 0x00000000#32) (ix2 p q)
      = ∑ k : Fin 512, lhs (ix2 k p) * rhs (ix2 k q) := by
  refine matmul_sum _ 512 rfl rfl lhs rhs _ (fun k => ix2 k p) (fun k => ix2 k q) (fun k => ?_) (fun k => ?_)
  · exact funext fun a => Fin.ext (by match a with | ⟨0, _⟩ => exact contrEquiv1_symm_val dot_S512x512_S512x1024_S512x1024_0_0_1_1_n_n 512 rfl rfl k | ⟨1, _⟩ => rfl)
  · exact funext fun a => Fin.ext (by match a with | ⟨0, _⟩ => exact contrEquiv1_symm_val dot_S512x512_S512x1024_S512x1024_0_0_1_1_n_n 512 rfl rfl k | ⟨1, _⟩ => rfl)

theorem dotNN (lhs : FVec Ideal S512x512 .bf16) (rhs : FVec Ideal S512x1024 .bf16) (p : Fin 512) (q : Fin 1024) :
    FloatOps.matmul (F := Ideal) dot_S512x512_S512x1024_S512x1024_1_0_0_1_n_n none lhs rhs (constant S512x1024 .f32 0x00000000#32) (ix2 p q)
      = ∑ k : Fin 512, lhs (ix2 p k) * rhs (ix2 k q) := by
  refine matmul_sum _ 512 rfl rfl lhs rhs _ (fun k => ix2 p k) (fun k => ix2 k q) (fun k => ?_) (fun k => ?_)
  · exact funext fun a => Fin.ext (by match a with | ⟨0, _⟩ => rfl | ⟨1, _⟩ => exact contrEquiv1_symm_val dot_S512x512_S512x1024_S512x1024_1_0_0_1_n_n 512 rfl rfl k)
  · exact funext fun a => Fin.ext (by match a with | ⟨0, _⟩ => exact contrEquiv1_symm_val dot_S512x512_S512x1024_S512x1024_1_0_0_1_n_n 512 rfl rfl k | ⟨1, _⟩ => rfl)

/-! ## The projection's gradient, a band at a time -/

section
variable (n : Vec Ideal S512x1024 .bf16) (d : Vec Ideal S512x512 .bf16) (acc : Vec Ideal S512x1024 .f32) (p : Fin 512) (q : Fin 1024)

/-- What a band holds after a point. -/
abbrev bandAt : EReal := acc (ix2 p q) + ∑ k : Fin 512, (d (ix2 k p) : EReal) * n (ix2 k q)

theorem pay4_eq : k0_pay4 (F := Ideal) n = n := by unfold k0_pay4; exact shapeCast_self _ _
theorem pay14_eq : k0_pay14 (F := Ideal) d = d := by unfold k0_pay14; exact shapeCast_self _ _

theorem pay6_apply : k0_pay6 (F := Ideal) n d acc (ix2 p q) = bandAt n d acc p q := by
  unfold k0_pay6 k0_pay5
  rw [shapeCast_self, shapeCast_self, pay4_eq]
  exact congrArg (acc (ix2 p q) + ·) (dotTN d n p q)

theorem pay9_apply : k0_pay9 (F := Ideal) n d acc (ix2 p q) = bandAt n d acc p q := by
  unfold k0_pay9 k0_pay7
  rw [shapeCast_self, shapeCast_self, pay4_eq]
  exact congrArg (acc (ix2 p q) + ·) (dotTN d n p q)

theorem pay11_apply : k0_pay11 (F := Ideal) (k0_pay4 (F := Ideal) n) d acc (ix2 p q) = bandAt n d acc p q := by
  unfold k0_pay11 k0_pay10
  rw [shapeCast_self, shapeCast_self, pay4_eq]
  exact congrArg (acc (ix2 p q) + ·) (dotTN d n p q)

theorem pay13_apply : k0_pay13 (F := Ideal) (k0_pay4 (F := Ideal) n) d acc (ix2 p q) = bandAt n d acc p q := by
  unfold k0_pay13 k0_pay12
  rw [shapeCast_self, shapeCast_self, pay4_eq]
  exact congrArg (acc (ix2 p q) + ·) (dotTN d n p q)

theorem pay16_apply : k0_pay16 (F := Ideal) (k0_pay4 (F := Ideal) n) (k0_pay14 (F := Ideal) d) acc (constant S512x1024 .f32 0x00000000#32) (ix2 p q)
    = bandAt n d acc p q := by
  unfold k0_pay16
  rw [shapeCast_self, pay4_eq, pay14_eq]
  exact congrArg (acc (ix2 p q) + ·) (dotTN d n p q)

end

/-! ## The normed input's gradient -/

section
variable (x0 x1 x2 x3 x4 : Vec Ideal S512x512 .bf16)

/-- The five parts of the products' gradient, side by side. -/
def parts {R : ℕ} (d0 d1 d2 d3 d4 : (Sh R 512).Idx → EReal) : (Sh R 2560).Idx → EReal := join (n := 5) rfl ![d0, d1, d2, d3, d4]

/-- The gradient as the body sums it, from the projection's five bands of rows. -/
def dnP (w0 w1 w2 w3 w4 : Vec Ideal S512x1024 .bf16) : FVec Ideal S512x1024 .f32 :=
  k0_pay15 (F := Ideal) (k0_pay8 (F := Ideal) x0 w0 x1 w1) x2 w2 x3 w3 x4 w4

theorem dnP_apply (w0 w1 w2 w3 w4 : Vec Ideal S512x1024 .bf16) (p : Fin 512) (q : Fin 1024) :
    dnP x0 x1 x2 x3 x4 w0 w1 w2 w3 w4 (ix2 p q)
      = ∑ i : Fin 5, ∑ k : Fin 512, (![x0, x1, x2, x3, x4] : Fin 5 → (Sh 512 512).Idx → EReal) i (ix2 p k)
          * (![w0, w1, w2, w3, w4] : Fin 5 → (Sh 512 1024).Idx → EReal) i (ix2 k q) := by
  unfold dnP k0_pay15 k0_pay8 k0_pay5 k0_pay7 k0_pay10 k0_pay12 k0_pay14
  simp only [shapeCast_self]
  show ((((zero + FloatOps.matmul (F := Ideal) dot_S512x512_S512x1024_S512x1024_1_0_0_1_n_n none x0 w0 (constant S512x1024 .f32 0x00000000#32) (ix2 p q))
    + FloatOps.matmul (F := Ideal) dot_S512x512_S512x1024_S512x1024_1_0_0_1_n_n none x1 w1 (constant S512x1024 .f32 0x00000000#32) (ix2 p q))
    + FloatOps.matmul (F := Ideal) dot_S512x512_S512x1024_S512x1024_1_0_0_1_n_n none x2 w2 (constant S512x1024 .f32 0x00000000#32) (ix2 p q))
    + FloatOps.matmul (F := Ideal) dot_S512x512_S512x1024_S512x1024_1_0_0_1_n_n none x3 w3 (constant S512x1024 .f32 0x00000000#32) (ix2 p q))
    + FloatOps.matmul (F := Ideal) dot_S512x512_S512x1024_S512x1024_1_0_0_1_n_n none x4 w4 (constant S512x1024 .f32 0x00000000#32) (ix2 p q) = _
  rw [dotNN, dotNN, dotNN, dotNN, dotNN, show zero = 0 from Ideal.ofBits_zero_f32, zero_add, Fin.sum_univ_five]
  rfl

end

/-! ## The norm -/

section
variable (dn x : FVec Ideal S512x1024 .f32)

theorem pay20_apply (gain : FVec Ideal S1x1024 .f32) (ct : FVec Ideal S512x1024 .f32) (p : Fin 512) (q : Fin 1024) :
    k0_pay20 (F := Ideal) dn x gain ct (ix2 p q) = dxK (Norm.row dn p) (Norm.row x p) (Norm.row gain 0) (ct (ix2 p q)) q :=
  Norm.dx_apply reduces_S512x1024_S512 shapeCasts_S512_S512x1 broadcasts_S512x1_S512x1024 broadcasts_S1x1024_S512x1024 dn x gain ct p q

theorem pay21_eq (gain : FVec Ideal S1x1024 .f32) (ct : FVec Ideal S512x1024 .f32) (i : S512x1024.Idx) :
    k0_pay21 (F := Ideal) dn x gain ct i = half * k0_pay20 (F := Ideal) dn x gain ct i := rfl

theorem pay1_apply (q : Fin 1024) : k0_pay1 (F := Ideal) (k0_pay19 (F := Ideal) dn x) (ix3 0 0 q)
    = ∑ k : Fin 512, dn (ix2 k q) * (x (ix2 k q) * rms (Norm.row x k)) := by
  unfold k0_pay1
  refine Eq.trans ?_ (Norm.dgain_apply reduces_S512x1024_S512 shapeCasts_S512_S512x1 broadcasts_S512x1_S512x1024 reduces_S512x1024_S1024
    shapeCasts_S1024_S1x1024 dn x 0 q)
  exact shapeCast_apply _ shapeCasts_S1x1024_S1x1x1024 (ix3 0 0 q) (ix2 0 q) (by
    rw [Shape.rowMajor_val_two, Shape.rowMajor_val_three]
    rfl)

end

end Cert.KernelMiIdeal.Pay

end
-- ==== Proof.MiBody.lean ====
/- The input projection's backward call, block by block: the input's gradient, its half, the rows' share of the norm weights'
   gradient, and the projection's own gradient, accumulated in five bands of rows. -/
module

public import proofs.«01_k».proof.Proof.MiPay

@[expose] public section

noncomputable section

namespace Cert.KernelMiIdeal.Body

open Cert.KernelMiIdeal Cert.KernelMiIdeal.Gen Idealize.ShloMosaic.TcCoe
open Idealize.ShloMosaic Idealize.ShloMosaic.ValueIdx Cert.Bands Cert.KernelMiIdeal.Pay

theorem zero2 : (![0, 0] : Fin 2 → ℕ) = fun _ => 0 := by decide
theorem zero3 : (![0, 0, 0] : Fin 3 → ℕ) = fun _ => 0 := by decide

/-! ## The accumulator -/

/-- The five bands of an array's rows. -/
abbrev r0 : Rect S2560x1024 := Rect.unit ![0, 0] S512x1024.size inb_S2560x1024_S512x1024_0_0
abbrev r1 : Rect S2560x1024 := Rect.unit ![512, 0] S512x1024.size inb_S2560x1024_S512x1024_512_0
abbrev r2 : Rect S2560x1024 := Rect.unit ![1024, 0] S512x1024.size inb_S2560x1024_S512x1024_1024_0
abbrev r3 : Rect S2560x1024 := Rect.unit ![1536, 0] S512x1024.size inb_S2560x1024_S512x1024_1536_0
abbrev r4 : Rect S2560x1024 := Rect.unit ![2048, 0] S512x1024.size inb_S2560x1024_S512x1024_2048_0

section
variable (acc : Vec Ideal S2560x1024 .f32) (x0 x1 x2 x3 x4 : Vec Ideal S512x512 .bf16) (n : Vec Ideal S512x1024 .bf16)
  (h0 h1 h2 h3 h4 : Vec Ideal S512x1024 .f32)

/-- The stores into it, last first, over what the bands held. -/
def pieces : List (View.Piece (Elt Ideal) S2560x1024 .f32) :=
  [⟨r4, k0_pay16 (F := Ideal) (k0_pay4 (F := Ideal) n) (k0_pay14 (F := Ideal) x4) h4 (constant S512x1024 .f32 0x00000000#32)⟩,
   ⟨r3, k0_pay13 (F := Ideal) (k0_pay4 (F := Ideal) n) x3 h3⟩, ⟨r2, k0_pay11 (F := Ideal) (k0_pay4 (F := Ideal) n) x2 h2⟩,
   ⟨r1, k0_pay9 (F := Ideal) n x1 h1⟩, ⟨r0, k0_pay6 (F := Ideal) n x0 h0⟩]

/-- The accumulator after a point. -/
def next : Vec Ideal S2560x1024 .f32 := step (R := 512) (M := 2560) (N := 1024) acc (parts x0 x1 x2 x3 x4) n

theorem pieces_next (e0 : h0 = View.ld acc r0) (e1 : h1 = View.ld acc r1) (e2 : h2 = View.ld acc r2) (e3 : h3 = View.ld acc r3)
    (e4 : h4 = View.ld acc r4) :
    ∀ pc ∈ pieces x0 x1 x2 x3 x4 n h0 h1 h2 h3 h4, ∀ y, pc.2 y = next acc x0 x1 x2 x3 x4 n (pc.1.emb y) := by
  have split (y : S512x1024.Idx) : ∃ (p : Fin 512) (q : Fin 1024), y = ix2 p q := ⟨y 0, y 1, eq_ix2 y⟩
  unfold pieces
  simp only [List.forall_mem_cons]
  refine ⟨fun y => ?_, fun y => ?_, fun y => ?_, fun y => ?_, fun y => ?_, by simp⟩ <;> obtain ⟨p, q, rfl⟩ := split y
  · exact band_step (n := 5) (N := 1024) rfl acc ![x0, x1, x2, x3, x4] n 4 2048 rfl _ p q _ (h4 (ix2 p q)) (pay16_apply n x4 h4 p q) (by rw [e4]; rfl)
  · exact band_step (n := 5) (N := 1024) rfl acc ![x0, x1, x2, x3, x4] n 3 1536 rfl _ p q _ (h3 (ix2 p q)) (pay13_apply n x3 h3 p q) (by rw [e3]; rfl)
  · exact band_step (n := 5) (N := 1024) rfl acc ![x0, x1, x2, x3, x4] n 2 1024 rfl _ p q _ (h2 (ix2 p q)) (pay11_apply n x2 h2 p q) (by rw [e2]; rfl)
  · exact band_step (n := 5) (N := 1024) rfl acc ![x0, x1, x2, x3, x4] n 1 512 rfl _ p q _ (h1 (ix2 p q)) (pay9_apply n x1 h1 p q) (by rw [e1]; rfl)
  · exact band_step (n := 5) (N := 1024) rfl acc ![x0, x1, x2, x3, x4] n 0 0 rfl _ p q _ (h0 (ix2 p q)) (pay6_apply n x0 h0 p q) (by rw [e0]; rfl)

theorem pieces_cover (y : S2560x1024.Idx) : ∃ pc ∈ pieces x0 x1 x2 x3 x4 n h0 h1 h2 h3 h4, y ∈ pc.1.set :=
  View.cover_of_tiledL (pieces x0 x1 x2 x3 x4 n h0 h1 h2 h3 h4) S512x1024.size (by sl_kernel_rfl) y

/-- Whatever was stored before, the five bands leave the accumulator's next value. -/
theorem canon_pieces (L : List (View.Piece (Elt Ideal) S2560x1024 .f32)) (e0 : h0 = View.ld acc r0) (e1 : h1 = View.ld acc r1)
    (e2 : h2 = View.ld acc r2) (e3 : h3 = View.ld acc r3) (e4 : h4 = View.ld acc r4) :
    View.canon (pieces x0 x1 x2 x3 x4 n h0 h1 h2 h3 h4 ++ L) = next acc x0 x1 x2 x3 x4 n :=
  funext fun y => View.canon_append_of_pieces _ L _ (pieces_next acc x0 x1 x2 x3 x4 n h0 h1 h2 h3 h4 e0 e1 e2 e3 e4) y
    (pieces_cover x0 x1 x2 x3 x4 n h0 h1 h2 h3 h4 y)

end

/-- A band is not changed by a store into another. -/
theorem skip {κ : Kind} {sp : Space} {sig : RefSig} (v : View sig κ sp S2560x1024 .f32) (o o' : ℕ) (h : ∀ a, (![o, 0] : Fin 2 → ℕ) a + S512x1024.size a ≤ S2560x1024.size a)
    (h' : ∀ a, (![o', 0] : Fin 2 → ℕ) a + S512x1024.size a ≤ S2560x1024.size a) (W : S512x1024.Idx → EReal)
    (L : List (View.Piece (Elt Ideal) S2560x1024 .f32)) (ho : o + 512 ≤ o') :
    v.readCov (⟨Rect.unit (s := S2560x1024) ![o, 0] S512x1024.size h, W⟩ :: L) (Rect.unit (s := S2560x1024) ![o', 0] S512x1024.size h').toLoadRect
      = v.readCov L (Rect.unit (s := S2560x1024) ![o', 0] S512x1024.size h').toLoadRect :=
  View.readCov_cons_of_disjoint v _ _ _ (Rect.unit_disjoint (inb := h) 0 (Or.inl ho))

theorem pay2_eq (acc : S2560x1024.Idx → EReal) : (k0_pay2 (F := Ideal) acc : S2560x1024.Idx → EReal) = acc := rfl

/-! ## The point's blocks -/

variable (c : Dev nD) (i : grid0.Coords)
  (arg1 : Memref sig .tc .vmem S512x512 .bf16) (harg1 : arg1.IsWhole)
  (arg2 : Memref sig .tc .vmem S512x512 .bf16) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S2560x1024 .bf16) (harg6 : arg6.IsWhole)
  (arg7 : Memref sig .tc .vmem S512x1024 .bf16) (harg7 : arg7.IsWhole)
  (arg8 : Memref sig .tc .vmem S512x1024 .f32) (harg8 : arg8.IsWhole)
  (arg9 : Memref sig .tc .vmem S512x1024 .f32) (harg9 : arg9.IsWhole)
  (arg10 : Memref sig .tc .vmem S1x1024 .f32) (harg10 : arg10.IsWhole)
  (arg11 : Memref sig .tc .vmem S2560x1024 .bf16) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S1x1x1024 .f32) (harg14 : arg14.IsWhole)
  (arg15 : Memref sig .tc .vmem S2560x1024 .f32) (harg15 : arg15.IsWhole)
  (x0 : Vec Ideal S512x512 .bf16) (x1 : Vec Ideal S512x512 .bf16) (x2 : Vec Ideal S512x512 .bf16) (x3 : Vec Ideal S512x512 .bf16) (x4 : Vec Ideal S512x512 .bf16) (x5 : Vec Ideal S2560x1024 .bf16) (x6 : Vec Ideal S512x1024 .bf16) (x7 : Vec Ideal S512x1024 .f32) (x8 : Vec Ideal S512x1024 .f32) (x9 : Vec Ideal S1x1024 .f32)

/-- The normed input's gradient at a point's rows. -/
abbrev dnB : FVec Ideal S512x1024 .f32 := dnP x0 x1 x2 x3 x4 (View.ld x5 r0) (View.ld x5 r1) (View.ld x5 r2) (View.ld x5 r3) (View.ld x5 r4)

section CaseA
variable (hc0 : cond0_0 i) (hc1 : ¬cond0_1 i)

theorem outA_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay20 (F := Ideal) (dnB x0 x1 x2 x3 x4 x5) x7 x9 x8 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem outA_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay21 (F := Ideal) (dnB x0 x1 x2 x3 x4 x5) x7 x9 x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem outA_13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay1 (F := Ideal) (k0_pay19 (F := Ideal) (dnB x0 x1 x2 x3 x4 x5) x7) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_unit_zero zero3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem soutA : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = next (k0_pay3 (F := Ideal)) x0 x1 x2 x3 x4 x6 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rw [readCov_fill (S := S2560x1024) (off := ![0, 0]) zero2, skip _ 0 512 _ _ _ _ (by decide), readCov_fill (S := S2560x1024) (off := ![0, 0]) zero2, skip _ 512 1024 _ _ _ _ (by decide),
    skip _ 0 1024 _ _ _ _ (by decide), readCov_fill (S := S2560x1024) (off := ![0, 0]) zero2, skip _ 1024 1536 _ _ _ _ (by decide), skip _ 512 1536 _ _ _ _ (by decide),
    skip _ 0 1536 _ _ _ _ (by decide), readCov_fill (S := S2560x1024) (off := ![0, 0]) zero2, skip _ 1536 2048 _ _ _ _ (by decide), skip _ 1024 2048 _ _ _ _ (by decide),
    skip _ 512 2048 _ _ _ _ (by decide), skip _ 0 2048 _ _ _ _ (by decide), readCov_fill (S := S2560x1024) (off := ![0, 0]) zero2]
  rw [← canon_pieces (k0_pay3 (F := Ideal)) x0 x1 x2 x3 x4 x6 _ _ _ _ _ [⟨Rect.unit ![0, 0] S2560x1024.size inb_S2560x1024_S2560x1024_0_0, k0_pay3 (F := Ideal)⟩] rfl rfl rfl rfl rfl]
  rfl

end CaseA

section CaseB
variable (hc0 : ¬cond0_0 i) (hc1 : ¬cond0_1 i) (xs0 : Vec Ideal S2560x1024 .f32)

theorem outB_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay20 (F := Ideal) (dnB x0 x1 x2 x3 x4 x5) x7 x9 x8 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0)]
  unfold kernelRun0_B
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem outB_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay21 (F := Ideal) (dnB x0 x1 x2 x3 x4 x5) x7 x9 x8 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0)]
  unfold kernelRun0_B
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem outB_13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay1 (F := Ideal) (k0_pay19 (F := Ideal) (dnB x0 x1 x2 x3 x4 x5) x7) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0)]
  unfold kernelRun0_B
  dsimp only
  sl_unfold_words
  rw [View.canon_unit_zero zero3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem soutB : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = next xs0 x0 x1 x2 x3 x4 x6 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0), ← canon_pieces xs0 x0 x1 x2 x3 x4 x6 _ _ _ _ _ [] rfl rfl rfl rfl rfl]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg15.read_unread, View.ld_unit_zero (S := S512x1024) zero2, View.ld_unit_zero (S := S512x512) zero2, View.ld_unit_zero (S := S1x1024) zero2]
  rfl

end CaseB

section CaseC
variable (hc0 : ¬cond0_0 i) (hc1 : cond0_1 i) (xs0 : Vec Ideal S2560x1024 .f32)

theorem outC_11 : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay20 (F := Ideal) (dnB x0 x1 x2 x3 x4 x5) x7 x9 x8 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0)]
  unfold kernelRun0_C
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem outC_12 : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay21 (F := Ideal) (dnB x0 x1 x2 x3 x4 x5) x7 x9 x8 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0)]
  unfold kernelRun0_C
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem outC_13 : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 = k0_pay1 (F := Ideal) (k0_pay19 (F := Ideal) (dnB x0 x1 x2 x3 x4 x5) x7) := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0)]
  unfold kernelRun0_C
  dsimp only
  sl_unfold_words
  rw [View.canon_unit_zero zero3]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) zero2, View.ld_unit_zero (S := S512x512) zero2, View.ld_unit_zero (S := S1x1024) zero2]
  rfl

theorem outC_10 : (out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 : S2560x1024.Idx → EReal) = next xs0 x0 x1 x2 x3 x4 x6 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0)]
  unfold kernelRun0_C
  dsimp only
  sl_unfold_words
  rw [View.canon_unit_zero zero2]
  simp only [View.readAt_eq_ld, harg1.read_unread, harg2.read_unread, harg3.read_unread, harg4.read_unread, harg5.read_unread, harg6.read_unread, harg7.read_unread, harg8.read_unread, harg9.read_unread, harg10.read_unread, harg15.read_unread, View.ld_unit_zero (S := S512x1024) zero2, View.ld_unit_zero (S := S512x512) zero2, View.ld_unit_zero (S := S1x1024) zero2]
  refine (pay2_eq _).trans ?_
  rw [readCov_whole zero2, ← canon_pieces xs0 x0 x1 x2 x3 x4 x6 _ _ _ _ _ [] rfl rfl rfl rfl rfl]
  rfl

end CaseC

end Cert.KernelMiIdeal.Body

end
-- ==== Proof.Joins.lean ====
/- Arrays of 512 columns side by side: a row of the whole, a product over the whole's columns, and the program's own
   concatenation. -/
module

public import proofs.«01_k».proof.Proof.Bands
public import Idealize.ShloMosaic.Lib.Pipeline.Value

@[expose] public section

noncomputable section

namespace Cert.Bands

open Idealize.ShloMosaic Idealize.ShloMosaic.ValueIdx

/-- Parts that agree on a row agree, side by side, on that row. -/
theorem join_row {n R R' M : ℕ} (hM : M = 512 * n) (d' : Fin n → (Sh R' 512).Idx → EReal) (d : Fin n → (Sh R 512).Idx → EReal)
    (p : Fin R') (P : Fin R) (h : ∀ i k, d' i (ix2 p k) = d i (ix2 P k)) (c : Fin M) : join hM d' (ix2 p c) = join hM d (ix2 P c) :=
  h _ _

/-- A sum over all the columns is a sum over each part's. -/
theorem sum_join {n R M : ℕ} (hM : M = 512 * n) (d : Fin n → (Sh R 512).Idx → EReal) (p : Fin R) (f : Fin M → EReal) :
    ∑ c : Fin M, join hM d (ix2 p c) * f c
      = ∑ i : Fin n, ∑ k : Fin 512, d i (ix2 p k) * f ⟨512 * i.val + k.val, by have := i.isLt; have := k.isLt; omega⟩ := by
  subst hM
  rw [← Fintype.sum_prod_type' (f := fun (i : Fin n) (k : Fin 512) => d i (ix2 p k) * f ⟨512 * i.val + k.val, by have := i.isLt; have := k.isLt; omega⟩)]
  refine (Fintype.sum_equiv (finProdFinEquiv.trans (finCongr (Nat.mul_comm n 512))) _ _ fun ik => ?_).symm
  have e : finProdFinEquiv.trans (finCongr (Nat.mul_comm n 512)) ik = ⟨512 * ik.1.val + ik.2.val, by have := ik.1.isLt; have := ik.2.isLt; omega⟩ :=
    Fin.ext (Nat.add_comm _ _)
  rw [e, join_at rfl d p ik.1 ik.2 _ rfl]

/-- Five parts, as the program puts them side by side. -/
theorem join_five {R : ℕ} (x0 x1 x2 x3 x4 : (Sh R 512).Idx → EReal)
    (h : Shape.Concatenates [Sh R 512, Sh R 512, Sh R 512, Sh R 512, Sh R 512] (Sh R 2560) 1) (k : Fin R) (c : Fin 2560) :
    join (n := 5) rfl ![x0, x1, x2, x3, x4] (ix2 k c)
      = concatenate (Sh R 2560) 1 [⟨Sh R 512, x0⟩, ⟨Sh R 512, x1⟩, ⟨Sh R 512, x2⟩, ⟨Sh R 512, x3⟩, ⟨Sh R 512, x4⟩] h (ix2 k c) := by
  have hc := c.isLt
  obtain ⟨i, hi⟩ : ∃ i : Fin 5, i.val = c.val / 512 := ⟨⟨c.val / 512, by omega⟩, rfl⟩
  refine (join_at rfl _ k i ⟨c.val % 512, by omega⟩ c (by show c.val = 512 * i.val + c.val % 512; omega)).trans ?_
  refine (concatenate_apply_piece 1 [⟨Sh R 512, x0⟩, ⟨Sh R 512, x1⟩, ⟨Sh R 512, x2⟩, ⟨Sh R 512, x3⟩, ⟨Sh R 512, x4⟩] h (ix2 k c) i.val i.isLt
    (Sh R 512) ((![x0, x1, x2, x3, x4] : Fin 5 → (Sh R 512).Idx → EReal) i) ?_ rfl (512 * i.val) ?_ (ix2 k ⟨c.val % 512, by omega⟩) (fun b hb => ?_) ?_).symm
  · fin_cases i <;> rfl
  · fin_cases i <;> rfl
  · match b with
    | ⟨0, _⟩ => rfl
    | ⟨1, _⟩ => exact absurd rfl hb
  · show 512 * i.val + c.val % 512 = c.val; omega

end Cert.Bands

end
-- ==== Proof.MiArrays.lean ====
/- The input projection's backward call: the arrays it leaves, as functions of the arrays it is given. -/
module

public import proofs.«01_k».proof.Proof.MiBody
public import proofs.«01_k».proof.Proof.Joins
public import Idealize.ShloMosaic.Lib.Pipeline.ValueKit

@[expose] public section

noncomputable section

namespace Cert.KernelMiIdeal.Arrays

open Cert.KernelMiIdeal Cert.KernelMiIdeal.Gen Idealize.ShloMosaic.TcCoe Idealize.ShloMosaic.ValueIdx
open Idealize.ShloMosaic hiding ix2 ix3 eq_ix2 eq_ix3
open Cert.Bands Cert.Rows Cert.Norm Cert.KernelMiIdeal.Pay Cert.KernelMiIdeal.Body

variable (m : (ℓ : Loc nD τ sig) → Buf (Elt Ideal) ℓ) (c : Dev nD)

/-! ## Where a block lies -/

/-- Row `p` of the block that point `t` reads or writes, as a row of the whole. -/
def rowAt (t : Fin cfg0.N) (p : Fin 512) : Fin 4096 := ⟨512 * t.val + p.val, by have h : t.val < 8 := t.isLt; have := p.isLt; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![0, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0, 0] := by decide +kernel

theorem iblk0_apply (t : Fin cfg0.N) (p : Fin 512) (k : Fin 512) : iblk m c 0 t (ix2 p k) = V m c main_v0 (ix2 (rowAt t p) k) := by
  unfold iblk
  blk_ext [idx0, rowAt]
  exact congrArg (· + p.val) (Nat.mul_comm t.val 512)

theorem iblk1_apply (t : Fin cfg0.N) (p : Fin 512) (k : Fin 512) : iblk m c 1 t (ix2 p k) = V m c main_v1 (ix2 (rowAt t p) k) := by
  unfold iblk
  blk_ext [idx1, rowAt]
  exact congrArg (· + p.val) (Nat.mul_comm t.val 512)

theorem iblk2_apply (t : Fin cfg0.N) (p : Fin 512) (k : Fin 512) : iblk m c 2 t (ix2 p k) = V m c main_v2 (ix2 (rowAt t p) k) := by
  unfold iblk
  blk_ext [idx2, rowAt]
  exact congrArg (· + p.val) (Nat.mul_comm t.val 512)

theorem iblk3_apply (t : Fin cfg0.N) (p : Fin 512) (k : Fin 512) : iblk m c 3 t (ix2 p k) = V m c main_v3 (ix2 (rowAt t p) k) := by
  unfold iblk
  blk_ext [idx3, rowAt]
  exact congrArg (· + p.val) (Nat.mul_comm t.val 512)

theorem iblk4_apply (t : Fin cfg0.N) (p : Fin 512) (k : Fin 512) : iblk m c 4 t (ix2 p k) = V m c main_v4 (ix2 (rowAt t p) k) := by
  unfold iblk
  blk_ext [idx4, rowAt]
  exact congrArg (· + p.val) (Nat.mul_comm t.val 512)

theorem iblk5_eq (t : Fin cfg0.N) : iblk m c 5 t = V m c main_v6 := by
  funext y; unfold iblk; blk_ext [idx5]

theorem iblk6_apply (t : Fin cfg0.N) (p : Fin 512) (k : Fin 1024) : iblk m c 6 t (ix2 p k) = V m c main_v19 (ix2 (rowAt t p) k) := by
  unfold iblk
  blk_ext [idx6, rowAt]
  exact congrArg (· + p.val) (Nat.mul_comm t.val 512)

theorem iblk7_apply (t : Fin cfg0.N) (p : Fin 512) (k : Fin 1024) : iblk m c 7 t (ix2 p k) = V m c main_arg0 (ix2 (rowAt t p) k) := by
  unfold iblk
  blk_ext [idx7, rowAt]
  exact congrArg (· + p.val) (Nat.mul_comm t.val 512)

theorem iblk8_apply (t : Fin cfg0.N) (p : Fin 512) (k : Fin 1024) : iblk m c 8 t (ix2 p k) = V m c main_arg3 (ix2 (rowAt t p) k) := by
  unfold iblk
  blk_ext [idx8, rowAt]
  exact congrArg (· + p.val) (Nat.mul_comm t.val 512)

theorem iblk9_eq (t : Fin cfg0.N) : iblk m c 9 t = V m c main_arg1 := by
  funext y; unfold iblk; blk_ext [idx9]

/-! ## What a point leaves -/

/-- The normed input's gradient over a point's block. -/
abbrev dnT (t : Fin cfg0.N) : (Sh 512 1024).Idx → EReal :=
  dnB (iblk m c 0 t) (iblk m c 1 t) (iblk m c 2 t) (iblk m c 3 t) (iblk m c 4 t) (iblk m c 5 t)

theorem outs11 (t : Fin cfg0.N) :
    (outsAt0 m c t.val t.isLt).2.1 = k0_pay20 (F := Ideal) (dnT m c t) (iblk m c 7 t) (iblk m c 9 t) (iblk m c 8 t) := by
  by_cases h0 : t.val % 8 = 0
  · rw [outsAt0_A m c t h0 (by omega)]; dsimp only; rw [outA_11]
  · by_cases h1 : t.val % 8 = 7
    · rw [outsAt0_C m c t h0 h1]; dsimp only; rw [outC_11]
    · rw [outsAt0_B m c t h0 h1]; dsimp only; rw [outB_11]

theorem outs12 (t : Fin cfg0.N) :
    (outsAt0 m c t.val t.isLt).2.2.1 = k0_pay21 (F := Ideal) (dnT m c t) (iblk m c 7 t) (iblk m c 9 t) (iblk m c 8 t) := by
  by_cases h0 : t.val % 8 = 0
  · rw [outsAt0_A m c t h0 (by omega)]; dsimp only; rw [outA_12]
  · by_cases h1 : t.val % 8 = 7
    · rw [outsAt0_C m c t h0 h1]; dsimp only; rw [outC_12]
    · rw [outsAt0_B m c t h0 h1]; dsimp only; rw [outB_12]

theorem outs13 (t : Fin cfg0.N) :
    (outsAt0 m c t.val t.isLt).2.2.2.1 = k0_pay1 (F := Ideal) (k0_pay19 (F := Ideal) (dnT m c t) (iblk m c 7 t)) := by
  by_cases h0 : t.val % 8 = 0
  · rw [outsAt0_A m c t h0 (by omega)]; dsimp only; rw [outA_13]
  · by_cases h1 : t.val % 8 = 7
    · rw [outsAt0_C m c t h0 h1]; dsimp only; rw [outC_13]
    · rw [outsAt0_B m c t h0 h1]; dsimp only; rw [outB_13]

/-! ## The arrays the call is given -/

abbrev dA : Fin 5 → (Sh 4096 512).Idx → EReal := ![V m c main_v0, V m c main_v1, V m c main_v2, V m c main_v3, V m c main_v4]
abbrev partsA : (Sh 4096 2560).Idx → EReal := join (n := 5) rfl (dA m c)
abbrev wA : (Sh 2560 1024).Idx → EReal := V m c main_v6
abbrev nA : (Sh 4096 1024).Idx → EReal := V m c main_v19
abbrev xA : (Sh 4096 1024).Idx → EReal := V m c main_arg0
abbrev ctA : (Sh 4096 1024).Idx → EReal := V m c main_arg3
abbrev gainA : (Sh 1 1024).Idx → EReal := V m c main_arg1

/-- The normed input's gradient. -/
def dnA : (Sh 4096 1024).Idx → EReal := fun i => ∑ k : Fin 2560, partsA m c (ix2 (i 0) k) * wA m c (ix2 k (i 1))

/-- The input's gradient. -/
def dxA : (Sh 4096 1024).Idx → EReal :=
  fun i => dxK (row (dnA m c) (i 0)) (row (xA m c) (i 0)) (row (gainA m c) 0) (ctA m c i) (i 1)

/-- A point's parts are rows of the whole's. -/
theorem parts_blk (t : Fin cfg0.N) (p : Fin 512) (k : Fin 2560) :
    parts (iblk m c 0 t) (iblk m c 1 t) (iblk m c 2 t) (iblk m c 3 t) (iblk m c 4 t) (ix2 p k) = partsA m c (ix2 (rowAt t p) k) :=
  join_row (n := 5) rfl _ (dA m c) p (rowAt t p) (fun i k => by
    match i with
    | ⟨0, _⟩ => exact iblk0_apply m c t p k
    | ⟨1, _⟩ => exact iblk1_apply m c t p k
    | ⟨2, _⟩ => exact iblk2_apply m c t p k
    | ⟨3, _⟩ => exact iblk3_apply m c t p k
    | ⟨4, _⟩ => exact iblk4_apply m c t p k) k

/-- The gradient that the body sums from the projection's bands is one product over all its rows. -/
theorem dnB_apply (x0 x1 x2 x3 x4 : Vec Ideal S512x512 .bf16) (x5 : Vec Ideal S2560x1024 .bf16) (p : Fin 512) (q : Fin 1024) :
    dnB x0 x1 x2 x3 x4 x5 (ix2 p q) = ∑ k : Fin 2560, parts x0 x1 x2 x3 x4 (ix2 p k) * (x5 : (Sh 2560 1024).Idx → EReal) (ix2 k q) := by
  unfold dnB parts
  rw [dnP_apply]
  refine Eq.trans ?_ (sum_join (n := 5) (M := 2560) rfl ![x0, x1, x2, x3, x4] p
    (fun k => (x5 : (Sh 2560 1024).Idx → EReal) (ix2 k q))).symm
  refine Finset.sum_congr rfl fun i _ => Finset.sum_congr rfl fun k _ => congrArg (_ * ·) ?_
  match i with
  | ⟨0, _⟩ => exact congrArg x5 (emb_band 0 _ k q _ rfl)
  | ⟨1, _⟩ => exact congrArg x5 (emb_band 512 _ k q _ rfl)
  | ⟨2, _⟩ => exact congrArg x5 (emb_band 1024 _ k q _ rfl)
  | ⟨3, _⟩ => exact congrArg x5 (emb_band 1536 _ k q _ rfl)
  | ⟨4, _⟩ => exact congrArg x5 (emb_band 2048 _ k q _ rfl)

theorem dn_blk (t : Fin cfg0.N) (p : Fin 512) : row (dnT m c t) p = row (dnA m c) (rowAt t p) := funext fun q => by
  refine (dnB_apply _ _ _ _ _ _ p q).trans ?_
  rw [iblk5_eq]
  exact Finset.sum_congr rfl fun k _ => congrArg (· * wA m c (ix2 k q)) (parts_blk m c t p k)

theorem x_blk (t : Fin cfg0.N) (p : Fin 512) : row (R := 512) (iblk m c 7 t) p = row (xA m c) (rowAt t p) :=
  funext fun k => iblk7_apply m c t p k

theorem dx_blk (t : Fin cfg0.N) (p : Fin 512) (q : Fin 1024) :
    k0_pay20 (F := Ideal) (dnT m c t) (iblk m c 7 t) (iblk m c 9 t) (iblk m c 8 t) (ix2 p q) = dxA m c (ix2 (rowAt t p) q) := by
  rw [pay20_apply, dn_blk, x_blk, iblk9_eq, iblk8_apply]
  rfl

/-! ## The arrays the call leaves -/

theorem arr11 : (dats m 0 c).arrAt 11 cfg0.N = dxA m c := by
  refine (dats m 0 c).arrAt_eq_of_covers 11 _ (by decide +kernel) fun t hf y => ?_
  blk_simp
  rw [after0_11, outs11]
  obtain ⟨p, q, rfl⟩ : ∃ (p : Fin 512) (q : Fin 1024), y = ix2 p q := ⟨y 0, y 1, eq_ix2 y⟩
  have hy : (win0_11.blk t).view.emb (ix2 p q) = ix2 (rowAt t p) q := by
    blk_ext [idx11, rowAt]
    exact congrArg (· + p.val) (Nat.mul_comm t.val 512)
  rw [hy]
  exact dx_blk m c t p q

theorem arr12 : (dats m 0 c).arrAt 12 cfg0.N = fun i => half * dxA m c i := by
  refine (dats m 0 c).arrAt_eq_of_covers 12 _ (by decide +kernel) fun t hf y => ?_
  blk_simp
  rw [after0_12, outs12]
  obtain ⟨p, q, rfl⟩ : ∃ (p : Fin 512) (q : Fin 1024), y = ix2 p q := ⟨y 0, y 1, eq_ix2 y⟩
  have hy : (win0_12.blk t).view.emb (ix2 p q) = ix2 (rowAt t p) q := by
    blk_ext [idx12, rowAt]
    exact congrArg (· + p.val) (Nat.mul_comm t.val 512)
  rw [hy]
  exact congrArg (half * ·) (dx_blk m c t p q)

/-- The norm weights' gradient, block by block of rows. -/
def dgainA : S8x1x1024.Idx → EReal := fun i =>
  ∑ k : Fin 512, dnA m c (ix2 (rowAt (i 0) k) (i 2)) * (xA m c (ix2 (rowAt (i 0) k) (i 2)) * rms (row (xA m c) (rowAt (i 0) k)))

theorem arr13 : (dats m 0 c).arrAt 13 cfg0.N = dgainA m c := by
  refine (dats m 0 c).arrAt_eq_of_covers 13 _ (by decide +kernel) fun t hf y => ?_
  blk_simp
  rw [after0_13, outs13]
  obtain ⟨i, j, q, rfl⟩ : ∃ (i j : Fin 1) (q : Fin 1024), y = ix3 i j q := ⟨y 0, y 1, y 2, eq_ix3 y⟩
  obtain rfl : i = 0 := Subsingleton.elim _ _
  obtain rfl : j = 0 := Subsingleton.elim _ _
  have hy : (win0_13.blk t).view.emb (ix3 0 0 q) = ix3 t 0 q := by
    blk_ext [idx13]
  rw [hy]
  refine (pay1_apply (dnT m c t) (iblk m c 7 t) q).trans (Finset.sum_congr rfl fun k _ => ?_)
  exact congrArg₂ (· * ·) (congrFun (dn_blk m c t k) q)
    (congrArg₂ (· * ·) (iblk7_apply m c t k q) (congrArg rms (x_blk m c t k)))

/-! ## The projection's gradient: the running sum over the points -/

/-- A point adds its 512 rows' shares. -/
theorem next_blk (t : Fin cfg0.N) (acc : Vec Ideal S2560x1024 .f32) (i : (Sh 2560 1024).Idx) :
    next acc (iblk m c 0 t) (iblk m c 1 t) (iblk m c 2 t) (iblk m c 3 t) (iblk m c 4 t) (iblk m c 6 t) i
      = acc i + ∑ r ∈ Finset.range 512, share (partsA m c) (nA m c) i (512 * t.val + r) :=
  congrArg (acc i + ·) (sum_share_blk (K := 4096) (partsA m c) (nA m c) i t.val _ _ (by have h : t.val < 8 := t.isLt; omega)
    (fun p q => parts_blk m c t p q) (fun p q => iblk6_apply m c t p q))

/-- What the accumulator holds, or at the last point the result, after point `n`. -/
def accAt (n : ℕ) (hn : n < 8) : (Sh 2560 1024).Idx → EReal :=
  if n % 8 = 7 then (outsAt0 m c n hn).1 else (outsAt0 m c n hn).2.2.2.2

theorem accAt_eq : ∀ (n : ℕ) (hn : n < 8) (i : (Sh 2560 1024).Idx),
    accAt m c n hn i = ∑ r ∈ Finset.range (512 * (n + 1)), share (partsA m c) (nA m c) i r := by
  refine steps_sum (partsA m c) (nA m c) 8 (accAt m c) (k0_pay3 (F := Ideal) (ix2 0 0)) ?_ (fun h i => ?_) (fun n h i => ?_)
  · exact Ideal.ofBits_zero_f32
  · unfold accAt
    rw [if_neg (by decide), outsAt0_A m c ⟨0, h⟩ rfl (by show ¬0 % 8 = 7; decide)]
    dsimp only
    rw [soutA]
    exact next_blk m c ⟨0, h⟩ (k0_pay3 (F := Ideal)) i
  · have e : accAt m c n (Nat.lt_of_succ_lt h) = (outsAt0 m c n (Nat.lt_of_succ_lt h)).2.2.2.2 := if_neg (by omega)
    rw [e]
    unfold accAt
    by_cases h1 : (n + 1) % 8 = 7
    · rw [if_pos h1, outsAt0_C m c ⟨n + 1, h⟩ (by show ¬(n + 1) % 8 = 0; omega) h1]
      dsimp only
      rw [outC_10]
      exact next_blk m c ⟨n + 1, h⟩ _ i
    · rw [if_neg h1, outsAt0_B m c ⟨n + 1, h⟩ (by show ¬(n + 1) % 8 = 0; omega) h1]
      dsimp only
      rw [soutB]
      exact next_blk m c ⟨n + 1, h⟩ _ i

theorem arr10 : (dats m 0 c).arrAt 10 cfg0.N = prodTN (partsA m c) (nA m c) := by
  funext i
  obtain ⟨p, q, rfl⟩ : ∃ (p : Fin 2560) (q : Fin 1024), i = ix2 p q := ⟨i 0, i 1, eq_ix2 i⟩
  refine ((dats m 0 c).arrAt_emb_eq_after_last 10 ⟨7, by decide⟩ (by decide +kernel) (ix2 p q)).trans ?_
  refine (congrFun (after0_10 m c ⟨7, by decide⟩) _).trans ?_
  refine Eq.trans ?_ ((accAt_eq m c 7 (by decide) (ix2 p q)).trans (sum_share (partsA m c) (nA m c) (ix2 p q)))
  exact (congrFun (if_pos (c := 7 % 8 = 7) (by decide)) _).symm

end Cert.KernelMiIdeal.Arrays

end
-- ==== Proof.MiRef.lean ====
/- The input projection's backward reference at an element, in the words the kernel's results are in. -/
module

public import proofs.«01_k».proof.Proof.Rows
public import proofs.«01_k».proof.Proof.Joins
public import proofs.«01_k».proof.Proof.Gen.ReferenceMiIdeal.Read

@[expose] public section

noncomputable section

namespace Cert.ReferenceMiIdeal.Spec

open Cert.ReferenceMiIdeal Cert.ReferenceMiIdeal.Gen Cert.ReferenceMiIdeal.Read Cert.Rows Cert.Reals Cert.Bands
open Idealize.ShloMosaic Idealize.ShloMosaic.ValueIdx

variable (x0 : S4096x1024.Idx → EReal) (x1 : S1x1024.Idx → EReal) (x2 : S1024x2560.Idx → EReal) (x3 : S4096x1024.Idx → EReal)
  (x4 x5 x6 x7 x8 : S4096x512.Idx → EReal)

/-- Row `p` of the input. -/
abbrev xr (p : Fin 4096) : Fin 1024 → EReal := fun k => x0 (ix2 p k)

theorem zero_add' (x : EReal) : zero + x = x := by
  rw [show zero = 0 from ofBits_zero, zero_add]

theorem msq_apply (p : Fin 4096) (j : Fin 1) : val_main_v6 (F := Ideal) x0 (ix2 p j) = msq (xr x0 p) := by
  rw [val_main_v6_apply, val_main_v4_apply, val_main_v2_apply, val_main_v3_apply, val_main_v5_apply, val_main_v1_apply]
  show Ideal.div (zero + _) len + eps = _
  rw [zero_add']
  refine congrArg (fun z => Ideal.div z len + eps) (Finset.sum_congr rfl fun k _ => ?_)
  rw [show idx_main_v1 (idx_main_v2 (ix2 p j)) k = ix2 p k from eq_ix2 _]
  rfl

/-- A row's inverse root mean square. -/
theorem r_apply (p : Fin 4096) (j : Fin 1) : val_main_v7 (F := Ideal) x0 (ix2 p j) = rms (xr x0 p) := by
  rw [val_main_v7_apply, msq_apply]
  rfl

/-- The five parts side by side. -/
theorem parts_apply (k : Fin 4096) (c : Fin 2560) :
    join (n := 5) rfl ![x4, x5, x6, x7, x8] (ix2 k c) = val_main_v21 (F := Ideal) x4 x5 x6 x7 x8 (ix2 k c) :=
  join_five x4 x5 x6 x7 x8 _ k c

/-- The projection's gradient, transposed twice. -/
theorem dw_apply (p : Fin 2560) (q : Fin 1024) : val_main_v63 (F := Ideal) x0 x1 x4 x5 x6 x7 x8 (ix2 p q)
    = ∑ k : Fin 4096, val_main_v21 (F := Ideal) x4 x5 x6 x7 x8 (ix2 k p) * val_main_v14 (F := Ideal) x0 x1 (ix2 k q) := by
  show val_main_v62 (F := Ideal) x0 x1 x4 x5 x6 x7 x8 (ix2 p q) = _
  rw [val_main_v62_apply, val_main_v23_apply, val_main_v22_apply]
  refine Finset.sum_congr rfl fun k _ => ?_
  rw [show lidx_main_v22 (idx_main_v23 (idx_main_v62 (ix2 p q))) k = ix2 k p from eq_ix2 _,
    show ridx_main_v22 (idx_main_v23 (idx_main_v62 (ix2 p q))) k = ix2 k q from eq_ix2 _]

/-- The normed input's gradient. -/
theorem dn_apply (p : Fin 4096) (q : Fin 1024) : val_main_v24 (F := Ideal) x2 x4 x5 x6 x7 x8 (ix2 p q)
    = ∑ c : Fin 2560, val_main_v21 (F := Ideal) x4 x5 x6 x7 x8 (ix2 p c) * x2 (ix2 q c) := by
  rw [val_main_v24_apply]
  refine Finset.sum_congr rfl fun c _ => ?_
  rw [show lidx_main_v24 (ix2 p q) c = ix2 p c from eq_ix2 _, show ridx_main_v24 (ix2 p q) c = ix2 q c from eq_ix2 _]

/-- Row `p` of it. -/
abbrev dnr (p : Fin 4096) : Fin 1024 → EReal := fun k => val_main_v24 (F := Ideal) x2 x4 x5 x6 x7 x8 (ix2 p k)

/-- The mean square's own gradient, spread over the row. -/
theorem dms_apply (p : Fin 4096) (j : Fin 1024) : val_main_v37 (F := Ideal) x0 x1 x2 x4 x5 x6 x7 x8 (ix2 p j)
    = dms (dnr x2 x4 x5 x6 x7 x8 p) (xr x0 p) fun k => x1 (ix2 0 k) := by
  rw [val_main_v37_apply, val_main_v36_apply, Fin.sum_univ_one]
  show zero + _ = _
  rw [zero_add', val_main_v35_apply, val_main_v33_apply, val_main_v29_apply, val_main_v28_apply, val_main_v34_apply,
    val_main_v10_apply, val_main_v9_apply, val_main_v8_apply,
    show idx_main_v36 (idx_main_v37 (ix2 p j)) 0 = ix2 p 0 from eq_ix2 _, msq_apply, r_apply]
  show Ideal.div ((zero + _) * _) len = _
  rw [zero_add']
  refine congrArg (fun z => Ideal.div (z * _) len) (Finset.sum_congr rfl fun k _ => ?_)
  rw [show idx_main_v28 (idx_main_v29 (ix2 p 0)) k = ix2 p k from funext fun a => Fin.ext (by
    match a with
    | ⟨0, _⟩ => exact Nat.mul_one _
    | ⟨1, _⟩ => rfl), val_main_v27_apply, val_main_v26_apply,
    val_main_v25_apply, show idx_main_v25 (ix2 p k) = ix2 0 k from eq_ix2 _]
  rfl

/-- The norm weights' gradient: each block of 512 rows' own sum. -/
theorem dgain_apply (i : Fin 8) (j : Fin 1) (q : Fin 1024) : val_main_v61 (F := Ideal) x0 x2 x4 x5 x6 x7 x8 (ix3 i j q)
    = ∑ k : Fin 512, dnr x2 x4 x5 x6 x7 x8 ⟨512 * i.val + k.val, by have := i.isLt; have := k.isLt; omega⟩ q
        * (x0 (ix2 ⟨512 * i.val + k.val, by have := i.isLt; have := k.isLt; omega⟩ q)
            * rms (xr x0 ⟨512 * i.val + k.val, by have := i.isLt; have := k.isLt; omega⟩)) := by
  rw [val_main_v61_apply, val_main_v60_apply]
  show zero + _ = _
  rw [zero_add']
  refine Finset.sum_congr rfl fun k _ => ?_
  have hi := i.isLt
  have hk := k.isLt
  have hq := q.isLt
  rw [val_main_v59_apply, show idx_main_v59 (idx_main_v60 (idx_main_v61 (ix3 i j q)) k) = ix2 ⟨512 * i.val + k.val, by omega⟩ q from
    funext fun a => Fin.ext (by
      match a with
      | ⟨0, _⟩ => show ((i.val * 512 + k.val) * 1024 + q.val) / 1024 = 512 * i.val + k.val; omega
      | ⟨1, _⟩ => show ((i.val * 512 + k.val) * 1024 + q.val) % 1024 = q.val; omega)]
  generalize (⟨512 * i.val + k.val, _⟩ : Fin 4096) = P
  rw [val_main_v58_apply, val_main_v54_apply, val_main_v52_apply, val_main_v53_apply, val_main_v42_apply, val_main_v51_apply,
    show idx_main_v51 (ix2 P q) = ix2 P 0 from eq_ix2 _,
    show val_main_v50 (F := Ideal) x0 (ix2 P 0) = rms (xr x0 P) from r_apply x0 P 0]
  show x0 (ix2 P q) * rms (xr x0 P) * one * val_main_v24 (F := Ideal) x2 x4 x5 x6 x7 x8 (ix2 P q) = _
  rw [show one = 1 from ofBits_one, mul_one]
  exact mul_comm _ _

/-- The input's gradient. -/
theorem dx_apply (p : Fin 4096) (j : Fin 1024) : val_main_v41 (F := Ideal) x0 x1 x2 x3 x4 x5 x6 x7 x8 (ix2 p j)
    = dxK (dnr x2 x4 x5 x6 x7 x8 p) (xr x0 p) (fun k => x1 (ix2 0 k)) (x3 (ix2 p j)) j := by
  rw [dxK_eq]
  rw [val_main_v41_apply, val_main_v40_apply, val_main_v39_apply, val_main_v38_apply, val_main_v32_apply,
    val_main_v31_apply, val_main_v26_apply, val_main_v30_apply, val_main_v25_apply, dms_apply,
    show idx_main_v30 (ix2 p j) = ix2 p 0 from eq_ix2 _, show idx_main_v25 (ix2 p j) = ix2 0 j from eq_ix2 _, r_apply]
  rfl

end Cert.ReferenceMiIdeal.Spec

end
-- ==== Proof.MiGlue.lean ====
/- The input projection's backward call: the arrays it leaves are the reference's results. -/
module

public import proofs.«01_k».proof.Proof.MiArrays
public import proofs.«01_k».proof.Proof.MiRef
public import proofs.«01_k».proof.Proof.Gen.KernelMiIdeal.Value

@[expose] public section

noncomputable section

namespace Cert.KernelMiIdeal.Glue

open Cert.KernelMiIdeal Cert.KernelMiIdeal.Gen Idealize.ShloMosaic.TcCoe Idealize.ShloMosaic.ValueIdx
open Idealize.ShloMosaic hiding ix2 ix3 eq_ix2 eq_ix3
open Cert.Norm (row)
open Cert.Bands Cert.Rows Cert.Reals Cert.KernelMiIdeal.Arrays Cert.ReferenceMiIdeal.Spec
open Cert.ReferenceMiIdeal.Read (val_main_v14 val_main_v24 val_main_v41 val_main_v61 val_main_v63 val_main_v66)

variable (m : (ℓ : Loc nD τ sig) → Buf (Elt Ideal) ℓ) (c : Dev nD)

/-- The arguments on a device. -/
abbrev a0 : (Sh 4096 1024).Idx → EReal := m ((c.tc : Thread nD τ).loc main_arg0)
abbrev a1 : (Sh 1 1024).Idx → EReal := m ((c.tc : Thread nD τ).loc main_arg1)
abbrev a2 : (Sh 1024 2560).Idx → EReal := m ((c.tc : Thread nD τ).loc main_arg2)
abbrev a3 : (Sh 4096 1024).Idx → EReal := m ((c.tc : Thread nD τ).loc main_arg3)
abbrev a4 : (Sh 4096 512).Idx → EReal := m ((c.tc : Thread nD τ).loc main_arg4)
abbrev a5 : (Sh 4096 512).Idx → EReal := m ((c.tc : Thread nD τ).loc main_arg5)
abbrev a6 : (Sh 4096 512).Idx → EReal := m ((c.tc : Thread nD τ).loc main_arg6)
abbrev a7 : (Sh 4096 512).Idx → EReal := m ((c.tc : Thread nD τ).loc main_arg7)
abbrev a8 : (Sh 4096 512).Idx → EReal := m ((c.tc : Thread nD τ).loc main_arg8)

/-! ## The arrays the host prepares -/

theorem V_arg0 : V m c main_arg0 = a0 m c := by unfold V; after_results <;> rfl
theorem V_arg1 : V m c main_arg1 = a1 m c := by unfold V; after_results <;> rfl
theorem V_arg3 : V m c main_arg3 = a3 m c := by unfold V; after_results <;> rfl
theorem V_v0 : V m c main_v0 = a4 m c := by unfold V; after_results <;> rfl
theorem V_v1 : V m c main_v1 = a5 m c := by unfold V; after_results <;> rfl
theorem V_v2 : V m c main_v2 = a6 m c := by unfold V; after_results <;> rfl
theorem V_v3 : V m c main_v3 = a7 m c := by unfold V; after_results <;> rfl
theorem V_v4 : V m c main_v4 = a8 m c := by unfold V; after_results <;> rfl
theorem V_n : V m c main_v19 = val_main_v14 (F := Ideal) (a0 m c) (a1 m c) := by unfold V; after_results <;> rfl
theorem V_w : V m c main_v6 = fun i => a2 m c (ix2 (i 1) (i 0)) := by
  have e : V m c main_v6 = transpose S2560x1024 [1, 0] (a2 m c) transposes_S1024x2560_S2560x1024_1_0 := by
    unfold V; after_results <;> rfl
  rw [e]
  exact funext fun i => transpose_apply _ _ _ i _ (fun b => by match b with | ⟨0, _⟩ => rfl | ⟨1, _⟩ => rfl)

/-! ## The call's arrays -/

theorem dA_eq : dA m c = ![a4 m c, a5 m c, a6 m c, a7 m c, a8 m c] := by
  unfold dA
  rw [V_v0, V_v1, V_v2, V_v3, V_v4]

theorem dw_eq : (dats m 0 c).arrAt 10 cfg0.N
    = val_main_v63 (F := Ideal) (a0 m c) (a1 m c) (a4 m c) (a5 m c) (a6 m c) (a7 m c) (a8 m c) := by
  rw [arr10]
  funext i
  obtain ⟨p, q, rfl⟩ : ∃ (p : Fin 2560) (q : Fin 1024), i = ix2 p q := ⟨i 0, i 1, eq_ix2 i⟩
  rw [dw_apply]
  refine Finset.sum_congr rfl fun k _ => ?_
  unfold partsA nA
  rw [dA_eq, V_n]
  exact congrArg (· * _) (parts_apply _ _ _ _ _ k p)

theorem dn_eq (p : Fin 4096) : row (dnA m c) p = dnr (a2 m c) (a4 m c) (a5 m c) (a6 m c) (a7 m c) (a8 m c) p := by
  funext q
  refine Eq.trans ?_ (dn_apply _ _ _ _ _ _ p q).symm
  refine Finset.sum_congr rfl fun k _ => ?_
  unfold partsA wA
  rw [dA_eq, V_w]
  exact congrArg (· * _) (parts_apply _ _ _ _ _ p k)

theorem dgain_eq : (dats m 0 c).arrAt 13 cfg0.N
    = val_main_v61 (F := Ideal) (a0 m c) (a2 m c) (a4 m c) (a5 m c) (a6 m c) (a7 m c) (a8 m c) := by
  rw [arr13]
  funext (i : S8x1x1024.Idx)
  obtain ⟨p, j, q, rfl⟩ : ∃ (p : Fin 8) (j : Fin 1) (q : Fin 1024), i = ix3 p j q := ⟨i 0, i 1, i 2, eq_ix3 i⟩
  rw [dgain_apply]
  refine Finset.sum_congr rfl fun k _ => ?_
  rw [← dn_eq]
  unfold xA
  rw [V_arg0]
  rfl

theorem dx_ref : dxA m c
    = val_main_v41 (F := Ideal) (a0 m c) (a1 m c) (a2 m c) (a3 m c) (a4 m c) (a5 m c) (a6 m c) (a7 m c) (a8 m c) := by
  funext i
  obtain ⟨p, q, rfl⟩ : ∃ (p : Fin 4096) (q : Fin 1024), i = ix2 p q := ⟨i 0, i 1, eq_ix2 i⟩
  rw [dx_apply, ← dn_eq]
  unfold dxA xA ctA gainA
  rw [V_arg0, V_arg1, V_arg3]

theorem dx_eq : (dats m 0 c).arrAt 11 cfg0.N
    = val_main_v41 (F := Ideal) (a0 m c) (a1 m c) (a2 m c) (a3 m c) (a4 m c) (a5 m c) (a6 m c) (a7 m c) (a8 m c) :=
  (arr11 m c).trans (dx_ref m c)

theorem dy_eq : (dats m 0 c).arrAt 12 cfg0.N
    = val_main_v66 (F := Ideal) (a0 m c) (a1 m c) (a2 m c) (a3 m c) (a4 m c) (a5 m c) (a6 m c) (a7 m c) (a8 m c) := by
  rw [arr12, dx_ref m c]
  funext i
  rw [Cert.ReferenceMiIdeal.Read.val_main_v66_apply, Cert.ReferenceMiIdeal.Read.val_main_v65_apply,
    Cert.ReferenceMiIdeal.Read.val_main_v64_apply]
  rfl

end Cert.KernelMiIdeal.Glue

end
-- ==== Proof.Fwd.lean ====
/- What the two forward calls compute: the norm over blocks of rows, products with an array or its transpose, the gated
   activation. -/
module

public import proofs.«01_k».proof.Proof.Norm
public import proofs.«01_k».proof.Proof.Bands

@[expose] public section

noncomputable section

namespace Cert.Fwd

open Idealize.ShloMosaic Idealize.ShloMosaic.ValueIdx Cert.Reals Cert.Rows Cert.Norm Cert.Bands

/-! ## The norm -/

/-- The rows over their root mean squares, times the norm's weights. -/
def normF {R : ℕ} (x : (Sh R 1024).Idx → EReal) (gain : (Sh 1 1024).Idx → EReal) : (Sh R 1024).Idx → EReal :=
  fun y => x y * rms (row x (y 0)) * gain (ix2 0 (y 1))

/-- A block's rows' norm is those rows' of the whole. -/
theorem normF_rows {R R' : ℕ} (x' : (Sh R' 1024).Idx → EReal) (x : (Sh R 1024).Idx → EReal) (gain : (Sh 1 1024).Idx → EReal)
    (p : Fin R') (P : Fin R) (q : Fin 1024) (h : row x' p = row x P) : normF x' gain (ix2 p q) = normF x gain (ix2 P q) := by
  show row x' p q * rms (row x' p) * _ = row x P q * rms (row x P) * _
  rw [h]
  rfl

/-- The norm as the kernels compute it. -/
theorem norm_eq {R : ℕ} (hr : (Rs R 1024).Reduces [1] (Cs R)) (hc : (Cs R).ShapeCasts (Rs R 1)) (hb : (Rs R 1).Broadcasts (Rs R 1024))
    (hg : (Rs 1 1024).Broadcasts (Rs R 1024)) (x : FVec Ideal (Rs R 1024) .f32) (gain : FVec Ideal (Rs 1 1024) .f32) :
    mulf (unit hr hc hb x) (broadcastTo (Rs R 1024) gain hg) = normF x gain := by
  funext y
  obtain ⟨p, q, rfl⟩ : ∃ (p : Fin R) (q : Fin 1024), y = ix2 p q := ⟨y 0, y 1, eq_ix2 y⟩
  show unit hr hc hb x (ix2 p q) * broadcastTo (Rs R 1024) gain hg (ix2 p q) = _
  rw [unit_apply, spreadGain_apply]
  rfl

/-! ## Products -/

/-- The product of two arrays. -/
def prodNN {M K N : ℕ} (x : (Sh M K).Idx → EReal) (w : (Sh K N).Idx → EReal) : (Sh M N).Idx → EReal :=
  fun i => ∑ k : Fin K, x (ix2 (i 0) k) * w (ix2 k (i 1))

theorem prodNN_rows {M M' K N : ℕ} (x' : (Sh M' K).Idx → EReal) (x : (Sh M K).Idx → EReal) (w : (Sh K N).Idx → EReal)
    (p : Fin M') (P : Fin M) (q : Fin N) (h : ∀ k, x' (ix2 p k) = x (ix2 P k)) : prodNN x' w (ix2 p q) = prodNN x w (ix2 P q) :=
  Finset.sum_congr rfl fun k _ => congrArg (· * w (ix2 k q)) (h k)

theorem prodNT_rows {M M' K N : ℕ} (x' : (Sh M' K).Idx → EReal) (x : (Sh M K).Idx → EReal) (w : (Sh N K).Idx → EReal)
    (p : Fin M') (P : Fin M) (q : Fin N) (h : ∀ k, x' (ix2 p k) = x (ix2 P k)) : prodNT x' w (ix2 p q) = prodNT x w (ix2 P q) :=
  Finset.sum_congr rfl fun k _ => congrArg (· * w (ix2 q k)) (h k)

/-- A product with a transpose that was transposed before. -/
theorem prodNT_flip {M K N : ℕ} (x : (Sh M K).Idx → EReal) (w : (Sh K N).Idx → EReal) (v : (Sh N K).Idx → EReal)
    (h : v = fun i => w (ix2 (i 1) (i 0))) : prodNT x v = prodNN x w := by
  rw [h]; rfl

/-! ## The gated activation -/

/-- The two ways to the logistic function agree everywhere. -/
theorem sigK_eq (g : EReal) : sigK g = sigR g := by
  induction g with
  | coe g => rw [sigK_real, sigR_real]
  | top =>
    have hh : half * (⊤ : EReal) = ⊤ := by rw [show half = _ from ofBits_half]; exact EReal.coe_mul_top_of_pos (by norm_num)
    have h1 : one = ((1 : ℝ) : EReal) := ofBits_one
    unfold sigK sigR
    rw [hh, h1, show Ideal.tanh ⊤ = ((1 : ℝ) : EReal) from rfl, EReal.neg_top, show Ideal.exp ⊥ = ((0 : ℝ) : EReal) from rfl,
      show half = _ from ofBits_half, ← EReal.coe_add, ← EReal.coe_add, ← EReal.coe_mul, div_real _ _ (by norm_num)]
    norm_num
  | bot =>
    have hh : half * (⊥ : EReal) = ⊥ := by rw [show half = _ from ofBits_half]; exact EReal.coe_mul_bot_of_pos (by norm_num)
    have h1 : one = ((1 : ℝ) : EReal) := ofBits_one
    have h2 : Ideal.tanh ⊥ = ((-1 : ℝ) : EReal) := by show (-1 : EReal) = _; norm_num
    unfold sigK sigR
    rw [hh, h1, h2, EReal.neg_bot, show Ideal.exp ⊤ = ⊤ from rfl, show half = _ from ofBits_half, ← EReal.coe_add, ← EReal.coe_mul,
      EReal.coe_add_top]
    unfold Ideal.div
    rw [if_neg EReal.top_ne_zero, EReal.inv_top]
    norm_num

/-- The gate's product through the logistic function, times the up product. -/
def actF {R : ℕ} (g u : (Sh R 2816).Idx → EReal) : (Sh R 2816).Idx → EReal := fun y => g y * sigK (g y) * u y

end Cert.Fwd

end
-- ==== Proof.GuBody.lean ====
/- The gated layer's first products: what one point of the grid leaves in each output's block, as a function of the blocks it
   reads. -/
module

public import proofs.«01_k».proof.Proof.Gen.KernelGuIdeal.Frame
public import proofs.«01_k».proof.Proof.Fwd

@[expose] public section

noncomputable section

namespace Cert.KernelGuIdeal.Body

open Cert.KernelGuIdeal Cert.KernelGuIdeal.Gen Idealize.ShloMosaic Idealize.ShloMosaic.TcCoe Idealize.ShloMosaic.ValueIdx
open Cert.Bands Cert.Rows Cert.Norm Cert.Fwd

theorem zero2 : (![0, 0] : Fin 2 → ℕ) = fun _ => 0 := by decide

/-! ## The stored values -/

/-- 256 columns of the product. -/
theorem dotNT (lhs : FVec Ideal S512x1024 .bf16) (rhs : FVec Ideal S256x1024 .bf16) (p : Fin 512) (q : Fin 256) :
    FloatOps.matmul (F := Ideal) dot_S512x1024_S256x1024_S512x256_1_1_0_0_n_n none lhs rhs (constant S512x256 .f32 0x00000000#32) (ix2 p q)
      = ∑ k : Fin 1024, lhs (ix2 p k) * rhs (ix2 q k) := by
  refine matmul_sum _ 1024 rfl rfl lhs rhs _ (fun k => ix2 p k) (fun k => ix2 q k) (fun k => ?_) (fun k => ?_)
  · exact funext fun a => Fin.ext (by match a with | ⟨0, _⟩ => rfl | ⟨1, _⟩ => exact contrEquiv1_symm_val dot_S512x1024_S256x1024_S512x256_1_1_0_0_n_n 1024 rfl rfl k)
  · exact funext fun a => Fin.ext (by match a with | ⟨0, _⟩ => rfl | ⟨1, _⟩ => exact contrEquiv1_symm_val dot_S512x1024_S256x1024_S512x256_1_1_0_0_n_n 1024 rfl rfl k)

theorem pay2_eq (x : Vec Ideal S512x1024 .f32) (gain : Vec Ideal S1x1024 .f32) : k0_pay2 (F := Ideal) x gain = normF x gain :=
  norm_eq (R := 512) reduces_S512x1024_S512 shapeCasts_S512_S512x1 broadcasts_S512x1_S512x1024 broadcasts_S1x1024_S512x1024 x gain

theorem pay6_apply (n : Vec Ideal S512x1024 .bf16) (w : Vec Ideal S256x1024 .bf16) (p : Fin 512) (q : Fin 256) :
    k0_pay6 (F := Ideal) n w (ix2 p q) = ∑ k : Fin 1024, (n (ix2 p k) : EReal) * w (ix2 q k) := by
  unfold k0_pay6 k0_pay4 k0_pay3
  rw [shapeCast_self, shapeCast_self]
  exact dotNT n w p q

theorem pay15_apply (n : Vec Ideal S512x1024 .bf16) (wg wu : Vec Ideal S256x1024 .bf16) (p : Fin 512) (q : Fin 256) :
    k0_pay15 (F := Ideal) n wg wu (ix2 p q)
      = k0_pay6 (F := Ideal) n wg (ix2 p q) * sigK (k0_pay6 (F := Ideal) n wg (ix2 p q)) * k0_pay6 (F := Ideal) n wu (ix2 p q) := rfl

/-! ## The stores into the three wide outputs: eleven chunks of 256 columns -/

/-- The chunk at column `o` of a product. -/
def mulPiece (o : ℕ) (h : ∀ a, (![0, o] : Fin 2 → ℕ) a + S512x256.size a ≤ S512x2816.size a)
    (h' : ∀ a, (![o, 0] : Fin 2 → ℕ) a + S256x1024.size a ≤ S2816x1024.size a)
    (n : Vec Ideal S512x1024 .bf16) (w : Vec Ideal S2816x1024 .bf16) : View.Piece (Elt Ideal) S512x2816 .bf16 :=
  ⟨Rect.unit ![0, o] S512x256.size h, k0_pay6 (F := Ideal) n (View.ld w (Rect.unit ![o, 0] S256x1024.size h'))⟩

/-- The chunk at column `o` of the activation. -/
def actPiece (o : ℕ) (h : ∀ a, (![0, o] : Fin 2 → ℕ) a + S512x256.size a ≤ S512x2816.size a)
    (h' : ∀ a, (![o, 0] : Fin 2 → ℕ) a + S256x1024.size a ≤ S2816x1024.size a)
    (n : Vec Ideal S512x1024 .bf16) (wg wu : Vec Ideal S2816x1024 .bf16) : View.Piece (Elt Ideal) S512x2816 .bf16 :=
  ⟨Rect.unit ![0, o] S512x256.size h, k0_pay15 (F := Ideal) n (View.ld wg (Rect.unit ![o, 0] S256x1024.size h'))
    (View.ld wu (Rect.unit ![o, 0] S256x1024.size h'))⟩

/-- Where a chunk's element lies in the block, and where the chunk's row of the projection lies in it. -/
theorem emb_chunk (o : ℕ) (h : ∀ a, (![0, o] : Fin 2 → ℕ) a + S512x256.size a ≤ S512x2816.size a) (p : Fin 512) (q : Fin 256)
    (hq : o + q.val < 2816) :
    (Rect.unit (s := S512x2816) ![0, o] S512x256.size h).emb (ix2 p q) = ix2 p ⟨o + q.val, hq⟩ :=
  funext fun a => Fin.ext (by
    match a with
    | ⟨0, _⟩ => show 0 + 1 * p.val = p.val; omega
    | ⟨1, _⟩ => show o + 1 * q.val = o + q.val; omega)

theorem mul_chunk (o : ℕ) (h' : ∀ a, (![o, 0] : Fin 2 → ℕ) a + S256x1024.size a ≤ S2816x1024.size a)
    (n : Vec Ideal S512x1024 .bf16) (w : Vec Ideal S2816x1024 .bf16) (p : Fin 512) (q : Fin 256) (hq : o + q.val < 2816) :
    k0_pay6 (F := Ideal) n (View.ld w (Rect.unit (s := S2816x1024) ![o, 0] S256x1024.size h')) (ix2 p q)
      = prodNT (M := 512) (K := 1024) (N := 2816) n w (ix2 p ⟨o + q.val, hq⟩) := by
  rw [pay6_apply]
  exact Finset.sum_congr rfl fun k _ => congrArg (n (ix2 p k) * w ·) (emb_band o h' q k ⟨o + q.val, hq⟩ rfl)

theorem mulPiece_apply (o : ℕ) (h : ∀ a, (![0, o] : Fin 2 → ℕ) a + S512x256.size a ≤ S512x2816.size a)
    (h' : ∀ a, (![o, 0] : Fin 2 → ℕ) a + S256x1024.size a ≤ S2816x1024.size a)
    (n : Vec Ideal S512x1024 .bf16) (w : Vec Ideal S2816x1024 .bf16) (x : (mulPiece o h h' n w).1.shape.Idx) :
    (mulPiece o h h' n w).2 x = prodNT (M := 512) (K := 1024) (N := 2816) n w ((mulPiece o h h' n w).1.emb x) := by
  obtain ⟨p, q, rfl⟩ : ∃ (p : Fin 512) (q : Fin 256), x = ix2 p q := ⟨x 0, x 1, eq_ix2 x⟩
  have hq : o + q.val < 2816 := by have := h 1; have := q.isLt; simp at *; omega
  have he : (mulPiece o h h' n w).1.emb (ix2 p q) = ix2 p ⟨o + q.val, hq⟩ := emb_chunk o h p q hq
  rw [he]
  exact mul_chunk o h' n w p q hq

theorem actPiece_apply (o : ℕ) (h : ∀ a, (![0, o] : Fin 2 → ℕ) a + S512x256.size a ≤ S512x2816.size a)
    (h' : ∀ a, (![o, 0] : Fin 2 → ℕ) a + S256x1024.size a ≤ S2816x1024.size a)
    (n : Vec Ideal S512x1024 .bf16) (wg wu : Vec Ideal S2816x1024 .bf16) (x : (actPiece o h h' n wg wu).1.shape.Idx) :
    (actPiece o h h' n wg wu).2 x = actF (R := 512) (prodNT (M := 512) (K := 1024) (N := 2816) n wg)
      (prodNT (M := 512) (K := 1024) (N := 2816) n wu) ((actPiece o h h' n wg wu).1.emb x) := by
  obtain ⟨p, q, rfl⟩ : ∃ (p : Fin 512) (q : Fin 256), x = ix2 p q := ⟨x 0, x 1, eq_ix2 x⟩
  have hq : o + q.val < 2816 := by have := h 1; have := q.isLt; simp at *; omega
  have he : (actPiece o h h' n wg wu).1.emb (ix2 p q) = ix2 p ⟨o + q.val, hq⟩ := emb_chunk o h p q hq
  rw [he]
  unfold actPiece
  dsimp only
  rw [pay15_apply, mul_chunk o h' n wg p q hq, mul_chunk o h' n wu p q hq]
  rfl

/-- The stores, last first. -/
def mulPieces (n : Vec Ideal S512x1024 .bf16) (w : Vec Ideal S2816x1024 .bf16) : List (View.Piece (Elt Ideal) S512x2816 .bf16) :=
  [mulPiece 2560 inb_S512x2816_S512x256_0_2560 inb_S2816x1024_S256x1024_2560_0 n w,
   mulPiece 2304 inb_S512x2816_S512x256_0_2304 inb_S2816x1024_S256x1024_2304_0 n w,
   mulPiece 2048 inb_S512x2816_S512x256_0_2048 inb_S2816x1024_S256x1024_2048_0 n w,
   mulPiece 1792 inb_S512x2816_S512x256_0_1792 inb_S2816x1024_S256x1024_1792_0 n w,
   mulPiece 1536 inb_S512x2816_S512x256_0_1536 inb_S2816x1024_S256x1024_1536_0 n w,
   mulPiece 1280 inb_S512x2816_S512x256_0_1280 inb_S2816x1024_S256x1024_1280_0 n w,
   mulPiece 1024 inb_S512x2816_S512x256_0_1024 inb_S2816x1024_S256x1024_1024_0 n w,
   mulPiece 768 inb_S512x2816_S512x256_0_768 inb_S2816x1024_S256x1024_768_0 n w,
   mulPiece 512 inb_S512x2816_S512x256_0_512 inb_S2816x1024_S256x1024_512_0 n w,
   mulPiece 256 inb_S512x2816_S512x256_0_256 inb_S2816x1024_S256x1024_256_0 n w,
   mulPiece 0 inb_S512x2816_S512x256_0_0 inb_S2816x1024_S256x1024_0_0 n w]
def actPieces (n : Vec Ideal S512x1024 .bf16) (wg wu : Vec Ideal S2816x1024 .bf16) : List (View.Piece (Elt Ideal) S512x2816 .bf16) :=
  [actPiece 2560 inb_S512x2816_S512x256_0_2560 inb_S2816x1024_S256x1024_2560_0 n wg wu,
   actPiece 2304 inb_S512x2816_S512x256_0_2304 inb_S2816x1024_S256x1024_2304_0 n wg wu,
   actPiece 2048 inb_S512x2816_S512x256_0_2048 inb_S2816x1024_S256x1024_2048_0 n wg wu,
   actPiece 1792 inb_S512x2816_S512x256_0_1792 inb_S2816x1024_S256x1024_1792_0 n wg wu,
   actPiece 1536 inb_S512x2816_S512x256_0_1536 inb_S2816x1024_S256x1024_1536_0 n wg wu,
   actPiece 1280 inb_S512x2816_S512x256_0_1280 inb_S2816x1024_S256x1024_1280_0 n wg wu,
   actPiece 1024 inb_S512x2816_S512x256_0_1024 inb_S2816x1024_S256x1024_1024_0 n wg wu,
   actPiece 768 inb_S512x2816_S512x256_0_768 inb_S2816x1024_S256x1024_768_0 n wg wu,
   actPiece 512 inb_S512x2816_S512x256_0_512 inb_S2816x1024_S256x1024_512_0 n wg wu,
   actPiece 256 inb_S512x2816_S512x256_0_256 inb_S2816x1024_S256x1024_256_0 n wg wu,
   actPiece 0 inb_S512x2816_S512x256_0_0 inb_S2816x1024_S256x1024_0_0 n wg wu]

theorem canon_mulPieces (n : Vec Ideal S512x1024 .bf16) (w : Vec Ideal S2816x1024 .bf16) :
    View.canon (mulPieces n w) = prodNT (M := 512) (K := 1024) (N := 2816) n w :=
  funext fun y => View.canon_apply_of_pieces _ _ (by
    unfold mulPieces
    simp only [List.forall_mem_cons]
    repeat' constructor
    all_goals first | exact mulPiece_apply _ _ _ _ _ | simp) y
    (View.cover_of_tiledL (mulPieces n w) S512x256.size (by sl_kernel_rfl) y)

theorem canon_actPieces (n : Vec Ideal S512x1024 .bf16) (wg wu : Vec Ideal S2816x1024 .bf16) :
    View.canon (actPieces n wg wu) = actF (R := 512) (prodNT (M := 512) (K := 1024) (N := 2816) n wg)
      (prodNT (M := 512) (K := 1024) (N := 2816) n wu) :=
  funext fun y => View.canon_apply_of_pieces _ _ (by
    unfold actPieces
    simp only [List.forall_mem_cons]
    repeat' constructor
    all_goals first | exact actPiece_apply _ _ _ _ _ _ | simp) y
    (View.cover_of_tiledL (actPieces n wg wu) S512x256.size (by sl_kernel_rfl) y)

/-! ## The point's blocks -/

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S2816x1024 .bf16) (harg3 : arg3.IsWhole)
  (arg4 : Memref sig .tc .vmem S2816x1024 .bf16) (harg4 : arg4.IsWhole)
  (arg5 : Memref sig .tc .vmem S512x1024 .bf16) (harg5 : arg5.IsWhole)
  (arg6 : Memref sig .tc .vmem S512x2816 .bf16) (harg6 : arg6.IsWhole)
  (arg7 : Memref sig .tc .vmem S512x2816 .bf16) (harg7 : arg7.IsWhole)
  (arg8 : Memref sig .tc .vmem S512x2816 .bf16) (harg8 : arg8.IsWhole)
  (x0 : Vec Ideal S512x1024 .f32) (x1 : Vec Ideal S1x1024 .f32) (x2 x3 : Vec Ideal S2816x1024 .bf16)

/-- The normed rows, as the body stores them and reads them back. -/
theorem formed_n {sig : RefSig} {κ : Kind} {sp : Space} (v : View sig κ sp S512x1024 .bf16) :
    v.readCov (Val := Elt Ideal) [⟨Rect.unit ![0, 0] S512x1024.size inb_S512x1024_S512x1024_0_0,
        k0_pay2 (F := Ideal) (View.ld x0 (Rect.unit ![0, 0] S512x1024.size inb_S512x1024_S512x1024_0_0))
          (View.ld x1 (Rect.unit ![0, 0] S1x1024.size inb_S1x1024_S1x1024_0_0))⟩]
      (Rect.unit ![0, 0] S512x1024.size inb_S512x1024_S512x1024_0_0).toLoadRect = normF x0 x1 := by
  rw [readCov_whole zero2, View.canon_unit_zero zero2, View.ld_unit_zero zero2, View.ld_unit_zero zero2, pay2_eq]

theorem out_4 : out0_A_4 c i arg1 harg1 arg2 harg2 arg3 harg3 arg4 harg4 arg5 harg5 arg6 harg6 arg7 harg7 arg8 harg8 x0 x1 x2 x3 = normF x0 x1 := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero zero2]
  simp only [View.readAt_eq_ld, harg1.read_unread, harg2.read_unread]
  rw [View.ld_unit_zero zero2, View.ld_unit_zero zero2, pay2_eq]

theorem out_5 : out0_A_5 c i arg1 harg1 arg2 harg2 arg3 harg3 arg4 harg4 arg5 harg5 arg6 harg6 arg7 harg7 arg8 harg8 x0 x1 x2 x3 = prodNT (M := 512) (K := 1024) (N := 2816) (normF x0 x1) x2 := by
  unfold out0_A_5
  rw [View.read_writes_eq_canon _ _ _ (cover0_A_5 c i arg1 harg1 arg2 harg2 arg3 harg3 arg4 harg4 arg5 harg5 arg6 harg6 arg7 harg7 arg8 harg8 x0 x1 x2 x3), ← formed_n x0 x1 arg5.view, ← canon_mulPieces]
  unfold kernelRun0_A
  dsimp only
  sl_unfold_words
  simp only [View.readAt_eq_ld, harg1.read_unread, harg2.read_unread, harg3.read_unread]
  rfl

theorem out_6 : out0_A_6 c i arg1 harg1 arg2 harg2 arg3 harg3 arg4 harg4 arg5 harg5 arg6 harg6 arg7 harg7 arg8 harg8 x0 x1 x2 x3 = prodNT (M := 512) (K := 1024) (N := 2816) (normF x0 x1) x3 := by
  unfold out0_A_6
  rw [View.read_writes_eq_canon _ _ _ (cover0_A_6 c i arg1 harg1 arg2 harg2 arg3 harg3 arg4 harg4 arg5 harg5 arg6 harg6 arg7 harg7 arg8 harg8 x0 x1 x2 x3), ← formed_n x0 x1 arg5.view, ← canon_mulPieces]
  unfold kernelRun0_A
  dsimp only
  sl_unfold_words
  simp only [View.readAt_eq_ld, harg1.read_unread, harg2.read_unread, harg4.read_unread]
  rfl

theorem out_7 : out0_A_7 c i arg1 harg1 arg2 harg2 arg3 harg3 arg4 harg4 arg5 harg5 arg6 harg6 arg7 harg7 arg8 harg8 x0 x1 x2 x3 = actF (R := 512) (prodNT (M := 512) (K := 1024) (N := 2816) (normF x0 x1) x2) (prodNT (M := 512) (K := 1024) (N := 2816) (normF x0 x1) x3) := by
  unfold out0_A_7
  rw [View.read_writes_eq_canon _ _ _ (cover0_A_7 c i arg1 harg1 arg2 harg2 arg3 harg3 arg4 harg4 arg5 harg5 arg6 harg6 arg7 harg7 arg8 harg8 x0 x1 x2 x3), ← formed_n x0 x1 arg5.view, ← canon_actPieces]
  unfold kernelRun0_A
  dsimp only
  sl_unfold_words
  simp only [View.readAt_eq_ld, harg1.read_unread, harg2.read_unread, harg3.read_unread, harg4.read_unread]
  rfl

end Cert.KernelGuIdeal.Body

end
-- ==== Proof.Gu.lean ====
/- The gated layer's first products: the call leaves the normed rows, the gate's and the up product, and the activation. -/
module

public import proofs.«01_k».proof.Proof.GuBody
public import proofs.«01_k».proof.Proof.Gen.ReferenceGuIdeal.Read
public import Idealize.ShloMosaic.Lib.Pipeline.ValueKit

@[expose] public section

noncomputable section

namespace Cert.KernelGuIdeal.Gu

open Cert.KernelGuIdeal Cert.KernelGuIdeal.Gen Idealize.ShloMosaic.TcCoe Idealize.ShloMosaic.ValueIdx
open Idealize.ShloMosaic hiding ix2 ix3 eq_ix2 eq_ix3
open Cert.Bands Cert.Rows Cert.Norm Cert.Fwd Cert.Reals Cert.KernelGuIdeal.Body
open Cert.ReferenceGuIdeal.Read (val_main_v11 val_main_v12 val_main_v13 val_main_v14 val_main_v15 val_main_v16 val_main_v19)

variable (m : (ℓ : Loc nD τ sig) → Buf (Elt Ideal) ℓ) (c : Dev nD)

/-! ## Where a block lies -/

/-- Row `p` of the block that point `t` reads or writes, as a row of the whole. -/
def rowAt (t : Fin cfg0.N) (p : Fin 512) : Fin 4096 := ⟨512 * t.val + p.val, by have h : t.val < 8 := t.isLt; have := p.isLt; omega⟩

theorem idx0 : ∀ t : Fin cfg0.N, win0_0.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel

theorem iblk0_apply (t : Fin cfg0.N) (p : Fin 512) (k : Fin 1024) : iblk m c 0 t (ix2 p k) = V m c main_arg0 (ix2 (rowAt t p) k) := by
  unfold iblk
  blk_ext [idx0, rowAt]
  exact congrArg (· + p.val) (Nat.mul_comm t.val 512)

theorem iblk1_eq (t : Fin cfg0.N) : iblk m c 1 t = V m c main_arg1 := by
  funext y; unfold iblk; blk_ext [idx1]

theorem iblk2_eq (t : Fin cfg0.N) : iblk m c 2 t = V m c main_v1 := by
  funext y; unfold iblk; blk_ext [idx2]

theorem iblk3_eq (t : Fin cfg0.N) : iblk m c 3 t = V m c main_v3 := by
  funext y; unfold iblk; blk_ext [idx3]

/-! ## The arrays the call leaves, from those it is given -/

/-- The normed rows, and a product with a projection's transpose. -/
def nA : (Sh 4096 1024).Idx → EReal := normF (R := 4096) (V m c main_arg0) (V m c main_arg1)
def mulA (w : (Sh 2816 1024).Idx → EReal) : (Sh 4096 2816).Idx → EReal := prodNT (nA m c) w

theorem n_blk (t : Fin cfg0.N) (p : Fin 512) (q : Fin 1024) :
    normF (R := 512) (iblk m c 0 t) (iblk m c 1 t) (ix2 p q) = nA m c (ix2 (rowAt t p) q) := by
  rw [iblk1_eq]
  exact normF_rows _ _ _ p (rowAt t p) q (funext fun k => iblk0_apply m c t p k)

theorem mul_blk (t : Fin cfg0.N) (w : (Sh 2816 1024).Idx → EReal) (p : Fin 512) (q : Fin 2816) :
    prodNT (M := 512) (K := 1024) (N := 2816) (normF (R := 512) (iblk m c 0 t) (iblk m c 1 t)) w (ix2 p q) = mulA m c w (ix2 (rowAt t p) q) :=
  prodNT_rows _ _ w p (rowAt t p) q fun k => n_blk m c t p k

theorem outs4 (t : Fin cfg0.N) : (outsAt0 m c t).1 = normF (R := 512) (iblk m c 0 t) (iblk m c 1 t) := by
  unfold outsAt0; dsimp only; rw [out_4]

theorem outs5 (t : Fin cfg0.N) : (outsAt0 m c t).2.1 = prodNT (M := 512) (K := 1024) (N := 2816) (normF (R := 512) (iblk m c 0 t) (iblk m c 1 t)) (iblk m c 2 t) := by
  unfold outsAt0; dsimp only; rw [out_5]

theorem outs6 (t : Fin cfg0.N) : (outsAt0 m c t).2.2.1 = prodNT (M := 512) (K := 1024) (N := 2816) (normF (R := 512) (iblk m c 0 t) (iblk m c 1 t)) (iblk m c 3 t) := by
  unfold outsAt0; dsimp only; rw [out_6]

theorem outs7 (t : Fin cfg0.N) : (outsAt0 m c t).2.2.2 = actF (R := 512) (prodNT (M := 512) (K := 1024) (N := 2816) (normF (R := 512) (iblk m c 0 t) (iblk m c 1 t)) (iblk m c 2 t))
    (prodNT (M := 512) (K := 1024) (N := 2816) (normF (R := 512) (iblk m c 0 t) (iblk m c 1 t)) (iblk m c 3 t)) := by
  unfold outsAt0; dsimp only; rw [out_7]

theorem arr4 : (dats m 0 c).arrAt 4 cfg0.N = nA m c := by
  refine (dats m 0 c).arrAt_eq_of_covers 4 _ (by decide +kernel) fun t hf y => ?_
  blk_simp
  rw [after0_4, outs4]
  obtain ⟨p, q, rfl⟩ : ∃ (p : Fin 512) (q : Fin 1024), y = ix2 p q := ⟨y 0, y 1, eq_ix2 y⟩
  have hy : (win0_4.blk t).view.emb (ix2 p q) = ix2 (rowAt t p) q := by
    blk_ext [idx4, rowAt]
    exact congrArg (· + p.val) (Nat.mul_comm t.val 512)
  rw [hy]
  exact n_blk m c t p q

theorem arr5 : (dats m 0 c).arrAt 5 cfg0.N = mulA m c (V m c main_v1) := by
  refine (dats m 0 c).arrAt_eq_of_covers 5 _ (by decide +kernel) fun t hf y => ?_
  blk_simp
  rw [after0_5, outs5]
  obtain ⟨p, q, rfl⟩ : ∃ (p : Fin 512) (q : Fin 2816), y = ix2 p q := ⟨y 0, y 1, eq_ix2 y⟩
  have hy : (win0_5.blk t).view.emb (ix2 p q) = ix2 (rowAt t p) q := by
    blk_ext [idx5, rowAt]
    exact congrArg (· + p.val) (Nat.mul_comm t.val 512)
  rw [hy]
  rw [iblk2_eq]
  exact mul_blk m c t _ p q

theorem arr6 : (dats m 0 c).arrAt 6 cfg0.N = mulA m c (V m c main_v3) := by
  refine (dats m 0 c).arrAt_eq_of_covers 6 _ (by decide +kernel) fun t hf y => ?_
  blk_simp
  rw [after0_6, outs6]
  obtain ⟨p, q, rfl⟩ : ∃ (p : Fin 512) (q : Fin 2816), y = ix2 p q := ⟨y 0, y 1, eq_ix2 y⟩
  have hy : (win0_6.blk t).view.emb (ix2 p q) = ix2 (rowAt t p) q := by
    blk_ext [idx6, rowAt]
    exact congrArg (· + p.val) (Nat.mul_comm t.val 512)
  rw [hy]
  rw [iblk3_eq]
  exact mul_blk m c t _ p q

theorem arr7 : (dats m 0 c).arrAt 7 cfg0.N = actF (mulA m c (V m c main_v1)) (mulA m c (V m c main_v3)) := by
  refine (dats m 0 c).arrAt_eq_of_covers 7 _ (by decide +kernel) fun t hf y => ?_
  blk_simp
  rw [after0_7, outs7]
  obtain ⟨p, q, rfl⟩ : ∃ (p : Fin 512) (q : Fin 2816), y = ix2 p q := ⟨y 0, y 1, eq_ix2 y⟩
  have hy : (win0_7.blk t).view.emb (ix2 p q) = ix2 (rowAt t p) q := by
    blk_ext [idx7, rowAt]
    exact congrArg (· + p.val) (Nat.mul_comm t.val 512)
  rw [hy]
  rw [iblk2_eq, iblk3_eq]
  unfold actF
  rw [mul_blk, mul_blk]

/-! ## The arrays the host prepares -/

/-- The arguments on a device. -/
abbrev a0 : (Sh 4096 1024).Idx → EReal := m ((c.tc : Thread nD τ).loc main_arg0)
abbrev a1 : (Sh 1 1024).Idx → EReal := m ((c.tc : Thread nD τ).loc main_arg1)
abbrev a2 : (Sh 1024 2816).Idx → EReal := m ((c.tc : Thread nD τ).loc main_arg2)
abbrev a3 : (Sh 1024 2816).Idx → EReal := m ((c.tc : Thread nD τ).loc main_arg3)

theorem V_arg0 : V m c main_arg0 = a0 m c := V_main_arg0 m c
theorem V_arg1 : V m c main_arg1 = a1 m c := V_main_arg1 m c
theorem V_wg : V m c main_v1 = fun i => a2 m c (ix2 (i 1) (i 0)) := by
  have e : V m c main_v1 = transpose S2816x1024 [1, 0] (a2 m c) transposes_S1024x2816_S2816x1024_1_0 := by
    unfold V; after_results <;> rfl
  rw [e]
  exact funext fun i => transpose_apply _ _ _ i _ (fun b => by match b with | ⟨0, _⟩ => rfl | ⟨1, _⟩ => rfl)
theorem V_wu : V m c main_v3 = fun i => a3 m c (ix2 (i 1) (i 0)) := by
  have e : V m c main_v3 = transpose S2816x1024 [1, 0] (a3 m c) transposes_S1024x2816_S2816x1024_1_0 := by
    unfold V; after_results <;> rfl
  rw [e]
  exact funext fun i => transpose_apply _ _ _ i _ (fun b => by match b with | ⟨0, _⟩ => rfl | ⟨1, _⟩ => rfl)

/-! ## The reference's results -/

open Cert.ReferenceGuIdeal.Read in
/-- A row's inverse root mean square. -/
theorem r_apply (x : (Sh 4096 1024).Idx → EReal) (p : Fin 4096) (j : Fin 1) : val_main_v7 (F := Ideal) x (ix2 p j) = rms (row x p) := by
  rw [val_main_v7_apply, val_main_v6_apply, val_main_v4_apply, val_main_v2_apply, val_main_v3_apply, val_main_v5_apply,
    val_main_v1_apply]
  show Ideal.rsqrt (Ideal.div (zero + _) len + eps) = _
  rw [show zero = 0 from ofBits_zero, zero_add]
  refine congrArg (fun z => Ideal.rsqrt (Ideal.div z len + eps)) (Finset.sum_congr rfl fun k _ => ?_)
  rw [show idx_main_v1 (idx_main_v2 (ix2 p j)) k = ix2 p k from eq_ix2 _]
  rfl

open Cert.ReferenceGuIdeal.Read in
theorem n_eq (x : (Sh 4096 1024).Idx → EReal) (gain : (Sh 1 1024).Idx → EReal) : val_main_v11 (F := Ideal) x gain = normF x gain := by
  funext y
  obtain ⟨p, k, rfl⟩ : ∃ (p : Fin 4096) (k : Fin 1024), y = ix2 p k := ⟨y 0, y 1, eq_ix2 y⟩
  rw [val_main_v11_apply, val_main_v9_apply, val_main_v10_apply, val_main_v8_apply,
    show idx_main_v8 (ix2 p k) = ix2 p 0 from eq_ix2 _, r_apply, show idx_main_v10 (ix2 p k) = ix2 0 k from eq_ix2 _]
  rfl

open Cert.ReferenceGuIdeal.Read in
theorem g_ref (x : (Sh 4096 1024).Idx → EReal) (gain : (Sh 1 1024).Idx → EReal) (w : (Sh 1024 2816).Idx → EReal) :
    val_main_v12 (F := Ideal) x gain w = prodNN (normF x gain) w := by
  funext y
  obtain ⟨p, q, rfl⟩ : ∃ (p : Fin 4096) (q : Fin 2816), y = ix2 p q := ⟨y 0, y 1, eq_ix2 y⟩
  rw [val_main_v12_apply, n_eq]
  refine Finset.sum_congr rfl fun k _ => ?_
  rw [show lidx_main_v12 (ix2 p q) k = ix2 p k from eq_ix2 _, show ridx_main_v12 (ix2 p q) k = ix2 k q from eq_ix2 _]

theorem act_ref (x : (Sh 4096 1024).Idx → EReal) (gain : (Sh 1 1024).Idx → EReal) (wg wu : (Sh 1024 2816).Idx → EReal) :
    val_main_v19 (F := Ideal) x gain wg wu = actF (val_main_v12 (F := Ideal) x gain wg) (val_main_v12 (F := Ideal) x gain wu) := by
  funext y
  show val_main_v12 (F := Ideal) x gain wg y * sigR (val_main_v12 (F := Ideal) x gain wg y) * val_main_v12 (F := Ideal) x gain wu y = _
  rw [← sigK_eq]
  rfl

/-! ## The call leaves them -/

theorem nA_eq : nA m c = normF (a0 m c) (a1 m c) := by unfold nA; rw [V_arg0, V_arg1]
theorem gA_eq : mulA m c (V m c main_v1) = val_main_v12 (F := Ideal) (a0 m c) (a1 m c) (a2 m c) := by
  unfold mulA; rw [g_ref, nA_eq, prodNT_flip _ _ _ (V_wg m c)]
theorem uA_eq : mulA m c (V m c main_v3) = val_main_v12 (F := Ideal) (a0 m c) (a1 m c) (a3 m c) := by
  unfold mulA; rw [g_ref, nA_eq, prodNT_flip _ _ _ (V_wu m c)]

theorem n_left : (dats m 0 c).arrAt 4 cfg0.N = val_main_v14 (F := Ideal) (a0 m c) (a1 m c) :=
  (arr4 m c).trans ((nA_eq m c).trans (n_eq _ _).symm)
theorem g_left : (dats m 0 c).arrAt 5 cfg0.N = val_main_v15 (F := Ideal) (a0 m c) (a1 m c) (a2 m c) := (arr5 m c).trans (gA_eq m c)
theorem u_left : (dats m 0 c).arrAt 6 cfg0.N = val_main_v16 (F := Ideal) (a0 m c) (a1 m c) (a3 m c) := (arr6 m c).trans (uA_eq m c)
theorem act_left : (dats m 0 c).arrAt 7 cfg0.N = val_main_v19 (F := Ideal) (a0 m c) (a1 m c) (a2 m c) (a3 m c) := by
  rw [arr7, act_ref, gA_eq, uA_eq]

end Cert.KernelGuIdeal.Gu

end
-- ==== Proof.DmBody.lean ====
/- The down projection and the input projection after it: what one point of the grid leaves in each output's block, as a function
   of the blocks it reads. -/
module

public import proofs.«01_k».proof.Proof.Gen.KernelDmIdeal.Frame
public import proofs.«01_k».proof.Proof.Fwd

@[expose] public section

noncomputable section

namespace Cert.KernelDmIdeal.Body

open Cert.KernelDmIdeal Cert.KernelDmIdeal.Gen Idealize.ShloMosaic Idealize.ShloMosaic.TcCoe Idealize.ShloMosaic.ValueIdx
open Cert.Bands Cert.Rows Cert.Norm Cert.Fwd

theorem zero2 : (![0, 0] : Fin 2 → ℕ) = fun _ => 0 := by decide

/-! ## The stored values -/

theorem dotNN (lhs : FVec Ideal S512x2816 .bf16) (rhs : FVec Ideal S2816x1024 .bf16) (p : Fin 512) (q : Fin 1024) :
    FloatOps.matmul (F := Ideal) dot_S512x2816_S2816x1024_S512x1024_1_0_0_1_n_n none lhs rhs (constant S512x1024 .f32 0x00000000#32) (ix2 p q)
      = prodNN (M := 512) (K := 2816) (N := 1024) lhs rhs (ix2 p q) := by
  refine matmul_sum _ 2816 rfl rfl lhs rhs _ (fun k => ix2 p k) (fun k => ix2 k q) (fun k => ?_) (fun k => ?_)
  · exact funext fun a => Fin.ext (by match a with | ⟨0, _⟩ => rfl | ⟨1, _⟩ => exact contrEquiv1_symm_val dot_S512x2816_S2816x1024_S512x1024_1_0_0_1_n_n 2816 rfl rfl k)
  · exact funext fun a => Fin.ext (by match a with | ⟨0, _⟩ => exact contrEquiv1_symm_val dot_S512x2816_S2816x1024_S512x1024_1_0_0_1_n_n 2816 rfl rfl k | ⟨1, _⟩ => rfl)

theorem dotNT (lhs : FVec Ideal S512x1024 .bf16) (rhs : FVec Ideal S2560x1024 .bf16) (p : Fin 512) (q : Fin 2560) :
    FloatOps.matmul (F := Ideal) dot_S512x1024_S2560x1024_S512x2560_1_1_0_0_n_n none lhs rhs (constant S512x2560 .f32 0x00000000#32) (ix2 p q)
      = prodNT (M := 512) (K := 1024) (N := 2560) lhs rhs (ix2 p q) := by
  refine matmul_sum _ 1024 rfl rfl lhs rhs _ (fun k => ix2 p k) (fun k => ix2 q k) (fun k => ?_) (fun k => ?_)
  · exact funext fun a => Fin.ext (by match a with | ⟨0, _⟩ => rfl | ⟨1, _⟩ => exact contrEquiv1_symm_val dot_S512x1024_S2560x1024_S512x2560_1_1_0_0_n_n 1024 rfl rfl k)
  · exact funext fun a => Fin.ext (by match a with | ⟨0, _⟩ => rfl | ⟨1, _⟩ => exact contrEquiv1_symm_val dot_S512x1024_S2560x1024_S512x2560_1_1_0_0_n_n 1024 rfl rfl k)

/-- The half-step's output: the input and half the activations' product. -/
def halfF {R : ℕ} (x : (Sh R 1024).Idx → EReal) (act : (Sh R 2816).Idx → EReal) (wd : (Sh 2816 1024).Idx → EReal) : (Sh R 1024).Idx → EReal :=
  fun y => x y + half * prodNN act wd y

theorem halfF_rows {R R' : ℕ} (x' : (Sh R' 1024).Idx → EReal) (x : (Sh R 1024).Idx → EReal) (act' : (Sh R' 2816).Idx → EReal)
    (act : (Sh R 2816).Idx → EReal) (wd : (Sh 2816 1024).Idx → EReal) (p : Fin R') (P : Fin R) (q : Fin 1024)
    (hx : ∀ k, x' (ix2 p k) = x (ix2 P k)) (ha : ∀ k, act' (ix2 p k) = act (ix2 P k)) :
    halfF x' act' wd (ix2 p q) = halfF x act wd (ix2 P q) :=
  congrArg₂ (· + half * ·) (hx q) (prodNN_rows act' act wd p P q ha)

theorem pay1_eq (x : Vec Ideal S512x1024 .f32) (act : Vec Ideal S512x2816 .bf16) (wd : Vec Ideal S2816x1024 .bf16) :
    k0_pay1 (F := Ideal) x act wd = halfF (R := 512) x act wd := by
  funext y
  obtain ⟨p, q, rfl⟩ : ∃ (p : Fin 512) (q : Fin 1024), y = ix2 p q := ⟨y 0, y 1, eq_ix2 y⟩
  unfold k0_pay1
  rw [shapeCast_self, shapeCast_self]
  exact congrArg (x (ix2 p q) + half * ·) (dotNN act wd p q)

theorem pay2_eq (x : Vec Ideal S512x1024 .f32) (act : Vec Ideal S512x2816 .bf16) (wd : Vec Ideal S2816x1024 .bf16)
    (gain : Vec Ideal S1x1024 .f32) : k0_pay2 (F := Ideal) x act wd gain = normF (halfF (R := 512) x act wd) gain := by
  rw [← pay1_eq]
  exact norm_eq (R := 512) reduces_S512x1024_S512 shapeCasts_S512_S512x1 broadcasts_S512x1_S512x1024 broadcasts_S1x1024_S512x1024
    (k0_pay1 (F := Ideal) x act wd) gain

theorem pay3_eq (n : Vec Ideal S512x1024 .bf16) (w : Vec Ideal S2560x1024 .bf16) :
    k0_pay3 (F := Ideal) n w = prodNT (M := 512) (K := 1024) (N := 2560) n w := by
  funext y
  obtain ⟨p, q, rfl⟩ : ∃ (p : Fin 512) (q : Fin 2560), y = ix2 p q := ⟨y 0, y 1, eq_ix2 y⟩
  unfold k0_pay3
  rw [shapeCast_self, shapeCast_self]
  exact dotNT n w p q

/-! ## The point's blocks -/

variable (c : Dev nD) (i : grid0.Coords)
  (arg1 : Memref sig .tc .vmem S512x1024 .f32) (harg1 : arg1.IsWhole)
  (arg2 : Memref sig .tc .vmem S512x2816 .bf16) (harg2 : arg2.IsWhole)
  (arg3 : Memref sig .tc .vmem S2816x1024 .bf16) (harg3 : arg3.IsWhole)
  (arg4 : Memref sig .tc .vmem S1x1024 .f32) (harg4 : arg4.IsWhole)
  (arg5 : Memref sig .tc .vmem S2560x1024 .bf16) (harg5 : arg5.IsWhole)
  (arg6 : Memref sig .tc .vmem S512x1024 .f32) (harg6 : arg6.IsWhole)
  (arg7 : Memref sig .tc .vmem S512x2560 .bf16) (harg7 : arg7.IsWhole)
  (arg8 : Memref sig .tc .vmem S512x1024 .bf16) (harg8 : arg8.IsWhole)
  (x0 : Vec Ideal S512x1024 .f32) (x1 : Vec Ideal S512x2816 .bf16) (x2 : Vec Ideal S2816x1024 .bf16) (x3 : Vec Ideal S1x1024 .f32)
  (x4 : Vec Ideal S2560x1024 .bf16)

/-- The output rows, the normed rows and their projection, as the body stores them. -/
theorem stored_5 : k0_pay1 (F := Ideal) (View.ld x0 (Rect.unit ![0, 0] S512x1024.size inb_S512x1024_S512x1024_0_0))
    (View.ld x1 (Rect.unit ![0, 0] S512x2816.size inb_S512x2816_S512x2816_0_0))
    (View.ld x2 (Rect.unit ![0, 0] S2816x1024.size inb_S2816x1024_S2816x1024_0_0)) = halfF (R := 512) x0 x1 x2 := by
  rw [View.ld_unit_zero zero2, View.ld_unit_zero zero2, View.ld_unit_zero zero2, pay1_eq]

theorem stored_7 : k0_pay2 (F := Ideal) (View.ld x0 (Rect.unit ![0, 0] S512x1024.size inb_S512x1024_S512x1024_0_0))
    (View.ld x1 (Rect.unit ![0, 0] S512x2816.size inb_S512x2816_S512x2816_0_0))
    (View.ld x2 (Rect.unit ![0, 0] S2816x1024.size inb_S2816x1024_S2816x1024_0_0))
    (View.ld x3 (Rect.unit ![0, 0] S1x1024.size inb_S1x1024_S1x1024_0_0)) = normF (halfF (R := 512) x0 x1 x2) x3 := by
  rw [View.ld_unit_zero zero2, View.ld_unit_zero zero2, View.ld_unit_zero zero2, View.ld_unit_zero zero2, pay2_eq]

theorem stored_6 {sig : RefSig} {κ : Kind} {sp : Space} (v : View sig κ sp S512x1024 .bf16) : k0_pay3 (F := Ideal)
    (v.readCov [⟨Rect.unit ![0, 0] S512x1024.size inb_S512x1024_S512x1024_0_0,
      k0_pay2 (F := Ideal) (View.ld x0 (Rect.unit ![0, 0] S512x1024.size inb_S512x1024_S512x1024_0_0))
        (View.ld x1 (Rect.unit ![0, 0] S512x2816.size inb_S512x2816_S512x2816_0_0))
        (View.ld x2 (Rect.unit ![0, 0] S2816x1024.size inb_S2816x1024_S2816x1024_0_0))
        (View.ld x3 (Rect.unit ![0, 0] S1x1024.size inb_S1x1024_S1x1024_0_0))⟩]
      (Rect.unit ![0, 0] S512x1024.size inb_S512x1024_S512x1024_0_0).toLoadRect)
    (View.ld x4 (Rect.unit ![0, 0] S2560x1024.size inb_S2560x1024_S2560x1024_0_0))
      = prodNT (M := 512) (K := 1024) (N := 2560) (normF (halfF (R := 512) x0 x1 x2) x3) x4 := by
  rw [readCov_whole zero2, View.canon_unit_zero zero2, stored_7, View.ld_unit_zero zero2, pay3_eq]

theorem out_5 : out0_A_5 c i arg1 harg1 arg2 harg2 arg3 harg3 arg4 harg4 arg5 harg5 arg6 harg6 arg7 harg7 arg8 harg8 x0 x1 x2 x3 x4 = halfF (R := 512) x0 x1 x2 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero2]
  simp only [View.readAt_eq_ld, harg1.read_unread, harg2.read_unread, harg3.read_unread]
  exact stored_5 x0 x1 x2

theorem out_7 : out0_A_7 c i arg1 harg1 arg2 harg2 arg3 harg3 arg4 harg4 arg5 harg5 arg6 harg6 arg7 harg7 arg8 harg8 x0 x1 x2 x3 x4 = normF (halfF (R := 512) x0 x1 x2) x3 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero2]
  simp only [View.readAt_eq_ld, harg1.read_unread, harg2.read_unread, harg3.read_unread, harg4.read_unread]
  exact stored_7 x0 x1 x2 x3

theorem out_6 : out0_A_6 c i arg1 harg1 arg2 harg2 arg3 harg3 arg4 harg4 arg5 harg5 arg6 harg6 arg7 harg7 arg8 harg8 x0 x1 x2 x3 x4 = prodNT (M := 512) (K := 1024) (N := 2560) (normF (halfF (R := 512) x0 x1 x2) x3) x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero2]
  simp only [View.readAt_eq_ld, harg1.read_unread, harg2.read_unread, harg3.read_unread, harg4.read_unread, harg5.read_unread]
  exact stored_6 x0 x1 x2 x3 x4 arg8.view

end Cert.KernelDmIdeal.Body

end
-- ==== Proof.Dm.lean ====
/- The down projection and the input projection after it: the call leaves the half-step's output, its normed rows and their projection. -/
module

public import proofs.«01_k».proof.Proof.DmBody
public import proofs.«01_k».proof.Proof.Gen.ReferenceDmIdeal.Read
public import Idealize.ShloMosaic.Lib.Pipeline.ValueKit

@[expose] public section

noncomputable section

namespace Cert.KernelDmIdeal.Dm

open Cert.KernelDmIdeal Cert.KernelDmIdeal.Gen Idealize.ShloMosaic.TcCoe Idealize.ShloMosaic.ValueIdx
open Idealize.ShloMosaic hiding ix2 ix3 eq_ix2 eq_ix3
open Cert.Bands Cert.Rows Cert.Norm Cert.Fwd Cert.Reals Cert.KernelDmIdeal.Body
open Cert.ReferenceDmIdeal.Read (val_main_v11 val_main_v15 val_main_v16 val_main_v19 val_main_v31 val_main_v32 val_main_v33 val_main_v34)

variable (m : (ℓ : Loc nD τ sig) → Buf (Elt Ideal) ℓ) (c : Dev nD)

/-! ## Where a block lies -/

/-- Row `p` of the block that point `t` reads or writes, as a row of the whole. -/
def rowAt (t : Fin cfg0.N) (p : Fin 512) : Fin 4096 := ⟨512 * t.val + p.val, by have h : t.val < 8 := t.isLt; have := p.isLt; omega⟩

theorem idx0 : ∀ t : Fin cfg0.N, win0_0.index t = ![t.val, 0] := by decide +kernel
theorem idx1 : ∀ t : Fin cfg0.N, win0_1.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel

theorem iblk0_apply (t : Fin cfg0.N) (p : Fin 512) (k : Fin 1024) : iblk m c 0 t (ix2 p k) = V m c main_arg0 (ix2 (rowAt t p) k) := by
  unfold iblk
  blk_ext [idx0, rowAt]
  exact congrArg (· + p.val) (Nat.mul_comm t.val 512)

theorem iblk1_apply (t : Fin cfg0.N) (p : Fin 512) (k : Fin 2816) : iblk m c 1 t (ix2 p k) = V m c main_v16 (ix2 (rowAt t p) k) := by
  unfold iblk
  blk_ext [idx1, rowAt]
  exact congrArg (· + p.val) (Nat.mul_comm t.val 512)

theorem iblk2_eq (t : Fin cfg0.N) : iblk m c 2 t = V m c main_v17 := by
  funext y; unfold iblk; blk_ext [idx2]

theorem iblk3_eq (t : Fin cfg0.N) : iblk m c 3 t = V m c main_arg5 := by
  funext y; unfold iblk; blk_ext [idx3]

theorem iblk4_eq (t : Fin cfg0.N) : iblk m c 4 t = V m c main_v19 := by
  funext y; unfold iblk; blk_ext [idx4]

/-! ## The arrays the call leaves, from those it is given -/

/-- The half-step's output, its normed rows, and their projection. -/
def hA : (Sh 4096 1024).Idx → EReal := halfF (R := 4096) (V m c main_arg0) (V m c main_v16) (V m c main_v17)
def nA : (Sh 4096 1024).Idx → EReal := normF (hA m c) (V m c main_arg5)
def uA : (Sh 4096 2560).Idx → EReal := prodNT (nA m c) (V m c main_v19)

theorem h_blk (t : Fin cfg0.N) (p : Fin 512) (q : Fin 1024) : halfF (R := 512) (iblk m c 0 t) (iblk m c 1 t) (iblk m c 2 t) (ix2 p q) = hA m c (ix2 (rowAt t p) q) := by
  rw [iblk2_eq]
  exact halfF_rows _ _ _ _ _ p (rowAt t p) q (fun k => iblk0_apply m c t p k) fun k => iblk1_apply m c t p k

theorem n_blk (t : Fin cfg0.N) (p : Fin 512) (q : Fin 1024) : normF (halfF (R := 512) (iblk m c 0 t) (iblk m c 1 t) (iblk m c 2 t)) (iblk m c 3 t) (ix2 p q) = nA m c (ix2 (rowAt t p) q) := by
  rw [iblk3_eq]
  exact normF_rows _ _ _ p (rowAt t p) q (funext fun k => h_blk m c t p k)

theorem u_blk (t : Fin cfg0.N) (p : Fin 512) (q : Fin 2560) :
    prodNT (M := 512) (K := 1024) (N := 2560) (normF (halfF (R := 512) (iblk m c 0 t) (iblk m c 1 t) (iblk m c 2 t)) (iblk m c 3 t)) (iblk m c 4 t) (ix2 p q) = uA m c (ix2 (rowAt t p) q) := by
  rw [iblk4_eq]
  exact prodNT_rows _ _ _ p (rowAt t p) q fun k => n_blk m c t p k

theorem outs5 (t : Fin cfg0.N) : (outsAt0 m c t).1 = halfF (R := 512) (iblk m c 0 t) (iblk m c 1 t) (iblk m c 2 t) := by
  unfold outsAt0; dsimp only; rw [out_5]

theorem outs6 (t : Fin cfg0.N) : (outsAt0 m c t).2.1 = prodNT (M := 512) (K := 1024) (N := 2560) (normF (halfF (R := 512) (iblk m c 0 t) (iblk m c 1 t) (iblk m c 2 t)) (iblk m c 3 t)) (iblk m c 4 t) := by
  unfold outsAt0; dsimp only; rw [out_6]

theorem outs7 (t : Fin cfg0.N) : (outsAt0 m c t).2.2 = normF (halfF (R := 512) (iblk m c 0 t) (iblk m c 1 t) (iblk m c 2 t)) (iblk m c 3 t) := by
  unfold outsAt0; dsimp only; rw [out_7]

theorem arr5 : (dats m 0 c).arrAt 5 cfg0.N = hA m c := by
  refine (dats m 0 c).arrAt_eq_of_covers 5 _ (by decide +kernel) fun t hf y => ?_
  blk_simp
  rw [after0_5, outs5]
  obtain ⟨p, q, rfl⟩ : ∃ (p : Fin 512) (q : Fin 1024), y = ix2 p q := ⟨y 0, y 1, eq_ix2 y⟩
  have hy : (win0_5.blk t).view.emb (ix2 p q) = ix2 (rowAt t p) q := by
    blk_ext [idx5, rowAt]
    exact congrArg (· + p.val) (Nat.mul_comm t.val 512)
  rw [hy]
  exact h_blk m c t p q

theorem arr6 : (dats m 0 c).arrAt 6 cfg0.N = uA m c := by
  refine (dats m 0 c).arrAt_eq_of_covers 6 _ (by decide +kernel) fun t hf y => ?_
  blk_simp
  rw [after0_6, outs6]
  obtain ⟨p, q, rfl⟩ : ∃ (p : Fin 512) (q : Fin 2560), y = ix2 p q := ⟨y 0, y 1, eq_ix2 y⟩
  have hy : (win0_6.blk t).view.emb (ix2 p q) = ix2 (rowAt t p) q := by
    blk_ext [idx6, rowAt]
    exact congrArg (· + p.val) (Nat.mul_comm t.val 512)
  rw [hy]
  exact u_blk m c t p q

theorem arr7 : (dats m 0 c).arrAt 7 cfg0.N = nA m c := by
  refine (dats m 0 c).arrAt_eq_of_covers 7 _ (by decide +kernel) fun t hf y => ?_
  blk_simp
  rw [after0_7, outs7]
  obtain ⟨p, q, rfl⟩ : ∃ (p : Fin 512) (q : Fin 1024), y = ix2 p q := ⟨y 0, y 1, eq_ix2 y⟩
  have hy : (win0_7.blk t).view.emb (ix2 p q) = ix2 (rowAt t p) q := by
    blk_ext [idx7, rowAt]
    exact congrArg (· + p.val) (Nat.mul_comm t.val 512)
  rw [hy]
  exact n_blk m c t p q

/-! ## The arrays the host prepares -/

/-- The arguments on a device. -/
abbrev a0 : (Sh 4096 1024).Idx → EReal := m ((c.tc : Thread nD τ).loc main_arg0)
abbrev a1 : (Sh 1 1024).Idx → EReal := m ((c.tc : Thread nD τ).loc main_arg1)
abbrev a2 : (Sh 1024 2816).Idx → EReal := m ((c.tc : Thread nD τ).loc main_arg2)
abbrev a3 : (Sh 1024 2816).Idx → EReal := m ((c.tc : Thread nD τ).loc main_arg3)
abbrev a4 : (Sh 2816 1024).Idx → EReal := m ((c.tc : Thread nD τ).loc main_arg4)
abbrev a5 : (Sh 1 1024).Idx → EReal := m ((c.tc : Thread nD τ).loc main_arg5)
abbrev a6 : (Sh 1024 2560).Idx → EReal := m ((c.tc : Thread nD τ).loc main_arg6)

theorem V_arg0 : V m c main_arg0 = a0 m c := V_main_arg0 m c
theorem V_arg5 : V m c main_arg5 = a5 m c := V_main_arg5 m c
theorem V_wd : V m c main_v17 = a4 m c := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl
theorem V_act : V m c main_v16 = val_main_v15 (F := Ideal) (a0 m c) (a1 m c) (a2 m c) (a3 m c) := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl
theorem V_w : V m c main_v19 = fun i => a6 m c (ix2 (i 1) (i 0)) := by
  have e : V m c main_v19 = transpose S2560x1024 [1, 0] (a6 m c) transposes_S1024x2560_S2560x1024_1_0 := by
    unfold V
    simp only [hostOps0, hostOps0_1, hostOps0_2, List.flatten_cons, List.flatten_nil, List.append_nil, List.cons_append, List.nil_append,
      StableHlo.TRef.binary, StableHlo.TRef.nullary, StableHlo.TRef.unary, StableHlo.TRef.toBuf, StableHlo.TRef.ofBuf, cast_eq]
    after_results_simp <;> rfl
  rw [e]
  exact funext fun i => transpose_apply _ _ _ i _ (fun b => by match b with | ⟨0, _⟩ => rfl | ⟨1, _⟩ => rfl)

/-! ## The reference's results -/

section
open Cert.ReferenceDmIdeal.Read

variable (x0 : (Sh 4096 1024).Idx → EReal) (x1 : (Sh 1 1024).Idx → EReal) (x2 x3 : (Sh 1024 2816).Idx → EReal)
  (x4 : (Sh 2816 1024).Idx → EReal) (x5 : (Sh 1 1024).Idx → EReal) (x6 : (Sh 1024 2560).Idx → EReal)

theorem h_ref : val_main_v19 (F := Ideal) x0 x1 x2 x3 x4 = halfF x0 (val_main_v15 (F := Ideal) x0 x1 x2 x3) x4 := by
  funext y
  obtain ⟨p, q, rfl⟩ : ∃ (p : Fin 4096) (q : Fin 1024), y = ix2 p q := ⟨y 0, y 1, eq_ix2 y⟩
  rw [val_main_v19_apply, val_main_v18_apply, val_main_v17_apply, val_main_v16_apply]
  refine congrArg (x0 (ix2 p q) + half * ·) (Finset.sum_congr rfl fun k _ => ?_)
  rw [show lidx_main_v16 (ix2 p q) k = ix2 p k from eq_ix2 _, show ridx_main_v16 (ix2 p q) k = ix2 k q from eq_ix2 _]

/-- A row's inverse root mean square. -/
theorem r_apply (p : Fin 4096) (j : Fin 1) :
    val_main_v27 (F := Ideal) x0 x1 x2 x3 x4 (ix2 p j) = rms (row (val_main_v19 (F := Ideal) x0 x1 x2 x3 x4) p) := by
  rw [val_main_v27_apply, val_main_v26_apply, val_main_v24_apply, val_main_v22_apply, val_main_v23_apply, val_main_v25_apply,
    val_main_v21_apply]
  show Ideal.rsqrt (Ideal.div (zero + _) len + eps) = _
  rw [show zero = 0 from ofBits_zero, zero_add]
  refine congrArg (fun z => Ideal.rsqrt (Ideal.div z len + eps)) (Finset.sum_congr rfl fun k _ => ?_)
  rw [show idx_main_v21 (idx_main_v22 (ix2 p j)) k = ix2 p k from eq_ix2 _]
  rfl

theorem n_ref : val_main_v31 (F := Ideal) x0 x1 x2 x3 x4 x5 = normF (val_main_v19 (F := Ideal) x0 x1 x2 x3 x4) x5 := by
  funext y
  obtain ⟨p, k, rfl⟩ : ∃ (p : Fin 4096) (k : Fin 1024), y = ix2 p k := ⟨y 0, y 1, eq_ix2 y⟩
  rw [val_main_v31_apply, val_main_v29_apply, val_main_v30_apply, val_main_v28_apply,
    show idx_main_v28 (ix2 p k) = ix2 p 0 from eq_ix2 _, r_apply, show idx_main_v30 (ix2 p k) = ix2 0 k from eq_ix2 _]
  rfl

theorem u_ref : val_main_v32 (F := Ideal) x0 x1 x2 x3 x4 x5 x6 = prodNN (val_main_v31 (F := Ideal) x0 x1 x2 x3 x4 x5) x6 := by
  funext y
  obtain ⟨p, q, rfl⟩ : ∃ (p : Fin 4096) (q : Fin 2560), y = ix2 p q := ⟨y 0, y 1, eq_ix2 y⟩
  rw [val_main_v32_apply]
  refine Finset.sum_congr rfl fun k _ => ?_
  rw [show lidx_main_v32 (ix2 p q) k = ix2 p k from eq_ix2 _, show ridx_main_v32 (ix2 p q) k = ix2 k q from eq_ix2 _]

end

/-! ## The call leaves them -/

theorem h_left : (dats m 0 c).arrAt 5 cfg0.N = val_main_v19 (F := Ideal) (a0 m c) (a1 m c) (a2 m c) (a3 m c) (a4 m c) := by
  rw [arr5, h_ref]; unfold hA; rw [V_arg0, V_act, V_wd]
theorem n_eq : nA m c = val_main_v31 (F := Ideal) (a0 m c) (a1 m c) (a2 m c) (a3 m c) (a4 m c) (a5 m c) := by
  rw [n_ref, ← h_left, arr5]; unfold nA; rw [V_arg5]
theorem n_left : (dats m 0 c).arrAt 7 cfg0.N = val_main_v34 (F := Ideal) (a0 m c) (a1 m c) (a2 m c) (a3 m c) (a4 m c) (a5 m c) :=
  (arr7 m c).trans (n_eq m c)
theorem u_left : (dats m 0 c).arrAt 6 cfg0.N = val_main_v33 (F := Ideal) (a0 m c) (a1 m c) (a2 m c) (a3 m c) (a4 m c) (a5 m c) (a6 m c) := by
  refine (arr6 m c).trans (Eq.trans ?_ (u_ref _ _ _ _ _ _ _).symm)
  unfold uA
  rw [n_eq, prodNT_flip _ _ _ (V_w m c)]

end Cert.KernelDmIdeal.Dm

end
-- ==== Proof.lean ====
/- The proof of the claim: five calls of the backward pass, two of the forward pass and one of the optimiser, each against
   its own reference.

   The gated feed-forward layer's gradient (Kernel), its two weight-gradient products (KernelWd, KernelWg), and the backward
   calls of the output projection (KernelMo) and of the input projection (KernelMi); and of the forward pass the gated layer's
   first two products (KernelGu) and its last, with the input projection after it (KernelDm); and the optimiser's step on the
   small weights (KernelAs). A kernel's frame is the generated one, but for the optimiser's, which is proved here; a
   reference's is its run, read at its arguments. For a value claim the kernel's run leaves its arrays at values that the
   call's own module states as the reference's staged results, and the reference's run leaves its results at those. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelWd
public import proofs.«01_k».proof.Proof.Gen.KernelWd.Skeleton
public import proofs.«01_k».proof.Proof.Gen.KernelWd.Launch
public import proofs.«01_k».proof.Proof.Gen.KernelWd.Points
public import proofs.«01_k».proof.Proof.Gen.KernelWd.Frame
public import proofs.«01_k».proof.Proof.Gen.KernelWdIdeal
public import proofs.«01_k».proof.Proof.Gen.KernelWdIdeal.Skeleton
public import proofs.«01_k».proof.Proof.Gen.KernelWdIdeal.Launch
public import proofs.«01_k».proof.Proof.Gen.KernelWdIdeal.Points
public import proofs.«01_k».proof.Proof.Gen.KernelWdIdeal.Frame
public import proofs.«01_k».proof.Proof.Gen.ReferenceWdIdeal
public import proofs.«01_k».proof.Proof.Gen.KernelWg
public import proofs.«01_k».proof.Proof.Gen.KernelWg.Skeleton
public import proofs.«01_k».proof.Proof.Gen.KernelWg.Launch
public import proofs.«01_k».proof.Proof.Gen.KernelWg.Points
public import proofs.«01_k».proof.Proof.Gen.KernelWg.Frame
public import proofs.«01_k».proof.Proof.Gen.KernelWgIdeal
public import proofs.«01_k».proof.Proof.Gen.KernelWgIdeal.Skeleton
public import proofs.«01_k».proof.Proof.Gen.KernelWgIdeal.Launch
public import proofs.«01_k».proof.Proof.Gen.KernelWgIdeal.Points
public import proofs.«01_k».proof.Proof.Gen.KernelWgIdeal.Frame
public import proofs.«01_k».proof.Proof.Gen.ReferenceWgIdeal
public import proofs.«01_k».proof.Proof.Gen.KernelMo
public import proofs.«01_k».proof.Proof.Gen.KernelMo.Skeleton
public import proofs.«01_k».proof.Proof.Gen.KernelMo.Launch
public import proofs.«01_k».proof.Proof.Gen.KernelMo.Points
public import proofs.«01_k».proof.Proof.Gen.KernelMo.Frame
public import proofs.«01_k».proof.Proof.Gen.KernelMoIdeal
public import proofs.«01_k».proof.Proof.Gen.KernelMoIdeal.Skeleton
public import proofs.«01_k».proof.Proof.Gen.KernelMoIdeal.Launch
public import proofs.«01_k».proof.Proof.Gen.KernelMoIdeal.Points
public import proofs.«01_k».proof.Proof.Gen.KernelMoIdeal.Frame
public import proofs.«01_k».proof.Proof.Gen.ReferenceMoIdeal
public import proofs.«01_k».proof.Proof.Gen.KernelMi
public import proofs.«01_k».proof.Proof.Gen.KernelMi.Skeleton
public import proofs.«01_k».proof.Proof.Gen.KernelMi.Launch
public import proofs.«01_k».proof.Proof.Gen.KernelMi.Points
public import proofs.«01_k».proof.Proof.Gen.KernelMi.Frame
public import proofs.«01_k».proof.Proof.Gen.KernelMiIdeal
public import proofs.«01_k».proof.Proof.Gen.KernelMiIdeal.Skeleton
public import proofs.«01_k».proof.Proof.Gen.KernelMiIdeal.Launch
public import proofs.«01_k».proof.Proof.Gen.KernelMiIdeal.Points
public import proofs.«01_k».proof.Proof.Gen.KernelMiIdeal.Frame
public import proofs.«01_k».proof.Proof.Gen.ReferenceMiIdeal
public import proofs.«01_k».proof.Proof.Gen.KernelWdIdeal.Value
public import proofs.«01_k».proof.Proof.Gen.ReferenceWdIdeal.Run
public import proofs.«01_k».proof.Proof.Gen.ReferenceWdIdeal.Read
public import proofs.«01_k».proof.Proof.Gen.KernelWgIdeal.Value
public import proofs.«01_k».proof.Proof.Gen.ReferenceWgIdeal.Run
public import proofs.«01_k».proof.Proof.Gen.ReferenceWgIdeal.Read
public import proofs.«01_k».proof.Proof.Gen.KernelMoIdeal.Value
public import proofs.«01_k».proof.Proof.Gen.ReferenceMoIdeal.Run
public import proofs.«01_k».proof.Proof.Gen.ReferenceMoIdeal.Read
public import proofs.«01_k».proof.Proof.Gen.KernelMiIdeal.Value
public import proofs.«01_k».proof.Proof.Gen.ReferenceMiIdeal.Run
public import proofs.«01_k».proof.Proof.Gen.ReferenceMiIdeal.Read
public import proofs.«01_k».proof.Proof.Gen.KernelGu
public import proofs.«01_k».proof.Proof.Gen.KernelGu.Skeleton
public import proofs.«01_k».proof.Proof.Gen.KernelGu.Launch
public import proofs.«01_k».proof.Proof.Gen.KernelGu.Points
public import proofs.«01_k».proof.Proof.Gen.KernelGu.Frame
public import proofs.«01_k».proof.Proof.Gen.KernelGuIdeal
public import proofs.«01_k».proof.Proof.Gen.KernelGuIdeal.Skeleton
public import proofs.«01_k».proof.Proof.Gen.KernelGuIdeal.Launch
public import proofs.«01_k».proof.Proof.Gen.KernelGuIdeal.Points
public import proofs.«01_k».proof.Proof.Gen.KernelGuIdeal.Frame
public import proofs.«01_k».proof.Proof.Gen.KernelGuIdeal.Value
public import proofs.«01_k».proof.Proof.Gen.ReferenceGuIdeal
public import proofs.«01_k».proof.Proof.Gen.ReferenceGuIdeal.Run
public import proofs.«01_k».proof.Proof.Gen.ReferenceGuIdeal.Read
public import proofs.«01_k».proof.Proof.Gen.KernelDm
public import proofs.«01_k».proof.Proof.Gen.KernelDm.Skeleton
public import proofs.«01_k».proof.Proof.Gen.KernelDm.Launch
public import proofs.«01_k».proof.Proof.Gen.KernelDm.Points
public import proofs.«01_k».proof.Proof.Gen.KernelDm.Frame
public import proofs.«01_k».proof.Proof.Gen.KernelDmIdeal
public import proofs.«01_k».proof.Proof.Gen.KernelDmIdeal.Skeleton
public import proofs.«01_k».proof.Proof.Gen.KernelDmIdeal.Launch
public import proofs.«01_k».proof.Proof.Gen.KernelDmIdeal.Points
public import proofs.«01_k».proof.Proof.Gen.KernelDmIdeal.Frame
public import proofs.«01_k».proof.Proof.Gen.KernelDmIdeal.Value
public import proofs.«01_k».proof.Proof.Gen.ReferenceDmIdeal
public import proofs.«01_k».proof.Proof.Gen.ReferenceDmIdeal.Run
public import proofs.«01_k».proof.Proof.Gen.ReferenceDmIdeal.Read
public import proofs.«01_k».proof.Proof.Gen.KernelAsIdeal
public import proofs.«01_k».proof.Proof.Gen.KernelAsIdeal.Skeleton
public import proofs.«01_k».proof.Proof.Gen.KernelAsIdeal.Launch
public import proofs.«01_k».proof.Proof.Gen.KernelAsIdeal.Points
public import proofs.«01_k».proof.Proof.Gen.ReferenceAsIdeal
public import proofs.«01_k».proof.Proof.Gen.ReferenceAsIdeal.Run
public import proofs.«01_k».proof.Proof.Gen.ReferenceAsIdeal.Read
public import proofs.«01_k».proof.Proof.AsFrame
public import proofs.«01_k».proof.Proof.AsValue
public import proofs.«01_k».proof.Proof.Finite
public import proofs.«01_k».proof.Proof.Glue
public import proofs.«01_k».proof.Proof.Wd
public import proofs.«01_k».proof.Proof.Wg
public import proofs.«01_k».proof.Proof.Mo
public import proofs.«01_k».proof.Proof.MiGlue
public import proofs.«01_k».proof.Proof.Gu
public import proofs.«01_k».proof.Proof.Dm
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

theorem frame_rwd : Cert.quiescent_ReferenceWdIdeal := fun m ρ _ =>
  (θ_run Cert.ReferenceWdIdeal.defs _ _).mono
    (fun r h => ⟨fun c => (h c).2, sem_eq_zero_of_no_sems (by decide) r.2⟩)
    (Cert.ReferenceWdIdeal.Value.run (F := Ideal) m ρ)

theorem frame_rwg : Cert.quiescent_ReferenceWgIdeal := fun m ρ _ =>
  (θ_run Cert.ReferenceWgIdeal.defs _ _).mono
    (fun r h => ⟨fun c => (h c).2, sem_eq_zero_of_no_sems (by decide) r.2⟩)
    (Cert.ReferenceWgIdeal.Value.run (F := Ideal) m ρ)

theorem frame_rmo : Cert.quiescent_ReferenceMoIdeal := fun m ρ _ =>
  (θ_run Cert.ReferenceMoIdeal.defs _ _).mono
    (fun r h => ⟨fun c => (h c).2.2.2, sem_eq_zero_of_no_sems (by decide) r.2⟩)
    (Cert.ReferenceMoIdeal.Value.run (F := Ideal) m ρ)

theorem frame_rmi : Cert.quiescent_ReferenceMiIdeal := fun m ρ _ =>
  (θ_run Cert.ReferenceMiIdeal.defs _ _).mono
    (fun r h => ⟨fun c => (h c).2.2.2.2, sem_eq_zero_of_no_sems (by decide) r.2⟩)
    (Cert.ReferenceMiIdeal.Value.run (F := Ideal) m ρ)

theorem frame_rgu : Cert.quiescent_ReferenceGuIdeal := fun m ρ _ =>
  (θ_run Cert.ReferenceGuIdeal.defs _ _).mono
    (fun r h => ⟨fun c => (h c).2.2.2.2, sem_eq_zero_of_no_sems (by decide) r.2⟩)
    (Cert.ReferenceGuIdeal.Value.run (F := Ideal) m ρ)

theorem frame_rdm : Cert.quiescent_ReferenceDmIdeal := fun m ρ _ =>
  (θ_run Cert.ReferenceDmIdeal.defs _ _).mono
    (fun r h => ⟨fun c => (h c).2.2.2, sem_eq_zero_of_no_sems (by decide) r.2⟩)
    (Cert.ReferenceDmIdeal.Value.run (F := Ideal) m ρ)

theorem frame_ras : Cert.quiescent_ReferenceAsIdeal := fun m ρ _ =>
  (θ_run Cert.ReferenceAsIdeal.defs _ _).mono
    (fun r h => ⟨fun c => (h c).2.2.2.2.2.2.2.2.2.2.2.2.2.2.2.2.2.2.2.2.2.2.2.2.2.2.2.2.2.2.2.2.2.2.2.2.2,
      sem_eq_zero_of_no_sems (by decide) r.2⟩)
    (Cert.ReferenceAsIdeal.Value.run (F := Ideal) m ρ)

theorem algebraic : Cert.algebraic_KernelIdeal_ReferenceIdeal_pre_finite := by
  intro m g m' g' hpre hag
  have hr := fun c => Cert.Pre_finite.reals _ _ _ _ _ _ (fun a => a.elim0) (congrFun (hpre c) _)
  refine ⟨_, _, _, _, (θ_run Cert.KernelIdeal.defs _ _).mono (fun r h => h) (Cert.KernelIdeal.Value.run_blocks (F := Ideal) m g),
    (θ_run Cert.ReferenceIdeal.defs _ _).mono (fun r h c => ?_) (Cert.ReferenceIdeal.Value.run (F := Ideal) m' g')⟩
  obtain ⟨r0, r1, r2, r3, hk⟩ := h c
  obtain ⟨e0, e1, e2, e3, e4, e5⟩ := hag c
  obtain ⟨h0, h1, h2, h3, h4, h5⟩ := hr c
  refine ⟨r0.trans ?_, r1.trans ?_, r2.trans ?_, r3.trans ?_, hk⟩
  · rw [Cert.ReferenceIdeal.Read.val_main_v78_eq, e0, e1, e2, e3, e4, e5]
    exact ((Cert.KernelIdeal.Arrays.arr9 m c).trans (Cert.KernelIdeal.Glue.dg_eq m c h0 h1 h2 h3 h4 h5)).symm
  · rw [Cert.ReferenceIdeal.Read.val_main_v79_eq, e0, e1, e2, e4, e5]
    exact ((Cert.KernelIdeal.Arrays.arr10 m c).trans (Cert.KernelIdeal.Glue.du_eq m c h0 h1 h2 h4 h5)).symm
  · rw [Cert.ReferenceIdeal.Read.val_main_v77_eq, e0, e1, e2, e3, e4, e5]
    exact ((Cert.KernelIdeal.Arrays.arr11 m c).trans (Cert.KernelIdeal.Glue.dx_eq m c h0 h1 h2 h3 h4 h5)).symm
  · rw [Cert.ReferenceIdeal.Read.val_main_v80_eq, e0, e1, e2, e3, e4, e5]
    exact (Cert.KernelIdeal.Glue.dgain_eq m c h0 h1 h2 h3 h4 h5).symm

theorem algebraic_wd : Cert.algebraic_KernelWdIdeal_ReferenceWdIdeal := by
  intro m g m' g' _ hag
  refine ⟨_, (θ_run Cert.KernelWdIdeal.defs _ _).mono (fun r h => h) (Cert.KernelWdIdeal.Value.run_blocks (F := Ideal) m g),
    (θ_run Cert.ReferenceWdIdeal.defs _ _).mono (fun r h c => ?_) (Cert.ReferenceWdIdeal.Value.run (F := Ideal) m' g')⟩
  obtain ⟨r0, hk⟩ := h c
  obtain ⟨e0, e1, e2, e3, e4⟩ := hag c
  refine ⟨r0.trans ?_, hk⟩
  · rw [Cert.ReferenceWdIdeal.Read.val_main_v24_eq, e0, e1, e2, e3, e4]
    exact (Cert.KernelWdIdeal.Wd.dw_eq m c).symm

theorem algebraic_wg : Cert.algebraic_KernelWgIdeal_ReferenceWgIdeal := by
  intro m g m' g' _ hag
  refine ⟨_, (θ_run Cert.KernelWgIdeal.defs _ _).mono (fun r h => h) (Cert.KernelWgIdeal.Value.run_blocks (F := Ideal) m g),
    (θ_run Cert.ReferenceWgIdeal.defs _ _).mono (fun r h c => ?_) (Cert.ReferenceWgIdeal.Value.run (F := Ideal) m' g')⟩
  obtain ⟨r0, hk⟩ := h c
  obtain ⟨e0, e1, e2⟩ := hag c
  refine ⟨r0.trans ?_, hk⟩
  · rw [Cert.ReferenceWgIdeal.Read.val_main_v17_eq, e0, e1, e2]
    exact (Cert.KernelWgIdeal.Wg.dw_eq m c).symm

theorem algebraic_mo : Cert.algebraic_KernelMoIdeal_ReferenceMoIdeal := by
  intro m g m' g' _ hag
  refine ⟨_, _, _, (θ_run Cert.KernelMoIdeal.defs _ _).mono (fun r h => h) (Cert.KernelMoIdeal.Value.run_blocks (F := Ideal) m g),
    (θ_run Cert.ReferenceMoIdeal.defs _ _).mono (fun r h c => ?_) (Cert.ReferenceMoIdeal.Value.run (F := Ideal) m' g')⟩
  obtain ⟨r0, r1, r2, hk⟩ := h c
  obtain ⟨e0, e1, e2, e3⟩ := hag c
  refine ⟨r0.trans ?_, r1.trans ?_, r2.trans ?_, hk⟩
  · rw [Cert.ReferenceMoIdeal.Read.val_main_v7_eq, e2, e3]
    exact (Cert.KernelMoIdeal.Mo.dattn_eq m c).symm
  · rw [Cert.ReferenceMoIdeal.Read.val_main_v8_eq, e2, e3]
    exact (Cert.KernelMoIdeal.Mo.dconv_eq m c).symm
  · rw [Cert.ReferenceMoIdeal.Read.val_main_v9_eq, e0, e1, e3]
    exact (Cert.KernelMoIdeal.Mo.dw_eq m c).symm

set_option maxHeartbeats 1000000 in
theorem algebraic_mi : Cert.algebraic_KernelMiIdeal_ReferenceMiIdeal := by
  intro m g m' g' _ hag
  refine ⟨_, _, _, _, (θ_run Cert.KernelMiIdeal.defs _ _).mono (fun r h => h) (Cert.KernelMiIdeal.Value.run_blocks (F := Ideal) m g),
    (θ_run Cert.ReferenceMiIdeal.defs _ _).mono (fun r h c => ?_) (Cert.ReferenceMiIdeal.Value.run (F := Ideal) m' g')⟩
  obtain ⟨r0, r1, r2, r3, hk⟩ := h c
  obtain ⟨e0, e1, e2, e3, e4, e5, e6, e7, e8⟩ := hag c
  refine ⟨r0.trans ?_, r1.trans ?_, r2.trans ?_, r3.trans ?_, hk⟩
  · rw [Cert.ReferenceMiIdeal.Read.val_main_v63_eq, e0, e1, e4, e5, e6, e7, e8]
    exact (Cert.KernelMiIdeal.Glue.dw_eq m c).symm
  · rw [Cert.ReferenceMiIdeal.Read.val_main_v41_eq, e0, e1, e2, e3, e4, e5, e6, e7, e8]
    exact (Cert.KernelMiIdeal.Glue.dx_eq m c).symm
  · rw [Cert.ReferenceMiIdeal.Read.val_main_v66_eq, e0, e1, e2, e3, e4, e5, e6, e7, e8]
    exact (Cert.KernelMiIdeal.Glue.dy_eq m c).symm
  · rw [Cert.ReferenceMiIdeal.Read.val_main_v61_eq, e0, e2, e4, e5, e6, e7, e8]
    exact (Cert.KernelMiIdeal.Glue.dgain_eq m c).symm

theorem algebraic_gu : Cert.algebraic_KernelGuIdeal_ReferenceGuIdeal := by
  intro m g m' g' _ hag
  refine ⟨_, _, _, _, (θ_run Cert.KernelGuIdeal.defs _ _).mono (fun r h => h) (Cert.KernelGuIdeal.Value.run_blocks (F := Ideal) m g),
    (θ_run Cert.ReferenceGuIdeal.defs _ _).mono (fun r h c => ?_) (Cert.ReferenceGuIdeal.Value.run (F := Ideal) m' g')⟩
  obtain ⟨r0, r1, r2, r3, hk⟩ := h c
  obtain ⟨e0, e1, e2, e3⟩ := hag c
  refine ⟨r0.trans ?_, r1.trans ?_, r2.trans ?_, r3.trans ?_, hk⟩
  · rw [Cert.ReferenceGuIdeal.Read.val_main_v14_eq, e0, e1]
    exact (Cert.KernelGuIdeal.Gu.n_left m c).symm
  · rw [Cert.ReferenceGuIdeal.Read.val_main_v15_eq, e0, e1, e2]
    exact (Cert.KernelGuIdeal.Gu.g_left m c).symm
  · rw [Cert.ReferenceGuIdeal.Read.val_main_v16_eq, e0, e1, e3]
    exact (Cert.KernelGuIdeal.Gu.u_left m c).symm
  · rw [Cert.ReferenceGuIdeal.Read.val_main_v19_eq, e0, e1, e2, e3]
    exact (Cert.KernelGuIdeal.Gu.act_left m c).symm

theorem algebraic_dm : Cert.algebraic_KernelDmIdeal_ReferenceDmIdeal := by
  intro m g m' g' _ hag
  refine ⟨_, _, _, (θ_run Cert.KernelDmIdeal.defs _ _).mono (fun r h => h) (Cert.KernelDmIdeal.Value.run_blocks (F := Ideal) m g),
    (θ_run Cert.ReferenceDmIdeal.defs _ _).mono (fun r h c => ?_) (Cert.ReferenceDmIdeal.Value.run (F := Ideal) m' g')⟩
  obtain ⟨r0, r1, r2, hk⟩ := h c
  obtain ⟨e0, e1, e2, e3, e4, e5, e6⟩ := hag c
  refine ⟨r0.trans ?_, r1.trans ?_, r2.trans ?_, hk⟩
  · rw [Cert.ReferenceDmIdeal.Read.val_main_v19_eq, e0, e1, e2, e3, e4]
    exact (Cert.KernelDmIdeal.Dm.h_left m c).symm
  · rw [Cert.ReferenceDmIdeal.Read.val_main_v33_eq, e0, e1, e2, e3, e4, e5, e6]
    exact (Cert.KernelDmIdeal.Dm.u_left m c).symm
  · rw [Cert.ReferenceDmIdeal.Read.val_main_v34_eq, e0, e1, e2, e3, e4, e5]
    exact (Cert.KernelDmIdeal.Dm.n_left m c).symm

set_option maxHeartbeats 8000000 in
theorem algebraic_as : Cert.algebraic_KernelAsIdeal_ReferenceAsIdeal := by
  intro m g m' g' _ hag
  refine ⟨_, _, _, _, _, _, _, _, _, _, _, _, _, _, _, _, _, _, _, _, _, _, _, _, _, _, _, _, _, _, _, _, _, _, _, _,
    _, (θ_run Cert.KernelAsIdeal.defs _ _).mono (fun r h => h) (Cert.KernelAsIdeal.Value.run_values m g),
    (θ_run Cert.ReferenceAsIdeal.defs _ _).mono (fun r h c => ?_) (Cert.ReferenceAsIdeal.Value.run (F := Ideal) m' g')⟩
  obtain ⟨r0, r1, r2, r3, r4, r5, r6, r7, r8, r9, r10, r11, r12, r13, r14, r15, r16, r17, r18, r19, r20, r21, r22,
    r23, r24, r25, r26, r27, r28, r29, r30, r31, r32, r33, r34, r35, r36, hk⟩ := h c
  obtain ⟨e0, e1, e2, e3, e4, e5, e6, e7, e8, e9, e10, e11, e12, e13, e14, e15, e16, e17, e18, e19, e20, e21, e22,
    e23, e24, e25, e26, e27, e28⟩ := hag c
  refine ⟨r0.trans ?_, r1.trans ?_, r2.trans ?_, r3.trans ?_, r4.trans ?_, r5.trans ?_, r6.trans ?_, r7.trans ?_,
    r8.trans ?_, r9.trans ?_, r10.trans ?_, r11.trans ?_, r12.trans ?_, r13.trans ?_, r14.trans ?_, r15.trans ?_,
    r16.trans ?_, r17.trans ?_, r18.trans ?_, r19.trans ?_, r20.trans ?_, r21.trans ?_, r22.trans ?_, r23.trans ?_,
    r24.trans ?_, r25.trans ?_, r26.trans ?_, r27.trans ?_, r28.trans ?_, r29.trans ?_, r30.trans ?_, r31.trans ?_,
    r32.trans ?_, r33.trans ?_, r34.trans ?_, r35.trans ?_, r36.trans ?_, hk⟩
  · exact (Cert.ReferenceAsIdeal.Read.val_main_v0_eq _).trans (congrArg Cert.ReferenceAsIdeal.Read.val_main_v0 e0)
  · exact (Cert.ReferenceAsIdeal.Read.val_main_v24_eq _).trans (congr (congr (congrArg₂ Cert.ReferenceAsIdeal.Read.val_main_v24 e0 e2) e10) e18)
  · exact (Cert.ReferenceAsIdeal.Read.val_main_v5_eq _).trans (congrArg₂ Cert.ReferenceAsIdeal.Read.val_main_v5 e0 e10)
  · exact (Cert.ReferenceAsIdeal.Read.val_main_v11_eq _).trans (congrArg₂ Cert.ReferenceAsIdeal.Read.val_main_v11 e0 e18)
  · exact (Cert.ReferenceAsIdeal.Read.val_main_v25_eq _).trans (congrArg Cert.ReferenceAsIdeal.Read.val_main_v25 e0)
  · exact (Cert.ReferenceAsIdeal.Read.val_main_v49_eq _).trans (congr (congr (congrArg₂ Cert.ReferenceAsIdeal.Read.val_main_v49 e0 e3) e11) e19)
  · exact (Cert.ReferenceAsIdeal.Read.val_main_v30_eq _).trans (congrArg₂ Cert.ReferenceAsIdeal.Read.val_main_v30 e0 e11)
  · exact (Cert.ReferenceAsIdeal.Read.val_main_v36_eq _).trans (congrArg₂ Cert.ReferenceAsIdeal.Read.val_main_v36 e0 e19)
  · exact (Cert.ReferenceAsIdeal.Read.val_main_v50_eq _).trans (congrArg Cert.ReferenceAsIdeal.Read.val_main_v50 e0)
  · exact (Cert.ReferenceAsIdeal.Read.val_main_v74_eq _).trans (congr (congr (congrArg₂ Cert.ReferenceAsIdeal.Read.val_main_v74 e0 e4) e12) e20)
  · exact (Cert.ReferenceAsIdeal.Read.val_main_v55_eq _).trans (congrArg₂ Cert.ReferenceAsIdeal.Read.val_main_v55 e0 e12)
  · exact (Cert.ReferenceAsIdeal.Read.val_main_v61_eq _).trans (congrArg₂ Cert.ReferenceAsIdeal.Read.val_main_v61 e0 e20)
  · exact (Cert.ReferenceAsIdeal.Read.val_main_v75_eq _).trans (congrArg Cert.ReferenceAsIdeal.Read.val_main_v75 e0)
  · exact (Cert.ReferenceAsIdeal.Read.val_main_v99_eq _).trans (congr (congr (congrArg₂ Cert.ReferenceAsIdeal.Read.val_main_v99 e0 e5) e13) e21)
  · exact (Cert.ReferenceAsIdeal.Read.val_main_v80_eq _).trans (congrArg₂ Cert.ReferenceAsIdeal.Read.val_main_v80 e0 e13)
  · exact (Cert.ReferenceAsIdeal.Read.val_main_v86_eq _).trans (congrArg₂ Cert.ReferenceAsIdeal.Read.val_main_v86 e0 e21)
  · exact (Cert.ReferenceAsIdeal.Read.val_main_v100_eq _).trans (congrArg Cert.ReferenceAsIdeal.Read.val_main_v100 e0)
  · exact (Cert.ReferenceAsIdeal.Read.val_main_v124_eq _).trans (congr (congr (congrArg₂ Cert.ReferenceAsIdeal.Read.val_main_v124 e0 e6) e14) e22)
  · exact (Cert.ReferenceAsIdeal.Read.val_main_v105_eq _).trans (congrArg₂ Cert.ReferenceAsIdeal.Read.val_main_v105 e0 e14)
  · exact (Cert.ReferenceAsIdeal.Read.val_main_v111_eq _).trans (congrArg₂ Cert.ReferenceAsIdeal.Read.val_main_v111 e0 e22)
  · exact (Cert.ReferenceAsIdeal.Read.val_main_v125_eq _).trans (congrArg Cert.ReferenceAsIdeal.Read.val_main_v125 e0)
  · exact (Cert.ReferenceAsIdeal.Read.val_main_v149_eq _).trans (congr (congr (congrArg₂ Cert.ReferenceAsIdeal.Read.val_main_v149 e0 e7) e15) e23)
  · exact (Cert.ReferenceAsIdeal.Read.val_main_v130_eq _).trans (congrArg₂ Cert.ReferenceAsIdeal.Read.val_main_v130 e0 e15)
  · exact (Cert.ReferenceAsIdeal.Read.val_main_v136_eq _).trans (congrArg₂ Cert.ReferenceAsIdeal.Read.val_main_v136 e0 e23)
  · exact (Cert.ReferenceAsIdeal.Read.val_main_v150_eq _).trans (congrArg Cert.ReferenceAsIdeal.Read.val_main_v150 e0)
  · exact (Cert.ReferenceAsIdeal.Read.val_main_v174_eq _).trans (congr (congr (congrArg₂ Cert.ReferenceAsIdeal.Read.val_main_v174 e0 e8) e16) e24)
  · exact (Cert.ReferenceAsIdeal.Read.val_main_v155_eq _).trans (congrArg₂ Cert.ReferenceAsIdeal.Read.val_main_v155 e0 e16)
  · exact (Cert.ReferenceAsIdeal.Read.val_main_v161_eq _).trans (congrArg₂ Cert.ReferenceAsIdeal.Read.val_main_v161 e0 e24)
  · exact (Cert.ReferenceAsIdeal.Read.val_main_v175_eq _).trans (congrArg Cert.ReferenceAsIdeal.Read.val_main_v175 e0)
  · exact (Cert.ReferenceAsIdeal.Read.val_main_v199_eq _).trans (congr (congr (congrArg₂ Cert.ReferenceAsIdeal.Read.val_main_v199 e0 e9) e17) e25)
  · exact (Cert.ReferenceAsIdeal.Read.val_main_v180_eq _).trans (congrArg₂ Cert.ReferenceAsIdeal.Read.val_main_v180 e0 e17)
  · exact (Cert.ReferenceAsIdeal.Read.val_main_v186_eq _).trans (congrArg₂ Cert.ReferenceAsIdeal.Read.val_main_v186 e0 e25)
  · exact (Cert.ReferenceAsIdeal.Read.val_main_v200_eq _).trans (congrArg Cert.ReferenceAsIdeal.Read.val_main_v200 e1)
  · exact (Cert.ReferenceAsIdeal.Read.val_main_v224_eq _).trans (congr (congr (congrArg₂ Cert.ReferenceAsIdeal.Read.val_main_v224 e1 e26) e27) e28)
  · exact (Cert.ReferenceAsIdeal.Read.val_main_v205_eq _).trans (congrArg₂ Cert.ReferenceAsIdeal.Read.val_main_v205 e1 e27)
  · exact (Cert.ReferenceAsIdeal.Read.val_main_v211_eq _).trans (congrArg₂ Cert.ReferenceAsIdeal.Read.val_main_v211 e1 e28)
  · exact (Cert.ReferenceAsIdeal.Read.val_main_v225_eq _).trans (congrArg Cert.ReferenceAsIdeal.Read.val_main_v225 e0)

theorem claim : Cert.Claim := ⟨
  Cert.Kernel.Gen.facts, Cert.KernelIdeal.Gen.facts, Cert.ReferenceIdeal.Gen.facts, Cert.KernelWd.Gen.facts,
  Cert.KernelWdIdeal.Gen.facts, Cert.ReferenceWdIdeal.Gen.facts, Cert.KernelWg.Gen.facts, Cert.KernelWgIdeal.Gen.facts,
  Cert.ReferenceWgIdeal.Gen.facts, Cert.KernelMo.Gen.facts, Cert.KernelMoIdeal.Gen.facts, Cert.ReferenceMoIdeal.Gen.facts,
  Cert.KernelMi.Gen.facts, Cert.KernelMiIdeal.Gen.facts, Cert.ReferenceMiIdeal.Gen.facts,
  Cert.KernelGu.Gen.facts, Cert.KernelGuIdeal.Gen.facts, Cert.ReferenceGuIdeal.Gen.facts, Cert.KernelDm.Gen.facts,
  Cert.KernelDmIdeal.Gen.facts, Cert.ReferenceDmIdeal.Gen.facts,
  Cert.KernelAsIdeal.Gen.facts, Cert.ReferenceAsIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, fun m ρ _ => Cert.KernelWd.Gen.frame m ρ,
  fun m ρ _ => Cert.KernelWdIdeal.Gen.frame m ρ, frame_rwd, fun m ρ _ => Cert.KernelWg.Gen.frame m ρ,
  fun m ρ _ => Cert.KernelWgIdeal.Gen.frame m ρ, frame_rwg, fun m ρ _ => Cert.KernelMo.Gen.frame m ρ,
  fun m ρ _ => Cert.KernelMoIdeal.Gen.frame m ρ, frame_rmo, fun m ρ _ => Cert.KernelMi.Gen.frame m ρ,
  fun m ρ _ => Cert.KernelMiIdeal.Gen.frame m ρ, frame_rmi,
  fun m ρ _ => Cert.KernelGu.Gen.frame m ρ, fun m ρ _ => Cert.KernelGuIdeal.Gen.frame m ρ, frame_rgu,
  fun m ρ _ => Cert.KernelDm.Gen.frame m ρ, fun m ρ _ => Cert.KernelDmIdeal.Gen.frame m ρ, frame_rdm,
  fun m ρ _ => Cert.KernelAsIdeal.Body.frame m ρ, frame_ras,
  trivial, algebraic, trivial, algebraic_wd, trivial, algebraic_wg, trivial, algebraic_mo, trivial, algebraic_mi,
  trivial, algebraic_gu, trivial, algebraic_dm, algebraic_as⟩

end Cert.Proof

end
